-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_gate [hPre_finite_gate : Cert.Pre_finite_gate.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_gate.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite_gate.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite_gate.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite_gate.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite_gate.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_gate [hPre_finite_gate : Cert.Pre_finite_gate.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_gate.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite_gate.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite_gate.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite_gate.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite_gate.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_ffn [hPre_finite_ffn : Cert.Pre_finite_ffn.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_ffn [hPre_finite_ffn : Cert.Pre_finite_ffn.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_acts [hPre_finite_acts : Cert.Pre_finite_acts.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_acts.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).1 = (fun _ => 1#1)
    ∧ (Cert.Pre_finite_acts.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.1 = (fun _ => 1#1)
    ∧ (Cert.Pre_finite_acts.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.1 = (fun _ => 1#1)
    ∧ (Cert.Pre_finite_acts.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.1 = (fun _ => 1#1)
    ∧ (Cert.Pre_finite_acts.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.1 = (fun _ => 1#1)
    ∧ (Cert.Pre_finite_acts.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.1 = (fun _ => 1#1)
    ∧ (Cert.Pre_finite_acts.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.1 = (fun _ => 1#1)
    ∧ (Cert.Pre_finite_acts.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.2.1 = (fun _ => 1#1)
    ∧ (Cert.Pre_finite_acts.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.2.2.1 = (fun _ => 1#1)
    ∧ (Cert.Pre_finite_acts.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_acts [hPre_finite_acts : Cert.Pre_finite_acts.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_acts.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).1 = (fun _ => 1#1)
    ∧ (Cert.Pre_finite_acts.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.1 = (fun _ => 1#1)
    ∧ (Cert.Pre_finite_acts.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.1 = (fun _ => 1#1)
    ∧ (Cert.Pre_finite_acts.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.1 = (fun _ => 1#1)
    ∧ (Cert.Pre_finite_acts.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.1 = (fun _ => 1#1)
    ∧ (Cert.Pre_finite_acts.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.1 = (fun _ => 1#1)
    ∧ (Cert.Pre_finite_acts.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.1 = (fun _ => 1#1)
    ∧ (Cert.Pre_finite_acts.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.2.1 = (fun _ => 1#1)
    ∧ (Cert.Pre_finite_acts.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.2.2.1 = (fun _ => 1#1)
    ∧ (Cert.Pre_finite_acts.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_gate [hKernel3Ideal : Cert.Kernel3Ideal.Facts] [hPre_finite_gate : Cert.Pre_finite_gate.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_gate m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_gate [hReference3Ideal : Cert.Reference3Ideal.Facts] [hPre_finite_gate : Cert.Pre_finite_gate.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_gate m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_ffn [hKernel4Ideal : Cert.Kernel4Ideal.Facts] [hPre_finite_ffn : Cert.Pre_finite_ffn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_ffn m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_ffn [hReference4Ideal : Cert.Reference4Ideal.Facts] [hPre_finite_ffn : Cert.Pre_finite_ffn.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_ffn m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite_acts [hKernel5Ideal : Cert.Kernel5Ideal.Facts] [hPre_finite_acts : Cert.Pre_finite_acts.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_acts m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite_acts [hReference5Ideal : Cert.Reference5Ideal.Facts] [hPre_finite_acts : Cert.Pre_finite_acts.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_acts m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v216) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "gelu_ck" .f32 0x3D122279#32 ((80338380498831 / 2251799813685248 : ℝ) : EReal)
  ∧ IdealRules.named_const.Statement Cert.Kernel3Ideal.κ "gelu_3ck" .f32 0x3DDB33B6#32 ((241015141496493 / 2251799813685248 : ℝ) : EReal)

def algebraic_Kernel3Ideal_Reference3Ideal_pre_finite_gate [hKernel3Ideal : Cert.Kernel3Ideal.Facts] [hReference3Ideal : Cert.Reference3Ideal.Facts] [hPre_finite_gate : Cert.Pre_finite_gate.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_gate m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v95) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_v99) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "gelu_ck" .f32 0x3D122279#32 ((80338380498831 / 2251799813685248 : ℝ) : EReal)

def algebraic_Kernel4Ideal_Reference4Ideal_pre_finite_ffn [hKernel4Ideal : Cert.Kernel4Ideal.Facts] [hReference4Ideal : Cert.Reference4Ideal.Facts] [hPre_finite_ffn : Cert.Pre_finite_ffn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_ffn m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_v88) = v1 c
          ∧ r.2.mem ((c.tc : Thread Cert.Reference4Ideal.nD Cert.Reference4Ideal.τ).loc Cert.Reference4Ideal.main_v91) = v2 c
          ∧ r.2.mem ((c.tc : Thread Cert.Reference4Ideal.nD Cert.Reference4Ideal.τ).loc Cert.Reference4Ideal.main_v70) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  IdealRules.named_const.Statement Cert.Kernel5Ideal.κ "gelu_ck" .f32 0x3D122279#32 ((80338380498831 / 2251799813685248 : ℝ) : EReal)
  ∧ IdealRules.named_const.Statement Cert.Kernel5Ideal.κ "gelu_3ck" .f32 0x3DDB33B6#32 ((241015141496493 / 2251799813685248 : ℝ) : EReal)

def algebraic_Kernel5Ideal_Reference5Ideal_pre_finite_acts [hKernel5Ideal : Cert.Kernel5Ideal.Facts] [hReference5Ideal : Cert.Reference5Ideal.Facts] [hPre_finite_acts : Cert.Pre_finite_acts.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_acts m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v1_2)) (v1 : (c : Dev Cert.Kernel5Ideal.nD) → Buf (Elt Ideal) ((c.tc : Thread Cert.Kernel5Ideal.nD Cert.Kernel5Ideal.τ).loc Cert.Kernel5Ideal.main_v1_3)) (v2 : (c : Dev Cert.Kernel5Ideal.nD) → Buf (Elt Ideal) ((c.tc : Thread Cert.Kernel5Ideal.nD Cert.Kernel5Ideal.τ).loc Cert.Kernel5Ideal.main_v1_4)) (v3 : (c : Dev Cert.Kernel5Ideal.nD) → Buf (Elt Ideal) ((c.tc : Thread Cert.Kernel5Ideal.nD Cert.Kernel5Ideal.τ).loc Cert.Kernel5Ideal.main_v1_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_2) = v0 c
          ∧ r.2.mem ((c.tc : Thread Cert.Kernel5Ideal.nD Cert.Kernel5Ideal.τ).loc Cert.Kernel5Ideal.main_v1_3) = v1 c
          ∧ r.2.mem ((c.tc : Thread Cert.Kernel5Ideal.nD Cert.Kernel5Ideal.τ).loc Cert.Kernel5Ideal.main_v1_4) = v2 c
          ∧ r.2.mem ((c.tc : Thread Cert.Kernel5Ideal.nD Cert.Kernel5Ideal.τ).loc Cert.Kernel5Ideal.main_v1_5) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v90) = v0 c
          ∧ r.2.mem ((c.tc : Thread Cert.Reference5Ideal.nD Cert.Reference5Ideal.τ).loc Cert.Reference5Ideal.main_v94) = v1 c
          ∧ r.2.mem ((c.tc : Thread Cert.Reference5Ideal.nD Cert.Reference5Ideal.τ).loc Cert.Reference5Ideal.main_v109) = v2 c
          ∧ r.2.mem ((c.tc : Thread Cert.Reference5Ideal.nD Cert.Reference5Ideal.τ).loc Cert.Reference5Ideal.main_v110) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_gate : Cert.Pre_finite_gate.Facts) (hPre_finite_ffn : Cert.Pre_finite_ffn.Facts) (hPre_finite_acts : Cert.Pre_finite_acts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_gate (hKernel3Ideal := hKernel3Ideal) (hPre_finite_gate := hPre_finite_gate)
    ∧ quiescent_Reference3Ideal (hReference3Ideal := hReference3Ideal)
    ∧ quiescent_Reference3Ideal_pre_finite_gate (hReference3Ideal := hReference3Ideal) (hPre_finite_gate := hPre_finite_gate)
    ∧ quiescent_Kernel4 (hKernel4 := hKernel4)
    ∧ quiescent_Kernel4Ideal (hKernel4Ideal := hKernel4Ideal)
    ∧ quiescent_Kernel4Ideal_pre_finite_ffn (hKernel4Ideal := hKernel4Ideal) (hPre_finite_ffn := hPre_finite_ffn)
    ∧ quiescent_Reference4Ideal (hReference4Ideal := hReference4Ideal)
    ∧ quiescent_Reference4Ideal_pre_finite_ffn (hReference4Ideal := hReference4Ideal) (hPre_finite_ffn := hPre_finite_ffn)
    ∧ quiescent_Kernel5 (hKernel5 := hKernel5)
    ∧ quiescent_Kernel5Ideal (hKernel5Ideal := hKernel5Ideal)
    ∧ quiescent_Kernel5Ideal_pre_finite_acts (hKernel5Ideal := hKernel5Ideal) (hPre_finite_acts := hPre_finite_acts)
    ∧ quiescent_Reference5Ideal (hReference5Ideal := hReference5Ideal)
    ∧ quiescent_Reference5Ideal_pre_finite_acts (hReference5Ideal := hReference5Ideal) (hPre_finite_acts := hPre_finite_acts)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_gate (hKernel3Ideal := hKernel3Ideal) (hReference3Ideal := hReference3Ideal) (hPre_finite_gate := hPre_finite_gate)
    ∧ preserves_Kernel4_Kernel4Ideal
    ∧ algebraic_Kernel4Ideal_Reference4Ideal_pre_finite_ffn (hKernel4Ideal := hKernel4Ideal) (hReference4Ideal := hReference4Ideal) (hPre_finite_ffn := hPre_finite_ffn)
    ∧ preserves_Kernel5_Kernel5Ideal
    ∧ algebraic_Kernel5Ideal_Reference5Ideal_pre_finite_acts (hKernel5Ideal := hKernel5Ideal) (hReference5Ideal := hReference5Ideal) (hPre_finite_acts := hPre_finite_acts)
-- ==== Pre_finite.lean ====
abbrev S4x2048x1024 : Shape := ⟨3, ![4, 2048, 1024]⟩
abbrev S1x1024 : Shape := ⟨2, ![1, 1024]⟩
abbrev S4x256x256 : Shape := ⟨3, ![4, 256, 256]⟩
abbrev S_ : Shape := ⟨0, ![]⟩

class Facts : Prop where
  bcast_S_S4x2048x1024 : S_.BroadcastsInDim S4x2048x1024 (![] : Fin 0 → Fin S4x2048x1024.rank)
  bcast_S_S1x1024 : S_.BroadcastsInDim S1x1024 (![] : Fin 0 → Fin S1x1024.rank)
  bitsLt_bf16_f32 : FTy.bits .bf16 < FTy.bits .f32
  bcast_S_S4x256x256 : S_.BroadcastsInDim S4x256x256 (![] : Fin 0 → Fin S4x256x256.rank)

variable [Facts]

def fn_part1 {F : FTy → Type} [FloatOps F] (main_v2 : IVec S4x2048x1024 1) (main_v5 : IVec S4x2048x1024 1) (main_v8 : IVec S1x1024 1) (main_v11 : IVec S1x1024 1) (main_v15 : IVec S4x256x256 1) (main_v16 : FVec F S1x1024 .f32) (main_v17 : FVec F S1x1024 .f32) : IVec S4x2048x1024 1 × IVec S4x2048x1024 1 × IVec S1x1024 1 × IVec S1x1024 1 × IVec S4x256x256 1 × IVec S1x1024 1 :=
  let main_v18 : IVec S1x1024 1 := cmpf .olt main_v16 main_v17
  (main_v2, main_v5, main_v8, main_v11, main_v15, main_v18)

def fn {F : FTy → Type} [FloatOps F] (main_arg0 : FVec F S4x2048x1024 .f32) (main_arg1 : FVec F S4x2048x1024 .f32) (main_arg2 : FVec F S1x1024 .f32) (main_arg3 : FVec F S1x1024 .f32) (main_arg4 : FVec F S4x256x256 .bf16) (main_arg5 : FVec F S1x1024 .f32) : IVec S4x2048x1024 1 × IVec S4x2048x1024 1 × IVec S1x1024 1 × IVec S1x1024 1 × IVec S4x256x256 1 × IVec S1x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x1024 .f32 := Host.absf main_arg1
  let main_cst_0 : FVec F S_ .f32 := constant S_ .f32 0x7F800000#32
  let main_v4 : FVec F S4x2048x1024 .f32 := broadcastInDim S4x2048x1024 ![] bcast_S_S4x2048x1024 main_cst_0
  let main_v5 : IVec S4x2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4x256x256 .f32 := (extf .f32 · bitsLt_bf16_f32) main_arg4
  let main_v13 : FVec F S4x256x256 .f32 := Host.absf main_v12
  let main_cst_3 : FVec F S_ .f32 := constant S_ .f32 0x7F800000#32
  let main_v14 : FVec F S4x256x256 .f32 := broadcastInDim S4x256x256 ![] bcast_S_S4x256x256 main_cst_3
  let main_v15 : IVec S4x256x256 1 := cmpf .olt main_v13 main_v14
  let main_v16 : FVec F S1x1024 .f32 := Host.absf main_arg5
  let main_cst_4 : FVec F S_ .f32 := constant S_ .f32 0x7F800000#32
  let main_v17 : FVec F S1x1024 .f32 := broadcastInDim S1x1024 ![] bcast_S_S1x1024 main_cst_4
  fn_part1 (F := F) main_v2 main_v5 main_v8 main_v11 main_v15 main_v16 main_v17
-- ==== Pre_finite_acts.lean ====
abbrev S4x2048x1024 : Shape := ⟨3, ![4, 2048, 1024]⟩
abbrev S11x8192x256 : Shape := ⟨3, ![11, 8192, 256]⟩
abbrev S1x1024 : Shape := ⟨2, ![1, 1024]⟩
abbrev S3x2816x1024 : Shape := ⟨3, ![3, 2816, 1024]⟩
abbrev S4x3x2816 : Shape := ⟨3, ![4, 3, 2816]⟩
abbrev S4x2816 : Shape := ⟨2, ![4, 2816]⟩
abbrev S_ : Shape := ⟨0, ![]⟩

class Facts : Prop where
  bcast_S_S4x2048x1024 : S_.BroadcastsInDim S4x2048x1024 (![] : Fin 0 → Fin S4x2048x1024.rank)
  bitsLt_bf16_f32 : FTy.bits .bf16 < FTy.bits .f32
  bcast_S_S11x8192x256 : S_.BroadcastsInDim S11x8192x256 (![] : Fin 0 → Fin S11x8192x256.rank)
  bcast_S_S1x1024 : S_.BroadcastsInDim S1x1024 (![] : Fin 0 → Fin S1x1024.rank)
  bcast_S_S3x2816x1024 : S_.BroadcastsInDim S3x2816x1024 (![] : Fin 0 → Fin S3x2816x1024.rank)
  bcast_S_S4x3x2816 : S_.BroadcastsInDim S4x3x2816 (![] : Fin 0 → Fin S4x3x2816.rank)
  bcast_S_S4x2816 : S_.BroadcastsInDim S4x2816 (![] : Fin 0 → Fin S4x2816.rank)

variable [Facts]

def fn_part1 {F : FTy → Type} [FloatOps F] (main_arg6 : FVec F S1x1024 .f32) (main_arg7 : FVec F S3x2816x1024 .bf16) (main_arg8 : FVec F S4x3x2816 .f32) (main_arg9 : FVec F S4x2816 .f32) (main_v2 : IVec S4x2048x1024 1) (main_v5 : IVec S4x2048x1024 1) (main_v9 : IVec S11x8192x256 1) (main_v13 : IVec S11x8192x256 1) (main_v16 : IVec S4x2048x1024 1) (main_v17 : FVec F S1x1024 .f32) (main_cst_4 : FVec F S_ .f32) : IVec S4x2048x1024 1 × IVec S4x2048x1024 1 × IVec S11x8192x256 1 × IVec S11x8192x256 1 × IVec S4x2048x1024 1 × IVec S1x1024 1 × IVec S1x1024 1 × IVec S3x2816x1024 1 × IVec S4x3x2816 1 × IVec S4x2816 1 :=
  let main_v18 : FVec F S1x1024 .f32 := broadcastInDim S1x1024 ![] bcast_S_S1x1024 main_cst_4
  let main_v19 : IVec S1x1024 1 := cmpf .olt main_v17 main_v18
  let main_v20 : FVec F S1x1024 .f32 := Host.absf main_arg6
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_v20 main_v21
  let main_v23 : FVec F S3x2816x1024 .f32 := (extf .f32 · bitsLt_bf16_f32) main_arg7
  let main_v24 : FVec F S3x2816x1024 .f32 := Host.absf main_v23
  let main_cst_6 : FVec F S_ .f32 := constant S_ .f32 0x7F800000#32
  let main_v25 : FVec F S3x2816x1024 .f32 := broadcastInDim S3x2816x1024 ![] bcast_S_S3x2816x1024 main_cst_6
  let main_v26 : IVec S3x2816x1024 1 := cmpf .olt main_v24 main_v25
  let main_v27 : FVec F S4x3x2816 .f32 := Host.absf main_arg8
  let main_cst_7 : FVec F S_ .f32 := constant S_ .f32 0x7F800000#32
  let main_v28 : FVec F S4x3x2816 .f32 := broadcastInDim S4x3x2816 ![] bcast_S_S4x3x2816 main_cst_7
  let main_v29 : IVec S4x3x2816 1 := cmpf .olt main_v27 main_v28
  let main_v30 : FVec F S4x2816 .f32 := Host.absf main_arg9
  let main_cst_8 : FVec F S_ .f32 := constant S_ .f32 0x7F800000#32
  let main_v31 : FVec F S4x2816 .f32 := broadcastInDim S4x2816 ![] bcast_S_S4x2816 main_cst_8
  let main_v32 : IVec S4x2816 1 := cmpf .olt main_v30 main_v31
  (main_v2, main_v5, main_v9, main_v13, main_v16, main_v19, main_v22, main_v26, main_v29, main_v32)

def fn {F : FTy → Type} [FloatOps F] (main_arg0 : FVec F S4x2048x1024 .f32) (main_arg1 : FVec F S4x2048x1024 .f32) (main_arg2 : FVec F S11x8192x256 .bf16) (main_arg3 : FVec F S11x8192x256 .bf16) (main_arg4 : FVec F S4x2048x1024 .f32) (main_arg5 : FVec F S1x1024 .f32) (main_arg6 : FVec F S1x1024 .f32) (main_arg7 : FVec F S3x2816x1024 .bf16) (main_arg8 : FVec F S4x3x2816 .f32) (main_arg9 : FVec F S4x2816 .f32) : IVec S4x2048x1024 1 × IVec S4x2048x1024 1 × IVec S11x8192x256 1 × IVec S11x8192x256 1 × IVec S4x2048x1024 1 × IVec S1x1024 1 × IVec S1x1024 1 × IVec S3x2816x1024 1 × IVec S4x3x2816 1 × IVec S4x2816 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x1024 .f32 := Host.absf main_arg1
  let main_cst_0 : FVec F S_ .f32 := constant S_ .f32 0x7F800000#32
  let main_v4 : FVec F S4x2048x1024 .f32 := broadcastInDim S4x2048x1024 ![] bcast_S_S4x2048x1024 main_cst_0
  let main_v5 : IVec S4x2048x1024 1 := cmpf .olt main_v3 main_v4
  let main_v6 : FVec F S11x8192x256 .f32 := (extf .f32 · bitsLt_bf16_f32) main_arg2
  let main_v7 : FVec F S11x8192x256 .f32 := Host.absf main_v6
  let main_cst_1 : FVec F S_ .f32 := constant S_ .f32 0x7F800000#32
  let main_v8 : FVec F S11x8192x256 .f32 := broadcastInDim S11x8192x256 ![] bcast_S_S11x8192x256 main_cst_1
  let main_v9 : IVec S11x8192x256 1 := cmpf .olt main_v7 main_v8
  let main_v10 : FVec F S11x8192x256 .f32 := (extf .f32 · bitsLt_bf16_f32) main_arg3
  let main_v11 : FVec F S11x8192x256 .f32 := Host.absf main_v10
  let main_cst_2 : FVec F S_ .f32 := constant S_ .f32 0x7F800000#32
  let main_v12 : FVec F S11x8192x256 .f32 := broadcastInDim S11x8192x256 ![] bcast_S_S11x8192x256 main_cst_2
  let main_v13 : IVec S11x8192x256 1 := cmpf .olt main_v11 main_v12
  let main_v14 : FVec F S4x2048x1024 .f32 := Host.absf main_arg4
  let main_cst_3 : FVec F S_ .f32 := constant S_ .f32 0x7F800000#32
  let main_v15 : FVec F S4x2048x1024 .f32 := broadcastInDim S4x2048x1024 ![] bcast_S_S4x2048x1024 main_cst_3
  let main_v16 : IVec S4x2048x1024 1 := cmpf .olt main_v14 main_v15
  let main_v17 : FVec F S1x1024 .f32 := Host.absf main_arg5
  let main_cst_4 : FVec F S_ .f32 := constant S_ .f32 0x7F800000#32
  fn_part1 (F := F) main_arg6 main_arg7 main_arg8 main_arg9 main_v2 main_v5 main_v9 main_v13 main_v16 main_v17 main_cst_4
-- ==== Pre_finite_ffn.lean ====
abbrev S4x2048x1024 : Shape := ⟨3, ![4, 2048, 1024]⟩
abbrev S1x1024 : Shape := ⟨2, ![1, 1024]⟩
abbrev S3x2816x1024 : Shape := ⟨3, ![3, 2816, 1024]⟩
abbrev S4x3x2816 : Shape := ⟨3, ![4, 3, 2816]⟩
abbrev S4x2816 : Shape := ⟨2, ![4, 2816]⟩
abbrev S_ : Shape := ⟨0, ![]⟩

class Facts : Prop where
  bcast_S_S4x2048x1024 : S_.BroadcastsInDim S4x2048x1024 (![] : Fin 0 → Fin S4x2048x1024.rank)
  bcast_S_S1x1024 : S_.BroadcastsInDim S1x1024 (![] : Fin 0 → Fin S1x1024.rank)
  bitsLt_bf16_f32 : FTy.bits .bf16 < FTy.bits .f32
  bcast_S_S3x2816x1024 : S_.BroadcastsInDim S3x2816x1024 (![] : Fin 0 → Fin S3x2816x1024.rank)
  bcast_S_S4x3x2816 : S_.BroadcastsInDim S4x3x2816 (![] : Fin 0 → Fin S4x3x2816.rank)
  bcast_S_S4x2816 : S_.BroadcastsInDim S4x2816 (![] : Fin 0 → Fin S4x2816.rank)

variable [Facts]

def fn_part1 {F : FTy → Type} [FloatOps F] (main_v2 : IVec S4x2048x1024 1) (main_v5 : IVec S1x1024 1) (main_v8 : IVec S1x1024 1) (main_v12 : IVec S3x2816x1024 1) (main_v15 : IVec S4x3x2816 1) (main_v16 : FVec F S4x2816 .f32) (main_v17 : FVec F S4x2816 .f32) : IVec S4x2048x1024 1 × IVec S1x1024 1 × IVec S1x1024 1 × IVec S3x2816x1024 1 × IVec S4x3x2816 1 × IVec S4x2816 1 :=
  let main_v18 : IVec S4x2816 1 := cmpf .olt main_v16 main_v17
  (main_v2, main_v5, main_v8, main_v12, main_v15, main_v18)

def fn {F : FTy → Type} [FloatOps F] (main_arg0 : FVec F S4x2048x1024 .f32) (main_arg1 : FVec F S1x1024 .f32) (main_arg2 : FVec F S1x1024 .f32) (main_arg3 : FVec F S3x2816x1024 .bf16) (main_arg4 : FVec F S4x3x2816 .f32) (main_arg5 : FVec F S4x2816 .f32) : IVec S4x2048x1024 1 × IVec S1x1024 1 × IVec S1x1024 1 × IVec S3x2816x1024 1 × IVec S4x3x2816 1 × IVec S4x2816 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S3x2816x1024 .f32 := (extf .f32 · bitsLt_bf16_f32) main_arg3
  let main_v10 : FVec F S3x2816x1024 .f32 := Host.absf main_v9
  let main_cst_2 : FVec F S_ .f32 := constant S_ .f32 0x7F800000#32
  let main_v11 : FVec F S3x2816x1024 .f32 := broadcastInDim S3x2816x1024 ![] bcast_S_S3x2816x1024 main_cst_2
  let main_v12 : IVec S3x2816x1024 1 := cmpf .olt main_v10 main_v11
  let main_v13 : FVec F S4x3x2816 .f32 := Host.absf main_arg4
  let main_cst_3 : FVec F S_ .f32 := constant S_ .f32 0x7F800000#32
  let main_v14 : FVec F S4x3x2816 .f32 := broadcastInDim S4x3x2816 ![] bcast_S_S4x3x2816 main_cst_3
  let main_v15 : IVec S4x3x2816 1 := cmpf .olt main_v13 main_v14
  let main_v16 : FVec F S4x2816 .f32 := Host.absf main_arg5
  let main_cst_4 : FVec F S_ .f32 := constant S_ .f32 0x7F800000#32
  let main_v17 : FVec F S4x2816 .f32 := broadcastInDim S4x2816 ![] bcast_S_S4x2816 main_cst_4
  fn_part1 (F := F) main_v2 main_v5 main_v8 main_v12 main_v15 main_v16 main_v17
-- ==== Pre_finite_gate.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S1024x1024 .bf16) (main_arg3 : FVec F S1x1024 .f32) (main_arg4 : FVec F S1x1024 .f32) : IVec S8192x1024 1 × IVec S8192x1024 1 × IVec S1024x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x1024 .f32 := (extf .f32 · bitsLt_bf16_f32) main_arg2
  let main_v7 : FVec F S1024x1024 .f32 := Host.absf main_v6
  let main_cst_1 : FVec F S_ .f32 := constant S_ .f32 0x7F800000#32
  let main_v8 : FVec F S1024x1024 .f32 := broadcastInDim S1024x1024 ![] bcast_S_S1024x1024 main_cst_1
  let main_v9 : IVec S1024x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  (main_v2, main_v5, main_v9, main_v12, main_v15)
-- ==== Kernel.lean ====
abbrev S4x2048x1024 : Shape := ⟨3, ![4, 2048, 1024]⟩
abbrev S1x1024 : Shape := ⟨2, ![1, 1024]⟩
abbrev S4x256x256 : Shape := ⟨3, ![4, 256, 256]⟩
abbrev S8x1024 : Shape := ⟨2, ![8, 1024]⟩
abbrev S1x512x1024 : Shape := ⟨3, ![1, 512, 1024]⟩
abbrev S1x16x1024 : Shape := ⟨3, ![1, 16, 1024]⟩
abbrev S16x1024 : Shape := ⟨2, ![16, 1024]⟩
abbrev S512x1024 : Shape := ⟨2, ![512, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x1024 : Shape := ⟨2, ![528, 1024]⟩
abbrev S512x256 : Shape := ⟨2, ![512, 256]⟩
abbrev S1x256x256 : Shape := ⟨3, ![1, 256, 256]⟩
abbrev S256x256 : Shape := ⟨2, ![256, 256]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1x1024, .f32⟩
  | .hbm, ⟨3, _⟩ => ⟨S1x1024, .f32⟩
  | .hbm, ⟨4, _⟩ => ⟨S4x256x256, .bf16⟩
  | .hbm, ⟨5, _⟩ => ⟨S1x1024, .f32⟩
  | .hbm, ⟨6, _⟩ => ⟨S4x2048x1024, .f32⟩
  | .hbm, ⟨7, _⟩ => ⟨S4x256x256, .f32⟩
  | .hbm, ⟨8, _⟩ => ⟨S8x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S4x256x256, .f32⟩
  | .local _ .vmem, ⟨13, _⟩ => ⟨S8x1024, .f32⟩
  | .local _ .vmem, ⟨14, _⟩ => ⟨S16x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S4x2048x1024 : Shape := ⟨3, ![4, 2048, 1024]⟩
abbrev S1x1024 : Shape := ⟨2, ![1, 1024]⟩
abbrev S4x256x256 : Shape := ⟨3, ![4, 256, 256]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2049x1024 : Shape := ⟨3, ![4, 2049, 1024]⟩
abbrev S2048 : Shape := ⟨1, ![2048]⟩
abbrev S4x2049x256 : Shape := ⟨3, ![4, 2049, 256]⟩
abbrev S4x2048x256 : Shape := ⟨3, ![4, 2048, 256]⟩
abbrev S4x1x256 : Shape := ⟨3, ![4, 1, 256]⟩
abbrev S4x2047x256 : Shape := ⟨3, ![4, 2047, 256]⟩
abbrev S1x2048x1 : Shape := ⟨3, ![1, 2048, 1]⟩
abbrev S4x3x256 : Shape := ⟨3, ![4, 3, 256]⟩
abbrev S4x2045x256 : Shape := ⟨3, ![4, 2045, 256]⟩
abbrev S4x7x256 : Shape := ⟨3, ![4, 7, 256]⟩
abbrev S4x2041x256 : Shape := ⟨3, ![4, 2041, 256]⟩
abbrev S4x15x256 : Shape := ⟨3, ![4, 15, 256]⟩
abbrev S4x2033x256 : Shape := ⟨3, ![4, 2033, 256]⟩
abbrev S4x2048x1x256 : Shape := ⟨4, ![4, 2048, 1, 256]⟩
abbrev S4x2048x4x256 : Shape := ⟨4, ![4, 2048, 4, 256]⟩
abbrev S4x256x4x2048 : Shape := ⟨4, ![4, 256, 4, 2048]⟩
abbrev S4x4x2048x256 : Shape := ⟨4, ![4, 4, 2048, 256]⟩
abbrev S5x1024 : Shape := ⟨2, ![5, 1024]⟩
abbrev S8x1024 : Shape := ⟨2, ![8, 1024]⟩

abbrev nBuf : Space → Nat
  | .hbm => 275
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S1x1024, .f32⟩
  | 3 => ⟨S1x1024, .f32⟩
  | 4 => ⟨S4x256x256, .bf16⟩
  | 5 => ⟨S1x1024, .f32⟩
  | 6 => ⟨S1024, .f32⟩
  | 7 => ⟨S1024, .f32⟩
  | 8 => ⟨S4x256x256, .f32⟩
  | 9 => ⟨S1024, .f32⟩
  | 10 => ⟨S4x2048x1024, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S_, .f32⟩
  | 18 => ⟨S4x2048x1, .f32⟩
  | 19 => ⟨S4x2048x1, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x1024, .f32⟩
  | 26 => ⟨S4x2048x1024, .f32⟩
  | 27 => ⟨S1x1x1024, .f32⟩
  | 28 => ⟨S4x2048x1024, .f32⟩
  | 29 => ⟨S4x2048x1024, .f32⟩
  | 30 => ⟨S_, .f32⟩
  | 31 => ⟨S4x1x1024, .f32⟩
  | 32 => ⟨S_, .f32⟩
  | 33 => ⟨S_, .f32⟩
  | 34 => ⟨S4x2048x1024, .f32⟩
  | 35 => ⟨S4x2049x1024, .f32⟩
  | 36 => ⟨S_, .f32⟩
  | 37 => ⟨S4x1x1024, .f32⟩
  | 38 => ⟨S2048, .f32⟩
  | 39 => ⟨S_, .f32⟩
  | 40 => ⟨S2048, .f32⟩
  | 41 => ⟨S2048, .f32⟩
  | 42 => ⟨S4x2049x256, .f32⟩
  | 43 => ⟨S4x2048x256, .f32⟩
  | 44 => ⟨S_, .f32⟩
  | 45 => ⟨S4x1x256, .f32⟩
  | 46 => ⟨S4x2047x256, .f32⟩
  | 47 => ⟨S4x2048x256, .f32⟩
  | 48 => ⟨S_, .f32⟩
  | 49 => ⟨S4x1x256, .f32⟩
  | 50 => ⟨S4x2048x256, .f32⟩
  | 51 => ⟨S_, .f32⟩
  | 52 => ⟨S2048, .f32⟩
  | 53 => ⟨S2048, .f32⟩
  | 54 => ⟨S1x2048x1, .f32⟩
  | 55 => ⟨S4x2048x256, .f32⟩
  | 56 => ⟨S4x2048x256, .f32⟩
  | 57 => ⟨S4x2049x256, .f32⟩
  | 58 => ⟨S4x2048x256, .f32⟩
  | 59 => ⟨S_, .f32⟩
  | 60 => ⟨S4x3x256, .f32⟩
  | 61 => ⟨S4x2045x256, .f32⟩
  | 62 => ⟨S4x2048x256, .f32⟩
  | 63 => ⟨S_, .f32⟩
  | 64 => ⟨S4x3x256, .f32⟩
  | 65 => ⟨S4x2048x256, .f32⟩
  | 66 => ⟨S_, .f32⟩
  | 67 => ⟨S2048, .f32⟩
  | 68 => ⟨S2048, .f32⟩
  | 69 => ⟨S1x2048x1, .f32⟩
  | 70 => ⟨S4x2048x256, .f32⟩
  | 71 => ⟨S4x2048x256, .f32⟩
  | 72 => ⟨S4x2049x256, .f32⟩
  | 73 => ⟨S4x2048x256, .f32⟩
  | 74 => ⟨S_, .f32⟩
  | 75 => ⟨S4x7x256, .f32⟩
  | 76 => ⟨S4x2041x256, .f32⟩
  | 77 => ⟨S4x2048x256, .f32⟩
  | 78 => ⟨S_, .f32⟩
  | 79 => ⟨S4x7x256, .f32⟩
  | 80 => ⟨S4x2048x256, .f32⟩
  | 81 => ⟨S_, .f32⟩
  | 82 => ⟨S2048, .f32⟩
  | 83 => ⟨S2048, .f32⟩
  | 84 => ⟨S1x2048x1, .f32⟩
  | 85 => ⟨S4x2048x256, .f32⟩
  | 86 => ⟨S4x2048x256, .f32⟩
  | 87 => ⟨S4x2049x256, .f32⟩
  | 88 => ⟨S4x2048x256, .f32⟩
  | 89 => ⟨S_, .f32⟩
  | 90 => ⟨S4x15x256, .f32⟩
  | 91 => ⟨S4x2033x256, .f32⟩
  | 92 => ⟨S4x2048x256, .f32⟩
  | 93 => ⟨S_, .f32⟩
  | 94 => ⟨S4x15x256, .f32⟩
  | 95 => ⟨S4x2048x256, .f32⟩
  | 96 => ⟨S_, .f32⟩
  | 97 => ⟨S2048, .f32⟩
  | 98 => ⟨S2048, .f32⟩
  | 99 => ⟨S1x2048x1, .f32⟩
  | 100 => ⟨S4x2048x256, .f32⟩
  | 101 => ⟨S4x2048x256, .f32⟩
  | 102 => ⟨S4x2048x1x256, .f32⟩
  | 103 => ⟨S4x2048x1x256, .f32⟩
  | 104 => ⟨S4x2048x1x256, .f32⟩
  | 105 => ⟨S4x2048x1x256, .f32⟩
  | 106 => ⟨S4x2048x4x256, .f32⟩
  | 107 => ⟨S4x2048x4x256, .f32⟩
  | 108 => ⟨S4x2048x4x256, .f32⟩
  | 109 => ⟨S4x256x4x2048, .f32⟩
  | 110 => ⟨S4x2048x4x256, .f32⟩
  | 111 => ⟨S4x2048x1024, .f32⟩
  | 112 => ⟨S1x1x1024, .f32⟩
  | 113 => ⟨S4x2048x1024, .f32⟩
  | 114 => ⟨S4x2048x1024, .f32⟩
  | 115 => ⟨S4x2048x1024, .f32⟩
  | 116 => ⟨S_, .f32⟩
  | 117 => ⟨S4x2048, .f32⟩
  | 118 => ⟨S4x2048x1, .f32⟩
  | 119 => ⟨S_, .f32⟩
  | 120 => ⟨S4x2048x1, .f32⟩
  | 121 => ⟨S4x2048x1, .f32⟩
  | 122 => ⟨S_, .f32⟩
  | 123 => ⟨S4x2048x1, .f32⟩
  | 124 => ⟨S4x2048x1, .f32⟩
  | 125 => ⟨S4x2048x1, .f32⟩
  | 126 => ⟨S4x2048x1, .f32⟩
  | 127 => ⟨S_, .f32⟩
  | _ => ⟨S4x2048x1024, .f32⟩

abbrev hbmTy0_1 (i : Nat) : BufTy := match i % 128 with
  | 0 => ⟨S4x2048x1, .f32⟩
  | 1 => ⟨S4x2048x1, .f32⟩
  | 2 => ⟨S4x2048x1024, .f32⟩
  | 3 => ⟨S4x2048x1024, .f32⟩
  | 4 => ⟨S1x1x1024, .f32⟩
  | 5 => ⟨S4x2048x1024, .f32⟩
  | 6 => ⟨S4x2048x1024, .f32⟩
  | 7 => ⟨S4x2048x1024, .f32⟩
  | 8 => ⟨S4x2048x1024, .f32⟩
  | 9 => ⟨S4x2048x1024, .f32⟩
  | 10 => ⟨S_, .f32⟩
  | 11 => ⟨S1024, .f32⟩
  | 12 => ⟨S1x1x1024, .f32⟩
  | 13 => ⟨S4x2048x1024, .f32⟩
  | 14 => ⟨S4x2048x1024, .f32⟩
  | 15 => ⟨S_, .f32⟩
  | 16 => ⟨S1024, .f32⟩
  | 17 => ⟨S4x2048x1024, .f32⟩
  | 18 => ⟨S_, .f32⟩
  | 19 => ⟨S4x2048, .f32⟩
  | 20 => ⟨S4x2048x1, .f32⟩
  | 21 => ⟨S4x2048x1024, .f32⟩
  | 22 => ⟨S4x2048x1024, .f32⟩
  | 23 => ⟨S4x2048x1, .f32⟩
  | 24 => ⟨S_, .f32⟩
  | 25 => ⟨S4x2048x1, .f32⟩
  | 26 => ⟨S4x2048x1, .f32⟩
  | 27 => ⟨S_, .f32⟩
  | 28 => ⟨S4x2048, .f32⟩
  | 29 => ⟨S4x2048x1024, .f32⟩
  | 30 => ⟨S4x2048x1024, .f32⟩
  | 31 => ⟨S4x2048x1024, .f32⟩
  | 32 => ⟨S4x2048x1024, .f32⟩
  | 33 => ⟨S4x2048x1024, .f32⟩
  | 34 => ⟨S4x2048x1024, .f32⟩
  | 35 => ⟨S_, .f32⟩
  | 36 => ⟨S1024, .f32⟩
  | 37 => ⟨S1x1x1024, .f32⟩
  | 38 => ⟨S4x2048x1024, .f32⟩
  | 39 => ⟨S4x2048x1024, .f32⟩
  | 40 => ⟨S_, .f32⟩
  | 41 => ⟨S1024, .f32⟩
  | 42 => ⟨S4x2048x4x256, .f32⟩
  | 43 => ⟨S4x256x4x2048, .f32⟩
  | 44 => ⟨S4x4x2048x256, .f32⟩
  | 45 => ⟨S4x2048x4x256, .f32⟩
  | 46 => ⟨S4x256x256, .f32⟩
  | 47 => ⟨S4x256x256, .f32⟩
  | 48 => ⟨S4x2048x4x256, .f32⟩
  | 49 => ⟨S4x2048x1024, .f32⟩
  | 50 => ⟨S4x2048x1x256, .f32⟩
  | 51 => ⟨S4x2048x256, .f32⟩
  | 52 => ⟨S4x2048x1x256, .f32⟩
  | 53 => ⟨S4x2048x256, .f32⟩
  | 54 => ⟨S4x2048x1x256, .f32⟩
  | 55 => ⟨S4x2048x256, .f32⟩
  | 56 => ⟨S4x2048x1x256, .f32⟩
  | 57 => ⟨S4x2048x256, .f32⟩
  | 58 => ⟨S4x2048x256, .f32⟩
  | 59 => ⟨S4x2048x256, .f32⟩
  | 60 => ⟨S4x2048x256, .f32⟩
  | 61 => ⟨S4x15x256, .f32⟩
  | 62 => ⟨S4x2033x256, .f32⟩
  | 63 => ⟨S_, .f32⟩
  | 64 => ⟨S4x2049x256, .f32⟩
  | 65 => ⟨S_, .f32⟩
  | 66 => ⟨S4x2049x256, .f32⟩
  | 67 => ⟨S4x2049x256, .f32⟩
  | 68 => ⟨S_, .f32⟩
  | 69 => ⟨S4x2049x1024, .f32⟩
  | 70 => ⟨S4x2048x256, .f32⟩
  | 71 => ⟨S4x2048x256, .f32⟩
  | 72 => ⟨S4x2048x256, .f32⟩
  | 73 => ⟨S4x7x256, .f32⟩
  | 74 => ⟨S4x2041x256, .f32⟩
  | 75 => ⟨S_, .f32⟩
  | 76 => ⟨S4x2049x256, .f32⟩
  | 77 => ⟨S_, .f32⟩
  | 78 => ⟨S4x2049x256, .f32⟩
  | 79 => ⟨S4x2049x256, .f32⟩
  | 80 => ⟨S_, .f32⟩
  | 81 => ⟨S4x2049x1024, .f32⟩
  | 82 => ⟨S4x2049x1024, .f32⟩
  | 83 => ⟨S4x2048x256, .f32⟩
  | 84 => ⟨S4x2048x256, .f32⟩
  | 85 => ⟨S4x2048x256, .f32⟩
  | 86 => ⟨S4x3x256, .f32⟩
  | 87 => ⟨S4x2045x256, .f32⟩
  | 88 => ⟨S_, .f32⟩
  | 89 => ⟨S4x2049x256, .f32⟩
  | 90 => ⟨S_, .f32⟩
  | 91 => ⟨S4x2049x256, .f32⟩
  | 92 => ⟨S4x2049x256, .f32⟩
  | 93 => ⟨S_, .f32⟩
  | 94 => ⟨S4x2049x1024, .f32⟩
  | 95 => ⟨S4x2049x1024, .f32⟩
  | 96 => ⟨S4x2048x256, .f32⟩
  | 97 => ⟨S4x2048x256, .f32⟩
  | 98 => ⟨S4x2048x256, .f32⟩
  | 99 => ⟨S4x1x256, .f32⟩
  | 100 => ⟨S4x2047x256, .f32⟩
  | 101 => ⟨S_, .f32⟩
  | 102 => ⟨S4x2049x256, .f32⟩
  | 103 => ⟨S_, .f32⟩
  | 104 => ⟨S4x2049x256, .f32⟩
  | 105 => ⟨S4x2049x256, .f32⟩
  | 106 => ⟨S_, .f32⟩
  | 107 => ⟨S4x2049x1024, .f32⟩
  | 108 => ⟨S4x2049x1024, .f32⟩
  | 109 => ⟨S4x1x1024, .f32⟩
  | 110 => ⟨S4x2048x1024, .f32⟩
  | 111 => ⟨S_, .f32⟩
  | 112 => ⟨S_, .f32⟩
  | 113 => ⟨S4x2048x1024, .f32⟩
  | 114 => ⟨S4x2048x1024, .f32⟩
  | 115 => ⟨S4x2048x1024, .f32⟩
  | 116 => ⟨S_, .f32⟩
  | 117 => ⟨S1024, .f32⟩
  | 118 => ⟨S1x1x1024, .f32⟩
  | 119 => ⟨S4x2048x1024, .f32⟩
  | 120 => ⟨S4x2048x1024, .f32⟩
  | 121 => ⟨S_, .f32⟩
  | 122 => ⟨S1024, .f32⟩
  | 123 => ⟨S4x2048x1024, .f32⟩
  | 124 => ⟨S_, .f32⟩
  | 125 => ⟨S4x2048, .f32⟩
  | 126 => ⟨S4x2048x1, .f32⟩
  | 127 => ⟨S4x2048x1024, .f32⟩
  | _ => ⟨S4x2048x1024, .f32⟩

abbrev hbmTy0_2 (i : Nat) : BufTy := match i % 128 with
  | 0 => ⟨S4x2048x1024, .f32⟩
  | 1 => ⟨S4x2048x1024, .f32⟩
  | 2 => ⟨S4x2048x1, .f32⟩
  | 3 => ⟨S_, .f32⟩
  | 4 => ⟨S4x2048x1, .f32⟩
  | 5 => ⟨S4x2048x1, .f32⟩
  | 6 => ⟨S_, .f32⟩
  | 7 => ⟨S4x2048, .f32⟩
  | 8 => ⟨S4x2048x1024, .f32⟩
  | 9 => ⟨S4x2048x1024, .f32⟩
  | 10 => ⟨S4x2048x1024, .f32⟩
  | 11 => ⟨S4x2048x1024, .f32⟩
  | 12 => ⟨S4x2048x1024, .f32⟩
  | 13 => ⟨S1x1024, .f32⟩
  | 14 => ⟨S1x1024, .f32⟩
  | 15 => ⟨S1x1024, .f32⟩
  | 16 => ⟨S_, .f32⟩
  | 17 => ⟨S5x1024, .f32⟩
  | 18 => ⟨S8x1024, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_call0_call0_cst : Ref sig .tc := ⟨.hbm, 32, rfl⟩
abbrev main_call0_call0_v0 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_13 : Ref sig .tc := ⟨.hbm, 78, rfl⟩
abbrev main_v56 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_16 : Ref sig .tc := ⟨.hbm, 93, rfl⟩
abbrev main_v68 : Ref sig .tc := ⟨.hbm, 94, rfl⟩
abbrev main_v69 : Ref sig .tc := ⟨.hbm, 95, rfl⟩
abbrev main_cst_17 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_18 : Ref sig .tc := ⟨.hbm, 116, rfl⟩
abbrev main_v89 : Ref sig .tc := ⟨.hbm, 117, rfl⟩
abbrev main_v90 : Ref sig .tc := ⟨.hbm, 118, rfl⟩
abbrev main_cst_19 : Ref sig .tc := ⟨.hbm, 119, rfl⟩
abbrev main_v91 : Ref sig .tc := ⟨.hbm, 120, rfl⟩
abbrev main_v92 : Ref sig .tc := ⟨.hbm, 121, rfl⟩
abbrev main_cst_20 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_21 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_22 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_23 : Ref sig .tc := ⟨.hbm, 143, rfl⟩
abbrev main_v111 : Ref sig .tc := ⟨.hbm, 144, rfl⟩
abbrev main_v112 : Ref sig .tc := ⟨.hbm, 145, rfl⟩
abbrev main_cst_24 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_25 : Ref sig .tc := ⟨.hbm, 152, rfl⟩
abbrev main_v118 : Ref sig .tc := ⟨.hbm, 153, rfl⟩
abbrev main_v119 : Ref sig .tc := ⟨.hbm, 154, rfl⟩
abbrev main_cst_26 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_27 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_28 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_29 : Ref sig .tc := ⟨.hbm, 191, rfl⟩
abbrev main_v153 : Ref sig .tc := ⟨.hbm, 192, rfl⟩
abbrev main_cst_30 : Ref sig .tc := ⟨.hbm, 193, rfl⟩
abbrev main_v154 : Ref sig .tc := ⟨.hbm, 194, rfl⟩
abbrev main_v155 : Ref sig .tc := ⟨.hbm, 195, rfl⟩
abbrev main_cst_31 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_cst_32 : Ref sig .tc := ⟨.hbm, 203, rfl⟩
abbrev main_v162 : Ref sig .tc := ⟨.hbm, 204, rfl⟩
abbrev main_cst_33 : Ref sig .tc := ⟨.hbm, 205, rfl⟩
abbrev main_v163 : Ref sig .tc := ⟨.hbm, 206, rfl⟩
abbrev main_v164 : Ref sig .tc := ⟨.hbm, 207, rfl⟩
abbrev main_cst_34 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_cst_35 : Ref sig .tc := ⟨.hbm, 216, rfl⟩
abbrev main_v172 : Ref sig .tc := ⟨.hbm, 217, rfl⟩
abbrev main_cst_36 : Ref sig .tc := ⟨.hbm, 218, rfl⟩
abbrev main_v173 : Ref sig .tc := ⟨.hbm, 219, rfl⟩
abbrev main_v174 : Ref sig .tc := ⟨.hbm, 220, rfl⟩
abbrev main_cst_37 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_cst_38 : Ref sig .tc := ⟨.hbm, 229, rfl⟩
abbrev main_v182 : Ref sig .tc := ⟨.hbm, 230, rfl⟩
abbrev main_cst_39 : Ref sig .tc := ⟨.hbm, 231, rfl⟩
abbrev main_v183 : Ref sig .tc := ⟨.hbm, 232, rfl⟩
abbrev main_v184 : Ref sig .tc := ⟨.hbm, 233, rfl⟩
abbrev main_cst_40 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_call1_call0_cst : Ref sig .tc := ⟨.hbm, 239, rfl⟩
abbrev main_call1_call0_v0 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_cst_41 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_cst_42 : Ref sig .tc := ⟨.hbm, 249, rfl⟩
abbrev main_v196 : Ref sig .tc := ⟨.hbm, 250, rfl⟩
abbrev main_v197 : Ref sig .tc := ⟨.hbm, 251, rfl⟩
abbrev main_cst_43 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_cst_44 : Ref sig .tc := ⟨.hbm, 259, rfl⟩
abbrev main_v204 : Ref sig .tc := ⟨.hbm, 260, rfl⟩
abbrev main_v205 : Ref sig .tc := ⟨.hbm, 261, rfl⟩
abbrev main_cst_45 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_cst_46 : Ref sig .tc := ⟨.hbm, 272, rfl⟩
abbrev main_v215 : Ref sig .tc := ⟨.hbm, 273, rfl⟩
abbrev main_v216 : Ref sig .tc := ⟨.hbm, 274, rfl⟩

abbrev nD : Nat := 1
abbrev τ : Topo := Topo.v7x

variable {F : FTy → Type} [FloatOps F]
-- ==== Kernel2.lean ====
abbrev S11x8192x256 : Shape := ⟨3, ![11, 8192, 256]⟩
abbrev S8192x1024 : Shape := ⟨2, ![8192, 1024]⟩
abbrev S3x2816x1024 : Shape := ⟨3, ![3, 2816, 1024]⟩
abbrev S1x2048x256 : Shape := ⟨3, ![1, 2048, 256]⟩
abbrev S3x256x1024 : Shape := ⟨3, ![3, 256, 1024]⟩
abbrev S2048x1024 : Shape := ⟨2, ![2048, 1024]⟩
abbrev S1x256x1024 : Shape := ⟨3, ![1, 256, 1024]⟩
abbrev S256x1024 : Shape := ⟨2, ![256, 1024]⟩
abbrev S2048x256 : Shape := ⟨2, ![2048, 256]⟩

abbrev nBuf : Space → Nat
  | .hbm => 6
  | .vmem => 11
  | .smem => 0
  | _ => 0

abbrev bufTy : (tb : Table) → Fin (tcTables nBuf tb) → BufTy
  | .hbm, ⟨0, _⟩ => ⟨S11x8192x256, .bf16⟩
  | .hbm, ⟨1, _⟩ => ⟨S11x8192x256, .bf16⟩
  | .hbm, ⟨2, _⟩ => ⟨S11x8192x256, .bf16⟩
  | .hbm, ⟨3, _⟩ => ⟨S8192x1024, .bf16⟩
  | .hbm, ⟨4, _⟩ => ⟨S8192x1024, .bf16⟩
  | .hbm, ⟨5, _⟩ => ⟨S3x2816x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S8192x1024, .bf16⟩
  | .local _ .vmem, ⟨7, _⟩ => ⟨S8192x1024, .bf16⟩
  | .local _ .vmem, ⟨8, _⟩ => ⟨S3x256x1024, .bf16⟩
  | .local _ .vmem, ⟨9, _⟩ => ⟨S3x256x1024, .bf16⟩
  | .local _ .vmem, ⟨10, _⟩ => ⟨S3x256x1024, .f32⟩
  | _, _ => ⟨S11x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![11, 4], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_29 : BitVec 32 := 0#32
  let v38 : BitVec 1 := Scalar.cmpi .ne v37 c0_i32_29
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8192x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8192x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S3x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S11x8192x256 : Shape := ⟨3, ![11, 8192, 256]⟩
abbrev S8192x1024 : Shape := ⟨2, ![8192, 1024]⟩
abbrev S8192x11x256 : Shape := ⟨3, ![8192, 11, 256]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩

abbrev nBuf : Space → Nat
  | .hbm => 38
  | .vmem => 0
  | .smem => 0
  | _ => 0

abbrev bufTy : (tb : Table) → Fin (tcTables nBuf tb) → BufTy
  | .hbm, ⟨0, _⟩ => ⟨S11x8192x256, .bf16⟩
  | .hbm, ⟨1, _⟩ => ⟨S11x8192x256, .bf16⟩
  | .hbm, ⟨2, _⟩ => ⟨S11x8192x256, .bf16⟩
  | .hbm, ⟨3, _⟩ => ⟨S8192x1024, .bf16⟩
  | .hbm, ⟨4, _⟩ => ⟨S8192x1024, .bf16⟩
  | .hbm, ⟨5, _⟩ => ⟨S8192x1024, .f32⟩
  | .hbm, ⟨6, _⟩ => ⟨S8192x11x256, .bf16⟩
  | .hbm, ⟨7, _⟩ => ⟨S8192x2816, .bf16⟩
  | .hbm, ⟨8, _⟩ => ⟨S8192x2816, .f32⟩
  | .hbm, ⟨9, _⟩ => ⟨S_, .f32⟩
  | .hbm, ⟨10, _⟩ => ⟨S1024x2816, .f32⟩
  | .hbm, ⟨11, _⟩ => ⟨S_, .f32⟩
  | .hbm, ⟨12, _⟩ => ⟨S1024x2816, .f32⟩
  | .hbm, ⟨13, _⟩ => ⟨S_, .f32⟩
  | .hbm, ⟨14, _⟩ => ⟨S2816x1024, .f32⟩
  | .hbm, ⟨15, _⟩ => ⟨S8192x2816, .f32⟩
  | .hbm, ⟨16, _⟩ => ⟨S8192x2816, .f32⟩
  | .hbm, ⟨17, _⟩ => ⟨S8192x1024, .f32⟩
  | .hbm, ⟨18, _⟩ => ⟨S8192x11x256, .bf16⟩
  | .hbm, ⟨19, _⟩ => ⟨S8192x2816, .bf16⟩
  | .hbm, ⟨20, _⟩ => ⟨S8192x2816, .f32⟩
  | .hbm, ⟨21, _⟩ => ⟨S8192x11x256, .bf16⟩
  | .hbm, ⟨22, _⟩ => ⟨S8192x2816, .bf16⟩
  | .hbm, ⟨23, _⟩ => ⟨S8192x2816, .f32⟩
  | .hbm, ⟨24, _⟩ => ⟨S8192x1024, .f32⟩
  | .hbm, ⟨25, _⟩ => ⟨S1024x2816, .f32⟩
  | .hbm, ⟨26, _⟩ => ⟨S2816x1024, .f32⟩
  | .hbm, ⟨27, _⟩ => ⟨S2816x1024, .f32⟩
  | .hbm, ⟨28, _⟩ => ⟨S1024x2816, .f32⟩
  | .hbm, ⟨29, _⟩ => ⟨S2816x1024, .f32⟩
  | .hbm, ⟨30, _⟩ => ⟨S1024x2816, .f32⟩
  | .hbm, ⟨31, _⟩ => ⟨S2816x1024, .f32⟩
  | .hbm, ⟨32, _⟩ => ⟨S2816x1024, .f32⟩
  | .hbm, ⟨33, _⟩ => ⟨S1x2816x1024, .f32⟩
  | .hbm, ⟨34, _⟩ => ⟨S1x2816x1024, .f32⟩
  | .hbm, ⟨35, _⟩ => ⟨S1x2816x1024, .f32⟩
  | .hbm, ⟨36, _⟩ => ⟨S3x2816x1024, .f32⟩
  | .hbm, ⟨37, _⟩ => ⟨S3x2816x1024, .bf16⟩
  | _, _ => ⟨S11x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel3.lean ====
abbrev S8192x1024 : Shape := ⟨2, ![8192, 1024]⟩
abbrev S1024x1024 : Shape := ⟨2, ![1024, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1024x1024, .f32⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1024x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel3Ideal.lean ====
variable {F : FTy → Type} [FloatOps F] [Named F]
def κ : String → Option EReal := fun
  | "gelu_3ck" => some ((241015141496493 / 2251799813685248 : ℝ) : EReal)
  | "gelu_ck" => some ((80338380498831 / 2251799813685248 : ℝ) : EReal)
  | _ => none
-- ==== Reference3Ideal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S6x1024 : Shape := ⟨2, ![6, 1024]⟩
abbrev S8x1024 : Shape := ⟨2, ![8, 1024]⟩

abbrev nBuf : Space → Nat
  | .hbm => 130
  | .vmem => 0
  | .smem => 0
  | _ => 0

abbrev hbmTy0_0 (i : Nat) : BufTy := match i % 128 with
  | 0 => ⟨S8192x1024, .f32⟩
  | 1 => ⟨S8192x1024, .f32⟩
  | 2 => ⟨S1024x1024, .bf16⟩
  | 3 => ⟨S1x1024, .f32⟩
  | 4 => ⟨S1x1024, .f32⟩
  | 5 => ⟨S1024x1024, .f32⟩
  | 6 => ⟨S1024, .f32⟩
  | 7 => ⟨S1024, .f32⟩
  | 8 => ⟨S8192x1024, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S8192x1024, .f32⟩
  | 36 => ⟨S8192x1024, .f32⟩
  | 37 => ⟨S1x1024, .f32⟩
  | 38 => ⟨S8192x1024, .f32⟩
  | 39 => ⟨S8192x1024, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1024, .f32⟩
  | 69 => ⟨S8192x1024, .f32⟩
  | 70 => ⟨S1x1024, .f32⟩
  | 71 => ⟨S8192x1024, .f32⟩
  | 72 => ⟨S8192x1024, .f32⟩
  | 73 => ⟨S8192x1024, .f32⟩
  | 74 => ⟨S_, .f32⟩
  | 75 => ⟨S1024, .f32⟩
  | 76 => ⟨S1x1024, .f32⟩
  | 77 => ⟨S8192x1024, .f32⟩
  | 78 => ⟨S8192x1024, .f32⟩
  | 79 => ⟨S_, .f32⟩
  | 80 => ⟨S1024, .f32⟩
  | 81 => ⟨S8192x1024, .f32⟩
  | 82 => ⟨S_, .f32⟩
  | 83 => ⟨S8192, .f32⟩
  | 84 => ⟨S8192x1, .f32⟩
  | 85 => ⟨S8192x1024, .f32⟩
  | 86 => ⟨S8192x1024, .f32⟩
  | 87 => ⟨S8192x1, .f32⟩
  | 88 => ⟨S_, .f32⟩
  | 89 => ⟨S8192x1, .f32⟩
  | 90 => ⟨S8192x1, .f32⟩
  | 91 => ⟨S_, .f32⟩
  | 92 => ⟨S8192, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S_, .f32⟩
  | 102 => ⟨S1024, .f32⟩
  | 103 => ⟨S1x1024, .f32⟩
  | 104 => ⟨S_, .f32⟩
  | 105 => ⟨S1024, .f32⟩
  | 106 => ⟨S1024x1024, .f32⟩
  | 107 => ⟨S1024x1024, .f32⟩
  | 108 => ⟨S8192x1024, .f32⟩
  | 109 => ⟨S8192x1024, .f32⟩
  | 110 => ⟨S8192x1024, .f32⟩
  | 111 => ⟨S8192x1024, .f32⟩
  | 112 => ⟨S_, .f32⟩
  | 113 => ⟨S8192x1024, .f32⟩
  | 114 => ⟨S8192x1024, .f32⟩
  | 115 => ⟨S8192x1024, .f32⟩
  | 116 => ⟨S_, .f32⟩
  | 117 => ⟨S8192x1024, .f32⟩
  | 118 => ⟨S8192x1024, .f32⟩
  | 119 => ⟨S8192x1024, .f32⟩
  | 120 => ⟨S_, .f32⟩
  | 121 => ⟨S8192x1024, .f32⟩
  | 122 => ⟨S8192x1024, .f32⟩
  | 123 => ⟨S8192x1024, .f32⟩
  | 124 => ⟨S8192x1024, .f32⟩
  | 125 => ⟨S1x1024, .f32⟩
  | 126 => ⟨S1x1024, .f32⟩
  | 127 => ⟨S_, .f32⟩
  | _ => ⟨S8192x1024, .f32⟩

abbrev hbmTy0_1 (i : Nat) : BufTy := match i % 128 with
  | 0 => ⟨S6x1024, .f32⟩
  | 1 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_14 : Ref sig .tc := ⟨.hbm, 79, rfl⟩
abbrev main_v59 : Ref sig .tc := ⟨.hbm, 80, rfl⟩
abbrev main_v60 : Ref sig .tc := ⟨.hbm, 81, rfl⟩
abbrev main_cst_15 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_16 : Ref sig .tc := ⟨.hbm, 88, rfl⟩
abbrev main_v66 : Ref sig .tc := ⟨.hbm, 89, rfl⟩
abbrev main_v67 : Ref sig .tc := ⟨.hbm, 90, rfl⟩
abbrev main_cst_17 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_18 : Ref sig .tc := ⟨.hbm, 101, rfl⟩
abbrev main_v77 : Ref sig .tc := ⟨.hbm, 102, rfl⟩
abbrev main_v78 : Ref sig .tc := ⟨.hbm, 103, rfl⟩
abbrev main_cst_19 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_20 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_21 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_22 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_23 : Ref sig .tc := ⟨.hbm, 127, rfl⟩
abbrev main_v98 : Ref sig .tc := ⟨.hbm, 128, rfl⟩
abbrev main_v99 : Ref sig .tc := ⟨.hbm, 129, rfl⟩

abbrev nD : Nat := 1
abbrev τ : Topo := Topo.v7x

variable {F : FTy → Type} [FloatOps F]
-- ==== Kernel4.lean ====
abbrev S4x2048x1024 : Shape := ⟨3, ![4, 2048, 1024]⟩
abbrev S1x1024 : Shape := ⟨2, ![1, 1024]⟩
abbrev S3x2816x1024 : Shape := ⟨3, ![3, 2816, 1024]⟩
abbrev S4x3x2816 : Shape := ⟨3, ![4, 3, 2816]⟩
abbrev S4x2816 : Shape := ⟨2, ![4, 2816]⟩
abbrev S4x1x2816 : Shape := ⟨3, ![4, 1, 2816]⟩
abbrev S11x8192x256 : Shape := ⟨3, ![11, 8192, 256]⟩
abbrev S1x512x1024 : Shape := ⟨3, ![1, 512, 1024]⟩
abbrev S1x3x2816 : Shape := ⟨3, ![1, 3, 2816]⟩
abbrev S1x1x2816 : Shape := ⟨3, ![1, 1, 2816]⟩
abbrev S11x512x256 : Shape := ⟨3, ![11, 512, 256]⟩
abbrev S512x1024 : Shape := ⟨2, ![512, 1024]⟩
abbrev S11x8x256 : Shape := ⟨3, ![11, 8, 256]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩
abbrev S256x256 : Shape := ⟨2, ![256, 256]⟩
abbrev S1x1x256 : Shape := ⟨3, ![1, 1, 256]⟩
abbrev S1x256 : Shape := ⟨2, ![1, 256]⟩
abbrev S16x256 : Shape := ⟨2, ![16, 256]⟩
abbrev S1x8x256 : Shape := ⟨3, ![1, 8, 256]⟩
abbrev S8x256 : Shape := ⟨2, ![8, 256]⟩
abbrev S1x256x256 : Shape := ⟨3, ![1, 256, 256]⟩
abbrev S24x256 : Shape := ⟨2, ![24, 256]⟩

abbrev nBuf : Space → Nat
  | .hbm => 11
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024, .f32⟩
  | .hbm, ⟨3, _⟩ => ⟨S3x2816x1024, .bf16⟩
  | .hbm, ⟨4, _⟩ => ⟨S4x3x2816, .f32⟩
  | .hbm, ⟨5, _⟩ => ⟨S4x2816, .f32⟩
  | .hbm, ⟨6, _⟩ => ⟨S4x1x2816, .f32⟩
  | .hbm, ⟨7, _⟩ => ⟨S4x2048x1024, .f32⟩
  | .hbm, ⟨8, _⟩ => ⟨S11x8192x256, .bf16⟩
  | .hbm, ⟨9, _⟩ => ⟨S11x8192x256, .bf16⟩
  | .hbm, ⟨10, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S3x2816x1024, .bf16⟩
  | .local _ .vmem, ⟨5, _⟩ => ⟨S1x3x2816, .f32⟩
  | .local _ .vmem, ⟨6, _⟩ => ⟨S1x1x2816, .f32⟩
  | .local _ .vmem, ⟨7, _⟩ => ⟨S1x512x1024, .f32⟩
  | .local _ .vmem, ⟨8, _⟩ => ⟨S1x512x1024, .f32⟩
  | .local _ .vmem, ⟨9, _⟩ => ⟨S11x512x256, .bf16⟩
  | .local _ .vmem, ⟨10, _⟩ => ⟨S11x512x256, .bf16⟩
  | .local _ .vmem, ⟨11, _⟩ => ⟨S11x512x256, .bf16⟩
  | .local _ .vmem, ⟨12, _⟩ => ⟨S11x512x256, .bf16⟩
  | .local _ .vmem, ⟨13, _⟩ => ⟨S1x512x1024, .f32⟩
  | .local _ .vmem, ⟨14, _⟩ => ⟨S1x512x1024, .f32⟩
  | .local _ .vmem, ⟨15, _⟩ => ⟨S512x1024, .bf16⟩
  | .local _ .vmem, ⟨16, _⟩ => ⟨S512x1024, .f32⟩
  | .local _ .vmem, ⟨17, _⟩ => ⟨S11x8x256, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S11x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S11x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel4Ideal.lean ====
variable {F : FTy → Type} [FloatOps F] [Named F]
def κ : String → Option EReal := fun
  | "gelu_3ck" => some ((241015141496493 / 2251799813685248 : ℝ) : EReal)
  | "gelu_ck" => some ((80338380498831 / 2251799813685248 : ℝ) : EReal)
  | _ => none
-- ==== Reference4Ideal.lean ====
abbrev S4x2048x1024 : Shape := ⟨3, ![4, 2048, 1024]⟩
abbrev S1x1024 : Shape := ⟨2, ![1, 1024]⟩
abbrev S3x2816x1024 : Shape := ⟨3, ![3, 2816, 1024]⟩
abbrev S4x3x2816 : Shape := ⟨3, ![4, 3, 2816]⟩
abbrev S4x2816 : Shape := ⟨2, ![4, 2816]⟩
abbrev S1x2816x1024 : Shape := ⟨3, ![1, 2816, 1024]⟩
abbrev S2816x1024 : Shape := ⟨2, ![2816, 1024]⟩
abbrev S1024x2816 : Shape := ⟨2, ![1024, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x2816 : Shape := ⟨3, ![4, 2048, 2816]⟩
abbrev S4x2x2816 : Shape := ⟨3, ![4, 2, 2816]⟩
abbrev S4x2050x2816 : Shape := ⟨3, ![4, 2050, 2816]⟩
abbrev S1x1x2816 : Shape := ⟨3, ![1, 1, 2816]⟩
abbrev S8192x11x256 : Shape := ⟨3, ![8192, 11, 256]⟩
abbrev S11x8192x256 : Shape := ⟨3, ![11, 8192, 256]⟩

abbrev nBuf : Space → Nat
  | .hbm => 109
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024, .f32⟩
  | .hbm, ⟨3, _⟩ => ⟨S3x2816x1024, .bf16⟩
  | .hbm, ⟨4, _⟩ => ⟨S4x3x2816, .f32⟩
  | .hbm, ⟨5, _⟩ => ⟨S4x2816, .f32⟩
  | .hbm, ⟨6, _⟩ => ⟨S1x2816x1024, .bf16⟩
  | .hbm, ⟨7, _⟩ => ⟨S2816x1024, .bf16⟩
  | .hbm, ⟨8, _⟩ => ⟨S2816x1024, .f32⟩
  | .hbm, ⟨9, _⟩ => ⟨S1024x2816, .f32⟩
  | .hbm, ⟨10, _⟩ => ⟨S1x2816x1024, .bf16⟩
  | .hbm, ⟨11, _⟩ => ⟨S2816x1024, .bf16⟩
  | .hbm, ⟨12, _⟩ => ⟨S2816x1024, .f32⟩
  | .hbm, ⟨13, _⟩ => ⟨S1024x2816, .f32⟩
  | .hbm, ⟨14, _⟩ => ⟨S1x2816x1024, .bf16⟩
  | .hbm, ⟨15, _⟩ => ⟨S2816x1024, .bf16⟩
  | .hbm, ⟨16, _⟩ => ⟨S2816x1024, .f32⟩
  | .hbm, ⟨17, _⟩ => ⟨S1x3x2816, .f32⟩
  | .hbm, ⟨18, _⟩ => ⟨S3x2816, .f32⟩
  | .hbm, ⟨19, _⟩ => ⟨S1x2816, .f32⟩
  | .hbm, ⟨20, _⟩ => ⟨S2816, .f32⟩
  | .hbm, ⟨21, _⟩ => ⟨S1024, .f32⟩
  | .hbm, ⟨22, _⟩ => ⟨S4x2048x1024, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S4x2048x1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | .hbm, ⟨38, _⟩ => ⟨S4x2048x2816, .f32⟩
  | .hbm, ⟨39, _⟩ => ⟨S4x2048x2816, .f32⟩
  | .hbm, ⟨40, _⟩ => ⟨S_, .f32⟩
  | .hbm, ⟨41, _⟩ => ⟨S4x2x2816, .f32⟩
  | .hbm, ⟨42, _⟩ => ⟨S4x2050x2816, .f32⟩
  | .hbm, ⟨43, _⟩ => ⟨S1x2816, .f32⟩
  | .hbm, ⟨44, _⟩ => ⟨S2816, .f32⟩
  | .hbm, ⟨45, _⟩ => ⟨S4x2048x2816, .f32⟩
  | .hbm, ⟨46, _⟩ => ⟨S1x1x2816, .f32⟩
  | .hbm, ⟨47, _⟩ => ⟨S4x2048x2816, .f32⟩
  | .hbm, ⟨48, _⟩ => ⟨S4x2048x2816, .f32⟩
  | .hbm, ⟨49, _⟩ => ⟨S1x1x2816, .f32⟩
  | .hbm, ⟨50, _⟩ => ⟨S4x2048x2816, .f32⟩
  | .hbm, ⟨51, _⟩ => ⟨S4x2048x2816, .f32⟩
  | .hbm, ⟨52, _⟩ => ⟨S1x2816, .f32⟩
  | .hbm, ⟨53, _⟩ => ⟨S2816, .f32⟩
  | .hbm, ⟨54, _⟩ => ⟨S4x2048x2816, .f32⟩
  | .hbm, ⟨55, _⟩ => ⟨S1x1x2816, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S1x2816, .f32⟩
  | .hbm, ⟨60, _⟩ => ⟨S2816, .f32⟩
  | .hbm, ⟨61, _⟩ => ⟨S4x2048x2816, .f32⟩
  | .hbm, ⟨62, _⟩ => ⟨S1x1x2816, .f32⟩
  | .hbm, ⟨63, _⟩ => ⟨S4x2048x2816, .f32⟩
  | .hbm, ⟨64, _⟩ => ⟨S4x2048x2816, .f32⟩
  | .hbm, ⟨65, _⟩ => ⟨S4x2048x2816, .f32⟩
  | .hbm, ⟨66, _⟩ => ⟨S4x2048x2816, .f32⟩
  | .hbm, ⟨67, _⟩ => ⟨S4x2048x2816, .f32⟩
  | .hbm, ⟨68, _⟩ => ⟨S_, .f32⟩
  | .hbm, ⟨69, _⟩ => ⟨S4x2048x2816, .f32⟩
  | .hbm, ⟨70, _⟩ => ⟨S4x2048x2816, .f32⟩
  | .hbm, ⟨71, _⟩ => ⟨S4x2048x2816, .f32⟩
  | .hbm, ⟨72, _⟩ => ⟨S_, .f32⟩
  | .hbm, ⟨73, _⟩ => ⟨S4x2048x2816, .f32⟩
  | .hbm, ⟨74, _⟩ => ⟨S4x2048x2816, .f32⟩
  | .hbm, ⟨75, _⟩ => ⟨S4x2048x2816, .f32⟩
  | .hbm, ⟨76, _⟩ => ⟨S_, .f32⟩
  | .hbm, ⟨77, _⟩ => ⟨S4x2048x2816, .f32⟩
  | .hbm, ⟨78, _⟩ => ⟨S4x2048x2816, .f32⟩
  | .hbm, ⟨79, _⟩ => ⟨S_, .f32⟩
  | .hbm, ⟨80, _⟩ => ⟨S4x2048x2816, .f32⟩
  | .hbm, ⟨81, _⟩ => ⟨S4x2048x2816, .f32⟩
  | .hbm, ⟨82, _⟩ => ⟨S4x2048x2816, .f32⟩
  | .hbm, ⟨83, _⟩ => ⟨S4x2048x2816, .f32⟩
  | .hbm, ⟨84, _⟩ => ⟨S4x2048x1024, .f32⟩
  | .hbm, ⟨85, _⟩ => ⟨S1024, .f32⟩
  | .hbm, ⟨86, _⟩ => ⟨S4x2048x1024, .f32⟩
  | .hbm, ⟨87, _⟩ => ⟨S_, .f32⟩
  | .hbm, ⟨88, _⟩ => ⟨S4x2048, .f32⟩
  | .hbm, ⟨89, _⟩ => ⟨S4x2048x1, .f32⟩
  | .hbm, ⟨90, _⟩ => ⟨S_, .f32⟩
  | .hbm, ⟨91, _⟩ => ⟨S4x2048x1, .f32⟩
  | .hbm, ⟨92, _⟩ => ⟨S4x2048x1, .f32⟩
  | .hbm, ⟨93, _⟩ => ⟨S_, .f32⟩
  | .hbm, ⟨94, _⟩ => ⟨S4x2048x1, .f32⟩
  | .hbm, ⟨95, _⟩ => ⟨S4x2048x1, .f32⟩
  | .hbm, ⟨96, _⟩ => ⟨S4x2048x1, .f32⟩
  | .hbm, ⟨97, _⟩ => ⟨S4x2048x1024, .f32⟩
  | .hbm, ⟨98, _⟩ => ⟨S4x2048x1024, .f32⟩
  | .hbm, ⟨99, _⟩ => ⟨S1x1x1024, .f32⟩
  | .hbm, ⟨100, _⟩ => ⟨S4x2048x1024, .f32⟩
  | .hbm, ⟨101, _⟩ => ⟨S4x2048x1024, .f32⟩
  | .hbm, ⟨102, _⟩ => ⟨S4x2048x1024, .f32⟩
  | .hbm, ⟨103, _⟩ => ⟨S4x2048x2816, .bf16⟩
  | .hbm, ⟨104, _⟩ => ⟨S8192x11x256, .bf16⟩
  | .hbm, ⟨105, _⟩ => ⟨S11x8192x256, .bf16⟩
  | .hbm, ⟨106, _⟩ => ⟨S4x2048x2816, .bf16⟩
  | .hbm, ⟨107, _⟩ => ⟨S8192x11x256, .bf16⟩
  | .hbm, ⟨108, _⟩ => ⟨S11x8192x256, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_3 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_4 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_5 : Ref sig .tc := ⟨.hbm, 76, rfl⟩
abbrev main_v64 : Ref sig .tc := ⟨.hbm, 77, rfl⟩
abbrev main_v65 : Ref sig .tc := ⟨.hbm, 78, rfl⟩
abbrev main_cst_6 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_7 : Ref sig .tc := ⟨.hbm, 87, rfl⟩
abbrev main_v73 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_v76 : Ref sig .tc := ⟨.hbm, 92, rfl⟩
abbrev main_cst_9 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩

abbrev nD : Nat := 1
abbrev τ : Topo := Topo.v7x

variable {F : FTy → Type} [FloatOps F]
-- ==== Kernel5.lean ====
abbrev S4x2048x1024 : Shape := ⟨3, ![4, 2048, 1024]⟩
abbrev S11x8192x256 : Shape := ⟨3, ![11, 8192, 256]⟩
abbrev S1x1024 : Shape := ⟨2, ![1, 1024]⟩
abbrev S3x2816x1024 : Shape := ⟨3, ![3, 2816, 1024]⟩
abbrev S4x3x2816 : Shape := ⟨3, ![4, 3, 2816]⟩
abbrev S4x2816 : Shape := ⟨2, ![4, 2816]⟩
abbrev S4x1x2816 : Shape := ⟨3, ![4, 1, 2816]⟩
abbrev S8x1024 : Shape := ⟨2, ![8, 1024]⟩
abbrev S11x8x256 : Shape := ⟨3, ![11, 8, 256]⟩
abbrev S1x256x1024 : Shape := ⟨3, ![1, 256, 1024]⟩
abbrev S11x256x256 : Shape := ⟨3, ![11, 256, 256]⟩
abbrev S11x16x256 : Shape := ⟨3, ![11, 16, 256]⟩
abbrev S1x3x2816 : Shape := ⟨3, ![1, 3, 2816]⟩
abbrev S1x1x2816 : Shape := ⟨3, ![1, 1, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S256x256 : Shape := ⟨2, ![256, 256]⟩
abbrev S1x1x256 : Shape := ⟨3, ![1, 1, 256]⟩
abbrev S1x256 : Shape := ⟨2, ![1, 256]⟩
abbrev S16x256 : Shape := ⟨2, ![16, 256]⟩
abbrev S1x256x256 : Shape := ⟨3, ![1, 256, 256]⟩
abbrev S1x16x256 : Shape := ⟨3, ![1, 16, 256]⟩
abbrev S8x256 : Shape := ⟨2, ![8, 256]⟩
abbrev S24x256 : Shape := ⟨2, ![24, 256]⟩
abbrev S2x8x256 : Shape := ⟨3, ![2, 8, 256]⟩
abbrev S1x8x256 : Shape := ⟨3, ![1, 8, 256]⟩

abbrev nBuf : Space → Nat
  | .hbm => 19
  | .vmem => 35
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S11x8192x256, .bf16⟩
  | .hbm, ⟨3, _⟩ => ⟨S11x8192x256, .bf16⟩
  | .hbm, ⟨4, _⟩ => ⟨S4x2048x1024, .f32⟩
  | .hbm, ⟨5, _⟩ => ⟨S1x1024, .f32⟩
  | .hbm, ⟨6, _⟩ => ⟨S1x1024, .f32⟩
  | .hbm, ⟨7, _⟩ => ⟨S3x2816x1024, .bf16⟩
  | .hbm, ⟨8, _⟩ => ⟨S4x3x2816, .f32⟩
  | .hbm, ⟨9, _⟩ => ⟨S4x2816, .f32⟩
  | .hbm, ⟨10, _⟩ => ⟨S4x1x2816, .f32⟩
  | .hbm, ⟨11, _⟩ => ⟨S4x2048x1024, .f32⟩
  | .hbm, ⟨12, _⟩ => ⟨S11x8192x256, .bf16⟩
  | .hbm, ⟨13, _⟩ => ⟨S11x8192x256, .bf16⟩
  | .hbm, ⟨14, _⟩ => ⟨S11x8192x256, .bf16⟩
  | .hbm, ⟨15, _⟩ => ⟨S4x2048x1024, .bf16⟩
  | .hbm, ⟨16, _⟩ => ⟨S4x2048x1024, .bf16⟩
  | .hbm, ⟨17, _⟩ => ⟨S8x1024, .f32⟩
  | .hbm, ⟨18, _⟩ => ⟨S11x8x256, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S11x256x256, .bf16⟩
  | .local _ .vmem, ⟨7, _⟩ => ⟨S11x256x256, .bf16⟩
  | .local _ .vmem, ⟨8, _⟩ => ⟨S11x256x256, .bf16⟩
  | .local _ .vmem, ⟨9, _⟩ => ⟨S11x256x256, .bf16⟩
  | .local _ .vmem, ⟨10, _⟩ => ⟨S11x16x256, .bf16⟩
  | .local _ .vmem, ⟨11, _⟩ => ⟨S11x16x256, .bf16⟩
  | .local _ .vmem, ⟨12, _⟩ => ⟨S1x1024, .f32⟩
  | .local _ .vmem, ⟨13, _⟩ => ⟨S1x1024, .f32⟩
  | .local _ .vmem, ⟨14, _⟩ => ⟨S3x2816x1024, .bf16⟩
  | .local _ .vmem, ⟨15, _⟩ => ⟨S1x3x2816, .f32⟩
  | .local _ .vmem, ⟨16, _⟩ => ⟨S1x1x2816, .f32⟩
  | .local _ .vmem, ⟨17, _⟩ => ⟨S1x256x1024, .f32⟩
  | .local _ .vmem, ⟨18, _⟩ => ⟨S1x256x1024, .f32⟩
  | .local _ .vmem, ⟨19, _⟩ => ⟨S11x256x256, .bf16⟩
  | .local _ .vmem, ⟨20, _⟩ => ⟨S11x256x256, .bf16⟩
  | .local _ .vmem, ⟨21, _⟩ => ⟨S11x256x256, .bf16⟩
  | .local _ .vmem, ⟨22, _⟩ => ⟨S11x256x256, .bf16⟩
  | .local _ .vmem, ⟨23, _⟩ => ⟨S11x256x256, .bf16⟩
  | .local _ .vmem, ⟨24, _⟩ => ⟨S11x256x256, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x256x1024, .bf16⟩
  | .local _ .vmem, ⟨29, _⟩ => ⟨S8x1024, .f32⟩
  | .local _ .vmem, ⟨30, _⟩ => ⟨S11x8x256, .f32⟩
  | .local _ .vmem, ⟨31, _⟩ => ⟨S256x1024, .bf16⟩
  | .local _ .vmem, ⟨32, _⟩ => ⟨S256x1024, .bf16⟩
  | .local _ .vmem, ⟨33, _⟩ => ⟨S256x1024, .f32⟩
  | .local _ .vmem, ⟨34, _⟩ => ⟨S11x8x256, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  let c0_i32_2 : BitVec 32 := 0#32
  ![c0_i32.toNat, v3.toNat, c0_i32_1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  let c0_i32_2 : BitVec 32 := 0#32
  ![c0_i32.toNat, v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c16_i32 : BitVec 32 := 16#32
  let v4 : BitVec 32 := Scalar.muli v3 c16_i32
  let c1_i32_1 : BitVec 32 := 1#32
  let v5 : BitVec 32 := Scalar.subi v4 c1_i32_1
  let c0_i32 : BitVec 32 := 0#32
  let v6 : BitVec 32 := Scalar.maxsi v5 c0_i32
  let c0_i32_2 : BitVec 32 := 0#32
  let c0_i32_3 : BitVec 32 := 0#32
  let c0_i32_4 : BitVec 32 := 0#32
  ![c0_i32_2.toNat, v6.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  let c0_i32_2 : BitVec 32 := 0#32
  ![c0_i32.toNat, v3.toNat, c0_i32_1.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  let c0_i32_2 : BitVec 32 := 0#32
  ![c0_i32.toNat, v3.toNat, c0_i32_1.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  let c0_i32_2 : BitVec 32 := 0#32
  ![c0_i32.toNat, v3.toNat, c0_i32_1.toNat]

def cc0_transform_15 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_16 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S11x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S11x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S11x16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S11x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S11x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S11x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S11x8x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== Kernel5Ideal.lean ====
variable {F : FTy → Type} [FloatOps F] [Named F]
def κ : String → Option EReal := fun
  | "gelu_3ck" => some ((241015141496493 / 2251799813685248 : ℝ) : EReal)
  | "gelu_ck" => some ((80338380498831 / 2251799813685248 : ℝ) : EReal)
  | _ => none
-- ==== Reference5Ideal.lean ====
abbrev S4x2048x1024 : Shape := ⟨3, ![4, 2048, 1024]⟩
abbrev S11x8192x256 : Shape := ⟨3, ![11, 8192, 256]⟩
abbrev S1x1024 : Shape := ⟨2, ![1, 1024]⟩
abbrev S3x2816x1024 : Shape := ⟨3, ![3, 2816, 1024]⟩
abbrev S4x3x2816 : Shape := ⟨3, ![4, 3, 2816]⟩
abbrev S4x2816 : Shape := ⟨2, ![4, 2816]⟩
abbrev S8192x11x256 : Shape := ⟨3, ![8192, 11, 256]⟩
abbrev S4x2048x2816 : Shape := ⟨3, ![4, 2048, 2816]⟩
abbrev S1x2816x1024 : Shape := ⟨3, ![1, 2816, 1024]⟩
abbrev S2816x1024 : Shape := ⟨2, ![2816, 1024]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S_ : Shape := ⟨0, ![]⟩
abbrev S4x2x2816 : Shape := ⟨3, ![4, 2, 2816]⟩
abbrev S4x2050x2816 : Shape := ⟨3, ![4, 2050, 2816]⟩
abbrev S1x1x2816 : Shape := ⟨3, ![1, 1, 2816]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 136
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S11x8192x256, .bf16⟩
  | 3 => ⟨S11x8192x256, .bf16⟩
  | 4 => ⟨S4x2048x1024, .f32⟩
  | 5 => ⟨S1x1024, .f32⟩
  | 6 => ⟨S1x1024, .f32⟩
  | 7 => ⟨S3x2816x1024, .bf16⟩
  | 8 => ⟨S4x3x2816, .f32⟩
  | 9 => ⟨S4x2816, .f32⟩
  | 10 => ⟨S8192x11x256, .bf16⟩
  | 11 => ⟨S4x2048x2816, .bf16⟩
  | 12 => ⟨S4x2048x2816, .f32⟩
  | 13 => ⟨S8192x11x256, .bf16⟩
  | 14 => ⟨S4x2048x2816, .bf16⟩
  | 15 => ⟨S4x2048x2816, .f32⟩
  | 16 => ⟨S1x2816x1024, .bf16⟩
  | 17 => ⟨S2816x1024, .bf16⟩
  | 18 => ⟨S2816x1024, .f32⟩
  | 19 => ⟨S1x3x2816, .f32⟩
  | 20 => ⟨S3x2816, .f32⟩
  | 21 => ⟨S1x2816, .f32⟩
  | 22 => ⟨S2816, .f32⟩
  | 23 => ⟨S_, .f32⟩
  | 24 => ⟨S4x2x2816, .f32⟩
  | 25 => ⟨S4x2050x2816, .f32⟩
  | 26 => ⟨S1x2816, .f32⟩
  | 27 => ⟨S2816, .f32⟩
  | 28 => ⟨S4x2048x2816, .f32⟩
  | 29 => ⟨S1x1x2816, .f32⟩
  | 30 => ⟨S4x2048x2816, .f32⟩
  | 31 => ⟨S4x2048x2816, .f32⟩
  | 32 => ⟨S1x1x2816, .f32⟩
  | 33 => ⟨S4x2048x2816, .f32⟩
  | 34 => ⟨S4x2048x2816, .f32⟩
  | 35 => ⟨S1x2816, .f32⟩
  | 36 => ⟨S2816, .f32⟩
  | 37 => ⟨S4x2048x2816, .f32⟩
  | 38 => ⟨S1x1x2816, .f32⟩
  | 39 => ⟨S4x2048x2816, .f32⟩
  | 40 => ⟨S4x2048x2816, .f32⟩
  | 41 => ⟨S4x2048x2816, .f32⟩
  | 42 => ⟨S1x2816, .f32⟩
  | 43 => ⟨S2816, .f32⟩
  | 44 => ⟨S4x2048x2816, .f32⟩
  | 45 => ⟨S1x1x2816, .f32⟩
  | 46 => ⟨S4x2048x2816, .f32⟩
  | 47 => ⟨S4x2048x2816, .f32⟩
  | 48 => ⟨S4x2048x2816, .f32⟩
  | 49 => ⟨S4x2048x2816, .f32⟩
  | 50 => ⟨S4x2048x2816, .f32⟩
  | 51 => ⟨S_, .f32⟩
  | 52 => ⟨S4x2048x2816, .f32⟩
  | 53 => ⟨S4x2048x2816, .f32⟩
  | 54 => ⟨S4x2048x2816, .f32⟩
  | 55 => ⟨S_, .f32⟩
  | 56 => ⟨S4x2048x2816, .f32⟩
  | 57 => ⟨S4x2048x2816, .f32⟩
  | 58 => ⟨S4x2048x2816, .f32⟩
  | 59 => ⟨S_, .f32⟩
  | 60 => ⟨S4x2048x2816, .f32⟩
  | 61 => ⟨S4x2048x2816, .f32⟩
  | 62 => ⟨S_, .f32⟩
  | 63 => ⟨S4x2048x2816, .f32⟩
  | 64 => ⟨S4x2048x2816, .f32⟩
  | 65 => ⟨S4x2048x2816, .f32⟩
  | 66 => ⟨S1024, .f32⟩
  | 67 => ⟨S4x2048x1024, .f32⟩
  | 68 => ⟨S_, .f32⟩
  | 69 => ⟨S4x2048, .f32⟩
  | 70 => ⟨S4x2048x1, .f32⟩
  | 71 => ⟨S_, .f32⟩
  | 72 => ⟨S4x2048x1, .f32⟩
  | 73 => ⟨S4x2048x1, .f32⟩
  | 74 => ⟨S_, .f32⟩
  | 75 => ⟨S4x2048x1, .f32⟩
  | 76 => ⟨S4x2048x1, .f32⟩
  | 77 => ⟨S4x2048x1, .f32⟩
  | 78 => ⟨S4x2048x1, .f32⟩
  | 79 => ⟨S_, .f32⟩
  | 80 => ⟨S4x2048x1, .f32⟩
  | 81 => ⟨S4x2048x1, .f32⟩
  | 82 => ⟨S4x2048x1024, .f32⟩
  | 83 => ⟨S4x2048x1024, .f32⟩
  | 84 => ⟨S1x1x1024, .f32⟩
  | 85 => ⟨S4x2048x1024, .f32⟩
  | 86 => ⟨S4x2048x1024, .f32⟩
  | 87 => ⟨S4x2048x1024, .f32⟩
  | 88 => ⟨S4x2048x1024, .f32⟩
  | 89 => ⟨S4x2048x1024, .f32⟩
  | 90 => ⟨S_, .f32⟩
  | 91 => ⟨S4x2048, .f32⟩
  | 92 => ⟨S4x2048x1, .f32⟩
  | 93 => ⟨S4x2048x1024, .f32⟩
  | 94 => ⟨S4x2048x1024, .f32⟩
  | 95 => ⟨S4x2048x1, .f32⟩
  | 96 => ⟨S_, .f32⟩
  | 97 => ⟨S4x2048x1, .f32⟩
  | 98 => ⟨S4x2048x1, .f32⟩
  | 99 => ⟨S_, .f32⟩
  | 100 => ⟨S4x2048, .f32⟩
  | 101 => ⟨S4x2048x1024, .f32⟩
  | 102 => ⟨S4x2048x1024, .f32⟩
  | 103 => ⟨S4x2048x1024, .f32⟩
  | 104 => ⟨S4x2048x1024, .f32⟩
  | 105 => ⟨S4x2048x1024, .f32⟩
  | 106 => ⟨S4x2048x2816, .f32⟩
  | 107 => ⟨S4x2048x1024, .f32⟩
  | 108 => ⟨S4x2048x2816, .f32⟩
  | 109 => ⟨S4x2048x2816, .f32⟩
  | 110 => ⟨S4x2048x2816, .bf16⟩
  | 111 => ⟨S8192x11x256, .bf16⟩
  | 112 => ⟨S11x8192x256, .bf16⟩
  | 113 => ⟨S4x2048x2816, .f32⟩
  | 114 => ⟨S4x2048x2816, .bf16⟩
  | 115 => ⟨S8192x11x256, .bf16⟩
  | 116 => ⟨S11x8192x256, .bf16⟩
  | 117 => ⟨S1024, .f32⟩
  | 118 => ⟨S4x2048x1024, .f32⟩
  | 119 => ⟨S_, .f32⟩
  | 120 => ⟨S4x2048, .f32⟩
  | 121 => ⟨S4x2048x1, .f32⟩
  | 122 => ⟨S_, .f32⟩
  | 123 => ⟨S4x2048x1, .f32⟩
  | 124 => ⟨S4x2048x1, .f32⟩
  | 125 => ⟨S_, .f32⟩
  | 126 => ⟨S4x2048x1, .f32⟩
  | 127 => ⟨S4x2048x1, .f32⟩
  | _ => ⟨S4x2048x1024, .f32⟩

abbrev hbmTy0_1 (i : Nat) : BufTy := match i % 128 with
  | 0 => ⟨S4x2048x1, .f32⟩
  | 1 => ⟨S4x2048x1024, .f32⟩
  | 2 => ⟨S4x2048x1024, .f32⟩
  | 3 => ⟨S1x1x1024, .f32⟩
  | 4 => ⟨S4x2048x1024, .f32⟩
  | 5 => ⟨S4x2048x1024, .f32⟩
  | 6 => ⟨S4x2048x1024, .bf16⟩
  | 7 => ⟨S4x2048x1024, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_0 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_1 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_2 : Ref sig .tc := ⟨.hbm, 59, rfl⟩
abbrev main_v46 : Ref sig .tc := ⟨.hbm, 60, rfl⟩
abbrev main_v47 : Ref sig .tc := ⟨.hbm, 61, rfl⟩
abbrev main_cst_3 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_cst_6 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_9 : Ref sig .tc := ⟨.hbm, 96, rfl⟩
abbrev main_v76 : Ref sig .tc := ⟨.hbm, 97, rfl⟩
abbrev main_v77 : Ref sig .tc := ⟨.hbm, 98, rfl⟩
abbrev main_cst_10 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_11 : Ref sig .tc := ⟨.hbm, 119, rfl⟩
abbrev main_v97 : Ref sig .tc := ⟨.hbm, 120, rfl⟩
abbrev main_v98 : Ref sig .tc := ⟨.hbm, 121, rfl⟩
abbrev main_cst_12 : Ref sig .tc := ⟨.hbm, 122, rfl⟩
abbrev main_v99 : Ref sig .tc := ⟨.hbm, 123, rfl⟩
abbrev main_v100 : Ref sig .tc := ⟨.hbm, 124, rfl⟩
abbrev main_cst_13 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩

abbrev nD : Nat := 1
abbrev τ : Topo := Topo.v7x

variable {F : FTy → Type} [FloatOps F]
-- ==== Proof.Weights.lean ====
/- The weight gradients of the gated convolutional feed-forward layer: what the blocked call leaves, read as values. -/
module

public import proofs.«01_k».proof.Proof.Gen.Kernel2Ideal.Value
public import Idealize.ShloMosaic.Lib.Pointwise
public import Idealize.ShloMosaic.Lib.Pipeline.ValueKit
public import Idealize.ShloMosaic.Lib.Pipeline.ReadBack

@[expose] public section

noncomputable section

open Idealize.ShloMosaic Idealize.ShloMosaic.TcCoe Idealize.SL.Sem
open Idealize.ShloMosaic.Pipeline (Dat)

namespace Cert.Kernel2Ideal.Weights

open Cert.Kernel2Ideal Cert.Kernel2Ideal.Gen Cert.Kernel2Ideal.Value

variable (m : (ℓ : Loc nD τ sig) → Buf (Elt Ideal) ℓ)

/-- One product of a feature block `j`'s column `f` with column `d`, at token `s` (zero outside the arrays). -/
def prod (A : S11x8192x256.Idx → EReal) (B : S8192x1024.Idx → EReal) (j : ℕ) (f : Fin 256) (d : Fin 1024) (s : ℕ) : EReal :=
  if h : j < 11 ∧ s < 8192 then A (ix3 ⟨j, h.1⟩ ⟨s, h.2⟩ f) * B (ix2 ⟨s, h.2⟩ d) else 0

theorem prod_eq (A : S11x8192x256.Idx → EReal) (B : S8192x1024.Idx → EReal) (j : ℕ) (f : Fin 256) (d : Fin 1024) (s : ℕ) (h : j < 11 ∧ s < 8192) :
    prod A B j f d s = A (ix3 ⟨j, h.1⟩ ⟨s, h.2⟩ f) * B (ix2 ⟨s, h.2⟩ d) := dif_pos h

/-- The `k`-th of three. -/
def pick3 {α : Type} (x y z : α) (k : Fin 3) : α :=
  match k with
  | ⟨0, _⟩ => x
  | ⟨1, _⟩ => y
  | ⟨2, _⟩ => z

/-- The left operand of the `k`-th gradient: the two branches' cotangents and the hidden state. -/
def lhs (c : Dev nD) (k : Fin 3) : S11x8192x256.Idx → EReal :=
  pick3 (m ((c : Thread nD τ).loc main_arg0)) (m ((c : Thread nD τ).loc main_arg1)) (m ((c : Thread nD τ).loc main_arg2)) k

/-- Its right operand: the normalised input twice, then the output's cotangent. -/
def rhs (c : Dev nD) (k : Fin 3) : S8192x1024.Idx → EReal :=
  pick3 (m ((c : Thread nD τ).loc main_arg3)) (m ((c : Thread nD τ).loc main_arg3)) (m ((c : Thread nD τ).loc main_arg4)) k

/-- What grid point `n` adds to the accumulator: the products over its 2048 tokens. -/
def term (c : Dev nD) (n : ℕ) (i : S3x256x1024.Idx) : EReal :=
  ∑ s : Fin 2048, prod (lhs m c (i 0)) (rhs m c (i 0)) (n / 4) (i 1) (i 2) (2048 * (n % 4) + s.val)

theorem off1_eq (t : Fin cfg0.N) : k0_off1 (grid0.coords t) = ![2048 * (t.val % 4), 0] :=
  (by decide +kernel : ∀ t : Fin grid0.N, k0_off1 (grid0.coords t) = ![2048 * (t.val % 4), 0]) t

theorem idx0 (t : Fin cfg0.N) : win0_0.index t = ![t.val / 4, t.val % 4, 0] :=
  (by decide +kernel : ∀ t : Fin grid0.N, win0_0.index t = ![t.val / 4, t.val % 4, 0]) t
theorem idx1 (t : Fin cfg0.N) : win0_1.index t = ![t.val / 4, t.val % 4, 0] :=
  (by decide +kernel : ∀ t : Fin grid0.N, win0_1.index t = ![t.val / 4, t.val % 4, 0]) t
theorem idx2 (t : Fin cfg0.N) : win0_2.index t = ![t.val / 4, t.val % 4, 0] :=
  (by decide +kernel : ∀ t : Fin grid0.N, win0_2.index t = ![t.val / 4, t.val % 4, 0]) t
theorem idx3 (t : Fin cfg0.N) : win0_3.index t = ![0, 0] :=
  (by decide +kernel : ∀ t : Fin grid0.N, win0_3.index t = ![0, 0]) t
theorem idx4 (t : Fin cfg0.N) : win0_4.index t = ![0, 0] :=
  (by decide +kernel : ∀ t : Fin grid0.N, win0_4.index t = ![0, 0]) t

/-- A feature block's window reads its tokens of its block. -/
theorem blk0 (c : Dev nD) (t : Fin cfg0.N) (s : Fin 2048) (f : Fin 256) :
    (iblk m c 0 t : S1x2048x256.Idx → EReal) (ix3 0 s f) = m ((c : Thread nD τ).loc main_arg0) (ix3 ⟨t.val / 4, by have := t.isLt; have : cfg0.N = 44 := N_0; omega⟩ ⟨2048 * (t.val % 4) + s.val, by omega⟩ f) := by
  show V m c main_arg0 ((win0_0.blk t).view.emb (ix3 0 s f)) = _
  refine congrArg _ (funext fun a => Fin.ext ?_)
  blk_simp [idx0]
  fin_cases a <;> simp <;> omega
theorem blk1 (c : Dev nD) (t : Fin cfg0.N) (s : Fin 2048) (f : Fin 256) :
    (iblk m c 1 t : S1x2048x256.Idx → EReal) (ix3 0 s f) = m ((c : Thread nD τ).loc main_arg1) (ix3 ⟨t.val / 4, by have := t.isLt; have : cfg0.N = 44 := N_0; omega⟩ ⟨2048 * (t.val % 4) + s.val, by omega⟩ f) := by
  show V m c main_arg1 ((win0_1.blk t).view.emb (ix3 0 s f)) = _
  refine congrArg _ (funext fun a => Fin.ext ?_)
  blk_simp [idx1]
  fin_cases a <;> simp <;> omega
theorem blk2 (c : Dev nD) (t : Fin cfg0.N) (s : Fin 2048) (f : Fin 256) :
    (iblk m c 2 t : S1x2048x256.Idx → EReal) (ix3 0 s f) = m ((c : Thread nD τ).loc main_arg2) (ix3 ⟨t.val / 4, by have := t.isLt; have : cfg0.N = 44 := N_0; omega⟩ ⟨2048 * (t.val % 4) + s.val, by omega⟩ f) := by
  show V m c main_arg2 ((win0_2.blk t).view.emb (ix3 0 s f)) = _
  refine congrArg _ (funext fun a => Fin.ext ?_)
  blk_simp [idx2]
  fin_cases a <;> simp <;> omega
/-- The token windows are the whole arrays. -/
theorem blk3 (c : Dev nD) (t : Fin cfg0.N) (s : Fin 8192) (d : Fin 1024) :
    (iblk m c 3 t : S8192x1024.Idx → EReal) (ix2 s d) = m ((c : Thread nD τ).loc main_arg3) (ix2 s d) := by
  show V m c main_arg3 ((win0_3.blk t).view.emb (ix2 s d)) = _
  refine congrArg _ (funext fun a => Fin.ext ?_)
  blk_simp [idx3]
  fin_cases a <;> simp
theorem blk4 (c : Dev nD) (t : Fin cfg0.N) (s : Fin 8192) (d : Fin 1024) :
    (iblk m c 4 t : S8192x1024.Idx → EReal) (ix2 s d) = m ((c : Thread nD τ).loc main_arg4) (ix2 s d) := by
  show V m c main_arg4 ((win0_4.blk t).view.emb (ix2 s d)) = _
  refine congrArg _ (funext fun a => Fin.ext ?_)
  blk_simp [idx4]
  fin_cases a <;> simp

/-- The products of one point, read off its blocks, are the point's addend. -/
theorem sum_term (c : Dev nD) (t : Fin cfg0.N) (k : Fin 3) (f : Fin 256) (d : Fin 1024) (g : Fin 2048 → EReal)
    (hg : ∀ s : Fin 2048, g s = lhs m c k (ix3 ⟨t.val / 4, by have := t.isLt; have : cfg0.N = 44 := N_0; omega⟩ ⟨2048 * (t.val % 4) + s.val, by omega⟩ f)
      * rhs m c k (ix2 ⟨2048 * (t.val % 4) + s.val, by omega⟩ d)) :
    ∑ s, g s = term m c t.val (ix3 k f d) := by
  have hN : cfg0.N = 44 := N_0
  have := t.isLt
  unfold term
  refine Finset.sum_congr rfl fun s _ => ?_
  rw [hg]
  have hs : t.val / 4 < 11 ∧ 2048 * (t.val % 4) + s.val < 8192 := ⟨by omega, by omega⟩
  exact (prod_eq _ _ _ f d _ hs).symm

theorem ld_eq (t : Fin cfg0.N) (X : S8192x1024.Idx → EReal) (s : Fin 2048) (d : Fin 1024) (h h') :
    X (ix2 ⟨k0_off1 (grid0.coords t) 0 + s.val, h⟩ ⟨k0_off1 (grid0.coords t) 1 + d.val, h'⟩) = X (ix2 ⟨2048 * (t.val % 4) + s.val, by omega⟩ d) := by
  congr 1
  refine congrArg₂ ix2 (Fin.ext ?_) (Fin.ext ?_) <;> simp [off1_eq]

/-- The three planes cover the accumulator. -/
theorem cover3 (w2 w1 w0 : S1x256x1024.Idx → Elt Ideal .f32) (i : S3x256x1024.Idx) :
    ∃ p ∈ ([⟨Rect.unit ![2, 0, 0] ![1, 256, 1024] inb_S3x256x1024_S1x256x1024_2_0_0, w2⟩,
      ⟨Rect.unit ![1, 0, 0] ![1, 256, 1024] inb_S3x256x1024_S1x256x1024_1_0_0, w1⟩,
      ⟨Rect.unit ![0, 0, 0] ![1, 256, 1024] inb_S3x256x1024_S1x256x1024_0_0_0, w0⟩] : List (View.Piece (Elt Ideal) S3x256x1024 .f32)), i ∈ p.1.set := by
  idx_vars i
  simp only [List.mem_cons, List.not_mem_nil, or_false, exists_eq_or_imp, exists_eq_left, Rect.mem_set_unit]
  have hi := i0.isLt
  fin_cases i0
  · right; right; intro a; fin_cases a <;> simp [ix3]
  · right; left; intro a; fin_cases a <;> simp [ix3]
  · left; intro a; fin_cases a <;> simp [ix3]

/-- What the accumulator holds after a point in the middle of a column block: what it held, and the point's products added. -/
theorem sc_B (c : Dev nD) (t : Fin cfg0.N) (h0 : ¬t.val % 4 = 0) (h1 : ¬t.val % 4 = 3) (i : S3x256x1024.Idx) :
    ((outsAt0 m c t.val t.isLt).2 : S3x256x1024.Idx → EReal) i = (outsAt0 m c (t.val - 1) (Nat.lt_of_le_of_lt (Nat.sub_le _ _) t.isLt)).2 i + term m c t.val i := by
  rw [outsAt0_B m c t h0 h1]
  frame_out
  simp only [read_unread_whole]
  canon_tiles x h
  case piece0 =>
    idx_vars x
    idx_vars i
    obtain rfl : i0 = 2 := Fin.ext (by simp at h0 ⊢; omega)
    obtain rfl := Fin.ext h1
    obtain rfl := Fin.ext h2
    unfold_payloads
    pointwise
    refine congrArg _ ?_
    exact sum_term m c t 2 _ _ _ fun s => congrArg₂ (· * ·) (blk2 m c t s _) ((ld_eq t (iblk m c 4 t) s _ _ _).trans (blk4 m c t _ _))
  case piece1 =>
    idx_vars x
    idx_vars i
    obtain rfl : i0 = 1 := Fin.ext (by simp at h0 ⊢; omega)
    obtain rfl := Fin.ext h1
    obtain rfl := Fin.ext h2
    unfold_payloads
    pointwise
    refine congrArg _ ?_
    exact sum_term m c t 1 _ _ _ fun s => congrArg₂ (· * ·) (blk1 m c t s _) ((ld_eq t (iblk m c 3 t) s _ _ _).trans (blk3 m c t _ _))
  case piece2 =>
    idx_vars x
    idx_vars i
    obtain rfl : i0 = 0 := Fin.ext (by simp at h0 ⊢; omega)
    obtain rfl := Fin.ext h1
    obtain rfl := Fin.ext h2
    unfold_payloads
    pointwise
    refine congrArg _ ?_
    exact sum_term m c t 0 _ _ _ fun s => congrArg₂ (· * ·) (blk0 m c t s _) ((ld_eq t (iblk m c 3 t) s _ _ _).trans (blk3 m c t _ _))

/-- What the accumulator holds after a point that ends a column block: the same. -/
theorem sc_C (c : Dev nD) (t : Fin cfg0.N) (h0 : ¬t.val % 4 = 0) (h1 : t.val % 4 = 3) (i : S3x256x1024.Idx) :
    ((outsAt0 m c t.val t.isLt).2 : S3x256x1024.Idx → EReal) i = (outsAt0 m c (t.val - 1) (Nat.lt_of_le_of_lt (Nat.sub_le _ _) t.isLt)).2 i + term m c t.val i := by
  rw [outsAt0_C m c t h0 h1]
  frame_out
  simp only [read_unread_whole]
  canon_tiles x h
  case piece0 =>
    idx_vars x
    idx_vars i
    obtain rfl : i0 = 2 := Fin.ext (by simp at h0 ⊢; omega)
    obtain rfl := Fin.ext h1
    obtain rfl := Fin.ext h2
    unfold_payloads
    pointwise
    refine congrArg _ ?_
    exact sum_term m c t 2 _ _ _ fun s => congrArg₂ (· * ·) (blk2 m c t s _) ((ld_eq t (iblk m c 4 t) s _ _ _).trans (blk4 m c t _ _))
  case piece1 =>
    idx_vars x
    idx_vars i
    obtain rfl : i0 = 1 := Fin.ext (by simp at h0 ⊢; omega)
    obtain rfl := Fin.ext h1
    obtain rfl := Fin.ext h2
    unfold_payloads
    pointwise
    refine congrArg _ ?_
    exact sum_term m c t 1 _ _ _ fun s => congrArg₂ (· * ·) (blk1 m c t s _) ((ld_eq t (iblk m c 3 t) s _ _ _).trans (blk3 m c t _ _))
  case piece2 =>
    idx_vars x
    idx_vars i
    obtain rfl : i0 = 0 := Fin.ext (by simp at h0 ⊢; omega)
    obtain rfl := Fin.ext h1
    obtain rfl := Fin.ext h2
    unfold_payloads
    pointwise
    refine congrArg _ ?_
    exact sum_term m c t 0 _ _ _ fun s => congrArg₂ (· * ·) (blk0 m c t s _) ((ld_eq t (iblk m c 3 t) s _ _ _).trans (blk3 m c t _ _))

/-- What the accumulator holds after a point that begins a column block: the point's products. -/
theorem sc_A (c : Dev nD) (t : Fin cfg0.N) (h0 : t.val % 4 = 0) (h1 : ¬t.val % 4 = 3) (i : S3x256x1024.Idx) :
    ((outsAt0 m c t.val t.isLt).2 : S3x256x1024.Idx → EReal) i = term m c t.val i := by
  rw [outsAt0_A m c t h0 h1]
  frame_open
  simp (disch := decide) only [↓ View.readCov_skip, ↓ View.readCov_cons_toLoadRect, ↓ View.readCov_fill]
  frame_out
  refine View.canon_append_of_piecesOf (Val := Elt Ideal) (e := .f32) (fun i => term m c t.val i) [_] [_, _, _] ⟨?_, ?_, ?_, trivial⟩ i ?_
  · intro x
    idx_vars x
    refine Eq.trans ?_ (congrArg (term m c t.val) (show ix3 2 x1 x2 = (Rect.unit (s := S3x256x1024) ![2, 0, 0] S1x256x1024.size inb_S3x256x1024_S1x256x1024_2_0_0).emb (ix3 x0 x1 x2) from
      funext fun a => Fin.ext (by rw [ValueKit.rect_emb_unit_val]; fin_cases a <;> simp [ix3])))
    unfold_payloads
    pointwise
    exact sum_term m c t 2 _ _ _ fun s => congrArg₂ (· * ·) (blk2 m c t s _) ((ld_eq t (iblk m c 4 t) s _ _ _).trans (blk4 m c t _ _))
  · intro x
    idx_vars x
    refine Eq.trans ?_ (congrArg (term m c t.val) (show ix3 1 x1 x2 = (Rect.unit (s := S3x256x1024) ![1, 0, 0] S1x256x1024.size inb_S3x256x1024_S1x256x1024_1_0_0).emb (ix3 x0 x1 x2) from
      funext fun a => Fin.ext (by rw [ValueKit.rect_emb_unit_val]; fin_cases a <;> simp [ix3])))
    unfold_payloads
    pointwise
    exact sum_term m c t 1 _ _ _ fun s => congrArg₂ (· * ·) (blk1 m c t s _) ((ld_eq t (iblk m c 3 t) s _ _ _).trans (blk3 m c t _ _))
  · intro x
    idx_vars x
    refine Eq.trans ?_ (congrArg (term m c t.val) (show ix3 0 x1 x2 = (Rect.unit (s := S3x256x1024) ![0, 0, 0] S1x256x1024.size inb_S3x256x1024_S1x256x1024_0_0_0).emb (ix3 x0 x1 x2) from
      funext fun a => Fin.ext (by rw [ValueKit.rect_emb_unit_val]; fin_cases a <;> simp [ix3])))
    unfold_payloads
    pointwise
    exact sum_term m c t 0 _ _ _ fun s => congrArg₂ (· * ·) (blk0 m c t s _) ((ld_eq t (iblk m c 3 t) s _ _ _).trans (blk3 m c t _ _))
  · exact cover3 _ _ _ i

/-- The write-back rounds, which at exact arithmetic changes nothing. -/
theorem pay2_at (X : S3x256x1024.Idx → Elt Ideal .f32) (i : S3x256x1024.Idx) : k0_pay2 X i = X i := by
  unfold_payloads
  pointwise

theorem idx_full (i : S3x256x1024.Idx) :
    (Rect.unit (s := S3x256x1024) ![0, 0, 0] ![3, 256, 1024] inb_S3x256x1024_S3x256x1024_0_0_0).toLoadRect.idx i = i := by
  refine funext fun a => Fin.ext ?_
  refine (ValueKit.rect_emb_unit_val _ _ _ i a).trans ?_
  fin_cases a <;> simp

/-- The block written back is the accumulator's contents. -/
theorem out_C (c : Dev nD) (t : Fin cfg0.N) (h0 : ¬t.val % 4 = 0) (h1 : t.val % 4 = 3) (i : S3x256x1024.Idx) :
    ((outsAt0 m c t.val t.isLt).1 : S3x256x1024.Idx → EReal) i = (outsAt0 m c t.val t.isLt).2 i := by
  rw [outsAt0_C m c t h0 h1]
  frame_out
  rw [View.readCov_eq_canon _ _ _ fun j => cover3 _ _ _ _]
  rw [pay2_at]
  exact congrArg _ (idx_full i)

/-- What the accumulator holds at the end of a column block: the products over all tokens. -/
theorem sc_last (c : Dev nD) (t : Fin cfg0.N) (h : t.val % 4 = 3) (i : S3x256x1024.Idx) :
    ((outsAt0 m c t.val t.isLt).2 : S3x256x1024.Idx → EReal) i
      = ∑ s : Fin 8192, prod (lhs m c (i 0)) (rhs m c (i 0)) (t.val / 4) (i 1) (i 2) s.val := by
  rw [Pipeline.eq_sum_of_reset_step_apply_of_mod (fun n h => ((outsAt0 m c n h).2 : S3x256x1024.Idx → EReal)) 4 (fun _ => 0) (term m c)
    (fun t h j => by rw [sc_A m c t h (by omega) j, zero_add])
    (fun t h j => by
      by_cases h3 : t.val % 4 = 3
      · exact sc_C m c t h h3 j
      · exact sc_B m c t h h3 j) t h i, zero_add]
  unfold term
  have e : ∀ k ∈ Finset.range 4, (4 * (t.val / 4) + k) / 4 = t.val / 4 ∧ (4 * (t.val / 4) + k) % 4 = k := fun k hk => by
    have := Finset.mem_range.mp hk; omega
  rw [Finset.sum_congr rfl fun k hk => by rw [(e k hk).1, (e k hk).2]]
  rw [Fin.sum_univ_eq_sum_range (fun s => prod (lhs m c (i 0)) (rhs m c (i 0)) (t.val / 4) (i 1) (i 2) s) 8192,
    show 8192 = 4 * 2048 from rfl, Finset.sum_range_mul_split]
  refine Finset.sum_congr rfl fun k _ => ?_
  rw [Fin.sum_univ_eq_sum_range (fun s => prod (lhs m c (i 0)) (rhs m c (i 0)) (t.val / 4) (i 1) (i 2) (2048 * k + s)) 2048]
  simp only [Nat.mul_comm k 2048]

/-- The array written: gradient `i 0` at feature row `i 1` and column `i 2` is the products over all tokens. -/
theorem G5_apply (c : Dev nD) (i : S3x2816x1024.Idx) :
    (G5 m c : S3x2816x1024.Idx → EReal) i
      = ∑ s : Fin 8192, lhs m c (i 0) (ix3 ⟨(i 1).val / 256, Nat.div_lt_of_lt_mul (i 1).isLt⟩ s ⟨(i 1).val % 256, Nat.mod_lt _ (by decide)⟩) * rhs m c (i 0) (ix2 s (i 2)) := by
  idx_vars i
  have hN : cfg0.N = 44 := N_0
  have b0 := i0.isLt
  have b1 := i1.isLt
  have b2 := i2.isLt
  have hp : pt5Of (ix3 i0 i1 i2) = 4 * (i1.val / 256) + 3 := by
    show 4 * (11 * (i0.val / 3 - 0) + 1 * (i1.val / 256 - 0) + 1 * (i2.val / 1024 - 0)) + 3 = _
    omega
  have ht : pt5Of (ix3 i0 i1 i2) < cfg0.N := by rw [hp]; omega
  have hl : loc5Of (ix3 i0 i1 i2) = ix3 i0 ⟨i1.val % 256, Nat.mod_lt _ (by decide)⟩ i2 := by
    funext a
    fin_cases a
    · exact Fin.ext (Nat.mod_eq_of_lt b0)
    · rfl
    · exact Fin.ext (Nat.mod_eq_of_lt b2)
  unfold G5
  rw [dif_pos ht, ← outsAt0_sweep m c _ ht, hl]
  have h3 : pt5Of (ix3 i0 i1 i2) % 4 = 3 := by rw [hp]; omega
  have hq : pt5Of (ix3 i0 i1 i2) / 4 = i1.val / 256 := by rw [hp]; omega
  refine (out_C m c ⟨_, ht⟩ (by dsimp only; omega) h3 _).trans ((sc_last m c ⟨_, ht⟩ h3 _).trans ?_)
  refine Finset.sum_congr rfl fun s _ => ?_
  dsimp only
  rw [hq]
  exact prod_eq _ _ _ _ _ _ ⟨by omega, s.isLt⟩

end Cert.Kernel2Ideal.Weights
end
-- ==== Proof.WeightsTie.lean ====
/- The weight gradients of the gated convolutional feed-forward layer: the reference's three products at an index. -/
module

public import proofs.«01_k».proof.Proof.Weights
public import proofs.«01_k».proof.Proof.Gen.Reference2Ideal.Run

@[expose] public section

noncomputable section

open Idealize.ShloMosaic Idealize.ShloMosaic.TcCoe Idealize.SL.Sem

namespace Cert.Reference2Ideal.Weights

open Cert.Reference2Ideal Cert.Reference2Ideal.Gen
open Cert.Kernel2Ideal.Weights (pick3)

/-- The three gradients stacked: gradient `k` at row `f` and column `d` sums, over the tokens, feature `f` of its left
    operand (block `f / 256`, lane `f % 256`) times column `d` of its right one. -/
theorem stacked_apply (a0 a1 a2 : FVec Ideal S11x8192x256 .bf16) (a3 a4 : FVec Ideal S8192x1024 .bf16) (i : S3x2816x1024.Idx) :
    (truncf .bf16 ((concatenate S3x2816x1024 0 [⟨S1x2816x1024, ((broadcastInDim S1x2816x1024 ![1, 2] bcast_S2816x1024_S1x2816x1024_1_2 (transpose S2816x1024 [1, 0] (transpose S1024x2816 [1, 0] (Host.dotGeneral dot_S8192x2816_S8192x1024_S2816x1024_0_0_1_1_n_n none (extf .f32 (shapeCast _ (transpose S8192x11x256 [1, 0, 2] a0 transposes_S11x8192x256_S8192x11x256_1_0_2) shapeCasts_S8192x11x256_S8192x2816) bitsLt_bf16_f32) (extf .f32 a3 bitsLt_bf16_f32)) transposes_S2816x1024_S1024x2816_1_0) transposes_S1024x2816_S2816x1024_1_0)) : (⟨S1x2816x1024, .f32⟩ : BufTy).Contents (Elt Ideal))⟩,
        ⟨S1x2816x1024, ((broadcastInDim S1x2816x1024 ![1, 2] bcast_S2816x1024_S1x2816x1024_1_2 (transpose S2816x1024 [1, 0] (transpose S1024x2816 [1, 0] (Host.dotGeneral dot_S8192x2816_S8192x1024_S2816x1024_0_0_1_1_n_n none (extf .f32 (shapeCast _ (transpose S8192x11x256 [1, 0, 2] a1 transposes_S11x8192x256_S8192x11x256_1_0_2) shapeCasts_S8192x11x256_S8192x2816) bitsLt_bf16_f32) (extf .f32 a3 bitsLt_bf16_f32)) transposes_S2816x1024_S1024x2816_1_0) transposes_S1024x2816_S2816x1024_1_0)) : (⟨S1x2816x1024, .f32⟩ : BufTy).Contents (Elt Ideal))⟩,
        ⟨S1x2816x1024, ((broadcastInDim S1x2816x1024 ![1, 2] bcast_S2816x1024_S1x2816x1024_1_2 (transpose S2816x1024 [1, 0] (Host.dotGeneral dot_S8192x1024_S8192x2816_S1024x2816_0_0_1_1_n_n none (extf .f32 a4 bitsLt_bf16_f32) (extf .f32 (shapeCast _ (transpose S8192x11x256 [1, 0, 2] a2 transposes_S11x8192x256_S8192x11x256_1_0_2) shapeCasts_S8192x11x256_S8192x2816) bitsLt_bf16_f32)) transposes_S1024x2816_S2816x1024_1_0)) : (⟨S1x2816x1024, .f32⟩ : BufTy).Contents (Elt Ideal))⟩] concatenates_S1x2816x1024_S1x2816x1024_S1x2816x1024_S3x2816x1024_d0 : (⟨S3x2816x1024, .f32⟩ : BufTy).Contents (Elt Ideal))) bitsLt_bf16_f32 : FVec Ideal S3x2816x1024 .bf16) i
      = ∑ s : Fin 8192, pick3 a0 a1 a2 (i 0) (ix3 ⟨(i 1).val / 256, Nat.div_lt_of_lt_mul (i 1).isLt⟩ s ⟨(i 1).val % 256, Nat.mod_lt _ (by decide)⟩)
        * pick3 a3 a3 a4 (i 0) (ix2 s (i 2)) := by
  idx_vars i
  fin_cases i0
  · pointwise
    rfl
  · pointwise
    rfl
  · pointwise
    exact Finset.sum_congr rfl fun s _ => mul_comm _ _

end Cert.Reference2Ideal.Weights
end
-- ==== Proof.PoolMath.lean ====
/- The gradient of the pooling layer over the real numbers: the sums, means and windows both programs compute, with no program in sight. -/
module

public import Idealize.ShloMosaic.Lib.Pointwise
public import Idealize.ShloMosaic.Lib.Pipeline.ValueKit
public import Idealize.ShloMosaic.Lib.WordCmp

@[expose] public section

noncomputable section

open Idealize.ShloMosaic

namespace Cert.Pool

/-! ## Extended reals that are real numbers -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_div (a b : ℝ) (hb : b ≠ 0) : Ideal.div (a : EReal) (b : EReal) = ((a / b : ℝ) : EReal) := by
  rw [Ideal.div, if_neg (by exact_mod_cast hb), div_eq_mul_inv, EReal.coe_mul, EReal.coe_inv]

theorem coe_rsqrt (a : ℝ) (ha : 0 < a) : Ideal.rsqrt (a : EReal) = (((√a)⁻¹ : ℝ) : EReal) := by
  show (if a < 0 then (⊥ : EReal) else if a = 0 then ⊤ else (((√a)⁻¹ : ℝ) : EReal)) = _
  rw [if_neg (not_lt.mpr ha.le), if_neg ha.ne']

theorem coe_min (a b : ℝ) : min (a : EReal) (b : EReal) = ((min a b : ℝ) : EReal) := by
  rcases le_total a b with h | h
  · rw [min_eq_left h, min_eq_left (by exact_mod_cast h)]
  · rw [min_eq_right h, min_eq_right (by exact_mod_cast h)]

theorem coe_ite (p : Prop) [Decidable p] (a b : ℝ) : (if p then (a : EReal) else (b : EReal)) = ((if p then a else b : ℝ) : EReal) := by
  split <;> rfl

/-- Products, sums and differences of reals, read from the inside out. -/
theorem coe_mul (a b : ℝ) : (a : EReal) * (b : EReal) = ((a * b : ℝ) : EReal) := (EReal.coe_mul a b).symm
theorem coe_add (a b : ℝ) : (a : EReal) + (b : EReal) = ((a + b : ℝ) : EReal) := (EReal.coe_add a b).symm
theorem coe_sub (a b : ℝ) : (a : EReal) - (b : EReal) = ((a - b : ℝ) : EReal) := (EReal.coe_sub a b).symm
theorem coe_neg (a : ℝ) : -(a : EReal) = ((-a : ℝ) : EReal) := (EReal.coe_neg a).symm
theorem zero_add_coe (a : ℝ) : (0 : EReal) + (a : EReal) = (a : EReal) := zero_add _

theorem coe_div_1024 (a : ℝ) : Ideal.div (a : EReal) ((1024 : ℝ) : EReal) = ((a / 1024 : ℝ) : EReal) := coe_div a 1024 (by norm_num)

/-- The constant added to a mean square. -/
def eps : ℝ := 8796093 * (2 ^ 43)⁻¹

theorem ofBits_eps : Ideal.ofBits .f32 0x358637BD#32 = (eps : EReal) := by
  rw [eps, EReal.coe_mul]; simp [Ideal.ofBits, Ideal.ieee]

theorem eps_pos : 0 < eps := by unfold eps; positivity

theorem ofBits_1024 : Ideal.ofBits .f32 0x44800000#32 = ((1024 : ℝ) : EReal) := by
  simp [Ideal.ofBits, Ideal.ieee]; rw [← EReal.coe_mul]; norm_num
theorem ofBits_16 : Ideal.ofBits .f32 0x41800000#32 = ((16 : ℝ) : EReal) := by
  simp [Ideal.ofBits, Ideal.ieee]; rw [← EReal.coe_mul]; norm_num
theorem ofBits_8 : Ideal.ofBits .f32 0x41000000#32 = ((8 : ℝ) : EReal) := by
  simp [Ideal.ofBits, Ideal.ieee]; rw [← EReal.coe_mul]; norm_num
theorem ofBits_4 : Ideal.ofBits .f32 0x40800000#32 = ((4 : ℝ) : EReal) := by
  simp [Ideal.ofBits, Ideal.ieee]; rw [← EReal.coe_mul]; norm_num
theorem ofBits_2 : Ideal.ofBits .f32 0x40000000#32 = ((2 : ℝ) : EReal) := by
  simp [Ideal.ofBits, Ideal.ieee]; rw [← EReal.coe_mul]; norm_num
theorem ofBits_1 : Ideal.ofBits .f32 0x3F800000#32 = ((1 : ℝ) : EReal) := by
  simp [Ideal.ofBits, Ideal.ieee]; rw [← EReal.coe_mul]; norm_num
theorem ofBits_neg_half : Ideal.ofBits .f32 0xBF000000#32 = ((-(1 / 2) : ℝ) : EReal) := by
  simp [Ideal.ofBits, Ideal.ieee]; rw [← EReal.coe_mul]; norm_num
theorem ofBits_0 : Ideal.ofBits .f32 0x00000000#32 = ((0 : ℝ) : EReal) := by simp

/-! ## A norm and its gradient -/

/-- The mean square of a row, and the constant. -/
def ms (v : Fin 1024 → ℝ) : ℝ := (∑ d, v d * v d) / 1024 + eps

theorem ms_pos (v : Fin 1024 → ℝ) : 0 < ms v :=
  add_pos_of_nonneg_of_pos (div_nonneg (Finset.sum_nonneg fun d _ => mul_self_nonneg (v d)) (by norm_num)) eps_pos

/-- One over the root of the mean square. -/
def inv (v : Fin 1024 → ℝ) : ℝ := (√(ms v))⁻¹

theorem inv_sq (v : Fin 1024 → ℝ) : inv v / ms v = inv v * inv v * inv v := by
  have h := ms_pos v
  have h2 : ms v = √(ms v) * √(ms v) := (Real.mul_self_sqrt h.le).symm
  have h3 : √(ms v) ≠ 0 := (Real.sqrt_pos.mpr h).ne'
  unfold inv
  rw [div_eq_iff h.ne']
  conv_rhs => rw [h2]
  field_simp
  rw [Real.sq_sqrt h.le]

/-- A row scaled to a unit mean square and by a gain. -/
def rms (v g : Fin 1024 → ℝ) (d : Fin 1024) : ℝ := v d * inv v * g d

/-- The gradient of `rms` with respect to the row. -/
def rmsb (v g dy : Fin 1024 → ℝ) (d : Fin 1024) : ℝ :=
  inv v * (dy d * g d - v d * inv v * ((∑ e, dy e * g e * (v e * inv v)) / 1024))

/-- … in the form the chain rule gives it. -/
theorem rmsb_chain (v g dy : Fin 1024 → ℝ) (d : Fin 1024) :
    dy d * g d * inv v + v d * ((∑ e, v e * (dy e * g e)) * (-(1 / 2) * (inv v / ms v)) / 1024)
      + (∑ e, v e * (dy e * g e)) * (-(1 / 2) * (inv v / ms v)) / 1024 * v d = rmsb v g dy d := by
  have h : ∑ e, dy e * g e * (v e * inv v) = (∑ e, v e * (dy e * g e)) * inv v := by
    rw [Finset.sum_mul]; exact Finset.sum_congr rfl fun e _ => by ring
  rw [rmsb, h, inv_sq]
  ring

/-- A gradient of nothing is nothing. -/
theorem rmsb_zero (v g dy : Fin 1024 → ℝ) (h : ∀ d, dy d = 0) (d : Fin 1024) : rmsb v g dy d = 0 := by
  simp [rmsb, h]

/-- A run of rows as a vector. -/
def lift2 {n k : ℕ} (f : ℕ → Fin k → ℝ) (φ : FTy := .f32) : FVec Ideal (⟨2, ![n, k]⟩ : Shape) φ := fun i => ((f (i 0).val (i 1) : ℝ) : EReal)

/-- … with one more axis in front. -/
def lift3 {n k : ℕ} (f : ℕ → Fin k → ℝ) (φ : FTy := .f32) : FVec Ideal (⟨3, ![1, n, k]⟩ : Shape) φ := fun i => ((f (i 1).val (i 2) : ℝ) : EReal)

/-- A stack of matrices as a vector. -/
def liftW (W : Fin 4 → Fin 256 → Fin 256 → ℝ) (φ : FTy := .f32) : FVec Ideal (⟨3, ![4, 256, 256]⟩ : Shape) φ := fun i => ((W (i 0) (i 1) (i 2) : ℝ) : EReal)

/-- A mean square as the programs write it. -/
theorem coe_inv (v : Fin 1024 → ℝ) : Ideal.rsqrt (Ideal.div ((∑ d, v d * v d : ℝ) : EReal) ((1024 : ℝ) : EReal) + (eps : EReal)) = ((inv v : ℝ) : EReal) := by
  rw [coe_div_1024, coe_add]; exact coe_rsqrt _ (ms_pos v)

/-! ## Groups of lanes -/

/-- Lane `c` of group `g`. -/
def lane (g : Fin 4) (c : Fin 256) : Fin 1024 := ⟨256 * g.val + c.val, by omega⟩

/-- A lane's group. -/
def grp (d : Fin 1024) : Fin 4 := ⟨d.val / 256, by omega⟩

/-- A lane's place in its group. -/
def off (d : Fin 1024) : Fin 256 := ⟨d.val % 256, by omega⟩

theorem grp_lane (g : Fin 4) (c : Fin 256) : grp (lane g c) = g := Fin.ext (by simp only [grp, lane]; omega)
theorem off_lane (g : Fin 4) (c : Fin 256) : off (lane g c) = c := Fin.ext (by simp only [off, lane]; omega)
theorem lane_grp_off (d : Fin 1024) : lane (grp d) (off d) = d := Fin.ext (by simp only [grp, off, lane]; omega)

/-- The length of a lane's window. -/
def win (d : Fin 1024) : ℕ := if d.val < 256 then 2 else if d.val < 512 then 4 else if d.val < 768 then 8 else 16

theorem win_pos (d : Fin 1024) : 0 < win d := by unfold win; split_ifs <;> norm_num
theorem win_le (d : Fin 1024) : win d ≤ 16 := by unfold win; split_ifs <;> norm_num

/-- How many places a window ending at time `t` has. -/
def cnt (t : ℕ) (d : Fin 1024) : ℝ := min ((t : ℝ) + 1) (win d)

theorem cnt_pos (t : ℕ) (d : Fin 1024) : 0 < cnt t d :=
  lt_min (by positivity) (by exact_mod_cast win_pos d)

/-! ## Words -/

theorem select_lt {α : Type} (j n : ℕ) (hj : j < 2 ^ 31) (hn : n < 2 ^ 31) (a b : α) :
    Scalar.select (IntOp.cmpi .slt (BitVec.ofNat 32 j) (BitVec.ofNat 32 n)) a b = if j < n then a else b := by
  rw [WordCmp.cmpi_slt_ofNat hj hn, Scalar.select]
  by_cases h : j < n <;> simp [h]

theorem count_word (T j : ℕ) (hT : T < 4) (hj : j < 512) :
    (FloatOps.sitofp .f32 (IntOp.addi (IntOp.addi (Scalar.muli (BitVec.ofNat 32 T) 512#32) (BitVec.ofNat 32 j)) 1#32) : Ideal .f32)
      = ((((512 * T + j : ℕ) : ℝ) + 1 : ℝ) : EReal) := by
  have h : IntOp.addi (IntOp.addi (Scalar.muli (BitVec.ofNat 32 T) 512#32) (BitVec.ofNat 32 j)) 1#32 = BitVec.ofNat 32 (512 * T + j + 1) := by
    show BitVec.ofNat 32 T * BitVec.ofNat 32 512 + BitVec.ofNat 32 j + BitVec.ofNat 32 1 = _
    rw [← BitVec.ofNat_mul, ← BitVec.ofNat_add, ← BitVec.ofNat_add, Nat.mul_comm T 512]
  rw [h]
  show (((BitVec.ofNat 32 (512 * T + j + 1)).toInt : ℝ) : EReal) = _
  rw [show (BitVec.ofNat 32 (512 * T + j + 1)).toInt = ((512 * T + j + 1 : ℕ) : ℤ) from BitVec.toInt_ofNat' .. |>.trans (Int.bmod_eq_of_le (by omega) (by omega))]
  push_cast; rfl

/-! ## Windows -/

/-- The sum of the `n` values up to time `t`. -/
def back (n : ℕ) (u : ℕ → ℝ) (t : ℕ) : ℝ := ∑ i ∈ Finset.range n, if i ≤ t then u (t - i) else 0

/-- The sum of the `n` values from time `t`. -/
def ahead (n : ℕ) (u : ℕ → ℝ) (t : ℕ) : ℝ := ∑ i ∈ Finset.range n, u (t + i)

theorem ahead_double (n : ℕ) (u : ℕ → ℝ) (t : ℕ) : ahead n u t + ahead n u (t + n) = ahead (n + n) u t := by
  simp only [ahead, Finset.sum_range_add, Nat.add_assoc]

/-- The windows of a run of rows, each the sum of the `n` rows up to it: doubling. -/
def upto (n : ℕ) (u : ℕ → ℝ) (j : ℕ) : ℝ := ∑ i ∈ Finset.range n, u (j - i)

theorem upto_double (n : ℕ) (u : ℕ → ℝ) (j : ℕ) : upto n u j + upto n u (j - n) = upto (n + n) u j := by
  simp only [upto, Finset.sum_range_add, Nat.sub_sub]

/-- A difference of running sums is a window. -/
theorem back_eq_sub (n : ℕ) (u : ℕ → ℝ) (t : ℕ) :
    ∑ s ∈ Finset.range (t + 1), u s - ∑ s ∈ Finset.range (t + 1 - n), u s = back n u t := by
  induction n with
  | zero => simp [back]
  | succ n ih =>
    rw [show back (n + 1) u t = back n u t + (if n ≤ t then u (t - n) else 0) from Finset.sum_range_succ _ _, ← ih]
    split_ifs with h
    · rw [show t + 1 - n = (t - n) + 1 by omega, show t + 1 - (n + 1) = t - n by omega, Finset.sum_range_succ u (t - n)]; ring
    · rw [show t + 1 - n = 0 by omega, show t + 1 - (n + 1) = 0 by omega]; simp

/-- A difference of sums from a time on is a window. -/
theorem ahead_eq_sub (L n : ℕ) (q : ℕ → ℝ) (hq : ∀ t, L ≤ t → q t = 0) (t : ℕ) :
    ∑ s ∈ Finset.Ico t L, q s - ∑ s ∈ Finset.Ico t L, q (s + n) = ahead n q t := by
  induction n with
  | zero => simp [ahead]
  | succ n ih =>
    rw [show ahead (n + 1) q t = ahead n q t + q (t + n) from Finset.sum_range_succ _ _, ← ih]
    have h : ∑ s ∈ Finset.Ico t L, q (s + n) = q (t + n) + ∑ s ∈ Finset.Ico t L, q (s + (n + 1)) := by
      rcases le_or_gt L t with h | h
      · rw [Finset.Ico_eq_empty (by omega)]; simp [hq (t + n) (by omega)]
      · have e := Finset.sum_Ico_add' (fun s => q (s + n)) t L 1
        simp only [show ∀ s, s + 1 + n = s + (n + 1) by omega] at e
        rw [e, Finset.sum_eq_sum_Ico_succ_bot h, Finset.sum_Ico_succ_top (by omega), hq (L + n) (by omega), add_zero]
    rw [h]; ring

/-! ## The layer -/

/-- A row times the groups' matrices. -/
def mix (W : Fin 4 → Fin 256 → Fin 256 → ℝ) (v : Fin 1024 → ℝ) (d : Fin 1024) : ℝ :=
  ∑ c, v (lane (grp d) c) * W (grp d) c (off d)

/-- A row times the groups' transposed matrices. -/
def mixT (W : Fin 4 → Fin 256 → Fin 256 → ℝ) (v : Fin 1024 → ℝ) (d : Fin 1024) : ℝ :=
  ∑ e, v (lane (grp d) e) * W (grp d) (off d) e

section

variable (x ct : ℕ → Fin 1024 → ℝ) (g1 g2 sc : Fin 1024 → ℝ) (W : Fin 4 → Fin 256 → Fin 256 → ℝ)

/-- The normed input at time `t`. -/
def U (t : ℕ) : Fin 1024 → ℝ := rms (x t) g1

/-- A window's mean less the input itself. -/
def Df (t : ℕ) (d : Fin 1024) : ℝ := back (win d) (fun s => U x g1 s d) t / cnt t d - U x g1 t d

/-- The mixed lanes. -/
def Mx (t : ℕ) : Fin 1024 → ℝ := mix W (Df x g1 t)

/-- … scaled. -/
def Z (t : ℕ) (d : Fin 1024) : ℝ := Mx x g1 W t d * sc d

/-- The gradient before the second norm. -/
def DM (t : ℕ) : Fin 1024 → ℝ := rmsb (Z x g1 sc W t) g2 (ct t)

/-- … before the scale. -/
def DO (t : ℕ) (d : Fin 1024) : ℝ := DM x ct g1 g2 sc W t d * sc d

/-- … before the mixing. -/
def DD (t : ℕ) : Fin 1024 → ℝ := mixT W (DO x ct g1 g2 sc W t)

/-- … divided by the window's length. -/
def Q (t : ℕ) (d : Fin 1024) : ℝ := DD x ct g1 g2 sc W t d / cnt t d

/-- … before the windows: the gradient of the normed input. -/
def DU (t : ℕ) (d : Fin 1024) : ℝ := ahead (win d) (fun s => Q x ct g1 g2 sc W s d) t - DD x ct g1 g2 sc W t d

/-- The gradient of the layer's input. -/
def DX (t : ℕ) (d : Fin 1024) : ℝ := ct t d + rmsb (x t) g1 (DU x ct g1 g2 sc W t) d

theorem Q_zero (t : ℕ) (h : ∀ d, ct t d = 0) (d : Fin 1024) : Q x ct g1 g2 sc W t d = 0 := by
  simp [Q, DD, mixT, DO, DM, rmsb_zero _ _ _ h]

end

/-! ## Arrays and tiles -/

/-- The sequence of batch `b` in an array, zero outside it. -/
def arr (a : (⟨3, ![4, 2048, 1024]⟩ : Shape).Idx → EReal) (b t : ℕ) (d : Fin 1024) : ℝ :=
  if h : b < 4 ∧ t < 2048 then (a (ix3 ⟨b, h.1⟩ ⟨t, h.2⟩ d)).toReal else 0

/-- A row of numbers. -/
def vec (a : (⟨2, ![1, 1024]⟩ : Shape).Idx → EReal) (d : Fin 1024) : ℝ := (a (ix2 0 d)).toReal

/-- The groups' matrices. -/
def mat (a : (⟨3, ![4, 256, 256]⟩ : Shape).Idx → EReal) (k : Fin 4) (p q : Fin 256) : ℝ := (a (ix3 k p q)).toReal

/-- Every entry is a number. -/
def Num {S : Shape} (a : S.Idx → EReal) : Prop := ∀ i, a i = (((a i).toReal : ℝ) : EReal)

theorem arr_eq (a : (⟨3, ![4, 2048, 1024]⟩ : Shape).Idx → EReal) (ha : Num a) (b : Fin 4) (t : Fin 2048) (d : Fin 1024) :
    a (ix3 b t d) = ((arr a b t d : ℝ) : EReal) := by
  rw [ha, arr, dif_pos ⟨b.isLt, t.isLt⟩]

theorem arr_zero (a : (⟨3, ![4, 2048, 1024]⟩ : Shape).Idx → EReal) (b t : ℕ) (ht : 2048 ≤ t) (d : Fin 1024) : arr a b t d = 0 :=
  dif_neg fun h => absurd h.2 (by omega)

/-- The rows of tile `T`. -/
def tile (f : ℕ → Fin 1024 → ℝ) (T : ℕ) : ℕ → Fin 1024 → ℝ := fun r => f (512 * T + r)

/-- The sixteen rows before tile `T`. -/
def halo (f : ℕ → Fin 1024 → ℝ) (T : ℕ) : ℕ → Fin 1024 → ℝ := fun r => f (16 * (32 * T - 1) + r)

/-- The first rows of the tile after tile `T`: none after the last. -/
def nextQ (f : ℕ → Fin 1024 → ℝ) (T : ℕ) : ℕ → Fin 1024 → ℝ := fun r d => if T < 3 then f (512 * (T + 1) + r) d else 0

end Cert.Pool

end
-- ==== Proof.PoolPay.lean ====
/- The pooling layer's gradient call: what its vector steps compute when every argument is a number. -/
module

public import proofs.«01_k».proof.Proof.Gen.KernelIdeal.Skeleton
public import proofs.«01_k».proof.Proof.PoolMath

@[expose] public section

noncomputable section

open Idealize.ShloMosaic Idealize.ShloMosaic.TcCoe Idealize.SL.Sem

namespace Cert.KernelIdeal.Pool

open Cert.KernelIdeal Cert.KernelIdeal.Gen Cert.Pool

variable (f h p q : ℕ → Fin 1024 → ℝ) (g : Fin 1024 → ℝ)

theorem pay5_lift : k0_pay5 (F := Ideal) (lift3 f) = lift2 f := by
  funext i; idx_vars i; pointwise [k0_pay5, lift3, lift2]

theorem pay6_lift : k0_pay6 (F := Ideal) (lift3 f) (lift2 fun _ => g) = lift2 fun r => rms (f r) g := by
  funext i; idx_vars i
  pointwise [k0_pay6, pay5_lift, lift3, lift2]
  simp only [coe_mul, coe_sum, ofBits_1024, ofBits_eps, coe_inv, rms]

theorem pay7_lift (i : grid0.Coords) : k0_pay7 (F := Ideal) i (lift3 h) = lift2 fun r d => if (i 1).val < 3 then h r d else 0 := by
  have hi : (i 1).val < 4 := (i 1).isLt
  funext j; idx_vars j
  pointwise [k0_pay7, lift3, lift2]
  generalize (i 1).val = n at hi ⊢
  interval_cases n <;> simp [Scalar.select, Scalar.cmpi, Scalar.subi, IntOp.cmpi, IntOp.subi, BitVec.slt]

theorem pay9_lift (T : ℕ) (hT : T < 4) : k0_pay9 (F := Ideal) (BitVec.ofNat 32 T) = lift2 fun r => cnt (512 * T + r) := by
  funext j; idx_vars j
  pointwise [k0_pay9, lift3, lift2]
  have e (n : ℕ) (hn : n < 2 ^ 31) := select_lt (α := EReal) j1.val n (by omega) hn
  simp only [count_word T _ hT (Fin.isLt _), e 256 (by norm_num), e 512 (by norm_num), e 768 (by norm_num), ofBits_2, ofBits_4, ofBits_8, ofBits_16, coe_ite, coe_min, cnt, win]
  push_cast
  rfl

/-- The halo's rows and the tile's as one run. -/
def ext (hal u : ℕ → Fin 1024 → ℝ) (j : ℕ) (d : Fin 1024) : ℝ := if j < 16 then hal j d else u (j - 16) d

theorem pay10_at (i : grid0.Coords) (u : ℕ → Fin 1024 → ℝ) (j : Fin 528) (d : Fin 1024) (hj : 1 ≤ j.val) :
    k0_pay10 (F := Ideal) (lift2 fun _ => g) (lift2 u) (k0_pay7 i (lift3 h)) (k0_pay8 i (lift3 h)) (FloatOps.ofBits FTy.f32 897988541#32) (ix2 j d)
      = ((upto 2 (fun s => ext (fun r => rms (fun d => if (i 1).val < 3 then h r d else 0) g) u s d) j.val : ℝ) : EReal) := by
  have hk : (j.val + 528 - 1) % 528 = j.val - 1 := by omega
  pointwise [k0_pay10, k0_pay8, pay7_lift, lift3, lift2]
  simp only [coe_mul, coe_sum, ofBits_1024, ofBits_eps, coe_inv, dite_eq_ite, coe_ite, coe_add, hk]
  simp only [upto, Finset.sum_range_succ, Finset.sum_range_zero, zero_add, ext, rms, Nat.sub_zero]

/-- The norm of the halo: nothing before the first tile. -/
abbrev hal (i : grid0.Coords) : ℕ → Fin 1024 → ℝ := fun r => rms (fun d => if (i 1).val < 3 then h r d else 0) g

theorem pay12_at (i : grid0.Coords) (u : ℕ → Fin 1024 → ℝ) (j : Fin 528) (d : Fin 1024) (hj : 3 ≤ j.val) :
    k0_pay12 (F := Ideal) (lift2 fun _ => g) (lift2 u) (k0_pay7 i (lift3 h)) (k0_pay8 i (lift3 h)) (FloatOps.ofBits FTy.f32 897988541#32) (ix2 j d)
      = ((upto 4 (fun s => ext (hal h g i) u s d) j.val : ℝ) : EReal) := by
  have hk : (j.val + 528 - 2) % 528 = j.val - 2 := by omega
  pointwise [k0_pay12]
  refine (congrArg₂ (fun a b : EReal => a + b) (pay10_at h g i u j d (by omega)) (pay10_at h g i u ⟨(j.val + 528 - 2) % 528, _⟩ d (by show 1 ≤ (j.val + 528 - 2) % 528; omega))).trans ?_
  simp only [hk, coe_add, hal, upto_double]

theorem pay14_at (i : grid0.Coords) (u : ℕ → Fin 1024 → ℝ) (j : Fin 528) (d : Fin 1024) (hj : 7 ≤ j.val) :
    k0_pay14 (F := Ideal) (lift2 fun _ => g) (lift2 u) (k0_pay7 i (lift3 h)) (k0_pay8 i (lift3 h)) (FloatOps.ofBits FTy.f32 897988541#32) (ix2 j d)
      = ((upto 8 (fun s => ext (hal h g i) u s d) j.val : ℝ) : EReal) := by
  have hk : (j.val + 528 - 4) % 528 = j.val - 4 := by omega
  pointwise [k0_pay14]
  refine (congrArg₂ (fun a b : EReal => a + b) (pay12_at h g i u j d (by omega)) (pay12_at h g i u ⟨(j.val + 528 - 4) % 528, _⟩ d (by show 3 ≤ (j.val + 528 - 4) % 528; omega))).trans ?_
  simp only [hk, coe_add, hal, upto_double]

theorem pay11_lift (i : grid0.Coords) (u : ℕ → Fin 1024 → ℝ) :
    k0_pay11 (F := Ideal) (lift2 fun _ => g) (lift2 u) (k0_pay7 i (lift3 h)) (k0_pay8 i (lift3 h)) (FloatOps.ofBits FTy.f32 897988541#32)
      = lift2 fun r d => upto 2 (fun s => ext (hal h g i) u s d) (16 + r) := by
  funext j; idx_vars j
  pointwise [k0_pay11]
  exact pay10_at h g i u ⟨16 + j0.val, by omega⟩ j1 (by show 1 ≤ 16 + j0.val; omega)

theorem pay13_lift (i : grid0.Coords) (u : ℕ → Fin 1024 → ℝ) :
    k0_pay13 (F := Ideal) (lift2 fun _ => g) (lift2 u) (k0_pay7 i (lift3 h)) (k0_pay8 i (lift3 h)) (FloatOps.ofBits FTy.f32 897988541#32)
      = lift2 fun r d => upto 4 (fun s => ext (hal h g i) u s d) (16 + r) := by
  funext j; idx_vars j
  pointwise [k0_pay13]
  exact pay12_at h g i u ⟨16 + j0.val, by omega⟩ j1 (by show 3 ≤ 16 + j0.val; omega)

theorem pay15_lift (i : grid0.Coords) (u : ℕ → Fin 1024 → ℝ) :
    k0_pay15 (F := Ideal) (lift2 fun _ => g) (lift2 u) (k0_pay7 i (lift3 h)) (k0_pay8 i (lift3 h)) (FloatOps.ofBits FTy.f32 897988541#32)
      = lift2 fun r d => upto 8 (fun s => ext (hal h g i) u s d) (16 + r) := by
  funext j; idx_vars j
  pointwise [k0_pay15]
  exact pay14_at h g i u ⟨16 + j0.val, by omega⟩ j1 (by show 7 ≤ 16 + j0.val; omega)

theorem pay16_lift (i : grid0.Coords) (u : ℕ → Fin 1024 → ℝ) :
    k0_pay16 (F := Ideal) (lift2 fun _ => g) (lift2 u) (k0_pay7 i (lift3 h)) (k0_pay8 i (lift3 h)) (FloatOps.ofBits FTy.f32 897988541#32)
      = lift2 fun r d => upto 16 (fun s => ext (hal h g i) u s d) (16 + r) := by
  funext j; idx_vars j
  pointwise [k0_pay16]
  have hk : (16 + j0.val + 528 - 8) % 528 = 16 + j0.val - 8 := by omega
  refine (congrArg₂ (fun a b : EReal => a + b) (pay14_at h g i u ⟨16 + j0.val, by omega⟩ j1 (by show 7 ≤ 16 + j0.val; omega)) (pay14_at h g i u ⟨(16 + j0.val + 528 - 8) % 528, by omega⟩ j1 (by show 7 ≤ (16 + j0.val + 528 - 8) % 528; omega))).trans ?_
  simp only [hk, coe_add, hal, upto_double, lift2]
  rfl

/-! ## The mixing -/

/-- The four windows by the lane's group. -/
def wsel (a b c d : ℕ → Fin 1024 → ℝ) (r : ℕ) (e : Fin 1024) : ℝ :=
  if e.val < 256 then a r e else if e.val < 512 then b r e else if e.val < 768 then c r e else d r e

/-- One group's matrix, as the block the call loads. -/
def liftG (W : Fin 4 → Fin 256 → Fin 256 → ℝ) (k : Fin 4) : FVec Ideal S1x256x256 .bf16 := fun i => ((W k (i 1) (i 2) : ℝ) : EReal)

theorem lane0 (x : Fin 256) (h : x.val < 1024) : (⟨x.val, h⟩ : Fin 1024) = lane 0 x := Fin.ext (by show x.val = 256 * 0 + x.val; omega)
theorem lane1 (x : Fin 256) (h : 256 + x.val < 1024) : (⟨256 + x.val, h⟩ : Fin 1024) = lane 1 x := Fin.ext (by show 256 + x.val = 256 * 1 + x.val; omega)
theorem lane2 (x : Fin 256) (h : 512 + x.val < 1024) : (⟨512 + x.val, h⟩ : Fin 1024) = lane 2 x := Fin.ext (by show 512 + x.val = 256 * 2 + x.val; omega)
theorem lane3 (x : Fin 256) (h : 768 + x.val < 1024) : (⟨768 + x.val, h⟩ : Fin 1024) = lane 3 x := Fin.ext (by show 768 + x.val = 256 * 3 + x.val; omega)

/-- Four groups side by side. -/
theorem by_groups (t : Fin 4 → Fin 256 → ℝ) (d : Fin 1024) :
    (if h : d.val < 256 then t 0 ⟨d.val, h⟩ else if h1 : d.val - 256 < 256 then t 1 ⟨d.val - 256, h1⟩
      else if h2 : d.val - 256 - 256 < 256 then t 2 ⟨d.val - 256 - 256, h2⟩
      else t 3 ⟨d.val - 256 - 256 - 256, by omega⟩) = t (grp d) (off d) := by
  split_ifs <;> exact congrArg₂ t (Fin.ext (by show _ = d.val / 256; simp; omega)) (Fin.ext (by show _ = d.val % 256; simp; omega))

theorem coe_dite (p : Prop) [Decidable p] (a : p → ℝ) (b : ¬p → ℝ) : (if h : p then ((a h : ℝ) : EReal) else ((b h : ℝ) : EReal)) = ((if h : p then a h else b h : ℝ) : EReal) := by
  split <;> rfl

section

variable (T : ℕ) (a b c d v z ct du f : ℕ → Fin 1024 → ℝ) (sc : Fin 1024 → ℝ) (W : Fin 4 → Fin 256 → Fin 256 → ℝ)

/-- A tile of window means less the input. -/
abbrev dif (r : ℕ) (e : Fin 1024) : ℝ := wsel a b c d r e / cnt (512 * T + r) e - v r e

theorem pay17_lift (l : IVec S512x1024 32) (hl : l = iota Kind.tc S512x1024 32 [1] iota_S512x1024_d1_w32) (w : BitVec 32) (hw : w = 768#32) :
    k0_pay17 (F := Ideal) (lift2 v) (lift2 fun r => cnt (512 * T + r)) (lift2 a) (lift2 b) (lift2 c) (lift2 d) l w = lift2 (dif T a b c d v) := by
  funext j; idx_vars j
  have e (n : ℕ) (hn : n < 2 ^ 31) := select_lt (α := EReal) j1.val n (by omega) hn
  subst hl; subst hw
  pointwise [k0_pay17, lift2]
  simp only [e 256 (by norm_num), e 512 (by norm_num), e 768 (by norm_num), coe_ite, coe_div _ _ (cnt_pos _ _).ne', coe_sub, dif, wsel]

theorem pay18_lift (l : IVec S512x1024 32) (hl : l = iota Kind.tc S512x1024 32 [1] iota_S512x1024_d1_w32) (w : BitVec 32) (hw : w = 768#32) :
    k0_pay18 (F := Ideal) (lift2 v) (lift2 fun r => cnt (512 * T + r)) (lift2 a) (lift2 b) (lift2 c) (lift2 d) l w
      (liftG W 0) (liftG W 1) (liftG W 2) (liftG W 3) = lift2 fun r => mix W (dif T a b c d v r) := by
  funext j; idx_vars j
  pointwise [k0_pay18, pay17_lift T a b c d v l hl w hw]
  pointwise [lift2, liftG]
  simp only [coe_mul, coe_sum, lane0, lane1, lane2, lane3, coe_dite]
  exact congrArg _ (by_groups (fun k e => ∑ x, dif T a b c d v j0.val (lane k x) * W k x e) j1)

theorem pay20_lift (l : IVec S512x1024 32) (hl : l = iota Kind.tc S512x1024 32 [1] iota_S512x1024_d1_w32) (w : BitVec 32) (hw : w = 768#32) :
    k0_pay20 (F := Ideal) (lift2 v) (lift2 fun r => cnt (512 * T + r)) (lift2 fun _ => sc) (lift2 a) (lift2 b) (lift2 c) (lift2 d) l w
      (liftG W 0) (liftG W 1) (liftG W 2) (liftG W 3) = lift2 fun r e => mix W (dif T a b c d v r) e * sc e := by
  funext j; idx_vars j
  pointwise [k0_pay20, pay18_lift T a b c d v W l hl w hw]
  pointwise [lift2]
  simp only [coe_mul]

theorem pay19_lift : k0_pay19 (F := Ideal) (lift3 f) = lift2 f := by
  funext i; idx_vars i; pointwise [k0_pay19, lift3, lift2]

/-! ## The second norm -/

theorem pay21_lift : k0_pay21 (F := Ideal) (lift2 z) = lift2 fun r _ => inv (z r) := by
  funext i; idx_vars i
  pointwise [k0_pay21, lift2]
  simp only [coe_mul, coe_sum, ofBits_1024, ofBits_eps, coe_inv]

theorem pay22_lift : k0_pay22 (F := Ideal) (lift2 z) = lift2 fun r d => z r d * inv (z r) := by
  funext i; idx_vars i
  pointwise [k0_pay22, pay21_lift, lift2]
  simp only [coe_mul]

theorem pay23_lift : k0_pay23 (F := Ideal) (lift2 ct) (lift2 z) (lift2 fun _ => g) = lift2 fun r => rmsb (z r) g (ct r) := by
  funext i; idx_vars i
  pointwise [k0_pay23, pay21_lift, pay22_lift, lift2]
  simp only [coe_mul, coe_sum, ofBits_1024, coe_div_1024, coe_sub, rmsb]

theorem pay24_lift (acc : Fin 1024 → ℝ) : k0_pay24 (F := Ideal) (lift2 ct) (lift2 z) (lift2 fun _ => acc)
    = lift2 fun _ e => acc e + ∑ r : Fin 512, ct r e * (z r e * inv (z r)) := by
  funext i; idx_vars i
  pointwise [k0_pay24, pay22_lift, lift2]
  simp only [coe_mul, coe_sum, coe_add]

theorem pay25_lift (acc : Fin 1024 → ℝ) (o : ℕ → Fin 1024 → ℝ) : k0_pay25 (F := Ideal) (lift2 o) (lift2 ct) (lift2 z) (lift2 fun _ => g) (lift2 fun _ => acc)
    = lift2 fun _ e => acc e + ∑ r : Fin 512, rmsb (z r) g (ct r) e * o r e := by
  funext i; idx_vars i
  pointwise [k0_pay25, pay23_lift, lift2]
  simp only [coe_mul, coe_sum, coe_add]

theorem pay26_lift : k0_pay26 (F := Ideal) (lift2 fun _ => sc) (lift2 ct) (lift2 z) (lift2 fun _ => g)
    = lift2 (fun r e => rmsb (z r) g (ct r) e * sc e) .bf16 := by
  funext i; idx_vars i
  pointwise [k0_pay26, pay23_lift, lift2]
  simp only [coe_mul]

/-! ## The groups' matrices -/

/-- One group's matrix of sums, as the block the call loads and stores. -/
def liftS (w : Fin 256 → Fin 256 → ℝ) : FVec Ideal S1x256x256 .f32 := fun i => ((w (i 1) (i 2) : ℝ) : EReal)

/-- One group's sum over a tile's rows. -/
abbrev dpw (k : Fin 4) (p q : Fin 256) : ℝ := ∑ r : Fin 512, v r (lane k p) * f r (lane k q)

theorem pay27_lift (acc : Fin 256 → Fin 256 → ℝ) : k0_pay27 (F := Ideal) (lift2 v) (lift2 f .bf16) (liftS acc)
    = liftS fun p q => acc p q + dpw v f 0 p q := by
  funext i; idx_vars i
  pointwise [k0_pay27, lift2, liftS]
  simp only [coe_mul, coe_sum, coe_add, lane0]

theorem pay29_lift (acc : Fin 256 → Fin 256 → ℝ) : k0_pay29 (F := Ideal) (lift2 v) (lift2 f .bf16) (liftS acc)
    = liftS fun p q => acc p q + dpw v f 1 p q := by
  funext i; idx_vars i
  pointwise [k0_pay29, lift2, liftS]
  simp only [coe_mul, coe_sum, coe_add, lane1]

theorem pay32_lift (acc : Fin 256 → Fin 256 → ℝ) : k0_pay32 (F := Ideal) (k0_pay31 (lift2 v) (lift2 f .bf16) (liftS acc))
    = liftS fun p q => acc p q + dpw v f 2 p q := by
  funext i; idx_vars i
  pointwise [k0_pay32, k0_pay31, lift2, liftS]
  simp only [coe_mul, coe_sum, coe_add, lane2]

theorem pay33_lift (acc : Fin 256 → Fin 256 → ℝ) : k0_pay33 (F := Ideal) (lift2 v) (lift2 f .bf16) (liftS acc)
    = liftS fun p q => acc p q + dpw v f 3 p q := by
  funext i; idx_vars i
  pointwise [k0_pay33, lift2, liftS]
  simp only [coe_mul, coe_sum, coe_add, lane3]

/-- One group's lanes times its transposed matrix. -/
abbrev dotT (k : Fin 4) (r : ℕ) (c : Fin 256) : ℝ := ∑ e, f r (lane k e) * W k c e

theorem pay28_lift : k0_pay28 (F := Ideal) (lift2 f .bf16) (liftG W 0) = lift2 (dotT f W 0) := by
  funext j; idx_vars j
  pointwise [k0_pay28, lift2, liftG]
  simp only [coe_mul, coe_sum, lane0]

theorem pay30_lift : k0_pay30 (F := Ideal) (lift2 f .bf16) (liftG W 1) = lift2 (dotT f W 1) := by
  funext j; idx_vars j
  pointwise [k0_pay30, lift2, liftG]
  simp only [coe_mul, coe_sum, lane1]

theorem pay34_lift : k0_pay34 (F := Ideal) (lift2 f .bf16) (lift2 (dotT f W 0)) (lift2 (dotT f W 1)) (liftG W 2) (liftG W 3) = lift2 fun r => mixT W (f r) := by
  funext j; idx_vars j
  pointwise [k0_pay34, lift2, liftG]
  simp only [coe_mul, coe_sum, lane2, lane3, coe_dite]
  exact congrArg _ (by_groups (fun k e => ∑ x, f j0.val (lane k x) * W k e x) j1)

theorem pay35_lift : k0_pay35 (F := Ideal) (lift2 fun r => cnt (512 * T + r)) (lift2 f .bf16) (lift2 (dotT f W 0)) (lift2 (dotT f W 1)) (liftG W 2) (liftG W 3)
    = lift2 fun r e => mixT W (f r) e / cnt (512 * T + r) e := by
  funext j; idx_vars j
  pointwise [k0_pay35, pay34_lift, lift2]
  simp only [coe_div _ _ (cnt_pos _ _).ne']

/-! ## The windows from a time on -/

/-- A tile's rows and the first rows of the next one as one run. -/
def exq (q qn : ℕ → Fin 1024 → ℝ) (j : ℕ) (e : Fin 1024) : ℝ := if j < 512 then q j e else qn (j - 512) e

/-- The tile's quotients followed by the next tile's. -/
abbrev qs (qn : ℕ → Fin 1024 → ℝ) : ℕ → Fin 1024 → ℝ := exq (fun r e => mixT W (f r) e / cnt (512 * T + r) e) qn

theorem pay36_at (qn : ℕ → Fin 1024 → ℝ) (j : Fin 528) (e : Fin 1024) (hj : j.val + 1 < 528) :
    k0_pay36 (F := Ideal) (lift2 fun r => cnt (512 * T + r)) (lift2 f .bf16) (lift2 (dotT f W 0)) (lift2 (dotT f W 1)) (liftG W 2) (liftG W 3) (lift2 qn) (ix2 j e)
      = ((ahead 2 (fun s => qs T f W qn s e) j.val : ℝ) : EReal) := by
  have hk : (j.val + 528 - 527) % 528 = j.val + 1 := by omega
  pointwise [k0_pay36, pay35_lift, lift2]
  simp only [coe_add, dite_eq_ite, coe_ite, hk]
  simp only [ahead, Finset.sum_range_succ, Finset.sum_range_zero, zero_add, add_zero, qs, exq]

theorem pay38_at (qn : ℕ → Fin 1024 → ℝ) (j : Fin 528) (e : Fin 1024) (hj : j.val + 3 < 528) :
    k0_pay38 (F := Ideal) (lift2 fun r => cnt (512 * T + r)) (lift2 f .bf16) (lift2 (dotT f W 0)) (lift2 (dotT f W 1)) (liftG W 2) (liftG W 3) (lift2 qn) (ix2 j e)
      = ((ahead 4 (fun s => qs T f W qn s e) j.val : ℝ) : EReal) := by
  have hk : (j.val + 528 - 526) % 528 = j.val + 2 := by omega
  pointwise [k0_pay38]
  refine (congrArg₂ (fun a b : EReal => a + b) (pay36_at T f W qn j e (by omega)) (pay36_at T f W qn ⟨(j.val + 528 - 526) % 528, _⟩ e (by show (j.val + 528 - 526) % 528 + 1 < 528; omega))).trans ?_
  simp only [hk, coe_add, ahead_double]

theorem pay40_at (qn : ℕ → Fin 1024 → ℝ) (j : Fin 528) (e : Fin 1024) (hj : j.val + 7 < 528) :
    k0_pay40 (F := Ideal) (lift2 fun r => cnt (512 * T + r)) (lift2 f .bf16) (lift2 (dotT f W 0)) (lift2 (dotT f W 1)) (liftG W 2) (liftG W 3) (lift2 qn) (ix2 j e)
      = ((ahead 8 (fun s => qs T f W qn s e) j.val : ℝ) : EReal) := by
  have hk : (j.val + 528 - 524) % 528 = j.val + 4 := by omega
  pointwise [k0_pay40]
  refine (congrArg₂ (fun a b : EReal => a + b) (pay38_at T f W qn j e (by omega)) (pay38_at T f W qn ⟨(j.val + 528 - 524) % 528, _⟩ e (by show (j.val + 528 - 524) % 528 + 3 < 528; omega))).trans ?_
  simp only [hk, coe_add, ahead_double]

theorem pay37_lift (qn : ℕ → Fin 1024 → ℝ) :
    k0_pay37 (F := Ideal) (lift2 fun r => cnt (512 * T + r)) (lift2 f .bf16) (lift2 (dotT f W 0)) (lift2 (dotT f W 1)) (liftG W 2) (liftG W 3) (lift2 qn) = lift2 fun r e => ahead 2 (fun s => qs T f W qn s e) r := by
  funext j; idx_vars j
  pointwise [k0_pay37]
  exact pay36_at T f W qn ⟨j0.val, by omega⟩ j1 (by show j0.val + 1 < 528; omega)

theorem pay39_lift (qn : ℕ → Fin 1024 → ℝ) :
    k0_pay39 (F := Ideal) (lift2 fun r => cnt (512 * T + r)) (lift2 f .bf16) (lift2 (dotT f W 0)) (lift2 (dotT f W 1)) (liftG W 2) (liftG W 3) (lift2 qn) = lift2 fun r e => ahead 4 (fun s => qs T f W qn s e) r := by
  funext j; idx_vars j
  pointwise [k0_pay39]
  exact pay38_at T f W qn ⟨j0.val, by omega⟩ j1 (by show j0.val + 3 < 528; omega)

theorem pay41_lift (qn : ℕ → Fin 1024 → ℝ) :
    k0_pay41 (F := Ideal) (lift2 fun r => cnt (512 * T + r)) (lift2 f .bf16) (lift2 (dotT f W 0)) (lift2 (dotT f W 1)) (liftG W 2) (liftG W 3) (lift2 qn) = lift2 fun r e => ahead 8 (fun s => qs T f W qn s e) r := by
  funext j; idx_vars j
  pointwise [k0_pay41]
  exact pay40_at T f W qn ⟨j0.val, by omega⟩ j1 (by show j0.val + 7 < 528; omega)

/-- The gradient of the normed input. -/
abbrev duT (qn : ℕ → Fin 1024 → ℝ) (r : ℕ) (e : Fin 1024) : ℝ :=
  wsel (fun r e => ahead 2 (fun s => qs T f W qn s e) r) (fun r e => ahead 4 (fun s => qs T f W qn s e) r)
    (fun r e => ahead 8 (fun s => qs T f W qn s e) r) (fun r e => ahead 16 (fun s => qs T f W qn s e) r) r e - mixT W (f r) e

theorem pay43_lift (qn : ℕ → Fin 1024 → ℝ) :
    k0_pay43 (F := Ideal) (lift2 fun r => mixT W (f r)) (lift2 fun r e => ahead 2 (fun s => qs T f W qn s e) r) (lift2 fun r e => ahead 4 (fun s => qs T f W qn s e) r)
      (k0_pay40 (lift2 fun r => cnt (512 * T + r)) (lift2 f .bf16) (lift2 (dotT f W 0)) (lift2 (dotT f W 1)) (liftG W 2) (liftG W 3) (lift2 qn)) (lift2 fun r e => ahead 8 (fun s => qs T f W qn s e) r) (k0_pay42 (lift2 fun r => cnt (512 * T + r)) (lift2 f .bf16) (lift2 (dotT f W 0)) (lift2 (dotT f W 1)) (liftG W 2) (liftG W 3) (lift2 qn))
      = lift2 (duT T f W qn) := by
  funext j; idx_vars j
  have e (n : ℕ) (hn : n < 2 ^ 31) := select_lt (α := EReal) j1.val n (by omega) hn
  have hk : (j0.val + 528 - 520) % 528 = j0.val + 8 := by omega
  have h16 := (congrArg₂ (fun a b : EReal => a + b) (pay40_at T f W qn ⟨j0.val, by omega⟩ j1 (by show j0.val + 7 < 528; omega))
    (pay40_at T f W qn ⟨(j0.val + 528 - 520) % 528, by omega⟩ j1 (by show (j0.val + 528 - 520) % 528 + 7 < 528; omega)))
  simp only [hk, coe_add, ahead_double] at h16
  pointwise [k0_pay43, k0_pay42]
  simp only [e 256 (by norm_num), e 512 (by norm_num), e 768 (by norm_num)]
  simp only [hk]
  rw [h16]
  simp only [lift2, coe_ite, coe_sub, duT, wsel]
  rfl

theorem pay44_lift : k0_pay44 (F := Ideal) (lift2 f) = lift2 f := by
  funext j; idx_vars j
  pointwise [k0_pay44, lift2]

/-! ## The first norm's gradient -/

theorem pay45_lift : k0_pay45 (F := Ideal) (lift2 z) = lift2 fun r _ => inv (z r) := by
  funext i; idx_vars i
  pointwise [k0_pay45, lift2]
  simp only [coe_mul, coe_sum, ofBits_1024, ofBits_eps, coe_inv]

theorem pay46_lift : k0_pay46 (F := Ideal) (lift2 z) = lift2 fun r d => z r d * inv (z r) := by
  funext i; idx_vars i
  pointwise [k0_pay46, pay45_lift, lift2]
  simp only [coe_mul]

variable {v210 v216 v219 v222 : FVec Ideal S512x1024 .f32} {v221 v223 : FVec Ideal S528x1024 .f32}

theorem pay47_lift (hdu : k0_pay43 v210 v216 v219 v221 v222 v223 = lift2 du) :
    k0_pay47 (F := Ideal) (lift2 z) (lift2 fun _ => g) v210 v216 v219 v221 v222 v223 = lift2 fun r => rmsb (z r) g (du r) := by
  funext i; idx_vars i
  pointwise [k0_pay47, hdu, pay45_lift, pay46_lift, lift2]
  simp only [coe_mul, coe_sum, ofBits_1024, coe_div_1024, coe_sub, rmsb]

theorem pay48_lift (hdu : k0_pay43 v210 v216 v219 v221 v222 v223 = lift2 du) (acc : Fin 1024 → ℝ) :
    k0_pay48 (F := Ideal) (lift2 z) v210 v216 v219 v221 v222 v223 (lift2 fun _ => acc)
      = lift2 fun _ e => acc e + ∑ r : Fin 512, du r e * (z r e * inv (z r)) := by
  funext i; idx_vars i
  pointwise [k0_pay48, hdu, pay46_lift, lift2]
  simp only [coe_mul, coe_sum, coe_add]

theorem pay1_lift : k0_pay1 (F := Ideal) (lift2 f) (lift2 v) = lift3 fun r e => f r e + v r e := by
  funext i; idx_vars i
  pointwise [k0_pay1, lift3, lift2]
  simp only [coe_add]

end

end Cert.KernelIdeal.Pool

end
-- ==== Proof.PoolPoint.lean ====
/- The pooling layer's gradient call: one grid point's tile, in terms of the layer. -/
module

public import proofs.«01_k».proof.Proof.PoolPay

@[expose] public section

noncomputable section

open Idealize.ShloMosaic Idealize.ShloMosaic.TcCoe Idealize.SL.Sem

namespace Cert.KernelIdeal.Pool

open Cert.KernelIdeal Cert.KernelIdeal.Gen Cert.Pool

variable (xs ct : ℕ → Fin 1024 → ℝ) (g1 g2 sc : Fin 1024 → ℝ) (W : Fin 4 → Fin 256 → Fin 256 → ℝ) (T : ℕ) (i : grid0.Coords)

/-- The windows up to a time, of one length. -/
def bk (n t : ℕ) (d : Fin 1024) : ℝ := back n (fun s => U xs g1 s d) t

/-- The windows from a time on, of one length. -/
def ah (n t : ℕ) (d : Fin 1024) : ℝ := ahead n (fun s => Q xs ct g1 g2 sc W s d) t

theorem rms_zero (g : Fin 1024 → ℝ) (d : Fin 1024) : rms (fun _ => 0) g d = 0 := by simp [rms]

/-- A window over the halo and the tile is a window of the sequence. -/
theorem ext_back (hT : T = 3 - (i 1).val) (n r : ℕ) (hn : n ≤ 16) (d : Fin 1024) :
    upto n (fun s => ext (hal (halo xs T) g1 i) (tile (U xs g1) T) s d) (16 + r) = bk xs g1 n (512 * T + r) d := by
  have hi : (i 1).val < 4 := (i 1).isLt
  refine Finset.sum_congr rfl fun k hk => ?_
  have hk' : k < n := Finset.mem_range.mp hk
  by_cases h1 : 16 + r - k < 16
  · refine (if_pos h1).trans ?_
    by_cases h2 : (i 1).val < 3
    · refine Eq.trans ?_ (if_pos (show k ≤ 512 * T + r by omega)).symm
      simp only [hal, h2, if_true]
      show rms (xs (16 * (32 * T - 1) + (16 + r - k))) g1 d = rms (xs (512 * T + r - k)) g1 d
      congr 2; omega
    · refine Eq.trans ?_ (if_neg (show ¬ k ≤ 512 * T + r by omega)).symm
      simp only [hal, h2, if_false, rms_zero]
  · refine (if_neg h1).trans (Eq.trans ?_ (if_pos (show k ≤ 512 * T + r by omega)).symm)
    show rms (xs (512 * T + (16 + r - k - 16))) g1 d = rms (xs (512 * T + r - k)) g1 d
    congr 2; omega

/-- A window over the tile and the next one's first rows is a window of the sequence. -/
theorem exq_ahead (q : ℕ → Fin 1024 → ℝ) (hq : ∀ t d, 2048 ≤ t → q t d = 0) (n r : ℕ) (hn : n ≤ 16) (hr : r < 512) (hT : T < 4) (d : Fin 1024) :
    ahead n (fun s => exq (tile q T) (nextQ q T) s d) r = ahead n (fun s => q s d) (512 * T + r) := by
  refine Finset.sum_congr rfl fun k hk => ?_
  have hk' : k < n := Finset.mem_range.mp hk
  simp only [exq, tile, nextQ]
  split_ifs with h1 h2
  · rw [show 512 * T + (r + k) = 512 * T + r + k by omega]
  · rw [show 512 * (T + 1) + (r + k - 512) = 512 * T + r + k by omega]
  · rw [hq _ _ (by omega)]

theorem lift2_congr {n k : ℕ} {φ : FTy} (f f' : ℕ → Fin k → ℝ) (h : ∀ r < n, ∀ d, f r d = f' r d) : (lift2 f φ : FVec Ideal (⟨2, ![n, k]⟩ : Shape) φ) = lift2 f' φ :=
  funext fun i => congrArg (fun x : ℝ => (x : EReal)) (h _ (i 0).isLt _)

theorem p6 : k0_pay6 (F := Ideal) (lift3 (tile xs T)) (lift2 fun _ => g1) = lift2 (tile (U xs g1) T) := pay6_lift _ _

theorem p9 (hT : T = 3 - (i 1).val) : k0_pay9 (F := Ideal) (Scalar.subi 3#32 (BitVec.ofNat 32 (i 1).val)) = lift2 (tile cnt T) := by
  have hi : (i 1).val < 4 := (i 1).isLt
  have e : Scalar.subi 3#32 (BitVec.ofNat 32 (i 1).val) = BitVec.ofNat 32 T := by
    rw [hT]; generalize (i 1).val = n at hi; interval_cases n <;> rfl
  rw [e]; exact pay9_lift T (by omega)

theorem p11 (hT : T = 3 - (i 1).val) : k0_pay11 (F := Ideal) (lift2 fun _ => g1) (lift2 (tile (U xs g1) T)) (k0_pay7 i (lift3 (halo xs T))) (k0_pay8 i (lift3 (halo xs T))) (FloatOps.ofBits FTy.f32 897988541#32) = lift2 (tile (bk xs g1 2) T) :=
  (pay11_lift _ _ i _).trans (lift2_congr _ _ fun r _ d => ext_back xs g1 T i hT 2 r (by norm_num) d)

theorem p13 (hT : T = 3 - (i 1).val) : k0_pay13 (F := Ideal) (lift2 fun _ => g1) (lift2 (tile (U xs g1) T)) (k0_pay7 i (lift3 (halo xs T))) (k0_pay8 i (lift3 (halo xs T))) (FloatOps.ofBits FTy.f32 897988541#32) = lift2 (tile (bk xs g1 4) T) :=
  (pay13_lift _ _ i _).trans (lift2_congr _ _ fun r _ d => ext_back xs g1 T i hT 4 r (by norm_num) d)

theorem p15 (hT : T = 3 - (i 1).val) : k0_pay15 (F := Ideal) (lift2 fun _ => g1) (lift2 (tile (U xs g1) T)) (k0_pay7 i (lift3 (halo xs T))) (k0_pay8 i (lift3 (halo xs T))) (FloatOps.ofBits FTy.f32 897988541#32) = lift2 (tile (bk xs g1 8) T) :=
  (pay15_lift _ _ i _).trans (lift2_congr _ _ fun r _ d => ext_back xs g1 T i hT 8 r (by norm_num) d)

theorem p16 (hT : T = 3 - (i 1).val) : k0_pay16 (F := Ideal) (lift2 fun _ => g1) (lift2 (tile (U xs g1) T)) (k0_pay7 i (lift3 (halo xs T))) (k0_pay8 i (lift3 (halo xs T))) (FloatOps.ofBits FTy.f32 897988541#32) = lift2 (tile (bk xs g1 16) T) :=
  (pay16_lift _ _ i _).trans (lift2_congr _ _ fun r _ d => ext_back xs g1 T i hT 16 r (by norm_num) d)

theorem dif_eq (r : ℕ) (d : Fin 1024) :
    dif T (tile (bk xs g1 2) T) (tile (bk xs g1 4) T) (tile (bk xs g1 8) T) (tile (bk xs g1 16) T) (tile (U xs g1) T) r d = tile (Df xs g1) T r d := by
  simp only [dif, tile, Df, wsel, bk, win]
  split_ifs <;> rfl

theorem p17 (l : IVec S512x1024 32) (hl : l = iota Kind.tc S512x1024 32 [1] iota_S512x1024_d1_w32) (w : BitVec 32) (hw : w = 768#32) : k0_pay17 (F := Ideal) (lift2 (tile (U xs g1) T)) (lift2 (tile cnt T)) (lift2 (tile (bk xs g1 2) T)) (lift2 (tile (bk xs g1 4) T)) (lift2 (tile (bk xs g1 8) T)) (lift2 (tile (bk xs g1 16) T)) l w = lift2 (tile (Df xs g1) T) :=
  (pay17_lift T _ _ _ _ _ l hl w hw).trans (lift2_congr _ _ fun r _ d => dif_eq xs g1 T r d)

theorem p18 (l : IVec S512x1024 32) (hl : l = iota Kind.tc S512x1024 32 [1] iota_S512x1024_d1_w32) (w : BitVec 32) (hw : w = 768#32) : k0_pay18 (F := Ideal) (lift2 (tile (U xs g1) T)) (lift2 (tile cnt T)) (lift2 (tile (bk xs g1 2) T)) (lift2 (tile (bk xs g1 4) T)) (lift2 (tile (bk xs g1 8) T)) (lift2 (tile (bk xs g1 16) T)) l w (liftG W 0) (liftG W 1) (liftG W 2) (liftG W 3) = lift2 (tile (Mx xs g1 W) T) :=
  (pay18_lift T _ _ _ _ _ W l hl w hw).trans (lift2_congr _ _ fun r _ d => congrArg (fun v => mix W v d) (funext (dif_eq xs g1 T r)))

theorem p20 (l : IVec S512x1024 32) (hl : l = iota Kind.tc S512x1024 32 [1] iota_S512x1024_d1_w32) (w : BitVec 32) (hw : w = 768#32) : k0_pay20 (F := Ideal) (lift2 (tile (U xs g1) T)) (lift2 (tile cnt T)) (lift2 fun _ => sc) (lift2 (tile (bk xs g1 2) T)) (lift2 (tile (bk xs g1 4) T)) (lift2 (tile (bk xs g1 8) T)) (lift2 (tile (bk xs g1 16) T)) l w (liftG W 0) (liftG W 1) (liftG W 2) (liftG W 3) = lift2 (tile (Z xs g1 sc W) T) :=
  (pay20_lift T _ _ _ _ _ sc W l hl w hw).trans (lift2_congr _ _ fun r _ d => congrArg (fun v => mix W v d * sc d) (funext (dif_eq xs g1 T r)))

theorem p26 : k0_pay26 (F := Ideal) (lift2 fun _ => sc) (lift2 (tile ct T)) (lift2 (tile (Z xs g1 sc W) T)) (lift2 fun _ => g2)
    = lift2 (tile (DO xs ct g1 g2 sc W) T) .bf16 := pay26_lift _ _ _ _

theorem p34 (f : ℕ → Fin 1024 → ℝ) : k0_pay34 (F := Ideal) (lift2 (tile f T) .bf16) (lift2 (dotT (tile f T) W 0)) (lift2 (dotT (tile f T) W 1)) (liftG W 2) (liftG W 3)
    = lift2 (tile (fun t => mixT W (f t)) T) := pay34_lift _ W

theorem p34' : k0_pay34 (F := Ideal) (lift2 (tile (DO xs ct g1 g2 sc W) T) .bf16) (lift2 (dotT (tile (DO xs ct g1 g2 sc W) T) W 0)) (lift2 (dotT (tile (DO xs ct g1 g2 sc W) T) W 1)) (liftG W 2) (liftG W 3)
    = lift2 (tile (DD xs ct g1 g2 sc W) T) := pay34_lift _ W

theorem p35 : k0_pay35 (F := Ideal) (lift2 (tile cnt T)) (lift2 (tile (DO xs ct g1 g2 sc W) T) .bf16) (lift2 (dotT (tile (DO xs ct g1 g2 sc W) T) W 0)) (lift2 (dotT (tile (DO xs ct g1 g2 sc W) T) W 1)) (liftG W 2) (liftG W 3) = lift2 (tile (Q xs ct g1 g2 sc W) T) := pay35_lift T _ W

theorem qs_eq : qs T (tile (DO xs ct g1 g2 sc W) T) W (nextQ (Q xs ct g1 g2 sc W) T) = exq (tile (Q xs ct g1 g2 sc W) T) (nextQ (Q xs ct g1 g2 sc W) T) := rfl

section

variable (hct : ∀ t d, 2048 ≤ t → ct t d = 0) (hT : T < 4)

include hct in
theorem Q_out (t : ℕ) (d : Fin 1024) (ht : 2048 ≤ t) : Q xs ct g1 g2 sc W t d = 0 := Q_zero _ _ _ _ _ _ _ (fun d => hct t d ht) d

include hct hT in
theorem p37 : k0_pay37 (F := Ideal) (lift2 (tile cnt T)) (lift2 (tile (DO xs ct g1 g2 sc W) T) .bf16) (lift2 (dotT (tile (DO xs ct g1 g2 sc W) T) W 0)) (lift2 (dotT (tile (DO xs ct g1 g2 sc W) T) W 1)) (liftG W 2) (liftG W 3) (lift2 (nextQ (Q xs ct g1 g2 sc W) T)) = lift2 (tile (ah xs ct g1 g2 sc W 2) T) :=
  (pay37_lift T _ W _).trans (lift2_congr _ _ fun r hr d => exq_ahead T _ (Q_out xs ct g1 g2 sc W hct) 2 r (by norm_num) hr hT d)

include hct hT in
theorem p39 : k0_pay39 (F := Ideal) (lift2 (tile cnt T)) (lift2 (tile (DO xs ct g1 g2 sc W) T) .bf16) (lift2 (dotT (tile (DO xs ct g1 g2 sc W) T) W 0)) (lift2 (dotT (tile (DO xs ct g1 g2 sc W) T) W 1)) (liftG W 2) (liftG W 3) (lift2 (nextQ (Q xs ct g1 g2 sc W) T)) = lift2 (tile (ah xs ct g1 g2 sc W 4) T) :=
  (pay39_lift T _ W _).trans (lift2_congr _ _ fun r hr d => exq_ahead T _ (Q_out xs ct g1 g2 sc W hct) 4 r (by norm_num) hr hT d)

include hct hT in
theorem p41 : k0_pay41 (F := Ideal) (lift2 (tile cnt T)) (lift2 (tile (DO xs ct g1 g2 sc W) T) .bf16) (lift2 (dotT (tile (DO xs ct g1 g2 sc W) T) W 0)) (lift2 (dotT (tile (DO xs ct g1 g2 sc W) T) W 1)) (liftG W 2) (liftG W 3) (lift2 (nextQ (Q xs ct g1 g2 sc W) T)) = lift2 (tile (ah xs ct g1 g2 sc W 8) T) :=
  (pay41_lift T _ W _).trans (lift2_congr _ _ fun r hr d => exq_ahead T _ (Q_out xs ct g1 g2 sc W hct) 8 r (by norm_num) hr hT d)

include hct hT in
theorem du_eq (r : ℕ) (hr : r < 512) (d : Fin 1024) :
    duT T (tile (DO xs ct g1 g2 sc W) T) W (nextQ (Q xs ct g1 g2 sc W) T) r d = tile (DU xs ct g1 g2 sc W) T r d := by
  have e (n : ℕ) (hn : n ≤ 16) := exq_ahead T _ (Q_out xs ct g1 g2 sc W hct) n r hn hr hT d
  show wsel _ _ _ _ r d - _ = _
  simp only [wsel, qs_eq, e 2 (by norm_num), e 4 (by norm_num), e 8 (by norm_num), e 16 (by norm_num)]
  show _ = ahead (win d) (fun s => Q xs ct g1 g2 sc W s d) (512 * T + r) - DD xs ct g1 g2 sc W (512 * T + r) d
  refine congrArg₂ (· - ·) ?_ rfl
  unfold win
  split_ifs <;> rfl

include hct hT in
theorem p43 : k0_pay43 (F := Ideal) (lift2 (tile (DD xs ct g1 g2 sc W) T)) (lift2 (tile (ah xs ct g1 g2 sc W 2) T)) (lift2 (tile (ah xs ct g1 g2 sc W 4) T))
      (k0_pay40 (lift2 (tile cnt T)) (lift2 (tile (DO xs ct g1 g2 sc W) T) .bf16) (lift2 (dotT (tile (DO xs ct g1 g2 sc W) T) W 0)) (lift2 (dotT (tile (DO xs ct g1 g2 sc W) T) W 1)) (liftG W 2) (liftG W 3) (lift2 (nextQ (Q xs ct g1 g2 sc W) T))) (lift2 (tile (ah xs ct g1 g2 sc W 8) T)) (k0_pay42 (lift2 (tile cnt T)) (lift2 (tile (DO xs ct g1 g2 sc W) T) .bf16) (lift2 (dotT (tile (DO xs ct g1 g2 sc W) T) W 0)) (lift2 (dotT (tile (DO xs ct g1 g2 sc W) T) W 1)) (liftG W 2) (liftG W 3) (lift2 (nextQ (Q xs ct g1 g2 sc W) T)))
      = lift2 (tile (DU xs ct g1 g2 sc W) T) := by
  rw [← p37 xs ct g1 g2 sc W T hct hT, ← p39 xs ct g1 g2 sc W T hct hT, ← p41 xs ct g1 g2 sc W T hct hT]
  rw [show (lift2 (tile cnt T) : FVec Ideal S512x1024 .f32) = lift2 fun r => cnt (512 * T + r) from rfl, pay37_lift, pay39_lift, pay41_lift]
  exact (pay43_lift T _ W _).trans (lift2_congr _ _ fun r hr d => du_eq xs ct g1 g2 sc W T hct hT r hr d)

include hct hT in
theorem p47 : k0_pay47 (F := Ideal) (lift2 (tile xs T)) (lift2 fun _ => g1) (lift2 (tile (DD xs ct g1 g2 sc W) T)) (lift2 (tile (ah xs ct g1 g2 sc W 2) T)) (lift2 (tile (ah xs ct g1 g2 sc W 4) T))
      (k0_pay40 (lift2 (tile cnt T)) (lift2 (tile (DO xs ct g1 g2 sc W) T) .bf16) (lift2 (dotT (tile (DO xs ct g1 g2 sc W) T) W 0)) (lift2 (dotT (tile (DO xs ct g1 g2 sc W) T) W 1)) (liftG W 2) (liftG W 3) (lift2 (nextQ (Q xs ct g1 g2 sc W) T))) (lift2 (tile (ah xs ct g1 g2 sc W 8) T)) (k0_pay42 (lift2 (tile cnt T)) (lift2 (tile (DO xs ct g1 g2 sc W) T) .bf16) (lift2 (dotT (tile (DO xs ct g1 g2 sc W) T) W 0)) (lift2 (dotT (tile (DO xs ct g1 g2 sc W) T) W 1)) (liftG W 2) (liftG W 3) (lift2 (nextQ (Q xs ct g1 g2 sc W) T)))
      = lift2 (tile (fun t => rmsb (xs t) g1 (DU xs ct g1 g2 sc W t)) T) :=
  pay47_lift _ _ _ (p43 xs ct g1 g2 sc W T hct hT)

include hct hT in
theorem p48 (acc : Fin 1024 → ℝ) : k0_pay48 (F := Ideal) (lift2 (tile xs T)) (lift2 (tile (DD xs ct g1 g2 sc W) T)) (lift2 (tile (ah xs ct g1 g2 sc W 2) T)) (lift2 (tile (ah xs ct g1 g2 sc W 4) T))
      (k0_pay40 (lift2 (tile cnt T)) (lift2 (tile (DO xs ct g1 g2 sc W) T) .bf16) (lift2 (dotT (tile (DO xs ct g1 g2 sc W) T) W 0)) (lift2 (dotT (tile (DO xs ct g1 g2 sc W) T) W 1)) (liftG W 2) (liftG W 3) (lift2 (nextQ (Q xs ct g1 g2 sc W) T))) (lift2 (tile (ah xs ct g1 g2 sc W 8) T)) (k0_pay42 (lift2 (tile cnt T)) (lift2 (tile (DO xs ct g1 g2 sc W) T) .bf16) (lift2 (dotT (tile (DO xs ct g1 g2 sc W) T) W 0)) (lift2 (dotT (tile (DO xs ct g1 g2 sc W) T) W 1)) (liftG W 2) (liftG W 3) (lift2 (nextQ (Q xs ct g1 g2 sc W) T))) (lift2 fun _ => acc)
      = lift2 fun _ e => acc e + ∑ r : Fin 512, tile (fun t e => DU xs ct g1 g2 sc W t e * (xs t e * inv (xs t))) T r e :=
  pay48_lift _ _ (p43 xs ct g1 g2 sc W T hct hT) acc

theorem p1 : k0_pay1 (F := Ideal) (lift2 (tile ct T)) (lift2 (tile (fun t => rmsb (xs t) g1 (DU xs ct g1 g2 sc W t)) T)) = lift3 (tile (DX xs ct g1 g2 sc W) T) := pay1_lift _ _

theorem p24 (acc : Fin 1024 → ℝ) : k0_pay24 (F := Ideal) (lift2 (tile ct T)) (lift2 (tile (Z xs g1 sc W) T)) (lift2 fun _ => acc)
    = lift2 fun _ e => acc e + ∑ r : Fin 512, tile (fun t e => ct t e * (Z xs g1 sc W t e * inv (Z xs g1 sc W t))) T r e := pay24_lift _ _ acc

theorem p25 (acc : Fin 1024 → ℝ) : k0_pay25 (F := Ideal) (lift2 (tile (Mx xs g1 W) T)) (lift2 (tile ct T)) (lift2 (tile (Z xs g1 sc W) T)) (lift2 fun _ => g2) (lift2 fun _ => acc)
    = lift2 fun _ e => acc e + ∑ r : Fin 512, tile (fun t e => DM xs ct g1 g2 sc W t e * Mx xs g1 W t e) T r e := pay25_lift _ _ _ acc _

end

end Cert.KernelIdeal.Pool

end
-- ==== Proof.PoolRun.lean ====
/- The pooling layer's gradient call: what the blocks leave, read as values. -/
module

public import proofs.«01_k».proof.Proof.Gen.KernelIdeal.Value
public import proofs.«01_k».proof.Proof.PoolPoint
public import Idealize.ShloMosaic.Lib.Pointwise
public import Idealize.ShloMosaic.Lib.Pipeline.ValueKit
public import Idealize.ShloMosaic.Lib.Pipeline.ReadBack

@[expose] public section

noncomputable section

open Idealize.ShloMosaic Idealize.ShloMosaic.TcCoe Idealize.SL.Sem
open Idealize.ShloMosaic.Pipeline (Dat)

namespace Cert.KernelIdeal.Pool

open Cert.KernelIdeal Cert.KernelIdeal.Gen Cert.KernelIdeal.Value Cert.Pool

variable (m : (ℓ : Loc nD τ sig) → Buf (Elt Ideal) ℓ) (c : Dev nD)

/-- The arguments as arrays of extended reals. -/
abbrev aX : S4x2048x1024.Idx → EReal := m ((c : Thread nD τ).loc main_arg0)
abbrev aC : S4x2048x1024.Idx → EReal := m ((c : Thread nD τ).loc main_arg1)
abbrev aG1 : S1x1024.Idx → EReal := m ((c : Thread nD τ).loc main_arg2)
abbrev aG2 : S1x1024.Idx → EReal := m ((c : Thread nD τ).loc main_arg3)
abbrev aW : S4x256x256.Idx → EReal := m ((c : Thread nD τ).loc main_arg4)
abbrev aS : S1x1024.Idx → EReal := m ((c : Thread nD τ).loc main_arg5)

/-- Every argument is a number. -/
structure Nums : Prop where
  x : Num (aX m c)
  ct : Num (aC m c)
  g1 : Num (aG1 m c)
  g2 : Num (aG2 m c)
  w : Num (aW m c)
  sc : Num (aS m c)

theorem coords_eq : ∀ t : Fin grid0.N, (grid0.coords t 0).val = t.val / 4 ∧ (grid0.coords t 1).val = t.val % 4 := by decide +kernel

theorem idx0 (t : Fin cfg0.N) : win0_0.index t = ![t.val / 4, 3 - t.val % 4, 0] :=
  (by decide +kernel : ∀ t : Fin grid0.N, win0_0.index t = ![t.val / 4, 3 - t.val % 4, 0]) t
theorem idx1 (t : Fin cfg0.N) : win0_1.index t = ![t.val / 4, 32 * (3 - t.val % 4) - 1, 0] :=
  (by decide +kernel : ∀ t : Fin grid0.N, win0_1.index t = ![t.val / 4, 32 * (3 - t.val % 4) - 1, 0]) t
theorem idx2 (t : Fin cfg0.N) : win0_2.index t = ![t.val / 4, 3 - t.val % 4, 0] :=
  (by decide +kernel : ∀ t : Fin grid0.N, win0_2.index t = ![t.val / 4, 3 - t.val % 4, 0]) t
theorem idx3 (t : Fin cfg0.N) : win0_3.index t = ![0, 0] :=
  (by decide +kernel : ∀ t : Fin grid0.N, win0_3.index t = ![0, 0]) t
theorem idx4 (t : Fin cfg0.N) : win0_4.index t = ![0, 0] :=
  (by decide +kernel : ∀ t : Fin grid0.N, win0_4.index t = ![0, 0]) t
theorem idx5 (t : Fin cfg0.N) : win0_5.index t = ![0, 0, 0] :=
  (by decide +kernel : ∀ t : Fin grid0.N, win0_5.index t = ![0, 0, 0]) t
theorem idx6 (t : Fin cfg0.N) : win0_6.index t = ![0, 0] :=
  (by decide +kernel : ∀ t : Fin grid0.N, win0_6.index t = ![0, 0]) t

variable {m c} (h : Nums m c) (t : Fin cfg0.N)

include h

/-- The sequence of a point's batch. -/
theorem blk0 : iblk m c 0 t = lift3 (tile (arr (aX m c) (t.val / 4)) (3 - t.val % 4)) := by
  have hN : t.val < 16 := lt_of_lt_of_eq t.isLt N_0
  funext i; idx_vars i
  refine Eq.trans ?_ (arr_eq (aX m c) h.x ⟨t.val / 4, by omega⟩ ⟨512 * (3 - t.val % 4) + i1.val, by omega⟩ i2)
  show V m c main_arg0 ((win0_0.blk t).view.emb (ix3 i0 i1 i2)) = _
  refine congrArg _ (funext fun a => Fin.ext ?_)
  blk_simp [idx0]
  fin_cases a <;> simp <;> omega

theorem blk1 : iblk m c 1 t = lift3 (halo (arr (aX m c) (t.val / 4)) (3 - t.val % 4)) := by
  have hN : t.val < 16 := lt_of_lt_of_eq t.isLt N_0
  funext i; idx_vars i
  refine Eq.trans ?_ (arr_eq (aX m c) h.x ⟨t.val / 4, by omega⟩ ⟨16 * (32 * (3 - t.val % 4) - 1) + i1.val, by omega⟩ i2)
  show V m c main_arg0 ((win0_1.blk t).view.emb (ix3 i0 i1 i2)) = _
  refine congrArg _ (funext fun a => Fin.ext ?_)
  blk_simp [idx1]
  fin_cases a <;> simp <;> omega

theorem blk2 : iblk m c 2 t = lift3 (tile (arr (aC m c) (t.val / 4)) (3 - t.val % 4)) := by
  have hN : t.val < 16 := lt_of_lt_of_eq t.isLt N_0
  funext i; idx_vars i
  refine Eq.trans ?_ (arr_eq (aC m c) h.ct ⟨t.val / 4, by omega⟩ ⟨512 * (3 - t.val % 4) + i1.val, by omega⟩ i2)
  show V m c main_arg1 ((win0_2.blk t).view.emb (ix3 i0 i1 i2)) = _
  refine congrArg _ (funext fun a => Fin.ext ?_)
  blk_simp [idx2]
  fin_cases a <;> simp <;> omega

theorem blk3 : iblk m c 3 t = lift2 fun _ => vec (aG1 m c) := by
  funext i; idx_vars i
  refine Eq.trans ?_ (h.g1 (ix2 0 i1))
  show V m c main_arg2 ((win0_3.blk t).view.emb (ix2 i0 i1)) = _
  refine congrArg _ (funext fun a => Fin.ext ?_)
  blk_simp [idx3]
  fin_cases a <;> simp <;> omega

theorem blk4 : iblk m c 4 t = lift2 fun _ => vec (aG2 m c) := by
  funext i; idx_vars i
  refine Eq.trans ?_ (h.g2 (ix2 0 i1))
  show V m c main_arg3 ((win0_4.blk t).view.emb (ix2 i0 i1)) = _
  refine congrArg _ (funext fun a => Fin.ext ?_)
  blk_simp [idx4]
  fin_cases a <;> simp <;> omega

theorem blk5 : iblk m c 5 t = liftW (mat (aW m c)) .bf16 := by
  funext i; idx_vars i
  refine Eq.trans ?_ (h.w (ix3 i0 i1 i2))
  show V m c main_arg4 ((win0_5.blk t).view.emb (ix3 i0 i1 i2)) = _
  refine congrArg _ (funext fun a => Fin.ext ?_)
  blk_simp [idx5]
  fin_cases a <;> simp

theorem blk6 : iblk m c 6 t = lift2 fun _ => vec (aS m c) := by
  funext i; idx_vars i
  refine Eq.trans ?_ (h.sc (ix2 0 i1))
  show V m c main_arg5 ((win0_6.blk t).view.emb (ix2 i0 i1)) = _
  refine congrArg _ (funext fun a => Fin.ext ?_)
  blk_simp [idx6]
  fin_cases a <;> simp <;> omega

/-- The groups' matrices, as a point loads them. -/
theorem ld0 : View.ld (Val := Elt Ideal) (S := S4x256x256) (e' := .bf16) (iblk m c 5 t) (Rect.unit ![0, 0, 0] ![1, 256, 256] inb_S4x256x256_S1x256x256_0_0_0) = liftG (mat (aW m c)) 0 := by
  rw [blk5 h t]; funext i; idx_vars i; pointwise [liftW, liftG]
theorem ld1 : View.ld (Val := Elt Ideal) (S := S4x256x256) (e' := .bf16) (iblk m c 5 t) (Rect.unit ![1, 0, 0] ![1, 256, 256] inb_S4x256x256_S1x256x256_1_0_0) = liftG (mat (aW m c)) 1 := by
  rw [blk5 h t]; funext i; idx_vars i; pointwise [liftW, liftG]
theorem ld2 : View.ld (Val := Elt Ideal) (S := S4x256x256) (e' := .bf16) (iblk m c 5 t) (Rect.unit ![2, 0, 0] ![1, 256, 256] inb_S4x256x256_S1x256x256_2_0_0) = liftG (mat (aW m c)) 2 := by
  rw [blk5 h t]; funext i; idx_vars i; pointwise [liftW, liftG]
theorem ld3 : View.ld (Val := Elt Ideal) (S := S4x256x256) (e' := .bf16) (iblk m c 5 t) (Rect.unit ![3, 0, 0] ![1, 256, 256] inb_S4x256x256_S1x256x256_3_0_0) = liftG (mat (aW m c)) 3 := by
  rw [blk5 h t]; funext i; idx_vars i; pointwise [liftW, liftG]

/-- A point leaves its tile's first quotients for the tile before it. -/
theorem scr_eq : (outsAt0 m c t.val t.isLt).2.2.2 = lift2 (tile (Q (arr (aX m c) (t.val / 4)) (arr (aC m c) (t.val / 4)) (vec (aG1 m c)) (vec (aG2 m c)) (vec (aS m c)) (mat (aW m c))) (3 - t.val % 4)) := by
  have hi := (coords_eq t).2
  by_cases h1 : t.val % 4 = 0
  · by_cases h0 : t.val % 16 = 0
    · rw [outsAt0_A m c t h0 h1]; frame_out
      simp only [read_unread_whole, blk0 h t, blk1 h t, blk2 h t, blk3 h t, blk4 h t, ld0 h t, ld1 h t, ld2 h t, ld3 h t, blk6 h t]
      simp only [p6, p9 _ (grid0.coords t) (congrArg (3 - ·) hi.symm), p11 _ _ _ (grid0.coords t) (congrArg (3 - ·) hi.symm), p13 _ _ _ (grid0.coords t) (congrArg (3 - ·) hi.symm), p15 _ _ _ (grid0.coords t) (congrArg (3 - ·) hi.symm),
    p16 _ _ _ (grid0.coords t) (congrArg (3 - ·) hi.symm), pay19_lift, p20, p26, pay28_lift, pay30_lift, p34', pay5_lift, p35, pay44_lift]
    · rw [outsAt0_C m c t h0 h1]; frame_out
      simp only [read_unread_whole, blk0 h t, blk1 h t, blk2 h t, blk3 h t, blk4 h t, ld0 h t, ld1 h t, ld2 h t, ld3 h t, blk6 h t]
      simp only [p6, p9 _ (grid0.coords t) (congrArg (3 - ·) hi.symm), p11 _ _ _ (grid0.coords t) (congrArg (3 - ·) hi.symm), p13 _ _ _ (grid0.coords t) (congrArg (3 - ·) hi.symm), p15 _ _ _ (grid0.coords t) (congrArg (3 - ·) hi.symm),
    p16 _ _ _ (grid0.coords t) (congrArg (3 - ·) hi.symm), pay19_lift, p20, p26, pay28_lift, pay30_lift, p34', pay5_lift, p35, pay44_lift]
  · rw [outsAt0_B m c t (by omega) h1]; frame_out
    simp only [read_unread_whole, blk0 h t, blk1 h t, blk2 h t, blk3 h t, blk4 h t, ld0 h t, ld1 h t, ld2 h t, ld3 h t, blk6 h t]
    simp only [p6, p9 _ (grid0.coords t) (congrArg (3 - ·) hi.symm), p11 _ _ _ (grid0.coords t) (congrArg (3 - ·) hi.symm), p13 _ _ _ (grid0.coords t) (congrArg (3 - ·) hi.symm), p15 _ _ _ (grid0.coords t) (congrArg (3 - ·) hi.symm),
    p16 _ _ _ (grid0.coords t) (congrArg (3 - ·) hi.symm), pay19_lift, p20, p26, pay28_lift, pay30_lift, p34', pay5_lift, p35, pay44_lift]

omit h in
theorem p4 (q : ℕ → Fin 1024 → ℝ) (T : ℕ) (hT : T = 3) : k0_pay4 (F := Ideal) = lift2 (nextQ q T) := by
  funext i; idx_vars i
  pointwise [k0_pay4, lift2, nextQ]
  simp [hT, ofBits_0]

/-- What a point inside a batch finds: the next tile's first quotients. -/
theorem scr_prev (h1 : ¬t.val % 4 = 0) (hb : t.val - 1 < cfg0.N) : (outsAt0 m c (t.val - 1) hb).2.2.2 = lift2 (nextQ (Q (arr (aX m c) (t.val / 4)) (arr (aC m c) (t.val / 4)) (vec (aG1 m c)) (vec (aG2 m c)) (vec (aS m c)) (mat (aW m c))) (3 - t.val % 4)) := by
  refine (scr_eq h ⟨t.val - 1, hb⟩).trans ?_
  have e : (t.val - 1) / 4 = t.val / 4 := by omega
  simp only [e]
  refine lift2_congr _ _ fun r _ d => Eq.trans ?_ (if_pos (show 3 - t.val % 4 < 3 by omega)).symm
  exact congrArg (fun n => Q (arr (aX m c) (t.val / 4)) (arr (aC m c) (t.val / 4)) (vec (aG1 m c)) (vec (aG2 m c)) (vec (aS m c)) (mat (aW m c)) n d) (show 512 * (3 - (t.val - 1) % 4) + r = 512 * (3 - t.val % 4 + 1) + r by omega)

omit h in
theorem hct (b : ℕ) : ∀ t d, 2048 ≤ t → arr (aC m c) b t d = 0 := fun t d ht => arr_zero _ b t ht d

theorem out7_eq : (outsAt0 m c t.val t.isLt).1 = lift3 (tile (DX (arr (aX m c) (t.val / 4)) (arr (aC m c) (t.val / 4)) (vec (aG1 m c)) (vec (aG2 m c)) (vec (aS m c)) (mat (aW m c))) (3 - t.val % 4)) := by
  have hi := (coords_eq t).2
  have hT : 3 - t.val % 4 < 4 := by omega
  by_cases h1 : t.val % 4 = 0
  · by_cases h0 : t.val % 16 = 0
    · rw [outsAt0_A m c t h0 h1]
      frame_open; simp (disch := decide) only [↓ View.readCov_skip, ↓ View.readCov_cons_toLoadRect, ↓ View.readCov_fill]; frame_out
      simp only [read_unread_whole, blk0 h t, blk1 h t, blk2 h t, blk3 h t, blk4 h t, ld0 h t, ld1 h t, ld2 h t, ld3 h t, blk6 h t, p4 (Q (arr (aX m c) (t.val / 4)) (arr (aC m c) (t.val / 4)) (vec (aG1 m c)) (vec (aG2 m c)) (vec (aS m c)) (mat (aW m c))) (3 - t.val % 4) (by omega)]
      simp only [p6, p9 _ (grid0.coords t) (congrArg (3 - ·) hi.symm), p11 _ _ _ (grid0.coords t) (congrArg (3 - ·) hi.symm), p13 _ _ _ (grid0.coords t) (congrArg (3 - ·) hi.symm), p15 _ _ _ (grid0.coords t) (congrArg (3 - ·) hi.symm),
    p16 _ _ _ (grid0.coords t) (congrArg (3 - ·) hi.symm), pay19_lift, p20, p26, pay28_lift, pay30_lift, p34', pay5_lift, p37 _ _ _ _ _ _ _ (hct _) hT, p39 _ _ _ _ _ _ _ (hct _) hT, p41 _ _ _ _ _ _ _ (hct _) hT, p47 _ _ _ _ _ _ _ (hct _) hT, p1]
    · rw [outsAt0_C m c t h0 h1]
      frame_open; simp (disch := decide) only [↓ View.readCov_skip, ↓ View.readCov_cons_toLoadRect, ↓ View.readCov_fill]; frame_out
      simp only [read_unread_whole, blk0 h t, blk1 h t, blk2 h t, blk3 h t, blk4 h t, ld0 h t, ld1 h t, ld2 h t, ld3 h t, blk6 h t, p4 (Q (arr (aX m c) (t.val / 4)) (arr (aC m c) (t.val / 4)) (vec (aG1 m c)) (vec (aG2 m c)) (vec (aS m c)) (mat (aW m c))) (3 - t.val % 4) (by omega)]
      simp only [p6, p9 _ (grid0.coords t) (congrArg (3 - ·) hi.symm), p11 _ _ _ (grid0.coords t) (congrArg (3 - ·) hi.symm), p13 _ _ _ (grid0.coords t) (congrArg (3 - ·) hi.symm), p15 _ _ _ (grid0.coords t) (congrArg (3 - ·) hi.symm),
    p16 _ _ _ (grid0.coords t) (congrArg (3 - ·) hi.symm), pay19_lift, p20, p26, pay28_lift, pay30_lift, p34', pay5_lift, p37 _ _ _ _ _ _ _ (hct _) hT, p39 _ _ _ _ _ _ _ (hct _) hT, p41 _ _ _ _ _ _ _ (hct _) hT, p47 _ _ _ _ _ _ _ (hct _) hT, p1]
  · rw [outsAt0_B m c t (by omega) h1]; frame_out
    simp only [read_unread_whole, blk0 h t, blk1 h t, blk2 h t, blk3 h t, blk4 h t, ld0 h t, ld1 h t, ld2 h t, ld3 h t, blk6 h t, scr_prev h t h1]
    simp only [p6, p9 _ (grid0.coords t) (congrArg (3 - ·) hi.symm), p11 _ _ _ (grid0.coords t) (congrArg (3 - ·) hi.symm), p13 _ _ _ (grid0.coords t) (congrArg (3 - ·) hi.symm), p15 _ _ _ (grid0.coords t) (congrArg (3 - ·) hi.symm),
    p16 _ _ _ (grid0.coords t) (congrArg (3 - ·) hi.symm), pay19_lift, p20, p26, pay28_lift, pay30_lift, p34', pay5_lift, p37 _ _ _ _ _ _ _ (hct _) hT, p39 _ _ _ _ _ _ _ (hct _) hT, p41 _ _ _ _ _ _ _ (hct _) hT, p47 _ _ _ _ _ _ _ (hct _) hT, p1]

end Cert.KernelIdeal.Pool

end
-- ==== Proof.PoolSum.lean ====
/- The pooling layer's gradient call: the sums it keeps over the grid. -/
module

public import proofs.«01_k».proof.Proof.PoolRun

@[expose] public section

noncomputable section

open Idealize.ShloMosaic Idealize.ShloMosaic.TcCoe Idealize.SL.Sem
open Idealize.ShloMosaic.Pipeline (Dat)

namespace Cert.KernelIdeal.Pool

open Cert.KernelIdeal Cert.KernelIdeal.Gen Cert.KernelIdeal.Value Cert.Pool

/-! ## Pieces -/

/-- The four groups' blocks, whatever lies under them, are the whole array. -/
theorem canon_groups (w : Fin 4 → Fin 256 → Fin 256 → ℝ) (L : List (View.Piece (Elt Ideal) S4x256x256 .f32)) :
    View.canon (Val := Elt Ideal) (e := .f32) ([⟨Rect.unit ![3, 0, 0] ![1, 256, 256] inb_S4x256x256_S1x256x256_3_0_0, liftS (w 3)⟩,
      ⟨Rect.unit ![2, 0, 0] ![1, 256, 256] inb_S4x256x256_S1x256x256_2_0_0, liftS (w 2)⟩,
      ⟨Rect.unit ![1, 0, 0] ![1, 256, 256] inb_S4x256x256_S1x256x256_1_0_0, liftS (w 1)⟩,
      ⟨Rect.unit ![0, 0, 0] ![1, 256, 256] inb_S4x256x256_S1x256x256_0_0_0, liftS (w 0)⟩] ++ L) = liftW w := by
  funext i
  refine View.canon_append_of_piecesOf (Val := Elt Ideal) (e := .f32) (liftW w) L [_, _, _, _] ⟨?_, ?_, ?_, ?_, trivial⟩ i ?_
  · intro x
    idx_vars x
    exact congrArg (liftW w) (show ix3 3 x1 x2 = (Rect.unit (s := S4x256x256) ![3, 0, 0] ![1, 256, 256] inb_S4x256x256_S1x256x256_3_0_0).emb (ix3 x0 x1 x2) from
      funext fun a => Fin.ext (by rw [ValueKit.rect_emb_unit_val (s := S4x256x256)]; fin_cases a <;> simp <;> omega))
  · intro x
    idx_vars x
    exact congrArg (liftW w) (show ix3 2 x1 x2 = (Rect.unit (s := S4x256x256) ![2, 0, 0] ![1, 256, 256] inb_S4x256x256_S1x256x256_2_0_0).emb (ix3 x0 x1 x2) from
      funext fun a => Fin.ext (by rw [ValueKit.rect_emb_unit_val (s := S4x256x256)]; fin_cases a <;> simp <;> omega))
  · intro x
    idx_vars x
    exact congrArg (liftW w) (show ix3 1 x1 x2 = (Rect.unit (s := S4x256x256) ![1, 0, 0] ![1, 256, 256] inb_S4x256x256_S1x256x256_1_0_0).emb (ix3 x0 x1 x2) from
      funext fun a => Fin.ext (by rw [ValueKit.rect_emb_unit_val (s := S4x256x256)]; fin_cases a <;> simp <;> omega))
  · intro x
    idx_vars x
    exact congrArg (liftW w) (show ix3 0 x1 x2 = (Rect.unit (s := S4x256x256) ![0, 0, 0] ![1, 256, 256] inb_S4x256x256_S1x256x256_0_0_0).emb (ix3 x0 x1 x2) from
      funext fun a => Fin.ext (by rw [ValueKit.rect_emb_unit_val (s := S4x256x256)]; fin_cases a <;> simp <;> omega))
  · idx_vars i
    simp only [List.mem_cons, List.not_mem_nil, or_false, exists_eq_or_imp, exists_eq_left, Rect.mem_set_unit]
    have hi := i0.isLt
    fin_cases i0
    · right; right; right; intro a; fin_cases a <;> simp [ix3]
    · right; right; left; intro a; fin_cases a <;> simp [ix3]
    · right; left; intro a; fin_cases a <;> simp [ix3]
    · left; intro a; fin_cases a <;> simp [ix3]

/-- Three rows replaced. -/
def rows3 (b0 b1 b2 : Fin 1024 → ℝ) (a : ℕ → Fin 1024 → ℝ) (r : ℕ) : Fin 1024 → ℝ :=
  if r = 0 then b0 else if r = 1 then b1 else if r = 2 then b2 else a r

/-- Three rows written over an array, read in any way that sees the last write first. -/
theorem rows_written (R : List (View.Piece (Elt Ideal) S8x1024 .f32) → S8x1024.Idx → EReal)
    (he : ∀ (r : Rect S8x1024) (w : r.shape.Idx → EReal) L x, R (⟨r, w⟩ :: L) (r.emb x) = w x)
    (hn : ∀ (p : View.Piece (Elt Ideal) S8x1024 .f32) L y, y ∉ p.1.set → R (p :: L) y = R L y)
    (b0 b1 b2 : Fin 1024 → ℝ) (a : ℕ → Fin 1024 → ℝ) (L : List (View.Piece (Elt Ideal) S8x1024 .f32)) (hL : R L = lift2 a) :
    R (⟨Rect.unit ![0, 0] ![1, 1024] inb_S8x1024_S1x1024_0_0, lift2 fun _ => b0⟩ :: ⟨Rect.unit ![2, 0] ![1, 1024] inb_S8x1024_S1x1024_2_0, lift2 fun _ => b2⟩
      :: ⟨Rect.unit ![1, 0] ![1, 1024] inb_S8x1024_S1x1024_1_0, lift2 fun _ => b1⟩ :: L) = lift2 (rows3 b0 b1 b2 a) := by
  funext i
  idx_vars i
  have hm (k : ℕ) (hk : ∀ a, (![k, 0] : Fin 2 → ℕ) a + (![1, 1024] : Fin 2 → ℕ) a ≤ S8x1024.size a) (h : i0.val ≠ k) : ix2 i0 i1 ∉ (Rect.unit (s := S8x1024) ![k, 0] ![1, 1024] hk).set := by
    intro hs
    have := Rect.mem_set_unit.mp hs 0
    simp at this
    omega
  have hi (k : ℕ) (hk : ∀ a, (![k, 0] : Fin 2 → ℕ) a + (![1, 1024] : Fin 2 → ℕ) a ≤ S8x1024.size a) (h : i0.val = k) :
      ix2 i0 i1 = (Rect.unit (s := S8x1024) ![k, 0] ![1, 1024] hk).emb (ix2 0 i1) :=
    funext fun a => Fin.ext (by rw [ValueKit.rect_emb_unit_val (s := S8x1024)]; fin_cases a <;> simp <;> omega)
  have hh (r : Rect S8x1024) (w : r.shape.Idx → EReal) (L : List (View.Piece (Elt Ideal) S8x1024 .f32)) (x : r.shape.Idx) (y : S8x1024.Idx) (hy : y = r.emb x) :
      R (⟨r, w⟩ :: L) y = w x := by subst hy; exact he r w L x
  let x : (⟨2, ![1, 1024]⟩ : Shape).Idx := ix2 0 i1
  by_cases h0 : i0.val = 0
  · refine (hh (Rect.unit (s := S8x1024) ![0, 0] ![1, 1024] inb_S8x1024_S1x1024_0_0) (lift2 fun _ => b0) _ x _ (hi 0 inb_S8x1024_S1x1024_0_0 h0)).trans ?_
    simp [lift2, rows3, h0, x]
  refine (hn ⟨Rect.unit (s := S8x1024) ![0, 0] ![1, 1024] inb_S8x1024_S1x1024_0_0, lift2 fun _ => b0⟩ _ _ (hm 0 inb_S8x1024_S1x1024_0_0 h0)).trans ?_
  by_cases h2 : i0.val = 2
  · refine (hh (Rect.unit (s := S8x1024) ![2, 0] ![1, 1024] inb_S8x1024_S1x1024_2_0) (lift2 fun _ => b2) _ x _ (hi 2 inb_S8x1024_S1x1024_2_0 h2)).trans ?_
    simp [lift2, rows3, h2, x]
  refine (hn ⟨Rect.unit (s := S8x1024) ![2, 0] ![1, 1024] inb_S8x1024_S1x1024_2_0, lift2 fun _ => b2⟩ _ _ (hm 2 inb_S8x1024_S1x1024_2_0 h2)).trans ?_
  by_cases h1 : i0.val = 1
  · refine (hh (Rect.unit (s := S8x1024) ![1, 0] ![1, 1024] inb_S8x1024_S1x1024_1_0) (lift2 fun _ => b1) _ x _ (hi 1 inb_S8x1024_S1x1024_1_0 h1)).trans ?_
    simp [lift2, rows3, h1, x]
  refine (hn ⟨Rect.unit (s := S8x1024) ![1, 0] ![1, 1024] inb_S8x1024_S1x1024_1_0, lift2 fun _ => b1⟩ _ _ (hm 1 inb_S8x1024_S1x1024_1_0 h1)).trans ((congrFun hL _).trans ?_)
  simp [lift2, rows3, h0, h1, h2]

/-! ## Loads -/

theorem ldS0 (w : Fin 4 → Fin 256 → Fin 256 → ℝ) : View.ld (Val := Elt Ideal) (S := S4x256x256) (e' := .f32) (liftW w) (Rect.unit ![0, 0, 0] ![1, 256, 256] inb_S4x256x256_S1x256x256_0_0_0) = liftS (w 0) := by
  funext i; idx_vars i; pointwise [liftW, liftS]
theorem ldS1 (w : Fin 4 → Fin 256 → Fin 256 → ℝ) : View.ld (Val := Elt Ideal) (S := S4x256x256) (e' := .f32) (liftW w) (Rect.unit ![1, 0, 0] ![1, 256, 256] inb_S4x256x256_S1x256x256_1_0_0) = liftS (w 1) := by
  funext i; idx_vars i; pointwise [liftW, liftS]
theorem ldS2 (w : Fin 4 → Fin 256 → Fin 256 → ℝ) : View.ld (Val := Elt Ideal) (S := S4x256x256) (e' := .f32) (liftW w) (Rect.unit ![2, 0, 0] ![1, 256, 256] inb_S4x256x256_S1x256x256_2_0_0) = liftS (w 2) := by
  funext i; idx_vars i; pointwise [liftW, liftS]
theorem ldS3 (w : Fin 4 → Fin 256 → Fin 256 → ℝ) : View.ld (Val := Elt Ideal) (S := S4x256x256) (e' := .f32) (liftW w) (Rect.unit ![3, 0, 0] ![1, 256, 256] inb_S4x256x256_S1x256x256_3_0_0) = liftS (w 3) := by
  funext i; idx_vars i; pointwise [liftW, liftS]
theorem ldR0 (a : ℕ → Fin 1024 → ℝ) : View.ld (Val := Elt Ideal) (S := S8x1024) (e' := .f32) (lift2 a) (Rect.unit ![0, 0] ![1, 1024] inb_S8x1024_S1x1024_0_0) = lift2 fun _ => a 0 := by
  funext i; idx_vars i; pointwise [lift2]
theorem ldR1 (a : ℕ → Fin 1024 → ℝ) : View.ld (Val := Elt Ideal) (S := S8x1024) (e' := .f32) (lift2 a) (Rect.unit ![1, 0] ![1, 1024] inb_S8x1024_S1x1024_1_0) = lift2 fun _ => a 1 := by
  funext i; idx_vars i; pointwise [lift2]
theorem ldR2 (a : ℕ → Fin 1024 → ℝ) : View.ld (Val := Elt Ideal) (S := S8x1024) (e' := .f32) (lift2 a) (Rect.unit ![2, 0] ![1, 1024] inb_S8x1024_S1x1024_2_0) = lift2 fun _ => a 2 := by
  funext i; idx_vars i; pointwise [lift2]

theorem p2 : k0_pay2 (F := Ideal) = liftW fun _ _ _ => 0 := by
  funext i; idx_vars i; pointwise [k0_pay2, liftW]; simp [ofBits_0]

theorem p3 : k0_pay3 (F := Ideal) = lift2 fun _ _ => 0 := by
  funext i; idx_vars i; pointwise [k0_pay3, lift2]; simp [ofBits_0]

/-! ## One point's addends -/

variable (m : (ℓ : Loc nD τ sig) → Buf (Elt Ideal) ℓ) (c : Dev nD)

/-- What a point adds to the groups' matrices. -/
def t8 (n : ℕ) (k : Fin 4) : Fin 256 → Fin 256 → ℝ :=
  dpw (tile (Df (arr (aX m c) (n / 4)) (vec (aG1 m c))) (3 - n % 4)) (tile (DO (arr (aX m c) (n / 4)) (arr (aC m c) (n / 4)) (vec (aG1 m c)) (vec (aG2 m c)) (vec (aS m c)) (mat (aW m c))) (3 - n % 4)) k

/-- … to the first gain's gradient. -/
def r0 (n : ℕ) (e : Fin 1024) : ℝ := ∑ r : Fin 512, tile (fun t e => DU (arr (aX m c) (n / 4)) (arr (aC m c) (n / 4)) (vec (aG1 m c)) (vec (aG2 m c)) (vec (aS m c)) (mat (aW m c)) t e
  * (arr (aX m c) (n / 4) t e * inv (arr (aX m c) (n / 4) t))) (3 - n % 4) r e

/-- … to the second gain's. -/
def r1 (n : ℕ) (e : Fin 1024) : ℝ := ∑ r : Fin 512, tile (fun t e => arr (aC m c) (n / 4) t e
  * (Z (arr (aX m c) (n / 4)) (vec (aG1 m c)) (vec (aS m c)) (mat (aW m c)) t e * inv (Z (arr (aX m c) (n / 4)) (vec (aG1 m c)) (vec (aS m c)) (mat (aW m c)) t))) (3 - n % 4) r e

/-- … to the scale's. -/
def r2 (n : ℕ) (e : Fin 1024) : ℝ := ∑ r : Fin 512, tile (fun t e => DM (arr (aX m c) (n / 4)) (arr (aC m c) (n / 4)) (vec (aG1 m c)) (vec (aG2 m c)) (vec (aS m c)) (mat (aW m c)) t e
  * Mx (arr (aX m c) (n / 4)) (vec (aG1 m c)) (mat (aW m c)) t e) (3 - n % 4) r e

variable {m c} (h : Nums m c) (t : Fin cfg0.N)

include h

theorem out8_A (h0 : t.val % 16 = 0) : (outsAt0 m c t.val t.isLt).2.1 = liftW fun k p q => 0 + t8 m c t.val k p q := by
  have hi := (coords_eq t).2
  have hT : 3 - t.val % 4 < 4 := by omega
  rw [outsAt0_A m c t h0 (by omega)]
  frame_open; simp (disch := decide) only [↓ View.readCov_skip, ↓ View.readCov_cons_toLoadRect, ↓ View.readCov_fill]; frame_out
  simp only [read_unread_whole, blk0 h t, blk1 h t, blk2 h t, blk3 h t, blk4 h t, ld0 h t, ld1 h t, ld2 h t, ld3 h t, blk6 h t]
  simp only [p6, p9 _ (grid0.coords t) (congrArg (3 - ·) hi.symm), p11 _ _ _ (grid0.coords t) (congrArg (3 - ·) hi.symm), p13 _ _ _ (grid0.coords t) (congrArg (3 - ·) hi.symm), p15 _ _ _ (grid0.coords t) (congrArg (3 - ·) hi.symm),
    p16 _ _ _ (grid0.coords t) (congrArg (3 - ·) hi.symm), pay19_lift, p17, p18, p20, p26, pay28_lift, pay30_lift, p34', pay5_lift, p37 _ _ _ _ _ _ _ (hct _) hT, p39 _ _ _ _ _ _ _ (hct _) hT, p41 _ _ _ _ _ _ _ (hct _) hT, p2, ldS0, ldS1, ldS2, ldS3, pay27_lift, pay29_lift, pay32_lift, pay33_lift]
  exact canon_groups (fun k p q => 0 + t8 m c t.val k p q) [_]

theorem out8_BC (h0 : ¬t.val % 16 = 0) (a : Fin 4 → Fin 256 → Fin 256 → ℝ) (hb : t.val - 1 < cfg0.N) (hp : (outsAt0 m c (t.val - 1) hb).2.1 = liftW a) :
    (outsAt0 m c t.val t.isLt).2.1 = liftW fun k p q => a k p q + t8 m c t.val k p q := by
  have hi := (coords_eq t).2
  have hT : 3 - t.val % 4 < 4 := by omega
  by_cases h1 : t.val % 4 = 0
  · rw [outsAt0_C m c t h0 h1]
    frame_open; simp (disch := decide) only [↓ View.readCov_skip, ↓ View.readCov_cons_toLoadRect, ↓ View.readCov_fill]; frame_out
    simp only [read_unread_whole, blk0 h t, blk1 h t, blk2 h t, blk3 h t, blk4 h t, ld0 h t, ld1 h t, ld2 h t, ld3 h t, blk6 h t, hp]
    simp only [p6, p9 _ (grid0.coords t) (congrArg (3 - ·) hi.symm), p11 _ _ _ (grid0.coords t) (congrArg (3 - ·) hi.symm), p13 _ _ _ (grid0.coords t) (congrArg (3 - ·) hi.symm), p15 _ _ _ (grid0.coords t) (congrArg (3 - ·) hi.symm),
    p16 _ _ _ (grid0.coords t) (congrArg (3 - ·) hi.symm), pay19_lift, p17, p18, p20, p26, pay28_lift, pay30_lift, p34', pay5_lift, p37 _ _ _ _ _ _ _ (hct _) hT, p39 _ _ _ _ _ _ _ (hct _) hT, p41 _ _ _ _ _ _ _ (hct _) hT, ldS0, ldS1, ldS2, ldS3, pay27_lift, pay29_lift, pay32_lift, pay33_lift]
    exact canon_groups (fun k p q => a k p q + t8 m c t.val k p q) []
  · rw [outsAt0_B m c t h0 h1]
    frame_out
    simp only [read_unread_whole, blk0 h t, blk1 h t, blk2 h t, blk3 h t, blk4 h t, ld0 h t, ld1 h t, ld2 h t, ld3 h t, blk6 h t, hp]
    simp only [p6, p9 _ (grid0.coords t) (congrArg (3 - ·) hi.symm), p11 _ _ _ (grid0.coords t) (congrArg (3 - ·) hi.symm), p13 _ _ _ (grid0.coords t) (congrArg (3 - ·) hi.symm), p15 _ _ _ (grid0.coords t) (congrArg (3 - ·) hi.symm),
    p16 _ _ _ (grid0.coords t) (congrArg (3 - ·) hi.symm), pay19_lift, p17, p18, p20, p26, pay28_lift, pay30_lift, p34', pay5_lift, p37 _ _ _ _ _ _ _ (hct _) hT, p39 _ _ _ _ _ _ _ (hct _) hT, p41 _ _ _ _ _ _ _ (hct _) hT, ldS0, ldS1, ldS2, ldS3, pay27_lift, pay29_lift, pay32_lift, pay33_lift]
    exact canon_groups (fun k p q => a k p q + t8 m c t.val k p q) []

theorem out9_A (h0 : t.val % 16 = 0) : (outsAt0 m c t.val t.isLt).2.2.1
    = lift2 (rows3 (fun e => 0 + r0 m c t.val e) (fun e => 0 + r1 m c t.val e) (fun e => 0 + r2 m c t.val e) fun _ _ => 0) := by
  have hi := (coords_eq t).2
  have hT : 3 - t.val % 4 < 4 := by omega
  rw [outsAt0_A m c t h0 (by omega)]
  frame_open; simp (disch := decide) only [↓ View.readCov_skip, ↓ View.readCov_cons_toLoadRect, ↓ View.readCov_fill]; frame_out
  simp only [read_unread_whole, blk0 h t, blk1 h t, blk2 h t, blk3 h t, blk4 h t, ld0 h t, ld1 h t, ld2 h t, ld3 h t, blk6 h t, p4 (Q (arr (aX m c) (t.val / 4)) (arr (aC m c) (t.val / 4)) (vec (aG1 m c)) (vec (aG2 m c)) (vec (aS m c)) (mat (aW m c))) (3 - t.val % 4) (by omega)]
  simp only [p6, p9 _ (grid0.coords t) (congrArg (3 - ·) hi.symm), p11 _ _ _ (grid0.coords t) (congrArg (3 - ·) hi.symm), p13 _ _ _ (grid0.coords t) (congrArg (3 - ·) hi.symm), p15 _ _ _ (grid0.coords t) (congrArg (3 - ·) hi.symm),
    p16 _ _ _ (grid0.coords t) (congrArg (3 - ·) hi.symm), pay19_lift, p17, p18, p20, p26, pay28_lift, pay30_lift, p34', pay5_lift, p37 _ _ _ _ _ _ _ (hct _) hT, p39 _ _ _ _ _ _ _ (hct _) hT, p41 _ _ _ _ _ _ _ (hct _) hT, p3, ldR0, ldR1, ldR2, p24, p25, p48 _ _ _ _ _ _ _ (hct _) hT]
  exact rows_written (fun L => View.canon (Val := Elt Ideal) (e := .f32) L) (fun r w L x => View.canon_cons_emb r w L x) (fun p L y hy => View.canon_cons_of_not_mem p L hy) _ _ _ _ [_]
    (View.canon_cons_unit_lit (Val := Elt Ideal) (e := .f32) (S := S8x1024) inb_S8x1024_S8x1024_0_0 _ _ (by decide))

theorem out9_BC (h0 : ¬t.val % 16 = 0) (b0 b1 b2 : Fin 1024 → ℝ) (hb : t.val - 1 < cfg0.N)
    (hp : (outsAt0 m c (t.val - 1) hb).2.2.1 = lift2 (rows3 b0 b1 b2 fun _ _ => 0)) :
    (outsAt0 m c t.val t.isLt).2.2.1 = lift2 (rows3 (fun e => b0 e + r0 m c t.val e) (fun e => b1 e + r1 m c t.val e) (fun e => b2 e + r2 m c t.val e) (rows3 b0 b1 b2 fun _ _ => 0)) := by
  have hi := (coords_eq t).2
  have hT : 3 - t.val % 4 < 4 := by omega
  by_cases h1 : t.val % 4 = 0
  · rw [outsAt0_C m c t h0 h1]
    frame_open; simp (disch := decide) only [↓ View.readCov_skip, ↓ View.readCov_cons_toLoadRect, ↓ View.readCov_fill]; frame_out
    simp only [read_unread_whole, blk0 h t, blk1 h t, blk2 h t, blk3 h t, blk4 h t, ld0 h t, ld1 h t, ld2 h t, ld3 h t, blk6 h t, hp, p4 (Q (arr (aX m c) (t.val / 4)) (arr (aC m c) (t.val / 4)) (vec (aG1 m c)) (vec (aG2 m c)) (vec (aS m c)) (mat (aW m c))) (3 - t.val % 4) (by omega)]
    simp only [p6, p9 _ (grid0.coords t) (congrArg (3 - ·) hi.symm), p11 _ _ _ (grid0.coords t) (congrArg (3 - ·) hi.symm), p13 _ _ _ (grid0.coords t) (congrArg (3 - ·) hi.symm), p15 _ _ _ (grid0.coords t) (congrArg (3 - ·) hi.symm),
    p16 _ _ _ (grid0.coords t) (congrArg (3 - ·) hi.symm), pay19_lift, p17, p18, p20, p26, pay28_lift, pay30_lift, p34', pay5_lift, p37 _ _ _ _ _ _ _ (hct _) hT, p39 _ _ _ _ _ _ _ (hct _) hT, p41 _ _ _ _ _ _ _ (hct _) hT, ldR0, ldR1, ldR2, p24, p25, p48 _ _ _ _ _ _ _ (hct _) hT]
    exact rows_written (fun L => View.read (Elt Ideal) (ms0_9 t).view ((ms0_9 t).view.writes (Elt Ideal) _ L)) (fun r w L x => View.read_writes_cons_emb _ _ r w L x) (fun p L y hy => View.read_writes_cons_miss _ _ p L y hy) _ _ _ _ []
      ((hs0_9 t).read_unread _)
  · rw [outsAt0_B m c t h0 h1]
    frame_out
    simp only [read_unread_whole, blk0 h t, blk1 h t, blk2 h t, blk3 h t, blk4 h t, ld0 h t, ld1 h t, ld2 h t, ld3 h t, blk6 h t, hp, scr_prev h t h1]
    simp only [p6, p9 _ (grid0.coords t) (congrArg (3 - ·) hi.symm), p11 _ _ _ (grid0.coords t) (congrArg (3 - ·) hi.symm), p13 _ _ _ (grid0.coords t) (congrArg (3 - ·) hi.symm), p15 _ _ _ (grid0.coords t) (congrArg (3 - ·) hi.symm),
    p16 _ _ _ (grid0.coords t) (congrArg (3 - ·) hi.symm), pay19_lift, p17, p18, p20, p26, pay28_lift, pay30_lift, p34', pay5_lift, p37 _ _ _ _ _ _ _ (hct _) hT, p39 _ _ _ _ _ _ _ (hct _) hT, p41 _ _ _ _ _ _ _ (hct _) hT, ldR0, ldR1, ldR2, p24, p25, p48 _ _ _ _ _ _ _ (hct _) hT]
    exact rows_written (fun L => View.read (Elt Ideal) (ms0_9 t).view ((ms0_9 t).view.writes (Elt Ideal) _ L)) (fun r w L x => View.read_writes_cons_emb _ _ r w L x) (fun p L y hy => View.read_writes_cons_miss _ _ p L y hy) _ _ _ _ []
      ((hs0_9 t).read_unread _)

end Cert.KernelIdeal.Pool

end
-- ==== Proof.PoolOut.lean ====
/- The causal pooling block's gradients: the three arrays the kernel leaves, entry by entry, in real numbers. -/
module

public import proofs.«01_k».proof.Proof.PoolSum
public import proofs.«01_k».proof.Proof.Gen.KernelIdeal.Value

@[expose] public section

noncomputable section

open Idealize.ShloMosaic Idealize.ShloMosaic.TcCoe Idealize.SL.Sem
open scoped BigOperators

namespace Cert.KernelIdeal.Pool

open Cert.KernelIdeal Cert.KernelIdeal.Gen Cert.Pool

variable {m : (ℓ : Loc nD τ sig) → Buf (Elt Ideal) ℓ} {c : Dev nD} (h : Nums m c)

/-- The sixteen points visit every token of every batch once, tiles of a batch from the last to the first. -/
theorem sum_points (F : ℕ → ℕ → ℝ) :
    ∑ n ∈ Finset.range 16, ∑ r : Fin 512, F (n / 4) (512 * (3 - n % 4) + r) = ∑ b : Fin 4, ∑ t : Fin 2048, F b t := by
  rw [Fin.sum_univ_eq_sum_range (fun b => ∑ t : Fin 2048, F b t) 4, show 16 = 4 * 4 from rfl, Finset.sum_range_mul_split]
  refine Finset.sum_congr rfl fun b _ => ?_
  rw [Fin.sum_univ_eq_sum_range (fun t => F b t) 2048, show 2048 = 4 * 512 from rfl, Finset.sum_range_mul_split]
  rw [← Finset.sum_range_reflect (fun k => ∑ r ∈ Finset.range 512, F b (k * 512 + r))]
  refine Finset.sum_congr rfl fun k hk => ?_
  have hk := Finset.mem_range.mp hk
  rw [show (b * 4 + k) / 4 = b by omega, show (b * 4 + k) % 4 = k by omega, Fin.sum_univ_eq_sum_range (fun r => F b (512 * (3 - k) + r)) 512]
  simp only [Nat.mul_comm 512]

include h

/-- The groups' matrices after a point: the addends of the points so far. -/
theorem acc8 : ∀ (n : ℕ) (hn : n < cfg0.N), (outsAt0 m c n hn).2.1 = liftW fun k p q => ∑ j ∈ Finset.range (n + 1), t8 m c j k p q
  | 0, hn => (out8_A h ⟨0, hn⟩ rfl).trans (congrArg liftW (funext fun k => funext fun p => funext fun q => by simp))
  | n + 1, hn => by
    have hN : n + 1 < 16 := lt_of_lt_of_eq hn N_0
    refine (out8_BC h ⟨n + 1, hn⟩ (by dsimp only; omega) _ (by dsimp only; omega) (acc8 n (by omega))).trans (congrArg liftW ?_)
    funext k p q
    exact (Finset.sum_range_succ _ _).symm

/-- The sums over rows after a point, likewise. -/
theorem acc9 : ∀ (n : ℕ) (hn : n < cfg0.N), (outsAt0 m c n hn).2.2.1
    = lift2 (rows3 (fun e => ∑ j ∈ Finset.range (n + 1), r0 m c j e) (fun e => ∑ j ∈ Finset.range (n + 1), r1 m c j e) (fun e => ∑ j ∈ Finset.range (n + 1), r2 m c j e) fun _ _ => 0)
  | 0, hn => (out9_A h ⟨0, hn⟩ rfl).trans (congrArg lift2 (by simp))
  | n + 1, hn => by
    have hN : n + 1 < 16 := lt_of_lt_of_eq hn N_0
    refine (out9_BC h ⟨n + 1, hn⟩ (by dsimp only; omega) _ _ _ (by dsimp only; omega) (acc9 n (by omega))).trans (congrArg lift2 ?_)
    funext r e
    simp only [Finset.sum_range_succ _ (n + 1)]
    unfold rows3
    split_ifs <;> rfl

omit h in
theorem idx7 (t : Fin cfg0.N) : win0_7.index t = ![t.val / 4, 3 - t.val % 4, 0] :=
  (by decide +kernel : ∀ t : Fin grid0.N, win0_7.index t = ![t.val / 4, 3 - t.val % 4, 0]) t

omit h in
theorem idx8 (t : Fin cfg0.N) : win0_8.index t = ![0, 0, 0] :=
  (by decide +kernel : ∀ t : Fin grid0.N, win0_8.index t = ![0, 0, 0]) t

omit h in
theorem idx9 (t : Fin cfg0.N) : win0_9.index t = ![0, 0] :=
  (by decide +kernel : ∀ t : Fin grid0.N, win0_9.index t = ![0, 0]) t

variable (m c) in
/-- The gradient of the layer's input. -/
def G7 (i : S4x2048x1024.Idx) : EReal :=
  ((DX (arr (aX m c) (i 0).val) (arr (aC m c) (i 0).val) (vec (aG1 m c)) (vec (aG2 m c)) (vec (aS m c)) (mat (aW m c)) (i 1).val (i 2) : ℝ) : EReal)

variable (m c) in
/-- The gradient of the groups' matrices. -/
def G8 (i : S4x256x256.Idx) : EReal :=
  ((∑ b : Fin 4, ∑ t : Fin 2048, Df (arr (aX m c) b) (vec (aG1 m c)) t (lane (i 0) (i 1))
      * DO (arr (aX m c) b) (arr (aC m c) b) (vec (aG1 m c)) (vec (aG2 m c)) (vec (aS m c)) (mat (aW m c)) t (lane (i 0) (i 2)) : ℝ) : EReal)

variable (m c) in
/-- The three sums over rows, and five rows of zeros. -/
def G9 (i : S8x1024.Idx) : EReal := ((rows3
      (fun e => ∑ b : Fin 4, ∑ t : Fin 2048, DU (arr (aX m c) b) (arr (aC m c) b) (vec (aG1 m c)) (vec (aG2 m c)) (vec (aS m c)) (mat (aW m c)) t e
        * (arr (aX m c) b t e * inv (arr (aX m c) b t)))
      (fun e => ∑ b : Fin 4, ∑ t : Fin 2048, arr (aC m c) b t e
        * (Z (arr (aX m c) b) (vec (aG1 m c)) (vec (aS m c)) (mat (aW m c)) t e * inv (Z (arr (aX m c) b) (vec (aG1 m c)) (vec (aS m c)) (mat (aW m c)) t)))
      (fun e => ∑ b : Fin 4, ∑ t : Fin 2048, DM (arr (aX m c) b) (arr (aC m c) b) (vec (aG1 m c)) (vec (aG2 m c)) (vec (aS m c)) (mat (aW m c)) t e
        * Mx (arr (aX m c) b) (vec (aG1 m c)) (mat (aW m c)) t e)
      (fun _ _ => 0) (i 0).val (i 1) : ℝ) : EReal)

theorem arr7 : (dats m 0 c).arrAt 7 cfg0.N = G7 m c := by
  refine (dats m 0 c).arrAt_eq_of_covers 7 _ (by decide +kernel) fun t hf y => ?_
  have hN : t.val < 16 := lt_of_lt_of_eq t.isLt N_0
  blk_simp
  rw [after0_7, out7_eq h t]
  idx_vars y
  refine Eq.trans ?_ (congrArg (G7 m c) (show ix3 ⟨t.val / 4, by omega⟩ ⟨512 * (3 - t.val % 4) + y1.val, by omega⟩ y2
    = (win0_7.blk t).view.emb (ix3 y0 y1 y2) from funext fun a => Fin.ext (by blk_simp [idx7]; fin_cases a <;> simp <;> omega)))
  rfl

theorem arr8 : (dats m 0 c).arrAt 8 cfg0.N = G8 m c := by
  refine (dats m 0 c).arrAt_eq_of_covers 8 _ (by decide +kernel) fun t hf y => ?_
  have hN : t.val < 16 := lt_of_lt_of_eq t.isLt N_0
  have ht : t.val = 15 := by have := (flush0_8 t).mp hf; omega
  blk_simp
  rw [after0_8, acc8 h]
  idx_vars y
  refine Eq.trans ?_ (congrArg (G8 m c) (show ix3 y0 y1 y2
    = (win0_8.blk t).view.emb (ix3 y0 y1 y2) from funext fun a => Fin.ext (by blk_simp [idx8]; fin_cases a <;> simp)))
  rw [ht]
  exact congrArg Real.toEReal (sum_points fun b t => Df (arr (aX m c) b) (vec (aG1 m c)) t (lane y0 y1)
      * DO (arr (aX m c) b) (arr (aC m c) b) (vec (aG1 m c)) (vec (aG2 m c)) (vec (aS m c)) (mat (aW m c)) t (lane y0 y2))

theorem arr9 : (dats m 0 c).arrAt 9 cfg0.N = G9 m c := by
  refine (dats m 0 c).arrAt_eq_of_covers 9 _ (by decide +kernel) fun t hf y => ?_
  have hN : t.val < 16 := lt_of_lt_of_eq t.isLt N_0
  have ht : t.val = 15 := by have := (flush0_9 t).mp hf; omega
  blk_simp
  rw [after0_9, acc9 h]
  idx_vars y
  refine Eq.trans ?_ (congrArg (G9 m c) (show ix2 y0 y1
    = (win0_9.blk t).view.emb (ix2 y0 y1) from funext fun a => Fin.ext (by blk_simp [idx9]; fin_cases a <;> simp)))
  rw [ht]
  refine congrArg Real.toEReal (congrFun (congrFun (congr (congr (congr (congrArg rows3 (funext fun e => ?_)) (funext fun e => ?_)) (funext fun e => ?_)) rfl) _) _)
  · exact sum_points fun b t => DU (arr (aX m c) b) (arr (aC m c) b) (vec (aG1 m c)) (vec (aG2 m c)) (vec (aS m c)) (mat (aW m c)) t e
        * (arr (aX m c) b t e * inv (arr (aX m c) b t))
  · exact sum_points fun b t => arr (aC m c) b t e
        * (Z (arr (aX m c) b) (vec (aG1 m c)) (vec (aS m c)) (mat (aW m c)) t e * inv (Z (arr (aX m c) b) (vec (aG1 m c)) (vec (aS m c)) (mat (aW m c)) t))
  · exact sum_points fun b t => DM (arr (aX m c) b) (arr (aC m c) b) (vec (aG1 m c)) (vec (aG2 m c)) (vec (aS m c)) (mat (aW m c)) t e
        * Mx (arr (aX m c) b) (vec (aG1 m c)) (mat (aW m c)) t e

end Cert.KernelIdeal.Pool

end
-- ==== Proof.PoolRef.lean ====
/- The causal pooling block's gradients in the reference: each of its arrays, entry by entry, in real numbers. -/
module

public import proofs.«01_k».proof.Proof.PoolMath
public import proofs.«01_k».proof.Proof.Gen.ReferenceIdeal.Run

@[expose] public section

noncomputable section

open Idealize.ShloMosaic Idealize.ShloMosaic.TcCoe Idealize.SL.Sem
open scoped BigOperators

namespace Cert.Pool

/-! ## Window sums -/

theorem foldl_add {α : Type} (g : α → EReal) : ∀ (l : List α) (v : EReal), l.foldl (fun r n => r + g n) v = v + (l.map g).sum
  | [], v => by simp
  | a :: l, v => by simp [foldl_add g l, add_assoc]

/-- The places of a window that runs along the middle axis. -/
def midEquiv (N : ℕ) : Fin N ≃ (⟨3, ![1, N, 1]⟩ : Shape).Idx where
  toFun k := ix3 0 k 0
  invFun i := i 1
  left_inv k := rfl
  right_inv i := funext fun a => by
    match a with
    | ⟨0, _⟩ => exact Subsingleton.elim (α := Fin 1) _ _
    | ⟨1, _⟩ => rfl
    | ⟨2, _⟩ => exact Subsingleton.elim (α := Fin 1) _ _

theorem midEquiv_apply (N : ℕ) (k : Fin N) : midEquiv N k = ix3 0 k 0 := rfl

/-- A window sum along the middle axis, padded below by `L`. -/
theorem window_read (L H : ℕ) (x : (⟨3, ![4, 2048, 1024]⟩ : Shape).Idx → EReal) (v : EReal) (hv : v = 0)
    (h : (⟨3, ![4, 2048, 1024]⟩ : Shape).ReduceWindows ![1, 2048, 1] ![1, 1, 1] ![0, L, 0] ![0, H, 0] ⟨3, ![4, 2048, 1024]⟩) (b : Fin 4) (t : Fin 2048) (d : Fin 1024) :
    Ideal.hostReduceWindowAdd ![1, 2048, 1] ![1, 1, 1] ![0, L, 0] ![0, H, 0] h x v (ix3 b t d)
      = ∑ k : Fin 2048, if hk : L ≤ t.val + k.val ∧ t.val + k.val - L < 2048 then x (ix3 b ⟨t.val + k.val - L, hk.2⟩ d) else 0 := by
  subst hv
  unfold Ideal.hostReduceWindowAdd Host.reduceWindow
  refine (foldl_add _ _ _).trans ((zero_add _).trans ((Fin.sum_univ_def _).symm.trans ?_))
  refine (Equiv.sum_comp (Shape.rowMajor ⟨3, ![1, 2048, 1]⟩) _).symm.trans ?_
  refine (Equiv.sum_comp (midEquiv 2048) _).symm.trans ?_
  refine Finset.sum_congr rfl fun k _ => ?_
  simp only [Equiv.symm_apply_apply]
  by_cases hk : L ≤ t.val + k.val ∧ t.val + k.val - L < 2048
  · rw [dif_pos hk, dif_pos]
    · refine congrArg x (funext fun a => Fin.ext ?_)
      fin_cases a <;> simp [midEquiv_apply]
    · intro a
      have := b.isLt; have := d.isLt
      fin_cases a <;> simp [midEquiv_apply] <;> omega
  · rw [dif_neg hk, dif_neg]
    intro hin
    exact hk (by simpa [midEquiv_apply] using hin 1)

theorem sum_below (f : ℕ → ℝ) (t : ℕ) (ht : t < 2048) :
    ∑ k : Fin 2048, (if 2047 ≤ t + k.val ∧ t + k.val - 2047 < 2048 then f (t + k.val - 2047) else 0) = ∑ s ∈ Finset.range (t + 1), f s := by
  rw [Fin.sum_univ_eq_sum_range (fun k => if 2047 ≤ t + k ∧ t + k - 2047 < 2048 then f (t + k - 2047) else 0) 2048, ← Finset.sum_filter]
  refine Finset.sum_nbij' (fun k => t + k - 2047) (fun s => s + 2047 - t) ?_ ?_ ?_ ?_ ?_ <;> intro k hk <;> simp at hk ⊢ <;> omega

theorem sum_above (f : ℕ → ℝ) (t : ℕ) :
    ∑ k : Fin 2048, (if 0 ≤ t + k.val ∧ t + k.val - 0 < 2048 then f (t + k.val - 0) else 0) = ∑ s ∈ Finset.Ico t 2048, f s := by
  rw [Fin.sum_univ_eq_sum_range (fun k => if 0 ≤ t + k ∧ t + k - 0 < 2048 then f (t + k - 0) else 0) 2048, ← Finset.sum_filter]
  refine Finset.sum_nbij' (fun k => t + k) (fun s => s - t) ?_ ?_ ?_ ?_ ?_ <;> intro k hk <;> simp at hk ⊢ <;> omega

/-- A sum over the first two axes of three. -/
theorem sum_front {n0 n1 n2 : ℕ} (h : (⟨3, ![n0, n1, n2]⟩ : Shape).ReducesTo [0, 1] ⟨1, ![n2]⟩) (v : (⟨3, ![n0, n1, n2]⟩ : Shape).Idx → EReal) (d : Fin n2) :
    Ideal.hostReduceAdd h v 0 (ix1 d) = ∑ a : Fin n0, ∑ b : Fin n1, v (ix3 a b d) := by
  have hd : ∀ i : (⟨3, ![n0, n1, n2]⟩ : Shape).Idx, h.drop i = ix1 d ↔ i 2 = d := fun i => by
    constructor
    · intro e
      exact Fin.ext (congrArg (fun j : (⟨1, ![n2]⟩ : Shape).Idx => (j 0).val) e)
    · intro e
      funext a
      fin_cases a
      exact Fin.ext (congrArg Fin.val e)
  unfold Ideal.hostReduceAdd
  rw [zero_add, ← Fintype.sum_prod_type']
  refine (Finset.sum_nbij' (fun p : Fin n0 × Fin n1 => ix3 p.1 p.2 d) (fun i => ((i 0 : Fin n0), (i 1 : Fin n1))) ?_ ?_ ?_ ?_ ?_).symm
  · intro p _; exact Finset.mem_filter.mpr ⟨Finset.mem_univ _, (hd _).mpr rfl⟩
  · intro i _; exact Finset.mem_univ _
  · intro p _; rfl
  · intro i hi
    have e := (hd i).mp (Finset.mem_filter.mp hi).2
    funext a
    fin_cases a
    · rfl
    · rfl
    · exact e.symm
  · intro p _; rfl

/-! ## Arrays of numbers -/

/-- An array over batches, times and lanes. -/
def lift4 {n k : ℕ} (f : ℕ → ℕ → Fin k → ℝ) (φ : FTy := .f32) : FVec Ideal (⟨3, ![4, n, k]⟩ : Shape) φ := fun i => ((f (i 0).val (i 1).val (i 2) : ℝ) : EReal)

end Cert.Pool

namespace Cert.ReferenceIdeal.Pool

open Cert.ReferenceIdeal Cert.ReferenceIdeal.Gen Cert.ReferenceIdeal.Value Cert.Pool

theorem cumsum_lift (f : ℕ → ℕ → Fin 1024 → ℝ) (i) (hi : i = broadcastInDim S_ ![] bcast_S_S_ (constant (F := Ideal) S_ .f32 0x00000000#32)) :
    Host.reduceWindowAdd ![1, 2048, 1] ![1, 1, 1] ![0, 2047, 0] ![0, 0, 0] (lift4 f : FVec Ideal S4x2048x1024 .f32) i reduceWindows_S4x2048x1024_S4x2048x1024_w1s1p0_0_w2048s1p2047_0_w1s1p0_0 h_S_
      = lift4 fun b t d => ∑ s ∈ Finset.range (t + 1), f b s d := by
  subst hi
  funext i; idx_vars i
  rw [Host.reduceWindowAdd, Ideal.hostReduceWindowAdd_def]
  refine (window_read 2047 0 (lift4 f) (broadcastInDim S_ ![] bcast_S_S_ (constant (F := Ideal) S_ .f32 0x00000000#32) (Shape.Idx.first h_S_)) (by pointwise) reduceWindows_S4x2048x1024_S4x2048x1024_w1s1p0_0_w2048s1p2047_0_w1s1p0_0 i0 i1 i2).trans ?_
  simp only [lift4]
  refine Eq.trans ?_ (congrArg Real.toEReal (sum_below (fun s => f i0 s i2) i1 i1.isLt))
  rw [← coe_sum]
  refine Finset.sum_congr rfl fun k _ => ?_
  split_ifs <;> simp

theorem revsum_lift (f : ℕ → ℕ → Fin 1024 → ℝ) (i) (hi : i = broadcastInDim S_ ![] bcast_S_S_ (constant (F := Ideal) S_ .f32 0x00000000#32)) :
    Host.reduceWindowAdd ![1, 2048, 1] ![1, 1, 1] ![0, 0, 0] ![0, 2047, 0] (lift4 f : FVec Ideal S4x2048x1024 .f32) i reduceWindows_S4x2048x1024_S4x2048x1024_w1s1p0_0_w2048s1p0_2047_w1s1p0_0 h_S_
      = lift4 fun b t d => ∑ s ∈ Finset.Ico t 2048, f b s d := by
  subst hi
  funext i; idx_vars i
  rw [Host.reduceWindowAdd, Ideal.hostReduceWindowAdd_def]
  refine (window_read 0 2047 (lift4 f) (broadcastInDim S_ ![] bcast_S_S_ (constant (F := Ideal) S_ .f32 0x00000000#32) (Shape.Idx.first h_S_)) (by pointwise) reduceWindows_S4x2048x1024_S4x2048x1024_w1s1p0_0_w2048s1p0_2047_w1s1p0_0 i0 i1 i2).trans ?_
  simp only [lift4]
  refine Eq.trans ?_ (congrArg Real.toEReal (sum_above (fun s => f i0 s i2) i1))
  rw [← coe_sum]
  refine Finset.sum_congr rfl fun k _ => ?_
  split_ifs <;> simp

/-- The launch contents are numbers: a batch's sequences, two gains, a scale and the groups' matrices. -/
structure Args (V0 : Valuation τ sig (Elt Ideal)) (X CT : ℕ → ℕ → Fin 1024 → ℝ) (g1 g2 sc : Fin 1024 → ℝ) (W : Fin 4 → Fin 256 → Fin 256 → ℝ) : Prop where
  x : V0 (Proc.devRef .tc main_arg0) = (lift4 X : FVec Ideal S4x2048x1024 .f32)
  ct : V0 (Proc.devRef .tc main_arg1) = (lift4 CT : FVec Ideal S4x2048x1024 .f32)
  g1 : V0 (Proc.devRef .tc main_arg2) = (lift2 (fun _ => g1) : FVec Ideal S1x1024 .f32)
  g2 : V0 (Proc.devRef .tc main_arg3) = (lift2 (fun _ => g2) : FVec Ideal S1x1024 .f32)
  w : V0 (Proc.devRef .tc main_arg4) = (liftW W : FVec Ideal S4x256x256 .bf16)
  sc : V0 (Proc.devRef .tc main_arg5) = (lift2 (fun _ => sc) : FVec Ideal S1x1024 .f32)

variable {V0 : Valuation τ sig (Elt Ideal)} {X CT : ℕ → ℕ → Fin 1024 → ℝ} {g1 g2 sc : Fin 1024 → ℝ} {W : Fin 4 → Fin 256 → Fin 256 → ℝ}
  (h : Args V0 X CT g1 g2 sc W)

/-- Mean squares of rows, as the reference writes them. -/
theorem ms_lift (f : ℕ → ℕ → Fin 1024 → ℝ) :
    addf (Host.divf (broadcastInDim S4x2048x1 ![0, 1] bcast_S4x2048_S4x2048x1_0_1 (Host.reduceAdd (mulf (lift4 f) (lift4 f) : FVec Ideal S4x2048x1024 .f32) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32))
      = (lift4 fun b t (_ : Fin 1) => ms (f b t)) := by
  funext i; idx_vars i
  pointwise [lift4]
  simp only [ofBits_1024, ofBits_eps, coe_mul, coe_sum, coe_div_1024, coe_add, ofBits_0, zero_add]
  rfl

theorem inv_lift (f : ℕ → ℕ → Fin 1024 → ℝ) :
    Host.rsqrt (lift4 fun b t (_ : Fin 1) => ms (f b t) : FVec Ideal S4x2048x1 .f32) = (lift4 fun b t (_ : Fin 1) => inv (f b t)) := by
  funext i; idx_vars i
  pointwise [lift4]
  exact coe_rsqrt _ (ms_pos _)

/-- A row times a number of its own. -/
theorem mul_col (f : ℕ → ℕ → Fin 1024 → ℝ) (c : ℕ → ℕ → ℝ) :
    mulf (lift4 f : FVec Ideal S4x2048x1024 .f32) (broadcastInDim S4x2048x1024 ![0, 1, 2] bcast_S4x2048x1_S4x2048x1024_0_1_2 (lift4 fun b t (_ : Fin 1) => c b t))
      = lift4 fun b t d => f b t d * c b t := by
  funext i; idx_vars i
  pointwise [lift4]
  simp only [coe_mul]

/-- A row of gains, seen from every time. -/
theorem gain_lift (g : Fin 1024 → ℝ) :
    broadcastInDim S1x1x1024 ![2] bcast_S1024_S1x1x1024_2 (shapeCast _ (lift2 (fun _ => g) : FVec Ideal S1x1024 .f32) shapeCasts_S1x1024_S1024)
      = (lift3 (fun _ => g) : FVec Ideal S1x1x1024 .f32) := by
  funext i; idx_vars i
  pointwise [lift2, lift3]

theorem mul_gain (f : ℕ → ℕ → Fin 1024 → ℝ) (g : Fin 1024 → ℝ) :
    mulf (lift4 f : FVec Ideal S4x2048x1024 .f32) (broadcastInDim S4x2048x1024 ![0, 1, 2] bcast_S1x1x1024_S4x2048x1024_0_1_2 (lift3 (fun _ => g) : FVec Ideal S1x1x1024 .f32))
      = lift4 fun b t d => f b t d * g d := by
  funext i; idx_vars i
  pointwise [lift4, lift3]
  simp only [coe_mul]

theorem lane0 (p : Fin 256) (hp : p.val < 1024) : (⟨p.val, hp⟩ : Fin 1024) = lane 0 p := Fin.ext (by simp [lane])

theorem win0 (p : Fin 256) : win (lane 0 p) = 2 := by have := p.isLt; simp [win, lane]
theorem win1 (p : Fin 256) : win (lane 1 p) = 4 := by have := p.isLt; simp only [win, lane]; simp; omega
theorem win2 (p : Fin 256) : win (lane 2 p) = 8 := by have := p.isLt; unfold win lane; split_ifs with a b c <;> dsimp at * <;> omega
theorem win3 (p : Fin 256) : win (lane 3 p) = 16 := by have := p.isLt; unfold win lane; split_ifs with a b c <;> dsimp at * <;> omega

/-- A difference of running sums over a count, less the input: what the layer's mixing is given. -/
theorem df_at (x : ℕ → Fin 1024 → ℝ) (g : Fin 1024 → ℝ) (d d' : Fin 1024) (m t : ℕ) (hm : win d = m + 1) (hd : win d' = m + 1) :
    Ideal.div (((∑ s ∈ Finset.range (1 + t), U x g s d : ℝ) : EReal) - (if h : t < m then 0 else ((∑ s ∈ Finset.range (t - m), U x g s d : ℝ) : EReal))) ((cnt t d' : ℝ) : EReal)
      - ((U x g t d : ℝ) : EReal) = ((Df x g t d : ℝ) : EReal) := by
  have e : (if h : t < m then (0 : EReal) else ((∑ s ∈ Finset.range (t - m), U x g s d : ℝ) : EReal)) = ((∑ s ∈ Finset.range (t + 1 - win d), U x g s d : ℝ) : EReal) := by
    rw [hm, show t + 1 - (m + 1) = t - m by omega]
    split_ifs with h
    · rw [show t - m = 0 by omega]; simp
    · rfl
  have hc : cnt t d' = cnt t d := by rw [cnt, cnt, hm, hd]
  rw [e, hc, coe_sub, Nat.add_comm 1 t, back_eq_sub (win d) (fun s => U x g s d) t, coe_div _ _ (cnt_pos t d).ne', coe_sub]
  rfl

theorem pad_low (f : ℕ → ℕ → Fin 256 → ℝ) :
    pad S4x2049x256 ![0, 1, 0] ![0, 0, 0] ![0, 0, 0] (lift4 f : FVec Ideal S4x2048x256 .f32) (constant S_ .f32 0x00000000#32) pads_S4x2048x256_S4x2049x256_000_100_000 h_S_
      = lift4 fun b t p => if t = 0 then 0 else f b (t - 1) p := by
  funext i; idx_vars i
  pointwise [lift4]
  have := i1.isLt
  split_ifs <;> first | rfl | omega | exact congrArg Real.toEReal (if_pos ‹_›).symm | exact (congrArg Real.toEReal (if_neg ‹_›)).symm | simp

/-- One group's padded pieces: a value less the one a window later. -/
theorem pad_at (q : ℕ → ℝ) (hq : ∀ t, 2048 ≤ t → q t = 0) (m n r t : ℕ) (c : Prop) [Decidable c] (hc : c) (hn : n = m + 1) (hr : r + m = 2048) :
    (if h : 1 + t < r ∧ c then ((-q (m + (1 + t)) : ℝ) : EReal) else 0) + ((if 1 + t = 0 then 0 else q t : ℝ) : EReal) = ((q t - q (t + n) : ℝ) : EReal) := by
  rw [if_neg (by omega : ¬1 + t = 0), show m + (1 + t) = t + n by omega]
  by_cases h : 1 + t < r
  · rw [dif_pos ⟨h, hc⟩, coe_add, neg_add_eq_sub]
  · rw [dif_neg fun x => h x.1, hq (t + n) (by omega), zero_add, sub_zero]

theorem grp_at (q : ℕ → Fin 1024 → ℝ) (hq : ∀ t, 2048 ≤ t → ∀ d, q t d = 0) (m n r t : ℕ) (k : Fin 4) (lo : ℕ) (d : Fin 1024)
    (hk : lo = 256 * k.val) (hn : n = m + 1) (hr : r + m = 2048) (ht : t < 2048) :
    (if h : 1 + t < 2049 ∧ lo ≤ d.val ∧ d.val - lo < 256 then
        (if h1 : 1 + t < r ∧ d.val - lo < 256 then ((-q (m + (1 + t)) (lane k ⟨d.val - lo, h.2.2⟩) : ℝ) : EReal) else 0)
          + ((if 1 + t = 0 then 0 else q t (lane k ⟨d.val - lo, h.2.2⟩) : ℝ) : EReal) else 0)
      = if lo ≤ d.val ∧ d.val - lo < 256 then ((q t d - q (t + n) d : ℝ) : EReal) else 0 := by
  by_cases h : lo ≤ d.val ∧ d.val - lo < 256
  · rw [dif_pos ⟨by omega, h.1, h.2⟩, if_pos h, show lane k ⟨d.val - lo, h.2⟩ = d from Fin.ext (by simp only [lane]; omega)]
    exact pad_at (fun t => q t d) (fun t ht => hq t ht d) m n r t _ h.2 hn hr
  · rw [dif_neg fun x => h x.2, if_neg h]

theorem grp_at0 (q : ℕ → Fin 1024 → ℝ) (hq : ∀ t, 2048 ≤ t → ∀ d, q t d = 0) (t : ℕ) (d : Fin 1024) (ht : t < 2048) :
    (if h : 1 + t < 2049 ∧ d.val < 256 then
        (if h1 : 1 + t < 2047 ∧ d.val < 256 then ((-q (1 + (1 + t)) (lane 0 ⟨d.val, h.2⟩) : ℝ) : EReal) else 0)
          + ((if 1 + t = 0 then 0 else q t (lane 0 ⟨d.val, h.2⟩) : ℝ) : EReal) else 0)
      = if d.val < 256 then ((q t d - q (t + 2) d : ℝ) : EReal) else 0 := by
  by_cases h : d.val < 256
  · rw [dif_pos ⟨by omega, h⟩, if_pos h, show lane 0 ⟨d.val, h⟩ = d from Fin.ext (by simp [lane])]
    exact pad_at (fun t => q t d) (fun t ht => hq t ht d) 1 2 2047 t _ h rfl rfl
  · rw [dif_neg fun x => h x.2, if_neg h]

theorem q_at (a : ℝ) (t : ℕ) (d d' : Fin 1024) (hd : win d' = win d) : Ideal.div ((a : ℝ) : EReal) ((cnt t d' : ℝ) : EReal) = ((a / cnt t d : ℝ) : EReal) := by
  rw [coe_div _ _ (cnt_pos t d').ne', cnt, cnt, hd]

theorem word_count (n : ℕ) (hn : n < 2048) : (FloatOps.sitofp .f32 (BitVec.ofNat 32 n) : Ideal .f32) = (((n : ℕ) : ℝ) : EReal) := by
  show (((BitVec.ofNat 32 n).toInt : ℝ) : EReal) = _
  rw [show (BitVec.ofNat 32 n).toInt = ((n : ℕ) : ℤ) from BitVec.toInt_ofNat' .. |>.trans (Int.bmod_eq_of_le (by omega) (by omega))]
  push_cast; rfl

theorem v26 : res_main_v26 V0 = (fun i => (((i 0).val + 1 : ℝ) : EReal) : FVec Ideal S2048 .f32) := by
  rw [res_main_v26]
  funext i; idx_vars i
  pointwise
  rw [word_count _ i0.isLt, add_comm, EReal.coe_add, EReal.coe_one]

/-- The chain rule's factor through a mean square, as the reference writes it. -/
theorem chain_lift (f y : ℕ → ℕ → Fin 1024 → ℝ) :
    broadcastInDim S4x2048x1024 ![0, 1] bcast_S4x2048_S4x2048x1024_0_1 (Host.reduceAdd (Host.divf (mulf (shapeCast _ (Host.reduceAdd (mulf (lift4 f) (lift4 y) : FVec Ideal S4x2048x1024 .f32) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (lift4 fun b t (_ : Fin 1) => inv (f b t) : FVec Ideal S4x2048x1 .f32) (lift4 fun b t (_ : Fin 1) => ms (f b t))))) (broadcastInDim S4x2048x1 ![] bcast_S_S4x2048x1 (constant S_ .f32 0x44800000#32))) (constant S_ .f32 0x00000000#32) reducesTo_S4x2048x1_S4x2048_d2 h_S_)
      = lift4 fun b t _ => (∑ e, f b t e * y b t e) * (-(1 / 2) * (inv (f b t) / ms (f b t))) / 1024 := by
  funext i; idx_vars i
  pointwise [lift4]
  simp only [ofBits_neg_half, ofBits_1024, coe_div _ _ (ms_pos _).ne', coe_mul, coe_sum, coe_div_1024]
  try simp

/-- A gradient through a norm, as the reference writes it. -/
theorem rmsb_lift (f y : ℕ → ℕ → Fin 1024 → ℝ) (g : Fin 1024 → ℝ) :
    addf (addf (mulf (lift4 fun b t d => y b t d * g d : FVec Ideal S4x2048x1024 .f32) (broadcastInDim S4x2048x1024 ![0, 1, 2] bcast_S4x2048x1_S4x2048x1024_0_1_2 (lift4 fun b t (_ : Fin 1) => inv (f b t))))
        (mulf (lift4 f) (lift4 fun b t _ => (∑ e, f b t e * (y b t e * g e)) * (-(1 / 2) * (inv (f b t) / ms (f b t))) / 1024)))
        (mulf (lift4 fun b t _ => (∑ e, f b t e * (y b t e * g e)) * (-(1 / 2) * (inv (f b t) / ms (f b t))) / 1024) (lift4 f))
      = lift4 fun b t => rmsb (f b t) g (y b t) := by
  rw [mul_col]
  funext i; idx_vars i
  pointwise [lift4]
  simp only [coe_mul, coe_add]
  refine congrArg Real.toEReal (Eq.trans ?_ (rmsb_chain _ _ _ _))
  ring

include h

theorem v2 : res_main_v2 V0 = liftW W := by
  rw [res_main_v2, h.w]; funext i; pointwise [liftW]

theorem v10 : res_main_v10 V0 = (lift4 fun b t (_ : Fin 1) => ms (X b t)) := by
  rw [res_main_v10, h.x]; exact ms_lift X

theorem v11 : res_main_v11 V0 = (lift4 fun b t (_ : Fin 1) => inv (X b t)) := by
  rw [res_main_v11, v10 h]; exact inv_lift X

theorem v16 : res_main_v16 V0 = lift4 fun b t d => X b t d * inv (X b t) := by
  rw [res_main_v16, v11 h, h.x]; exact mul_col X _

theorem v17 : res_main_v17 V0 = (lift3 (fun _ => g1) : FVec Ideal S1x1x1024 .f32) := by
  rw [res_main_v17, h.g1]; exact gain_lift g1

theorem v19 : res_main_v19 V0 = lift4 fun b => U (X b) g1 := by
  rw [res_main_v19, v17 h, v16 h]; exact mul_gain _ _

/-- Running sums, beginning with nothing. -/
theorem v22 : res_main_v22 V0 = (lift4 fun b t d => ∑ s ∈ Finset.range t, U (X b) g1 s d : FVec Ideal S4x2049x1024 .f32) := by
  rw [res_main_v22, v19 h, cumsum_lift _ _ rfl]
  funext i; idx_vars i
  pointwise [lift4]
  split_ifs with h1
  · rw [show i1.val = 0 by omega]; simp
  · rw [show i1.val - 1 + 1 = i1.val by omega]

theorem v27 : res_main_v27 V0 = (lift4 fun b t p => ∑ s ∈ Finset.range t, U (X b) g1 s (lane 0 p) : FVec Ideal S4x2049x256 .f32) := by
  rw [res_main_v27, v22 h]; funext i; idx_vars i
  pointwise [lift4]
  rw [lane0]

omit h in
theorem v36 : res_main_v36 V0 = (lift3 fun t _ => cnt t (lane 0 0) : FVec Ideal S1x2048x1 .f32) := by
  rw [res_main_v36, v26]; funext i; idx_vars i
  pointwise [lift3]
  rw [ofBits_2, coe_min]
  rfl

theorem v39 : res_main_v39 V0 = (lift4 fun b t p => ∑ s ∈ Finset.range t, U (X b) g1 s (lane 1 p) : FVec Ideal S4x2049x256 .f32) := by
  rw [res_main_v39, v22 h]; funext i; idx_vars i
  pointwise [lift4]
  rfl

omit h in
theorem v48 : res_main_v48 V0 = (lift3 fun t _ => cnt t (lane 1 0) : FVec Ideal S1x2048x1 .f32) := by
  rw [res_main_v48, v26]; funext i; idx_vars i
  pointwise [lift3]
  rw [ofBits_4, coe_min]
  rfl

theorem v51 : res_main_v51 V0 = (lift4 fun b t p => ∑ s ∈ Finset.range t, U (X b) g1 s (lane 2 p) : FVec Ideal S4x2049x256 .f32) := by
  rw [res_main_v51, v22 h]; funext i; idx_vars i
  pointwise [lift4]
  rfl

omit h in
theorem v60 : res_main_v60 V0 = (lift3 fun t _ => cnt t (lane 2 0) : FVec Ideal S1x2048x1 .f32) := by
  rw [res_main_v60, v26]; funext i; idx_vars i
  pointwise [lift3]
  rw [ofBits_8, coe_min]
  rfl

theorem v63 : res_main_v63 V0 = (lift4 fun b t p => ∑ s ∈ Finset.range t, U (X b) g1 s (lane 3 p) : FVec Ideal S4x2049x256 .f32) := by
  rw [res_main_v63, v22 h]; funext i; idx_vars i
  pointwise [lift4]
  rfl

omit h in
theorem v72 : res_main_v72 V0 = (lift3 fun t _ => cnt t (lane 3 0) : FVec Ideal S1x2048x1 .f32) := by
  rw [res_main_v72, v26]; funext i; idx_vars i
  pointwise [lift3]
  rw [ofBits_16, coe_min]
  rfl

/-- The windows' means less the normed input. -/
theorem v81 : res_main_v81 V0 = (fun i => ((Df (X (i 0).val) g1 (i 1).val (lane (i 2) (i 3)) : ℝ) : EReal) : FVec Ideal S4x2048x4x256 .f32) := by
  rw [res_main_v81, v27 h, v39 h, v51 h, v63 h, v36, v48, v60, v72, v19 h]
  funext i; idx_vars i
  fin_cases i2
  · pointwise [lift4, lift3]
    rw [lane0]
    exact df_at (X i0) g1 (lane 0 i3) (lane 0 0) 1 i1 (win0 _) (win0 _)
  · pointwise [lift4, lift3]
    exact df_at (X i0) g1 (lane 1 i3) (lane 1 0) 3 i1 (win1 _) (win1 _)
  · pointwise [lift4, lift3]
    exact df_at (X i0) g1 (lane 2 i3) (lane 2 0) 7 i1 (win2 _) (win2 _)
  · pointwise [lift4, lift3]
    exact df_at (X i0) g1 (lane 3 i3) (lane 3 0) 15 i1 (win3 _) (win3 _)

/-- The mixed lanes. -/
theorem v84 : res_main_v84 V0 = lift4 fun b => Mx (X b) g1 W := by
  rw [res_main_v84, v2 h, v81 h]
  funext i; idx_vars i
  pointwise [lift4, liftW]
  simp only [coe_mul, coe_sum]
  exact congrArg Real.toEReal (Finset.sum_congr rfl fun c _ => mul_comm _ _)

theorem v85 : res_main_v85 V0 = (lift3 (fun _ => sc) : FVec Ideal S1x1x1024 .f32) := by
  rw [res_main_v85, h.sc]; exact gain_lift sc

theorem v87 : res_main_v87 V0 = lift4 fun b => Z (X b) g1 sc W := by
  rw [res_main_v87, v85 h, v84 h]; exact mul_gain _ _

theorem v94 : res_main_v94 V0 = (lift4 fun b t (_ : Fin 1) => ms (Z (X b) g1 sc W t)) := by
  rw [res_main_v94, v87 h]; exact ms_lift _

theorem v95 : res_main_v95 V0 = (lift4 fun b t (_ : Fin 1) => inv (Z (X b) g1 sc W t)) := by
  rw [res_main_v95, v94 h]; exact inv_lift fun b t => Z (X b) g1 sc W t

theorem v100 : res_main_v100 V0 = lift4 fun b t d => Z (X b) g1 sc W t d * inv (Z (X b) g1 sc W t) := by
  rw [res_main_v100, v95 h, v87 h]; exact mul_col _ _

theorem v101 : res_main_v101 V0 = (lift3 (fun _ => g2) : FVec Ideal S1x1x1024 .f32) := by
  rw [res_main_v101, h.g2]; exact gain_lift g2

theorem v105 : res_main_v105 V0 = lift4 CT := by
  rw [res_main_v105, h.ct]; exact shapeCast_self _ _

theorem v110 : res_main_v110 V0 = lift4 fun b t d => CT b t d * g2 d := by
  rw [res_main_v110, v101 h, v105 h]; exact mul_gain _ _

theorem v121 : res_main_v121 V0 = lift4 fun b t _ => (∑ e, Z (X b) g1 sc W t e * (CT b t e * g2 e)) * (-(1 / 2) * (inv (Z (X b) g1 sc W t) / ms (Z (X b) g1 sc W t))) / 1024 := by
  rw [res_main_v121, v94 h, v95 h, v87 h, v110 h]; exact chain_lift (fun b => Z (X b) g1 sc W) fun b t d => CT b t d * g2 d

theorem v125 : res_main_v125 V0 = lift4 fun b => DM (X b) (CT b) g1 g2 sc W := by
  rw [res_main_v125, v121 h, v110 h, v95 h, v87 h]; exact rmsb_lift (fun b => Z (X b) g1 sc W) CT g2

theorem v133 : res_main_v133 V0 = (fun i => ((DO (X (i 2).val) (CT (i 2).val) g1 g2 sc W (i 3).val (lane (i 0) (i 1)) : ℝ) : EReal) : FVec Ideal S4x256x4x2048 .f32) := by
  rw [res_main_v133, v85 h, v125 h, mul_gain]
  funext i; idx_vars i
  pointwise [lift4]
  rw [show (⟨i0.val * 256 + i1.val, by omega⟩ : Fin 1024) = lane i0 i1 from Fin.ext (by simp only [lane]; omega)]
  rfl

theorem v135 : res_main_v135 V0 = (fun i => ((DD (X (i 0).val) (CT (i 0).val) g1 g2 sc W (i 1).val (lane (i 2) (i 3)) : ℝ) : EReal) : FVec Ideal S4x2048x4x256 .f32) := by
  rw [res_main_v135, v133 h, v2 h]
  funext i; idx_vars i
  pointwise [liftW]
  simp only [coe_mul, coe_sum, DD, mixT, grp_lane, off_lane]

theorem v149 : res_main_v149 V0 = (lift4 fun b t p => Q (X b) (CT b) g1 g2 sc W t (lane 3 p) : FVec Ideal S4x2048x256 .f32) := by
  rw [res_main_v149, v135 h, v72]
  funext i; idx_vars i
  pointwise [lift3, lift4]
  exact q_at _ _ _ _ (by rw [win3, win3])

theorem v150 : res_main_v150 V0 = (lift4 fun b t p => -Q (X b) (CT b) g1 g2 sc W t (lane 3 p) : FVec Ideal S4x2048x256 .f32) := by
  rw [res_main_v150, v149 h]
  funext i; idx_vars i
  pointwise [lift4]
  exact coe_neg _

theorem v158 : res_main_v158 V0 = (lift4 fun b t p => Q (X b) (CT b) g1 g2 sc W t (lane 2 p) : FVec Ideal S4x2048x256 .f32) := by
  rw [res_main_v158, v135 h, v60]
  funext i; idx_vars i
  pointwise [lift3, lift4]
  exact q_at _ _ _ _ (by rw [win2, win2])

theorem v159 : res_main_v159 V0 = (lift4 fun b t p => -Q (X b) (CT b) g1 g2 sc W t (lane 2 p) : FVec Ideal S4x2048x256 .f32) := by
  rw [res_main_v159, v158 h]
  funext i; idx_vars i
  pointwise [lift4]
  exact coe_neg _

theorem v168 : res_main_v168 V0 = (lift4 fun b t p => Q (X b) (CT b) g1 g2 sc W t (lane 1 p) : FVec Ideal S4x2048x256 .f32) := by
  rw [res_main_v168, v135 h, v48]
  funext i; idx_vars i
  pointwise [lift3, lift4]
  exact q_at _ _ _ _ (by rw [win1, win1])

theorem v169 : res_main_v169 V0 = (lift4 fun b t p => -Q (X b) (CT b) g1 g2 sc W t (lane 1 p) : FVec Ideal S4x2048x256 .f32) := by
  rw [res_main_v169, v168 h]
  funext i; idx_vars i
  pointwise [lift4]
  exact coe_neg _

theorem v178 : res_main_v178 V0 = (lift4 fun b t p => Q (X b) (CT b) g1 g2 sc W t (lane 0 p) : FVec Ideal S4x2048x256 .f32) := by
  rw [res_main_v178, v135 h, v36]
  funext i; idx_vars i
  pointwise [lift3, lift4]
  exact q_at _ _ _ _ (by rw [win0, win0])

theorem v179 : res_main_v179 V0 = (lift4 fun b t p => -Q (X b) (CT b) g1 g2 sc W t (lane 0 p) : FVec Ideal S4x2048x256 .f32) := by
  rw [res_main_v179, v178 h]
  funext i; idx_vars i
  pointwise [lift4]
  exact coe_neg _

omit h in
theorem pads_scalar (q : ℕ → Fin 1024 → ℝ) (hz : ∀ t, 2048 ≤ t → ∀ d, q t d = 0) (t : ℕ) (d : Fin 1024) (b1 : t < 2048) :
    (if h : 1 + t < 2049 ∧ 768 ≤ d.val ∧ d.val - 768 < 256 then
        (if h1 : 1 + t < 2033 ∧ d.val - 768 < 256 then ((-q (15 + (1 + t)) (lane 3 ⟨d.val - 768, h.2.2⟩) : ℝ) : EReal) else 0)
          + ((if 1 + t = 0 then 0 else q t (lane 3 ⟨d.val - 768, h.2.2⟩) : ℝ) : EReal) else 0) + (if h : 1 + t < 2049 ∧ 512 ≤ d.val ∧ d.val - 512 < 256 then
        (if h1 : 1 + t < 2041 ∧ d.val - 512 < 256 then ((-q (7 + (1 + t)) (lane 2 ⟨d.val - 512, h.2.2⟩) : ℝ) : EReal) else 0)
          + ((if 1 + t = 0 then 0 else q t (lane 2 ⟨d.val - 512, h.2.2⟩) : ℝ) : EReal) else 0)
      + (if h : 1 + t < 2049 ∧ 256 ≤ d.val ∧ d.val - 256 < 256 then
        (if h1 : 1 + t < 2045 ∧ d.val - 256 < 256 then ((-q (3 + (1 + t)) (lane 1 ⟨d.val - 256, h.2.2⟩) : ℝ) : EReal) else 0)
          + ((if 1 + t = 0 then 0 else q t (lane 1 ⟨d.val - 256, h.2.2⟩) : ℝ) : EReal) else 0) + (if h : 1 + t < 2049 ∧ d.val < 256 then
        (if h1 : 1 + t < 2047 ∧ d.val < 256 then ((-q (1 + (1 + t)) (lane 0 ⟨d.val, h.2⟩) : ℝ) : EReal) else 0)
          + ((if 1 + t = 0 then 0 else q t (lane 0 ⟨d.val, h.2⟩) : ℝ) : EReal) else 0)
      = ((q t d - q (t + win d) d : ℝ) : EReal) := by
  rw [grp_at q hz 15 16 2033 t 3 768 d rfl rfl rfl b1, grp_at q hz 7 8 2041 t 2 512 d rfl rfl rfl b1, grp_at q hz 3 4 2045 t 1 256 d rfl rfl rfl b1, grp_at0 q hz t d b1]
  generalize q t = u
  unfold win
  have b2 := d.isLt
  by_cases c0 : d.val < 256
  · rw [if_neg (by omega), if_neg (by omega), if_neg (by omega), if_pos c0, if_pos c0]; simp
  by_cases c1 : d.val < 512
  · rw [if_neg (by omega), if_neg (by omega), if_pos (by omega), if_neg c0, if_neg c0, if_pos c1]; simp
  by_cases c2 : d.val < 768
  · rw [if_neg (by omega), if_pos (by omega), if_neg (by omega), if_neg c0, if_neg c0, if_neg c1, if_pos c2]; simp
  · rw [if_pos (by omega), if_neg (by omega), if_neg (by omega), if_neg c0, if_neg c0, if_neg c1, if_neg c2]; simp

omit h in
/-- The reference's padded pieces added up: each value less the one a window later. -/
theorem pads_lift (q : ℕ → ℕ → Fin 1024 → ℝ) (hq : ∀ b t, 2048 ≤ t → ∀ d, q b t d = 0) :
    extractStridedSlice S4x2048x1024 ![0, 1, 0] (addf (addf (addf (pad S4x2049x1024 ![0, 0, 768] ![0, 0, 0] ![0, 0, 0] (addf (pad S4x2049x256 ![0, 0, 0] ![0, 16, 0] ![0, 0, 0] (extractStridedSlice S4x2033x256 ![0, 15, 0] (lift4 (fun b t p => -q b t (lane 3 p)) : FVec Ideal S4x2048x256 .f32) slices_S4x2048x256_S4x2033x256_0_15_0) (constant S_ .f32 0x00000000#32) pads_S4x2033x256_S4x2049x256_000_0160_000 h_S_) (pad S4x2049x256 ![0, 1, 0] ![0, 0, 0] ![0, 0, 0] (lift4 (fun b t p => q b t (lane 3 p)) : FVec Ideal S4x2048x256 .f32) (constant S_ .f32 0x00000000#32) pads_S4x2048x256_S4x2049x256_000_100_000 h_S_)) (constant S_ .f32 0x00000000#32) pads_S4x2049x256_S4x2049x1024_000_000_76800 h_S_) (pad S4x2049x1024 ![0, 0, 512] ![0, 0, 256] ![0, 0, 0] (addf (pad S4x2049x256 ![0, 0, 0] ![0, 8, 0] ![0, 0, 0] (extractStridedSlice S4x2041x256 ![0, 7, 0] (lift4 (fun b t p => -q b t (lane 2 p)) : FVec Ideal S4x2048x256 .f32) slices_S4x2048x256_S4x2041x256_0_7_0) (constant S_ .f32 0x00000000#32) pads_S4x2041x256_S4x2049x256_000_080_000 h_S_) (pad S4x2049x256 ![0, 1, 0] ![0, 0, 0] ![0, 0, 0] (lift4 (fun b t p => q b t (lane 2 p)) : FVec Ideal S4x2048x256 .f32) (constant S_ .f32 0x00000000#32) pads_S4x2048x256_S4x2049x256_000_100_000 h_S_)) (constant S_ .f32 0x00000000#32) pads_S4x2049x256_S4x2049x1024_000_000_5122560 h_S_)) (pad S4x2049x1024 ![0, 0, 256] ![0, 0, 512] ![0, 0, 0] (addf (pad S4x2049x256 ![0, 0, 0] ![0, 4, 0] ![0, 0, 0] (extractStridedSlice S4x2045x256 ![0, 3, 0] (lift4 (fun b t p => -q b t (lane 1 p)) : FVec Ideal S4x2048x256 .f32) slices_S4x2048x256_S4x2045x256_0_3_0) (constant S_ .f32 0x00000000#32) pads_S4x2045x256_S4x2049x256_000_040_000 h_S_) (pad S4x2049x256 ![0, 1, 0] ![0, 0, 0] ![0, 0, 0] (lift4 (fun b t p => q b t (lane 1 p)) : FVec Ideal S4x2048x256 .f32) (constant S_ .f32 0x00000000#32) pads_S4x2048x256_S4x2049x256_000_100_000 h_S_)) (constant S_ .f32 0x00000000#32) pads_S4x2049x256_S4x2049x1024_000_000_2565120 h_S_)) (pad S4x2049x1024 ![0, 0, 0] ![0, 0, 768] ![0, 0, 0] (addf (pad S4x2049x256 ![0, 0, 0] ![0, 2, 0] ![0, 0, 0] (extractStridedSlice S4x2047x256 ![0, 1, 0] (lift4 (fun b t p => -q b t (lane 0 p)) : FVec Ideal S4x2048x256 .f32) slices_S4x2048x256_S4x2047x256_0_1_0) (constant S_ .f32 0x00000000#32) pads_S4x2047x256_S4x2049x256_000_020_000 h_S_) (pad S4x2049x256 ![0, 1, 0] ![0, 0, 0] ![0, 0, 0] (lift4 (fun b t p => q b t (lane 0 p)) : FVec Ideal S4x2048x256 .f32) (constant S_ .f32 0x00000000#32) pads_S4x2048x256_S4x2049x256_000_100_000 h_S_)) (constant S_ .f32 0x00000000#32) pads_S4x2049x256_S4x2049x1024_000_000_07680 h_S_) : FVec Ideal S4x2049x1024 .f32) slices_S4x2049x1024_S4x2048x1024_0_1_0
      = (lift4 fun b t d => q b t d - q b (t + win d) d : FVec Ideal S4x2048x1024 .f32) := by
  simp only [pad_low]
  funext i; idx_vars i
  pointwise [lift4]
  exact pads_scalar (q i0) (hq i0) i1 i2 i1.isLt

variable (hCT : ∀ b t, 2048 ≤ t → ∀ d, CT b t d = 0)
include hCT

theorem v186 : extractStridedSlice S4x2048x1024 ![0, 1, 0] (res_main_v186 V0) slices_S4x2049x1024_S4x2048x1024_0_1_0
    = (lift4 fun b t d => Q (X b) (CT b) g1 g2 sc W t d - Q (X b) (CT b) g1 g2 sc W (t + win d) d : FVec Ideal S4x2048x1024 .f32) := by
  rw [res_main_v186, v149 h, v150 h, v158 h, v159 h, v168 h, v169 h, v178 h, v179 h]
  exact pads_lift (fun b => Q (X b) (CT b) g1 g2 sc W) fun b t ht d => Q_zero _ _ _ _ _ _ t (hCT b t ht) d

theorem v190 : res_main_v190 V0 = lift4 fun b => DU (X b) (CT b) g1 g2 sc W := by
  rw [res_main_v190, v186 h hCT, revsum_lift _ _ rfl, v135 h]
  funext i; idx_vars i
  pointwise [lift4]
  rw [show lane ⟨i2.val / 256, by omega⟩ ⟨i2.val % 256, Nat.mod_lt _ (by decide)⟩ = i2 from lane_grp_off i2, coe_neg, coe_add, Finset.sum_sub_distrib,
    ahead_eq_sub 2048 (win i2) (fun s => Q (X i0) (CT i0) g1 g2 sc W s i2) (fun t ht => Q_zero _ _ _ _ _ _ t (hCT i0 t ht) i2), neg_add_eq_sub]
  rfl

theorem v195 : res_main_v195 V0 = lift4 fun b t d => DU (X b) (CT b) g1 g2 sc W t d * g1 d := by
  rw [res_main_v195, v190 h hCT, v17 h]; exact mul_gain _ _

theorem v207 : res_main_v207 V0 = lift4 fun b t _ => (∑ e, X b t e * (DU (X b) (CT b) g1 g2 sc W t e * g1 e)) * (-(1 / 2) * (inv (X b t) / ms (X b t))) / 1024 := by
  rw [res_main_v207, v10 h, v11 h, v195 h hCT, h.x]; exact chain_lift X fun b t d => DU (X b) (CT b) g1 g2 sc W t d * g1 d

/-- The gradient of the layer's input. -/
theorem result0 : addf (addf (addf (V0 (Proc.devRef .tc main_arg1)) (mulf (res_main_v195 V0) (broadcastInDim S4x2048x1024 ![0, 1, 2] bcast_S4x2048x1_S4x2048x1024_0_1_2 (res_main_v11 V0)))) (mulf (V0 (Proc.devRef .tc main_arg0)) (res_main_v207 V0))) (mulf (res_main_v207 V0) (V0 (Proc.devRef .tc main_arg0)))
    = lift4 fun b => DX (X b) (CT b) g1 g2 sc W := by
  rw [v207 h hCT, v195 h hCT, v11 h, h.x, h.ct]
  erw [mul_col]
  funext i; idx_vars i
  pointwise [lift4]
  simp only [coe_mul, coe_add]
  refine congrArg Real.toEReal (Eq.trans ?_ (congrArg (CT i0 i1 i2 + ·) (rmsb_chain _ _ _ _)))
  ring

/-- The gradient of the groups' matrices. -/
theorem result1 : transpose S4x256x256 [0, 2, 1] (Host.dotGeneral (φ₁ := .f32) (φ₂ := .f32) dot_S4x256x4x2048_S4x2048x4x256_S4x256x256_23_01_1_3_0_2 none (res_main_v133 V0) (res_main_v81 V0) : FVec Ideal S4x256x256 .f32) transposes_S4x256x256_S4x256x256_0_2_1
    = (fun i => ((∑ b : Fin 4, ∑ t : Fin 2048, Df (X b) g1 t (lane (i 0) (i 1)) * DO (X b) (CT b) g1 g2 sc W t (lane (i 0) (i 2)) : ℝ) : EReal) : FVec Ideal S4x256x256 .f32) := by
  rw [v133 h, v81 h]
  funext i; idx_vars i
  pointwise
  simp only [coe_mul, coe_sum]
  exact congrArg Real.toEReal (Finset.sum_congr rfl fun b _ => Finset.sum_congr rfl fun t _ => mul_comm _ _)

omit h hCT in
theorem row_sum0 (f : ℕ → ℕ → Fin 1024 → ℝ) :
    Host.reduceAdd (lift4 f : FVec Ideal S4x2048x1024 .f32) (constant S_ .f32 0x00000000#32) reducesTo_S4x2048x1024_S1024_d0_1 h_S_
      = (fun i => ((∑ b : Fin 4, ∑ t : Fin 2048, f b t (i 0) : ℝ) : EReal) : FVec Ideal S1024 .f32) := by
  funext i; idx_vars i
  pointwise [lift4]
  refine (sum_front _ _ i0).trans ?_
  simp only [lift4, coe_sum]
  rfl

omit h hCT in
theorem row_sum1 (f : Fin 1024 → ℝ) :
    broadcastInDim S1x1024 ![1] bcast_S1024_S1x1024_1 (Host.reduceAdd (shapeCast _ (fun i => ((f (i 0) : ℝ) : EReal) : FVec Ideal S1024 .f32) shapeCasts_S1024_S1x1x1024) (constant S_ .f32 0x00000000#32) reducesTo_S1x1x1024_S1024_d0_1 h_S_)
      = (lift2 fun _ => f : FVec Ideal S1x1024 .f32) := by
  funext i; idx_vars i
  pointwise [lift2]
  refine (sum_front _ _ i1).trans ?_
  pointwise
  exact (Fin.sum_univ_one _).trans (Fin.sum_univ_one _)

omit h hCT in
/-- A product summed over batches and times. -/
theorem row_sum (f g : ℕ → ℕ → Fin 1024 → ℝ) :
    broadcastInDim S1x1024 ![1] bcast_S1024_S1x1024_1 (Host.reduceAdd (shapeCast _ (Host.reduceAdd (mulf (lift4 f) (lift4 g) : FVec Ideal S4x2048x1024 .f32) (constant S_ .f32 0x00000000#32) reducesTo_S4x2048x1024_S1024_d0_1 h_S_) shapeCasts_S1024_S1x1x1024) (constant S_ .f32 0x00000000#32) reducesTo_S1x1x1024_S1024_d0_1 h_S_)
      = (lift2 fun _ e => ∑ b : Fin 4, ∑ t : Fin 2048, f b t e * g b t e : FVec Ideal S1x1024 .f32) := by
  rw [show (mulf (lift4 f) (lift4 g) : FVec Ideal S4x2048x1024 .f32) = lift4 fun b t e => f b t e * g b t e from by
    funext i; pointwise [lift4]; exact coe_mul _ _, row_sum0]
  exact row_sum1 fun e => ∑ b : Fin 4, ∑ t : Fin 2048, f b t e * g b t e

/-- The three sums over rows, and five rows of zeros. -/
theorem result2 : (concatenate S8x1024 0 [⟨S1x1024, ((broadcastInDim S1x1024 ![1] bcast_S1024_S1x1024_1 (Host.reduceAdd (shapeCast _ (Host.reduceAdd (mulf (res_main_v16 V0) (res_main_v190 V0)) (constant (F := Ideal) S_ .f32 0x00000000#32) reducesTo_S4x2048x1024_S1024_d0_1 h_S_) shapeCasts_S1024_S1x1x1024) (constant (F := Ideal) S_ .f32 0x00000000#32) reducesTo_S1x1x1024_S1024_d0_1 h_S_)) : (⟨S1x1024, .f32⟩ : BufTy).Contents (Elt Ideal))⟩, ⟨S1x1024, ((broadcastInDim S1x1024 ![1] bcast_S1024_S1x1024_1 (Host.reduceAdd (shapeCast _ (Host.reduceAdd (mulf (res_main_v100 V0) (res_main_v105 V0)) (constant (F := Ideal) S_ .f32 0x00000000#32) reducesTo_S4x2048x1024_S1024_d0_1 h_S_) shapeCasts_S1024_S1x1x1024) (constant (F := Ideal) S_ .f32 0x00000000#32) reducesTo_S1x1x1024_S1024_d0_1 h_S_)) : (⟨S1x1024, .f32⟩ : BufTy).Contents (Elt Ideal))⟩, ⟨S1x1024, ((broadcastInDim S1x1024 ![1] bcast_S1024_S1x1024_1 (Host.reduceAdd (shapeCast _ (Host.reduceAdd (mulf (res_main_v84 V0) (res_main_v125 V0)) (constant (F := Ideal) S_ .f32 0x00000000#32) reducesTo_S4x2048x1024_S1024_d0_1 h_S_) shapeCasts_S1024_S1x1x1024) (constant (F := Ideal) S_ .f32 0x00000000#32) reducesTo_S1x1x1024_S1024_d0_1 h_S_)) : (⟨S1x1024, .f32⟩ : BufTy).Contents (Elt Ideal))⟩, ⟨S5x1024, ((broadcastInDim S5x1024 ![] bcast_S_S5x1024 (constant (F := Ideal) S_ .f32 0x00000000#32)) : (⟨S5x1024, .f32⟩ : BufTy).Contents (Elt Ideal))⟩] concatenates_S1x1024_S1x1024_S1x1024_S5x1024_S8x1024_d0 : (⟨S8x1024, .f32⟩ : BufTy).Contents (Elt Ideal))
    = (fun i => (((if (i 0).val = 0 then ∑ b : Fin 4, ∑ t : Fin 2048, X b t (i 1) * inv (X b t) * DU (X b) (CT b) g1 g2 sc W t (i 1)
        else if (i 0).val = 1 then ∑ b : Fin 4, ∑ t : Fin 2048, Z (X b) g1 sc W t (i 1) * inv (Z (X b) g1 sc W t) * CT b t (i 1)
        else if (i 0).val = 2 then ∑ b : Fin 4, ∑ t : Fin 2048, Mx (X b) g1 W t (i 1) * DM (X b) (CT b) g1 g2 sc W t (i 1)
        else 0 : ℝ)) : EReal) : FVec Ideal S8x1024 .f32) := by
  rw [v16 h, v190 h hCT, v100 h, v105 h, v84 h, v125 h, row_sum, row_sum, row_sum]
  funext i; idx_vars i
  pointwise [lift2]
  split_ifs <;> first | rfl | omega | exact congrArg Real.toEReal (if_pos ‹_›).symm | exact (congrArg Real.toEReal (if_neg ‹_›)).symm

end Cert.ReferenceIdeal.Pool

end
-- ==== Proof.PoolTie.lean ====
/- The group mixer's gradients: finite arguments, and the reference's results beside the kernel's. -/
module

public import proofs.«01_k».proof.Defs
public import proofs.«01_k».proof.Proof.PoolOut
public import proofs.«01_k».proof.Proof.PoolRef

@[expose] public section

noncomputable section

open Idealize.ShloMosaic Idealize.ShloMosaic.TcCoe Idealize.SL.Sem

namespace Cert.Pool

/-- An array whose absolute values all lie below infinity holds numbers. -/
theorem num_of_abs_lt {S : Shape} {φ : FTy} (a b : FVec Ideal S φ) (hb : ∀ i, b i = (⊤ : EReal)) (h : cmpf .olt (Host.absf a) b = fun _ => 1#1) :
    Num a := by
  intro i
  have e := congrFun h i
  pointwise at e
  rw [hb] at e
  have hlt : (max (a i) (-(a i)) : EReal) < ⊤ := by
    by_contra hc
    exact absurd (e.symm.trans (congrArg BitVec.ofBool (decide_eq_false hc))) (by decide)
  refine (EReal.coe_toReal (ne_of_lt (lt_of_le_of_lt (le_max_left _ _) hlt)) fun hbot => ?_).symm
  rw [hbot] at hlt
  exact absurd hlt (by simp)

theorem infinity : Ideal.ofBits .f32 0x7F800000#32 = (⊤ : EReal) := by
  simp [Ideal.ofBits, Ideal.ieee]

theorem facts_finite : Cert.Pre_finite.Facts := ⟨by decide, by decide, by decide, by decide⟩

/-- Arguments satisfying the precondition are numbers. -/
theorem nums_of_finite [hf : Cert.Pre_finite.Facts] (m : (ℓ : Loc Cert.KernelIdeal.nD Cert.KernelIdeal.τ Cert.KernelIdeal.sig) → Buf (Elt Ideal) ℓ)
    (h : Pre_KernelIdeal_finite m) (c : Dev Cert.KernelIdeal.nD) : Cert.KernelIdeal.Pool.Nums m c := by
  obtain ⟨h0, h1, h2, h3, h4, h5⟩ := h c
  exact ⟨num_of_abs_lt _ _ (fun _ => infinity) h0, num_of_abs_lt _ _ (fun _ => infinity) h1, num_of_abs_lt _ _ (fun _ => infinity) h2,
    num_of_abs_lt _ _ (fun _ => infinity) h3, num_of_abs_lt (φ := .f32) _ _ (fun _ => infinity) h4, num_of_abs_lt _ _ (fun _ => infinity) h5⟩

theorem lift4_arr (a : (⟨3, ![4, 2048, 1024]⟩ : Shape).Idx → EReal) (ha : Num a) : a = lift4 (arr a) :=
  funext fun i => by idx_vars i; exact arr_eq a ha i0 i1 i2

theorem lift2_vec (a : (⟨2, ![1, 1024]⟩ : Shape).Idx → EReal) (ha : Num a) : a = lift2 fun _ => vec a :=
  funext fun i => by
    idx_vars i
    obtain rfl : i0 = 0 := Subsingleton.elim _ _
    exact ha _

theorem liftW_mat (a : (⟨3, ![4, 256, 256]⟩ : Shape).Idx → EReal) (ha : Num a) : a = liftW (mat a) .bf16 :=
  funext fun i => by idx_vars i; exact ha _

end Cert.Pool

namespace Cert.ReferenceIdeal.Pool

open Cert.ReferenceIdeal Cert.ReferenceIdeal.Gen Cert.ReferenceIdeal.Value
open Cert.Pool Cert.KernelIdeal.Pool

variable {m : (ℓ : Loc Cert.KernelIdeal.nD Cert.KernelIdeal.τ Cert.KernelIdeal.sig) → Buf (Elt Ideal) ℓ} {c : Dev Cert.KernelIdeal.nD}
  (V0 : Valuation τ sig (Elt Ideal))

/-- The reference's arguments, where they are the kernel's. -/
theorem args (h : Nums m c) (e0 : V0 (Proc.devRef .tc main_arg0) = aX m c) (e1 : V0 (Proc.devRef .tc main_arg1) = aC m c) (e2 : V0 (Proc.devRef .tc main_arg2) = aG1 m c)
    (e3 : V0 (Proc.devRef .tc main_arg3) = aG2 m c) (e4 : V0 (Proc.devRef .tc main_arg4) = aW m c) (e5 : V0 (Proc.devRef .tc main_arg5) = aS m c) :
    Args V0 (arr (aX m c)) (arr (aC m c)) (vec (aG1 m c)) (vec (aG2 m c)) (vec (aS m c)) (mat (aW m c)) :=
  ⟨e0.trans (lift4_arr _ h.x), e1.trans (lift4_arr _ h.ct), e2.trans (lift2_vec _ h.g1), e3.trans (lift2_vec _ h.g2), e4.trans (liftW_mat _ h.w),
    e5.trans (lift2_vec _ h.sc)⟩

/-- The reference's first two results are the kernel's. -/
theorem input_eq : (lift4 fun b => DX (arr (aX m c) b) (arr (aC m c) b) (vec (aG1 m c)) (vec (aG2 m c)) (vec (aS m c)) (mat (aW m c)) : FVec Ideal S4x2048x1024 .f32) = G7 m c := rfl

theorem mats_eq : (fun i => ((∑ b : Fin 4, ∑ t : Fin 2048, Df (arr (aX m c) b) (vec (aG1 m c)) t (lane (i 0) (i 1)) * DO (arr (aX m c) b) (arr (aC m c) b) (vec (aG1 m c)) (vec (aG2 m c)) (vec (aS m c)) (mat (aW m c)) t (lane (i 0) (i 2)) : ℝ) : EReal) : FVec Ideal S4x256x256 .f32) = G8 m c := rfl

/-- The reference's third result in the kernel's order of factors. -/
theorem sums_eq : (fun i => (((if (i 0).val = 0 then ∑ b : Fin 4, ∑ t : Fin 2048, arr (aX m c) b t (i 1) * inv (arr (aX m c) b t) * DU (arr (aX m c) b) (arr (aC m c) b) (vec (aG1 m c)) (vec (aG2 m c)) (vec (aS m c)) (mat (aW m c)) t (i 1)
        else if (i 0).val = 1 then ∑ b : Fin 4, ∑ t : Fin 2048, Z (arr (aX m c) b) (vec (aG1 m c)) (vec (aS m c)) (mat (aW m c)) t (i 1) * inv (Z (arr (aX m c) b) (vec (aG1 m c)) (vec (aS m c)) (mat (aW m c)) t) * arr (aC m c) b t (i 1)
        else if (i 0).val = 2 then ∑ b : Fin 4, ∑ t : Fin 2048, Mx (arr (aX m c) b) (vec (aG1 m c)) (mat (aW m c)) t (i 1) * DM (arr (aX m c) b) (arr (aC m c) b) (vec (aG1 m c)) (vec (aG2 m c)) (vec (aS m c)) (mat (aW m c)) t (i 1)
        else 0 : ℝ)) : EReal) : FVec Ideal S8x1024 .f32) = G9 m c := by
  funext i
  refine congrArg Real.toEReal ?_
  unfold rows3
  split_ifs
  · exact Finset.sum_congr rfl fun b _ => Finset.sum_congr rfl fun t _ => mul_comm _ _
  · exact Finset.sum_congr rfl fun b _ => Finset.sum_congr rfl fun t _ => mul_comm _ _
  · exact Finset.sum_congr rfl fun b _ => Finset.sum_congr rfl fun t _ => mul_comm _ _
  · rfl

end Cert.ReferenceIdeal.Pool

end
-- ==== Proof.GluMath.lean ====
/- The gradient of the gate after the scan over the real numbers: the tanh form of gelu, the logistic gate, the norm and their derivatives. -/
module

public import proofs.«01_k».proof.Proof.PoolMath

@[expose] public section

noncomputable section

open Idealize.ShloMosaic

namespace Cert.Glu

open Cert.Pool

/-- The two constants of gelu's tanh form, as the programs round them. -/
def C : ℝ := 6693141 / 8388608
def K : ℝ := 12003091 / 268435456

theorem ofBits_C : Ideal.ofBits .f32 0x3F4C422A#32 = (C : EReal) := by
  simp [Ideal.ofBits, Ideal.ieee, C]; rw [← EReal.coe_mul]; norm_num
theorem ofBits_K : Ideal.ofBits .f32 0x3D372713#32 = (K : EReal) := by
  simp [Ideal.ofBits, Ideal.ieee, K]; rw [← EReal.coe_mul]; norm_num
theorem ofBits_half : Ideal.ofBits .f32 0x3F000000#32 = ((1 / 2 : ℝ) : EReal) := by
  simp [Ideal.ofBits, Ideal.ieee]; rw [← EReal.coe_mul]; norm_num
theorem ofBits_3 : Ideal.ofBits .f32 0x40400000#32 = ((3 : ℝ) : EReal) := by
  simp [Ideal.ofBits, Ideal.ieee]; rw [← EReal.coe_mul]; norm_num

theorem CK_eq : (80338380498831 / 2251799813685248 : ℝ) = C * K := by norm_num [C, K]
theorem CK3_eq : (241015141496493 / 2251799813685248 : ℝ) = 3 * (C * K) := by norm_num [C, K]

/-- The hyperbolic tangent in gelu. -/
def th (x : ℝ) : ℝ := Real.tanh (x * (C + C * K * (x * x)))

/-- Gelu. -/
def ge (x : ℝ) : ℝ := 1 / 2 * x + 1 / 2 * x * th x

/-- Its derivative. -/
def gg (x : ℝ) : ℝ := 1 / 2 + 1 / 2 * th x + 1 / 2 * x * (1 - th x * th x) * (C + 3 * (C * K) * (x * x))

/-- The logistic function. -/
def sg (x : ℝ) : ℝ := 1 / (1 + Real.exp (0 - x))

theorem coe_sg (x : ℝ) : Ideal.div ((1 : ℝ) : EReal) ((1 + Real.exp (0 - x) : ℝ) : EReal) = ((sg x : ℝ) : EReal) :=
  coe_div _ _ (by positivity)

section rows

variable (W : ℕ → Fin 1024 → ℝ) (b g y ct : Fin 1024 → ℝ)

/-- The gate of a row. -/
def S (j : Fin 1024) : ℝ := sg (∑ k : Fin 1024, ge (y k) * W k j + b j)

/-- The gated row. -/
def M (d : Fin 1024) : ℝ := ge (y d) * S W b y d

/-- The gradient of the gated row. -/
def DM (d : Fin 1024) : ℝ := rmsb (M W b y) g ct d

/-- … of what the gate's logistic function is given. -/
def DA (d : Fin 1024) : ℝ := DM W b g y ct d * ge (y d) * S W b y d * (1 - S W b y d)

/-- … of the row after gelu. -/
def DZ (d : Fin 1024) : ℝ := DM W b g y ct d * S W b y d + ∑ j : Fin 1024, DA W b g y ct j * W d j

/-- … of the row. -/
def DY (d : Fin 1024) : ℝ := DZ W b g y ct d * gg (y d)

end rows

end Cert.Glu

end
-- ==== Proof.GluPay.lean ====
/- The gate's gradient call: what its vector steps compute when every argument is a number. -/
module

public import proofs.«01_k».proof.Proof.Gen.Kernel3Ideal.Skeleton
public import proofs.«01_k».proof.Proof.GluMath

@[expose] public section

noncomputable section

open Idealize.ShloMosaic Idealize.ShloMosaic.TcCoe Idealize.SL.Sem

namespace Cert.Kernel3Ideal.Glu

open Cert.Kernel3Ideal Cert.Kernel3Ideal.Gen Cert.Pool Cert.Glu

theorem named_ck : Named.named (F := Ideal) κ "gelu_ck" (φ := .f32) 0x3D122279#32 = ((C * K : ℝ) : EReal) :=
  (IdealRules.named_const.ideal_named_scalar _ _ _ _ rfl).trans (congrArg Real.toEReal CK_eq)

theorem named_3ck : Named.named (F := Ideal) κ "gelu_3ck" (φ := .f32) 0x3DDB33B6#32 = ((3 * (C * K) : ℝ) : EReal) :=
  (IdealRules.named_const.ideal_named_scalar _ _ _ _ rfl).trans (congrArg Real.toEReal CK3_eq)

variable (Y CT : ℕ → Fin 1024 → ℝ) (W : ℕ → Fin 1024 → ℝ) (b g : Fin 1024 → ℝ)

theorem p7 : k0_pay7 (F := Ideal) (lift2 Y) = lift2 fun r d => th (Y r d) := by
  funext i; idx_vars i
  pointwise [k0_pay7, k0_pay6, lift2]
  simp only [named_ck, ofBits_C, coe_mul, coe_add, Ideal.tanh_coe, th]

theorem p8 : k0_pay8 (F := Ideal) (lift2 Y) = lift2 fun r d => 1 / 2 * Y r d := by
  funext i; idx_vars i
  pointwise [k0_pay8, lift2]
  simp only [ofBits_half, coe_mul]

theorem p9 : k0_pay9 (F := Ideal) (lift2 Y) = lift2 fun r d => ge (Y r d) := by
  funext i; idx_vars i
  pointwise [k0_pay9, p7, p8, lift2]
  simp only [coe_mul, coe_add, ge]

theorem p10 : k0_pay10 (F := Ideal) (lift2 Y) = lift2 fun r d => gg (Y r d) := by
  funext i; idx_vars i
  pointwise [k0_pay10, k0_pay6, p7, p8, lift2]
  simp only [named_3ck, ofBits_C, ofBits_half, ofBits_1, ← EReal.coe_one, coe_mul, coe_add, coe_sub, gg]

theorem p11 : k0_pay11 (F := Ideal) (lift2 Y) = lift2 (fun r d => ge (Y r d)) .bf16 := by
  funext i; idx_vars i
  pointwise [k0_pay11, p9, lift2]

theorem p14 : k0_pay14 (F := Ideal) (k0_pay12 (lift2 Y) (lift2 W .bf16) (lift2 fun _ => b)) k0_pay13 = lift2 fun r => S W b (Y r) := by
  funext i; idx_vars i
  pointwise [k0_pay14, k0_pay12, k0_pay13, p11, lift2]
  simp only [coe_mul, coe_sum, coe_add, zero_add_coe]
  simp only [← EReal.coe_one, ← EReal.coe_zero, coe_add, coe_sub, Ideal.exp_coe, coe_sg, S]

variable (e : FVec Ideal S512x1024 .f32) (s : ℕ → Fin 1024 → ℝ) (z : ℕ → Fin 1024 → ℝ) (o : FVec Ideal S512x1024 .f32)
  (hs : k0_pay14 e o = lift2 s)

include hs

theorem p15 : k0_pay15 (F := Ideal) (lift2 z) e o = lift2 fun r d => z r d * s r d := by
  funext i; idx_vars i
  pointwise [k0_pay15, hs, lift2]
  simp only [coe_mul]

theorem p16 : k0_pay16 (F := Ideal) (lift2 z) e o = (lift2 fun r (_ : Fin 1) => inv fun d => z r d * s r d) := by
  funext i; idx_vars i
  pointwise [k0_pay16, p15 e s z o hs, lift2]
  simp only [ofBits_1024, ofBits_eps, coe_mul, coe_sum, coe_inv]

theorem p17 : k0_pay17 (F := Ideal) (lift2 z) e o = lift2 fun r d => z r d * s r d * inv fun d => z r d * s r d := by
  funext i; idx_vars i
  pointwise [k0_pay17, p15 e s z o hs, p16 e s z o hs, lift2]
  simp only [coe_mul]

theorem p18 : k0_pay18 (F := Ideal) (lift2 z) e o (lift2 CT) = lift2 fun _ d => ∑ r : Fin 512, CT r d * (z r d * s r d * inv fun d => z r d * s r d) := by
  funext i; idx_vars i
  pointwise [k0_pay18, p17 e s z o hs, lift2]
  simp only [coe_mul, coe_sum]

theorem p19 : k0_pay19 (F := Ideal) (lift2 z) e o (lift2 fun _ => g) (lift2 CT) = lift2 fun r => rmsb (fun d => z r d * s r d) g (CT r) := by
  funext i; idx_vars i
  pointwise [k0_pay19, p17 e s z o hs, p16 e s z o hs, lift2]
  simp only [ofBits_1024, coe_mul, coe_sum, coe_sub, coe_div_1024, rmsb]

theorem p20 : k0_pay20 (F := Ideal) (lift2 z) e o (lift2 fun _ => g) (lift2 CT)
    = lift2 fun r d => rmsb (fun d => z r d * s r d) g (CT r) d * z r d * s r d * (1 - s r d) := by
  funext i; idx_vars i
  pointwise [k0_pay20, p19 CT g e s z o hs, hs, lift2]
  simp only [← EReal.coe_one, coe_mul, coe_sub]

theorem p22 : k0_pay22 (F := Ideal) (lift2 z) (lift2 W .bf16) e o (lift2 fun _ => g) (lift2 CT)
    = lift2 fun r d => rmsb (fun d => z r d * s r d) g (CT r) d * s r d
      + ∑ j : Fin 1024, rmsb (fun d => z r d * s r d) g (CT r) j * z r j * s r j * (1 - s r j) * W d j := by
  funext i; idx_vars i
  pointwise [k0_pay22, k0_pay21, p20 CT g e s z o hs, p19 CT g e s z o hs, hs, lift2]
  simp only [coe_mul, coe_sum, coe_add, zero_add_coe]

theorem p23 (a : ℕ → Fin 1024 → ℝ) : k0_pay23 (F := Ideal) (lift2 z) (lift2 z .bf16) e o (lift2 fun _ => g) (lift2 CT) (lift2 a)
    = lift2 fun p q => a p q + ∑ r : Fin 512, (if hp : p < 1024 then z r ⟨p, hp⟩ else 0) * (rmsb (fun d => z r d * s r d) g (CT r) q * z r q * s r q * (1 - s r q)) := by
  funext i; idx_vars i
  pointwise [k0_pay23, k0_pay21, p20 CT g e s z o hs, lift2]
  have := i0.isLt
  simp only [coe_mul, coe_sum, coe_add, zero_add_coe, this, dite_true]

omit hs

theorem p1 (u a : Fin 1024 → ℝ) : k0_pay1 (F := Ideal) (lift2 fun _ => u) (lift2 fun _ => a) = lift2 fun _ d => a d + u d := by
  funext i; idx_vars i
  pointwise [k0_pay1, lift2]
  simp only [coe_add]

theorem p2 (u : ℕ → Fin 1024 → ℝ) (a : Fin 1024 → ℝ) : k0_pay2 (F := Ideal) (lift2 u) (lift2 fun _ => a) = lift2 fun _ d => a d + ∑ r : Fin 512, u r d := by
  funext i; idx_vars i
  pointwise [k0_pay2, lift2]
  simp only [coe_sum, coe_add]

theorem p3 (u v : ℕ → Fin 1024 → ℝ) : k0_pay3 (F := Ideal) (lift2 u) (lift2 v) = lift2 fun r d => v r d * u r d := by
  funext i; idx_vars i
  pointwise [k0_pay3, lift2]
  simp only [coe_mul]

theorem p4 : k0_pay4 (F := Ideal) = lift2 fun _ _ => 0 := by
  funext i; idx_vars i; pointwise [k0_pay4, lift2]; simp [ofBits_0]

theorem p5 : k0_pay5 (F := Ideal) = lift2 fun _ _ => 0 := by
  funext i; idx_vars i; pointwise [k0_pay5, lift2]; simp [ofBits_0]

end Cert.Kernel3Ideal.Glu

end
-- ==== Proof.GluOut.lean ====
/- The gate's gradient call: what each tile of rows leaves, and the three arrays at the end. -/
module

public import proofs.«01_k».proof.Proof.Gen.Kernel3Ideal.Value
public import proofs.«01_k».proof.Proof.GluPay
public import Idealize.ShloMosaic.Lib.Pointwise
public import Idealize.ShloMosaic.Lib.Pipeline.ValueKit
public import Idealize.ShloMosaic.Lib.Pipeline.ReadBack

@[expose] public section

noncomputable section

open Idealize.ShloMosaic Idealize.ShloMosaic.TcCoe Idealize.SL.Sem
open Idealize.ShloMosaic.Pipeline (Dat)

namespace Cert.Glu

open Cert.Pool

/-- Every entry is a number. -/
abbrev IsNum {S : Shape} (a : S.Idx → EReal) : Prop := ∀ i, a i = (((a i).toReal : ℝ) : EReal)

/-- A matrix of numbers by its rows, and zeros below. -/
def rowsOf {n k : ℕ} (a : (⟨2, ![n, k]⟩ : Shape).Idx → EReal) (r : ℕ) (d : Fin k) : ℝ := if h : r < n then (a (ix2 ⟨r, h⟩ d)).toReal else 0

theorem rowsOf_eq {n k : ℕ} (a : (⟨2, ![n, k]⟩ : Shape).Idx → EReal) (h : IsNum a) (i : (⟨2, ![n, k]⟩ : Shape).Idx) :
    a i = ((rowsOf a (i 0).val (i 1) : ℝ) : EReal) := by
  refine (h i).trans (congrArg Real.toEReal ?_)
  unfold rowsOf
  rw [dif_pos (show (i 0).val < n from (i 0).isLt)]
  exact congrArg (fun j => (a j).toReal) (funext fun x => match x with | ⟨0, _⟩ => rfl | ⟨1, _⟩ => rfl)

theorem lift2_rows {n k : ℕ} (a : (⟨2, ![n, k]⟩ : Shape).Idx → EReal) (h : IsNum a) : a = lift2 (rowsOf a) := funext (rowsOf_eq a h)

/-- Two rows replaced. -/
def rows2 (b0 b1 : Fin 1024 → ℝ) (a : ℕ → Fin 1024 → ℝ) (r : ℕ) : Fin 1024 → ℝ := if r = 0 then b0 else if r = 1 then b1 else a r

/-- Sixteen tiles of 512 rows are 8192 rows. -/
theorem sum_tiles (F : ℕ → ℝ) : ∑ n ∈ Finset.range 16, ∑ r : Fin 512, F (512 * n + r) = ∑ r : Fin 8192, F r := by
  rw [Fin.sum_univ_eq_sum_range F 8192, show 8192 = 16 * 512 from rfl, Finset.sum_range_mul_split]
  refine Finset.sum_congr rfl fun n _ => ?_
  rw [Fin.sum_univ_eq_sum_range (fun r => F (512 * n + r)) 512, Nat.mul_comm 512]

end Cert.Glu

namespace Cert.Kernel3Ideal.Glu

open Cert.Kernel3Ideal Cert.Kernel3Ideal.Gen Cert.Kernel3Ideal.Value Cert.Pool Cert.Glu

variable (m : (ℓ : Loc nD τ sig) → Buf (Elt Ideal) ℓ) (c : Dev nD)

/-- The arguments as arrays of extended reals. -/
abbrev aY : S8192x1024.Idx → EReal := m ((c : Thread nD τ).loc main_arg0)
abbrev aC : S8192x1024.Idx → EReal := m ((c : Thread nD τ).loc main_arg1)
abbrev aW : S1024x1024.Idx → EReal := m ((c : Thread nD τ).loc main_arg2)
abbrev aB : S1x1024.Idx → EReal := m ((c : Thread nD τ).loc main_arg3)
abbrev aG : S1x1024.Idx → EReal := m ((c : Thread nD τ).loc main_arg4)

/-- Every argument is a number. -/
structure Nums : Prop where
  y : IsNum (aY m c)
  ct : IsNum (aC m c)
  w : IsNum (aW m c)
  b : IsNum (aB m c)
  g : IsNum (aG m c)

/-- The arguments' rows. -/
abbrev Y : ℕ → Fin 1024 → ℝ := rowsOf (aY m c)
abbrev CT : ℕ → Fin 1024 → ℝ := rowsOf (aC m c)
abbrev W : ℕ → Fin 1024 → ℝ := rowsOf (aW m c)
abbrev b : Fin 1024 → ℝ := rowsOf (aB m c) 0
abbrev g : Fin 1024 → ℝ := rowsOf (aG m c) 0

theorem idx0 (t : Fin cfg0.N) : win0_0.index t = ![t.val, 0] :=
  (by decide +kernel : ∀ t : Fin grid0.N, win0_0.index t = ![t.val, 0]) t
theorem idx1 (t : Fin cfg0.N) : win0_1.index t = ![t.val, 0] :=
  (by decide +kernel : ∀ t : Fin grid0.N, win0_1.index t = ![t.val, 0]) t
theorem idx2 (t : Fin cfg0.N) : win0_2.index t = ![0, 0] :=
  (by decide +kernel : ∀ t : Fin grid0.N, win0_2.index t = ![0, 0]) t
theorem idx3 (t : Fin cfg0.N) : win0_3.index t = ![0, 0] :=
  (by decide +kernel : ∀ t : Fin grid0.N, win0_3.index t = ![0, 0]) t
theorem idx4 (t : Fin cfg0.N) : win0_4.index t = ![0, 0] :=
  (by decide +kernel : ∀ t : Fin grid0.N, win0_4.index t = ![0, 0]) t
theorem idx5 (t : Fin cfg0.N) : win0_5.index t = ![t.val, 0] :=
  (by decide +kernel : ∀ t : Fin grid0.N, win0_5.index t = ![t.val, 0]) t
theorem idx6 (t : Fin cfg0.N) : win0_6.index t = ![0, 0] :=
  (by decide +kernel : ∀ t : Fin grid0.N, win0_6.index t = ![0, 0]) t
theorem idx7 (t : Fin cfg0.N) : win0_7.index t = ![0, 0] :=
  (by decide +kernel : ∀ t : Fin grid0.N, win0_7.index t = ![0, 0]) t

variable {m c} (h : Nums m c) (t : Fin cfg0.N)

include h

theorem blk0 : iblk m c 0 t = lift2 fun r => Y m c (512 * t.val + r) := by
  have hN : t.val < 16 := lt_of_lt_of_eq t.isLt N_0
  funext i; idx_vars i
  refine Eq.trans ?_ (rowsOf_eq (aY m c) h.y (ix2 ⟨512 * t.val + i0.val, by omega⟩ i1))
  show V m c main_arg0 ((win0_0.blk t).view.emb (ix2 i0 i1)) = _
  refine congrArg _ (funext fun a => Fin.ext ?_)
  blk_simp [idx0]
  fin_cases a <;> simp <;> omega

theorem blk1 : iblk m c 1 t = lift2 fun r => CT m c (512 * t.val + r) := by
  have hN : t.val < 16 := lt_of_lt_of_eq t.isLt N_0
  funext i; idx_vars i
  refine Eq.trans ?_ (rowsOf_eq (aC m c) h.ct (ix2 ⟨512 * t.val + i0.val, by omega⟩ i1))
  show V m c main_arg1 ((win0_1.blk t).view.emb (ix2 i0 i1)) = _
  refine congrArg _ (funext fun a => Fin.ext ?_)
  blk_simp [idx1]
  fin_cases a <;> simp <;> omega

theorem blk2 : iblk m c 2 t = lift2 (W m c) .bf16 := by
  funext i; idx_vars i
  refine Eq.trans ?_ (rowsOf_eq (aW m c) h.w (ix2 i0 i1))
  show V m c main_arg2 ((win0_2.blk t).view.emb (ix2 i0 i1)) = _
  refine congrArg _ (funext fun a => Fin.ext ?_)
  blk_simp [idx2]
  fin_cases a <;> simp

theorem blk3 : iblk m c 3 t = lift2 fun _ => b m c := by
  funext i; idx_vars i
  obtain rfl : i0 = 0 := Subsingleton.elim _ _
  refine Eq.trans ?_ (rowsOf_eq (aB m c) h.b (ix2 0 i1))
  show V m c main_arg3 ((win0_3.blk t).view.emb (ix2 0 i1)) = _
  refine congrArg _ (funext fun a => Fin.ext ?_)
  blk_simp [idx3]
  fin_cases a <;> simp

theorem blk4 : iblk m c 4 t = lift2 fun _ => g m c := by
  funext i; idx_vars i
  obtain rfl : i0 = 0 := Subsingleton.elim _ _
  refine Eq.trans ?_ (rowsOf_eq (aG m c) h.g (ix2 0 i1))
  show V m c main_arg4 ((win0_4.blk t).view.emb (ix2 0 i1)) = _
  refine congrArg _ (funext fun a => Fin.ext ?_)
  blk_simp [idx4]
  fin_cases a <;> simp

omit h

/-- What a tile adds to the gate's matrix. -/
def t6 (m : (ℓ : Loc nD τ sig) → Buf (Elt Ideal) ℓ) (c : Dev nD) (n p : ℕ) (q : Fin 1024) : ℝ :=
  ∑ r : Fin 512, (if hp : p < 1024 then ge (Y m c (512 * n + r) ⟨p, hp⟩) else 0) * DA (W m c) (b m c) (g m c) (Y m c (512 * n + r)) (CT m c (512 * n + r)) q

/-- … to the gain's gradient. -/
def r0 (m : (ℓ : Loc nD τ sig) → Buf (Elt Ideal) ℓ) (c : Dev nD) (n : ℕ) (d : Fin 1024) : ℝ :=
  ∑ r : Fin 512, CT m c (512 * n + r) d * (M (W m c) (b m c) (Y m c (512 * n + r)) d * inv (M (W m c) (b m c) (Y m c (512 * n + r))))

/-- … to the offsets'. -/
def r1 (m : (ℓ : Loc nD τ sig) → Buf (Elt Ideal) ℓ) (c : Dev nD) (n : ℕ) (d : Fin 1024) : ℝ :=
  ∑ r : Fin 512, DA (W m c) (b m c) (g m c) (Y m c (512 * n + r)) (CT m c (512 * n + r)) d

theorem ldR0 (a : ℕ → Fin 1024 → ℝ) : View.ld (Val := Elt Ideal) (S := S8x1024) (e' := .f32) (lift2 a) (Rect.unit ![0, 0] ![1, 1024] inb_S8x1024_S1x1024_0_0) = lift2 fun _ => a 0 := by
  funext i; idx_vars i; pointwise [lift2]
theorem ldR1 (a : ℕ → Fin 1024 → ℝ) : View.ld (Val := Elt Ideal) (S := S8x1024) (e' := .f32) (lift2 a) (Rect.unit ![1, 0] ![1, 1024] inb_S8x1024_S1x1024_1_0) = lift2 fun _ => a 1 := by
  funext i; idx_vars i; pointwise [lift2]

/-- Two rows written over an array, read in any way that sees the last write first. -/
theorem rows_written (R : List (View.Piece (Elt Ideal) S8x1024 .f32) → S8x1024.Idx → EReal)
    (he : ∀ (r : Rect S8x1024) (w : r.shape.Idx → EReal) L x, R (⟨r, w⟩ :: L) (r.emb x) = w x)
    (hn : ∀ (p : View.Piece (Elt Ideal) S8x1024 .f32) L y, y ∉ p.1.set → R (p :: L) y = R L y)
    (b0 b1 : Fin 1024 → ℝ) (a : ℕ → Fin 1024 → ℝ) (L : List (View.Piece (Elt Ideal) S8x1024 .f32)) (hL : R L = lift2 a) :
    R (⟨Rect.unit ![1, 0] ![1, 1024] inb_S8x1024_S1x1024_1_0, lift2 fun _ => b1⟩ :: ⟨Rect.unit ![0, 0] ![1, 1024] inb_S8x1024_S1x1024_0_0, lift2 fun _ => b0⟩ :: L) = lift2 (rows2 b0 b1 a) := by
  funext i
  idx_vars i
  have hm (k : ℕ) (hk : ∀ a, (![k, 0] : Fin 2 → ℕ) a + (![1, 1024] : Fin 2 → ℕ) a ≤ S8x1024.size a) (h : i0.val ≠ k) : ix2 i0 i1 ∉ (Rect.unit (s := S8x1024) ![k, 0] ![1, 1024] hk).set := by
    intro hs
    have := Rect.mem_set_unit.mp hs 0
    simp at this
    omega
  have hi (k : ℕ) (hk : ∀ a, (![k, 0] : Fin 2 → ℕ) a + (![1, 1024] : Fin 2 → ℕ) a ≤ S8x1024.size a) (h : i0.val = k) :
      ix2 i0 i1 = (Rect.unit (s := S8x1024) ![k, 0] ![1, 1024] hk).emb (ix2 0 i1) :=
    funext fun a => Fin.ext (by rw [ValueKit.rect_emb_unit_val (s := S8x1024)]; fin_cases a <;> simp <;> omega)
  have hh (r : Rect S8x1024) (w : r.shape.Idx → EReal) (L : List (View.Piece (Elt Ideal) S8x1024 .f32)) (x : r.shape.Idx) (y : S8x1024.Idx) (hy : y = r.emb x) :
      R (⟨r, w⟩ :: L) y = w x := by subst hy; exact he r w L x
  let x : (⟨2, ![1, 1024]⟩ : Shape).Idx := ix2 0 i1
  by_cases h1 : i0.val = 1
  · refine (hh (Rect.unit (s := S8x1024) ![1, 0] ![1, 1024] inb_S8x1024_S1x1024_1_0) (lift2 fun _ => b1) _ x _ (hi 1 inb_S8x1024_S1x1024_1_0 h1)).trans ?_
    simp [lift2, rows2, h1, x]
  refine (hn ⟨Rect.unit (s := S8x1024) ![1, 0] ![1, 1024] inb_S8x1024_S1x1024_1_0, lift2 fun _ => b1⟩ _ _ (hm 1 inb_S8x1024_S1x1024_1_0 h1)).trans ?_
  by_cases h0 : i0.val = 0
  · refine (hh (Rect.unit (s := S8x1024) ![0, 0] ![1, 1024] inb_S8x1024_S1x1024_0_0) (lift2 fun _ => b0) _ x _ (hi 0 inb_S8x1024_S1x1024_0_0 h0)).trans ?_
    simp [lift2, rows2, h0, x]
  refine (hn ⟨Rect.unit (s := S8x1024) ![0, 0] ![1, 1024] inb_S8x1024_S1x1024_0_0, lift2 fun _ => b0⟩ _ _ (hm 0 inb_S8x1024_S1x1024_0_0 h0)).trans ((congrFun hL _).trans ?_)
  simp [lift2, rows2, h0, h1]

include h

/-- The tile's gradients of the rows. -/
theorem out5 : (outsAt0 m c t.val t.isLt).1 = lift2 fun r => DY (W m c) (b m c) (g m c) (Y m c (512 * t.val + r)) (CT m c (512 * t.val + r)) := by
  have e := p14 (fun r => Y m c (512 * t.val + r)) (W m c) (b m c)
  by_cases h0 : t.val % 16 = 0
  · rw [outsAt0_A m c t h0]; frame_out
    simp only [read_unread_whole, blk0 h t, blk1 h t, blk2 h t, blk3 h t, blk4 h t, p9, p10, p11, p22 _ _ _ _ _ _ _ e, p3]
    rfl
  · rw [outsAt0_B m c t h0]; frame_out
    simp only [read_unread_whole, blk0 h t, blk1 h t, blk2 h t, blk3 h t, blk4 h t, p9, p10, p11, p22 _ _ _ _ _ _ _ e, p3]
    rfl

theorem out6_A (h0 : t.val % 16 = 0) : (outsAt0 m c t.val t.isLt).2.1 = lift2 fun p q => 0 + t6 m c t.val p q := by
  have e := p14 (fun r => Y m c (512 * t.val + r)) (W m c) (b m c)
  rw [outsAt0_A m c t h0]
  frame_open; simp (disch := decide) only [↓ View.readCov_skip, ↓ View.readCov_cons_toLoadRect, ↓ View.readCov_fill]; frame_out
  simp only [read_unread_whole, blk0 h t, blk1 h t, blk2 h t, blk3 h t, blk4 h t, p9, p10, p11, p4, p23 _ _ _ _ _ _ e]
  rfl

theorem out6_B (h0 : ¬t.val % 16 = 0) (a : ℕ → Fin 1024 → ℝ) (hb : t.val - 1 < cfg0.N) (hp : (outsAt0 m c (t.val - 1) hb).2.1 = lift2 a) :
    (outsAt0 m c t.val t.isLt).2.1 = lift2 fun p q => a p q + t6 m c t.val p q := by
  have e := p14 (fun r => Y m c (512 * t.val + r)) (W m c) (b m c)
  rw [outsAt0_B m c t h0]; frame_out
  simp only [read_unread_whole, blk0 h t, blk1 h t, blk2 h t, blk3 h t, blk4 h t, hp, p9, p10, p11, p23 _ _ _ _ _ _ e]
  rfl

theorem out7_A (h0 : t.val % 16 = 0) : (outsAt0 m c t.val t.isLt).2.2
    = lift2 (rows2 (fun d => 0 + r0 m c t.val d) (fun d => 0 + r1 m c t.val d) fun _ _ => 0) := by
  have e := p14 (fun r => Y m c (512 * t.val + r)) (W m c) (b m c)
  rw [outsAt0_A m c t h0]
  frame_open; simp (disch := decide) only [↓ View.readCov_skip, ↓ View.readCov_cons_toLoadRect, ↓ View.readCov_fill]; frame_out
  simp only [read_unread_whole, blk0 h t, blk1 h t, blk2 h t, blk3 h t, blk4 h t, p9, p10, p11, p5, ldR0, ldR1, p18 _ _ _ _ _ e, p20 _ _ _ _ _ _ e, p1, p2]
  exact rows_written (fun L => View.canon (Val := Elt Ideal) (e := .f32) L) (fun r w L x => View.canon_cons_emb r w L x) (fun p L y hy => View.canon_cons_of_not_mem p L hy) _ _ _ [_]
    (View.canon_cons_unit_lit (Val := Elt Ideal) (e := .f32) (S := S8x1024) inb_S8x1024_S8x1024_0_0 _ _ (by decide))

theorem out7_B (h0 : ¬t.val % 16 = 0) (b0 b1 : Fin 1024 → ℝ) (hb : t.val - 1 < cfg0.N) (hp : (outsAt0 m c (t.val - 1) hb).2.2 = lift2 (rows2 b0 b1 fun _ _ => 0)) :
    (outsAt0 m c t.val t.isLt).2.2 = lift2 (rows2 (fun d => b0 d + r0 m c t.val d) (fun d => b1 d + r1 m c t.val d) (rows2 b0 b1 fun _ _ => 0)) := by
  have e := p14 (fun r => Y m c (512 * t.val + r)) (W m c) (b m c)
  rw [outsAt0_B m c t h0]; frame_out
  simp only [read_unread_whole, blk0 h t, blk1 h t, blk2 h t, blk3 h t, blk4 h t, hp, p9, p10, p11, ldR0, ldR1, p18 _ _ _ _ _ e, p20 _ _ _ _ _ _ e, p1, p2]
  exact rows_written (fun L => View.read (Elt Ideal) (ms0_7 t).view ((ms0_7 t).view.writes (Elt Ideal) _ L)) (fun r w L x => View.read_writes_cons_emb _ _ r w L x) (fun p L y hy => View.read_writes_cons_miss _ _ p L y hy) _ _ _ []
      ((hs0_7 t).read_unread _)

/-! ## Over the tiles -/

theorem acc6 : ∀ (n : ℕ) (hn : n < cfg0.N), (outsAt0 m c n hn).2.1 = lift2 fun p q => ∑ j ∈ Finset.range (n + 1), t6 m c j p q
  | 0, hn => (out6_A h ⟨0, hn⟩ rfl).trans (congrArg lift2 (funext fun p => funext fun q => by simp))
  | n + 1, hn => by
    have hN : n + 1 < 16 := lt_of_lt_of_eq hn N_0
    refine (out6_B h ⟨n + 1, hn⟩ (by dsimp only; omega) _ (by dsimp only; omega) (acc6 n (by omega))).trans (congrArg lift2 ?_)
    funext p q
    exact (Finset.sum_range_succ _ _).symm

theorem acc7 : ∀ (n : ℕ) (hn : n < cfg0.N), (outsAt0 m c n hn).2.2
    = lift2 (rows2 (fun d => ∑ j ∈ Finset.range (n + 1), r0 m c j d) (fun d => ∑ j ∈ Finset.range (n + 1), r1 m c j d) fun _ _ => 0)
  | 0, hn => (out7_A h ⟨0, hn⟩ rfl).trans (congrArg lift2 (by simp))
  | n + 1, hn => by
    have hN : n + 1 < 16 := lt_of_lt_of_eq hn N_0
    refine (out7_B h ⟨n + 1, hn⟩ (by dsimp only; omega) _ _ (by dsimp only; omega) (acc7 n (by omega))).trans (congrArg lift2 ?_)
    funext r d
    simp only [Finset.sum_range_succ _ (n + 1)]
    unfold rows2
    split_ifs <;> rfl

/-- The gradient of the scan's output. -/
def G5 (m : (ℓ : Loc nD τ sig) → Buf (Elt Ideal) ℓ) (c : Dev nD) : S8192x1024.Idx → EReal :=
  lift2 fun r => DY (W m c) (b m c) (g m c) (Y m c r) (CT m c r)

/-- The gradient of the gate's matrix. -/
def G6 (m : (ℓ : Loc nD τ sig) → Buf (Elt Ideal) ℓ) (c : Dev nD) : S1024x1024.Idx → EReal :=
  fun i => ((∑ r : Fin 8192, ge (Y m c r (i 0)) * DA (W m c) (b m c) (g m c) (Y m c r) (CT m c r) (i 1) : ℝ) : EReal)

/-- The gradients of the gain and of the offsets, and six rows of zeros. -/
def G7 (m : (ℓ : Loc nD τ sig) → Buf (Elt Ideal) ℓ) (c : Dev nD) : S8x1024.Idx → EReal :=
  lift2 (rows2 (fun d => ∑ r : Fin 8192, CT m c r d * (M (W m c) (b m c) (Y m c r) d * inv (M (W m c) (b m c) (Y m c r))))
    (fun d => ∑ r : Fin 8192, DA (W m c) (b m c) (g m c) (Y m c r) (CT m c r) d) fun _ _ => 0)

theorem arr5 : (dats m 0 c).arrAt 5 cfg0.N = G5 m c := by
  refine (dats m 0 c).arrAt_eq_of_covers 5 _ (by decide +kernel) fun t hf y => ?_
  have hN : t.val < 16 := lt_of_lt_of_eq t.isLt N_0
  blk_simp
  rw [after0_5, out5 h t]
  idx_vars y
  refine Eq.trans ?_ (congrArg (G5 m c) (show ix2 ⟨512 * t.val + y0.val, by omega⟩ y1
    = (win0_5.blk t).view.emb (ix2 y0 y1) from funext fun a => Fin.ext (by blk_simp [idx5]; fin_cases a <;> simp <;> omega)))
  rfl

theorem arr6 : (dats m 0 c).arrAt 6 cfg0.N = G6 m c := by
  refine (dats m 0 c).arrAt_eq_of_covers 6 _ (by decide +kernel) fun t hf y => ?_
  have hN : t.val < 16 := lt_of_lt_of_eq t.isLt N_0
  have ht : t.val = 15 := by have := (flush0_6 t).mp hf; omega
  blk_simp
  rw [after0_6, acc6 h]
  idx_vars y
  refine Eq.trans ?_ (congrArg (G6 m c) (show ix2 y0 y1
    = (win0_6.blk t).view.emb (ix2 y0 y1) from funext fun a => Fin.ext (by blk_simp [idx6]; fin_cases a <;> simp)))
  rw [ht]
  have hy := y0.isLt
  refine congrArg Real.toEReal (Eq.trans ?_ (sum_tiles fun r => ge (Y m c r y0) * DA (W m c) (b m c) (g m c) (Y m c r) (CT m c r) y1))
  exact Finset.sum_congr rfl fun n _ => Finset.sum_congr rfl fun r _ => congrArg (· * _) (dif_pos hy)

theorem arr7 : (dats m 0 c).arrAt 7 cfg0.N = G7 m c := by
  refine (dats m 0 c).arrAt_eq_of_covers 7 _ (by decide +kernel) fun t hf y => ?_
  have hN : t.val < 16 := lt_of_lt_of_eq t.isLt N_0
  have ht : t.val = 15 := by have := (flush0_7 t).mp hf; omega
  blk_simp
  rw [after0_7, acc7 h]
  idx_vars y
  refine Eq.trans ?_ (congrArg (G7 m c) (show ix2 y0 y1
    = (win0_7.blk t).view.emb (ix2 y0 y1) from funext fun a => Fin.ext (by blk_simp [idx7]; fin_cases a <;> simp)))
  rw [ht]
  refine congrArg Real.toEReal (congrFun (congrFun (congr (congr (congrArg rows2 (funext fun d => ?_)) (funext fun d => ?_)) rfl) _) _)
  · exact sum_tiles fun r => CT m c r d * (M (W m c) (b m c) (Y m c r) d * inv (M (W m c) (b m c) (Y m c r)))
  · exact sum_tiles fun r => DA (W m c) (b m c) (g m c) (Y m c r) (CT m c r) d

end Cert.Kernel3Ideal.Glu

end
-- ==== Proof.GluRef.lean ====
/- The gate's gradients in the reference: each of its arrays, entry by entry, in real numbers. -/
module

public import proofs.«01_k».proof.Proof.GluMath
public import proofs.«01_k».proof.Proof.Gen.Reference3Ideal.Run

@[expose] public section

noncomputable section

open Idealize.ShloMosaic Idealize.ShloMosaic.TcCoe Idealize.SL.Sem
open scoped BigOperators

namespace Cert.Reference3Ideal.Glu

open Cert.Reference3Ideal Cert.Reference3Ideal.Gen Cert.Reference3Ideal.Value Cert.Pool Cert.Glu

/-- The launch contents are numbers: the scan's output, the cotangent, the gate's matrix and offsets, the norm's gain. -/
structure Args (V0 : Valuation τ sig (Elt Ideal)) (Y CT W : ℕ → Fin 1024 → ℝ) (b g : Fin 1024 → ℝ) : Prop where
  y : V0 (Proc.devRef .tc main_arg0) = (lift2 Y : FVec Ideal S8192x1024 .f32)
  ct : V0 (Proc.devRef .tc main_arg1) = (lift2 CT : FVec Ideal S8192x1024 .f32)
  w : V0 (Proc.devRef .tc main_arg2) = (lift2 W : FVec Ideal S1024x1024 .bf16)
  b : V0 (Proc.devRef .tc main_arg3) = (lift2 (fun _ => b) : FVec Ideal S1x1024 .f32)
  g : V0 (Proc.devRef .tc main_arg4) = (lift2 (fun _ => g) : FVec Ideal S1x1024 .f32)

variable {V0 : Valuation τ sig (Elt Ideal)} {Y CT W : ℕ → Fin 1024 → ℝ} {b g : Fin 1024 → ℝ} (h : Args V0 Y CT W b g)

include h

theorem v0 : res_main_v0 V0 = (lift2 W : FVec Ideal S1024x1024 .f32) := by
  rw [res_main_v0, h.w]; funext i; idx_vars i; pointwise [lift2]

theorem v13 : res_main_v13 V0 = lift2 fun r d => th (Y r d) := by
  rw [res_main_v13, h.y]; funext i; idx_vars i
  pointwise [lift2]
  simp only [ofBits_C, ofBits_K, coe_mul, coe_add, Ideal.tanh_coe, th]
  exact congrArg Real.toEReal (congrArg Real.tanh (by ring))

theorem v22 : res_main_v22 V0 = lift2 fun r d => 1 / 2 * (1 + th (Y r d)) := by
  rw [res_main_v22, v13 h]; funext i; idx_vars i
  pointwise [lift2]
  simp only [ofBits_half, ← EReal.coe_one, coe_mul, coe_add]

theorem v23 : res_main_v23 V0 = lift2 fun r d => ge (Y r d) := by
  rw [res_main_v23, v22 h, h.y]; funext i; idx_vars i
  pointwise [lift2]
  simp only [coe_mul, ge]
  exact congrArg Real.toEReal (by ring)

theorem v33 : res_main_v33 V0 = lift2 fun r => S W b (Y r) := by
  rw [res_main_v33, v23 h, v0 h, h.b]; funext i; idx_vars i
  pointwise [lift2]
  simp only [coe_mul, coe_sum, coe_add, zero_add_coe]
  simp only [← EReal.coe_one, ← EReal.coe_zero, coe_add, coe_sub, coe_neg, Ideal.exp_coe, ← zero_sub, coe_sg, S]

theorem v37 : res_main_v37 V0 = lift2 fun r => Glu.M W b (Y r) := by
  rw [res_main_v37, v33 h, v23 h]; funext i; idx_vars i
  pointwise [lift2]
  simp only [coe_mul, Glu.M]

theorem v44 : res_main_v44 V0 = (lift2 fun r (_ : Fin 1) => ms (Glu.M W b (Y r))) := by
  rw [res_main_v44, v37 h]; funext i; idx_vars i
  pointwise [lift2]
  simp only [ofBits_1024, ofBits_eps, coe_mul, coe_sum, coe_div_1024, coe_add, ofBits_0, zero_add]
  rfl

theorem v45 : res_main_v45 V0 = (lift2 fun r (_ : Fin 1) => Pool.inv (Glu.M W b (Y r))) := by
  rw [res_main_v45, v44 h]; funext i; idx_vars i
  pointwise [lift2]
  exact coe_rsqrt _ (ms_pos _)

theorem v50 : res_main_v50 V0 = lift2 fun r d => Glu.M W b (Y r) d * Pool.inv (Glu.M W b (Y r)) := by
  rw [res_main_v50, v45 h, v37 h]; funext i; idx_vars i
  pointwise [lift2]
  simp only [coe_mul]

theorem v58 : res_main_v58 V0 = lift2 fun r d => CT r d * g d := by
  rw [res_main_v58, res_main_v51, h.ct, h.g]; funext i; idx_vars i
  pointwise [lift2]
  simp only [coe_mul]

theorem v69 : res_main_v69 V0 = lift2 fun r _ => (∑ e, Glu.M W b (Y r) e * (CT r e * g e)) * (-(1 / 2) * (Pool.inv (Glu.M W b (Y r)) / ms (Glu.M W b (Y r)))) / 1024 := by
  rw [res_main_v69, v45 h, v44 h, v37 h, v58 h]; funext i; idx_vars i
  pointwise [lift2]
  simp only [ofBits_neg_half, ofBits_1024, coe_div _ _ (ms_pos _).ne', coe_mul, coe_sum, coe_div_1024]
  try simp

theorem v73 : res_main_v73 V0 = lift2 fun r => DM W b g (Y r) (CT r) := by
  rw [res_main_v73, v69 h, v45 h, v37 h, v58 h]; funext i; idx_vars i
  pointwise [lift2]
  simp only [coe_mul, coe_add]
  refine congrArg Real.toEReal (Eq.trans ?_ (rmsb_chain _ _ _ _))
  ring

theorem v76 : res_main_v76 V0 = lift2 fun r => DA W b g (Y r) (CT r) := by
  rw [res_main_v76, v73 h, v33 h, v23 h]; funext i; idx_vars i
  pointwise [lift2]
  simp only [← EReal.coe_one, coe_mul, coe_sub, DA]
  exact congrArg Real.toEReal (by ring)

theorem v83 : res_main_v83 V0 = lift2 fun r => DZ W b g (Y r) (CT r) := by
  rw [res_main_v83, v76 h, v73 h, v33 h, v0 h]; funext i; idx_vars i
  pointwise [lift2]
  simp only [coe_mul, coe_sum, coe_add, zero_add_coe, DZ]

theorem v90 : res_main_v90 V0 = lift2 fun r d => C * (1 / 2 * (Y r d * DZ W b g (Y r) (CT r) d) * ((1 + th (Y r d)) * (1 - th (Y r d)))) := by
  rw [res_main_v90, v83 h, v13 h, h.y]; funext i; idx_vars i
  pointwise [lift2]
  simp only [ofBits_C, ofBits_half, ← EReal.coe_one, coe_mul, coe_add, coe_sub]

/-- The gradient of the scan's output. -/
theorem result0 : addf (addf (mulf (res_main_v83 V0) (res_main_v22 V0)) (res_main_v90 V0)) (mulf (mulf (broadcastInDim S8192x1024 ![] bcast_S_S8192x1024 (constant S_ .f32 0x3D372713#32)) (res_main_v90 V0)) (mulf (broadcastInDim S8192x1024 ![] bcast_S_S8192x1024 (constant S_ .f32 0x40400000#32)) (mulf (V0 (Proc.devRef .tc main_arg0)) (V0 (Proc.devRef .tc main_arg0)))))
    = (lift2 fun r => DY W b g (Y r) (CT r) : FVec Ideal S8192x1024 .f32) := by
  rw [v83 h, v22 h, v90 h, h.y]; funext i; idx_vars i
  pointwise [lift2]
  simp only [ofBits_K, ofBits_3, coe_mul, coe_add, DY, gg]
  exact congrArg Real.toEReal (by ring)

/-- The gradient of the gate's matrix. -/
theorem result1 : transpose S1024x1024 [1, 0] (Host.dotGeneral (φ₁ := .f32) (φ₂ := .f32) dot_S8192x1024_S8192x1024_S1024x1024_0_0_1_1_n_n none (res_main_v76 V0 : FVec Ideal S8192x1024 .f32) (res_main_v23 V0 : FVec Ideal S8192x1024 .f32) : FVec Ideal S1024x1024 .f32) transposes_S1024x1024_S1024x1024_1_0
    = (fun i => ((∑ r : Fin 8192, DA W b g (Y r) (CT r) (i 1) * ge (Y r (i 0)) : ℝ) : EReal) : FVec Ideal S1024x1024 .f32) := by
  rw [v76 h, v23 h]; funext i; idx_vars i
  pointwise [lift2]
  simp only [coe_mul, coe_sum, zero_add_coe]

omit h in
/-- A sum over rows, written as one row. -/
theorem row_sum (f : ℕ → Fin 1024 → ℝ) :
    (broadcastInDim S1x1024 ![1] bcast_S1024_S1x1024_1 (Host.reduceAdd (shapeCast _ (Host.reduceAdd (lift2 f : FVec Ideal S8192x1024 .f32) (constant S_ .f32 0x00000000#32) reducesTo_S8192x1024_S1024_d0 h_S_) shapeCasts_S1024_S1x1024) (constant S_ .f32 0x00000000#32) reducesTo_S1x1024_S1024_d0 h_S_))
      = (lift2 fun _ d => ∑ r : Fin 8192, f r d : FVec Ideal S1x1024 .f32) := by
  funext i; idx_vars i
  pointwise [lift2]
  simp only [coe_sum, ofBits_0, zero_add]
  try simp

/-- The gradients of the gain and of the offsets, and six rows of zeros. -/
theorem result2 : (concatenate S8x1024 0 [⟨S1x1024, ((broadcastInDim S1x1024 ![1] bcast_S1024_S1x1024_1 (Host.reduceAdd (shapeCast _ (Host.reduceAdd (mulf (res_main_v50 V0) (V0 (Proc.devRef .tc main_arg1))) (constant (F := Ideal) S_ .f32 0x00000000#32) reducesTo_S8192x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S1x1024, ((broadcastInDim S1x1024 ![1] bcast_S1024_S1x1024_1 (Host.reduceAdd (shapeCast _ (Host.reduceAdd (res_main_v76 V0) (constant (F := Ideal) S_ .f32 0x00000000#32) reducesTo_S8192x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S6x1024, ((broadcastInDim S6x1024 ![] bcast_S_S6x1024 (constant (F := Ideal) S_ .f32 0x00000000#32)) : (⟨S6x1024, .f32⟩ : BufTy).Contents (Elt Ideal))⟩] concatenates_S1x1024_S1x1024_S6x1024_S8x1024_d0 : (⟨S8x1024, .f32⟩ : BufTy).Contents (Elt Ideal))
    = (fun i => (((if (i 0).val = 0 then ∑ r : Fin 8192, Glu.M W b (Y r) (i 1) * Pool.inv (Glu.M W b (Y r)) * CT r (i 1)
        else if (i 0).val = 1 then ∑ r : Fin 8192, DA W b g (Y r) (CT r) (i 1) else 0 : ℝ)) : EReal) : FVec Ideal S8x1024 .f32) := by
  have e : mulf (res_main_v50 V0) (V0 (Proc.devRef .tc main_arg1)) = (lift2 fun r d => Glu.M W b (Y r) d * Pool.inv (Glu.M W b (Y r)) * CT r d : FVec Ideal S8192x1024 .f32) := by
    rw [v50 h, h.ct]; funext i; idx_vars i
    pointwise [lift2]
    simp only [coe_mul]
  rw [e, v76 h, row_sum, row_sum]
  funext i; idx_vars i
  have := i0.isLt
  pointwise [lift2]
  split_ifs <;> first
    | omega
    | with_reducible rfl
    | (rw [← EReal.coe_zero]; exact (congrArg Real.toEReal (if_neg ‹¬i0.val = 1›)).symm)
    | exact congrArg Real.toEReal (if_pos ‹i0.val = 1›).symm

end Cert.Reference3Ideal.Glu

end
-- ==== Proof.GluTie.lean ====
/- The gate's gradients: finite arguments, and the reference's results beside the kernel's. -/
module

public import proofs.«01_k».proof.Proof.PoolTie
public import proofs.«01_k».proof.Proof.GluOut
public import proofs.«01_k».proof.Proof.GluRef

@[expose] public section

noncomputable section

open Idealize.ShloMosaic Idealize.ShloMosaic.TcCoe Idealize.SL.Sem

namespace Cert.Glu

open Cert.Pool (lift2)

theorem facts_finite_gate : Cert.Pre_finite_gate.Facts := ⟨by decide, by decide, by decide, by decide⟩

/-- Arguments satisfying the precondition are numbers. -/
theorem nums_of_finite [hf : Cert.Pre_finite_gate.Facts] (m : (ℓ : Loc Cert.Kernel3Ideal.nD Cert.Kernel3Ideal.τ Cert.Kernel3Ideal.sig) → Buf (Elt Ideal) ℓ)
    (h : Pre_Kernel3Ideal_finite_gate m) (c : Dev Cert.Kernel3Ideal.nD) : Cert.Kernel3Ideal.Glu.Nums m c := by
  obtain ⟨h0, h1, h2, h3, h4⟩ := h c
  have num {S : Shape} {φ : FTy} (a b : FVec Ideal S φ) (hb : ∀ i, b i = (⊤ : EReal)) (h : cmpf .olt (Host.absf a) b = fun _ => 1#1) : IsNum a :=
    fun i => Cert.Pool.num_of_abs_lt a b hb h i
  exact ⟨num _ _ (fun _ => Cert.Pool.infinity) h0, num _ _ (fun _ => Cert.Pool.infinity) h1, num (φ := .f32) _ _ (fun _ => Cert.Pool.infinity) h2,
    num _ _ (fun _ => Cert.Pool.infinity) h3, num _ _ (fun _ => Cert.Pool.infinity) h4⟩

/-- A single row of numbers. -/
theorem lift2_row {k : ℕ} (a : (⟨2, ![1, k]⟩ : Shape).Idx → EReal) (h : IsNum a) : a = lift2 fun _ => rowsOf a 0 :=
  funext fun i => (rowsOf_eq a h i).trans (by rw [Nat.lt_one_iff.mp (i 0).isLt]; rfl)

end Cert.Glu

namespace Cert.Reference3Ideal.Glu

open Cert.Reference3Ideal Cert.Reference3Ideal.Gen Cert.Reference3Ideal.Value
open Cert.Pool Cert.Glu Cert.Kernel3Ideal.Glu

variable {m : (ℓ : Loc Cert.Kernel3Ideal.nD Cert.Kernel3Ideal.τ Cert.Kernel3Ideal.sig) → Buf (Elt Ideal) ℓ} {c : Dev Cert.Kernel3Ideal.nD}
  (V0 : Valuation τ sig (Elt Ideal))

/-- The reference's arguments, where they are the kernel's. -/
theorem args (h : Nums m c) (e0 : V0 (Proc.devRef .tc main_arg0) = aY m c) (e1 : V0 (Proc.devRef .tc main_arg1) = aC m c) (e2 : V0 (Proc.devRef .tc main_arg2) = aW m c)
    (e3 : V0 (Proc.devRef .tc main_arg3) = aB m c) (e4 : V0 (Proc.devRef .tc main_arg4) = aG m c) :
    Args V0 (Y m c) (CT m c) (W m c) (b m c) (g m c) :=
  ⟨e0.trans (lift2_rows _ h.y), e1.trans (lift2_rows _ h.ct), e2.trans (lift2_rows _ h.w), e3.trans (lift2_row _ h.b), e4.trans (lift2_row _ h.g)⟩

/-- The reference's matrix in the kernel's order of factors. -/
theorem mat_eq : (fun i => ((∑ r : Fin 8192, DA (W m c) (b m c) (g m c) (Y m c r) (CT m c r) (i 1) * ge (Y m c r (i 0)) : ℝ) : EReal) : FVec Ideal S1024x1024 .f32) = G6 m c :=
  funext fun i => congrArg Real.toEReal (Finset.sum_congr rfl fun r _ => mul_comm _ _)

/-- The reference's third result in the kernel's order of factors. -/
theorem sums_eq : (fun i => (((if (i 0).val = 0 then ∑ r : Fin 8192, Glu.M (W m c) (b m c) (Y m c r) (i 1) * Pool.inv (Glu.M (W m c) (b m c) (Y m c r)) * CT m c r (i 1)
        else if (i 0).val = 1 then ∑ r : Fin 8192, DA (W m c) (b m c) (g m c) (Y m c r) (CT m c r) (i 1) else 0 : ℝ)) : EReal) : FVec Ideal S8x1024 .f32) = G7 m c := by
  funext i
  refine congrArg Real.toEReal ?_
  unfold rows2
  split_ifs
  · exact Finset.sum_congr rfl fun r _ => mul_comm _ _
  · with_reducible rfl
  · with_reducible rfl

end Cert.Reference3Ideal.Glu

end
-- ==== Proof.FfnMath.lean ====
/- The feed-forward layer over the real numbers: the gate's short convolution along the sequence, gelu, and the three products, a tile of rows at a time. -/
module

public import proofs.«01_k».proof.Proof.GluMath

@[expose] public section

noncomputable section

open Idealize.ShloMosaic

namespace Cert.Ffn

open Cert.Pool Cert.Glu

/-- A run of rows from row `b` on, as a vector. -/
def rows {n k : ℕ} (P : ℕ → Fin k → ℝ) (b : ℕ) (φ : FTy := .f32) : FVec Ideal (⟨2, ![n, k]⟩ : Shape) φ := lift2 (fun i => P (b + i)) φ

/-- One row repeated sixteen times. -/
def crow (w : Fin 256 → ℝ) : FVec Ideal (⟨2, ![16, 256]⟩ : Shape) .f32 := lift2 fun _ => w

/-- The eight rows before a tile. -/
def hist (Z : ℕ → Fin 256 → ℝ) : FVec Ideal (⟨2, ![8, 256]⟩ : Shape) .f32 := lift2 Z

/-- A stack of planes as a vector. -/
def planes {a n k : ℕ} (W : ℕ → ℕ → Fin k → ℝ) (φ : FTy := .f32) : FVec Ideal (⟨3, ![a, n, k]⟩ : Shape) φ :=
  fun i => ((W (i 0).val (i 1).val (i 2) : ℝ) : EReal)

/-- One plane's rows from row `b` on, with the plane's axis in front. -/
def plane {n k : ℕ} (P : ℕ → Fin k → ℝ) (b : ℕ) (φ : FTy := .f32) : FVec Ideal (⟨3, ![1, n, k]⟩ : Shape) φ := lift3 (fun i => P (b + i)) φ

/-- Rows of features in one run, as a vector. -/
def feats {a n : ℕ} (w : ℕ → ℕ → ℝ) : FVec Ideal (⟨3, ![1, a, n]⟩ : Shape) .f32 := fun i => ((w (i 1).val (i 2).val : ℝ) : EReal)

/-- Rows times a run of a matrix's rows. -/
def proj (U : ℕ → Fin 1024 → ℝ) (W : ℕ → Fin 1024 → ℝ) (o : ℕ) (r : ℕ) (c : Fin 256) : ℝ := ∑ d, U r d * W (o + c.val) d

/-- The rows with the eight rows before them in front. -/
def past (Z G : ℕ → Fin 256 → ℝ) (i : ℕ) (c : Fin 256) : ℝ := if i < 8 then Z i c else G (i - 8) c

/-- Three rows in a row, weighted, and an offset. -/
def conv (P : ℕ → Fin 256 → ℝ) (w0 w1 w2 b : Fin 256 → ℝ) (r : ℕ) (c : Fin 256) : ℝ := b c + w0 c * P r c + w1 c * P (r + 1) c + w2 c * P (r + 2) c

/-- The hidden rows. -/
def hid (A V : ℕ → Fin 256 → ℝ) (r : ℕ) (c : Fin 256) : ℝ := ge (A (r + 6) c) * V r c

/-- Hidden rows times a run of a matrix's rows. -/
def down (H : ℕ → Fin 256 → ℝ) (W : ℕ → Fin 1024 → ℝ) (o : ℕ) (r : ℕ) (d : Fin 1024) : ℝ := ∑ c, H r c * W (o + c.val) d

/-- Two matrices of numbers added. -/
def plus (A B : ℕ → Fin 1024 → ℝ) (r : ℕ) (d : Fin 1024) : ℝ := A r d + B r d

/-! ## A tile -/

section

variable (X : ℕ → Fin 1024 → ℝ) (g : Fin 1024 → ℝ) (W : ℕ → ℕ → Fin 1024 → ℝ) (w o : ℕ → ℕ → ℝ) (Q : ℕ → ℕ → Fin 256 → ℝ)

/-- A tile's run of 256 features of branch `p` from feature `b` on. -/
def branchOf (p b : ℕ) : ℕ → Fin 256 → ℝ := proj (fun r => rms (X r) g) (W p) b

/-- Block `j` of the tile's hidden features, with `Q j` the gate's rows before the tile. -/
def hidOf (j : ℕ) : ℕ → Fin 256 → ℝ :=
  hid (conv (past (Q j) (branchOf X g W 0 (256 * j))) (fun c => w 0 (256 * j + c.val)) (fun c => w 1 (256 * j + c.val)) (fun c => w 2 (256 * j + c.val)) fun c => o 0 (256 * j + c.val)) (branchOf X g W 1 (256 * j))

/-- The first blocks' products, added one after another. -/
def chain : ℕ → ℕ → Fin 1024 → ℝ
  | 0 => down (hidOf X g W w o Q 0) (W 2) 0
  | j + 1 => plus (chain j) (down (hidOf X g W w o Q (j + 1)) (W 2) (256 * (j + 1)))

end

/-! ## The layer over whole sequences -/

section

variable (X : ℕ → ℕ → Fin 1024 → ℝ) (g1 g2 : Fin 1024 → ℝ) (W : ℕ → ℕ → Fin 1024 → ℝ) (w : ℕ → ℕ → ℝ) (o : ℕ → ℝ)

/-- The normed input. -/
def nrm (b t : ℕ) : Fin 1024 → ℝ := rms (X b t) g1

/-- Feature `c` of branch `p`: the gate's is 0, the value's 1. -/
def branch (p b t c : ℕ) : ℝ := ∑ d, nrm X g1 b t d * W p c d

/-- A sequence with two zeros in front. -/
def pad (G : ℕ → ℕ → ℕ → ℝ) (b s c : ℕ) : ℝ := if s < 2 then 0 else G b (s - 2) c

/-- The gate after its convolution. -/
def gated (b t c : ℕ) : ℝ :=
  o c + w 0 c * pad (branch X g1 W 0) b t c + w 1 c * pad (branch X g1 W 0) b (t + 1) c + w 2 c * pad (branch X g1 W 0) b (t + 2) c

/-- The hidden feature. -/
def hidden (b t c : ℕ) : ℝ := ge (gated X g1 W w o b t c) * branch X g1 W 1 b t c

/-- The layer's output before its norm. -/
def ffn (b t : ℕ) (d : Fin 1024) : ℝ := ∑ c : Fin 2816, hidden X g1 W w o b t c.val * W 2 c.val d

/-- The block's output. -/
def block (b t : ℕ) (d : Fin 1024) : ℝ := X b t d + rms (ffn X g1 W w o b t) g2 d

end

end Cert.Ffn

end
-- ==== Proof.FfnPay.lean ====
/- The feed-forward call: what each kind of vector step computes of runs of rows of numbers. -/
module

public import proofs.«01_k».proof.Proof.Gen.Kernel4Ideal.Skeleton
public import proofs.«01_k».proof.Proof.FfnMath
public import Idealize.ShloMosaic.Lib.Pipeline.ValueKit
public import Idealize.ShloMosaic.Lib.Pipeline.ReadBack

@[expose] public section

noncomputable section

open Idealize.ShloMosaic Idealize.ShloMosaic.TcCoe Idealize.SL.Sem

namespace Cert.Kernel4Ideal.Ffn

open Cert.Kernel4Ideal Cert.Kernel4Ideal.Gen Cert.Pool Cert.Glu Cert.Ffn

theorem named_ck : Named.named (F := Ideal) κ "gelu_ck" (φ := .f32) 0x3D122279#32 = ((C * K : ℝ) : EReal) :=
  (IdealRules.named_const.ideal_named_scalar _ _ _ _ rfl).trans (congrArg Real.toEReal CK_eq)

/-- Two runs of rows, one below the other, as one step. -/
def cat2 (a : FVec Ideal S8x256 .f32) (b : FVec Ideal S16x256 .f32) : FVec Ideal S24x256 .f32 :=
  concatenate S24x256 0 [⟨S8x256, a⟩, ⟨S16x256, b⟩] concatenates_S8x256_S16x256_S24x256_d0

theorem cat2_eq (a : FVec Ideal S8x256 .f32) (b : FVec Ideal S16x256 .f32) (h) :
    concatenate S24x256 0 [⟨S8x256, a⟩, ⟨S16x256, b⟩] h = cat2 a b := rfl

/-- Sixteen runs. -/
def cat16 (a0 a1 a2 a3 a4 a5 a6 a7 a8 a9 a10 a11 a12 a13 a14 a15 : FVec Ideal S16x256 .bf16) : FVec Ideal S256x256 .bf16 :=
  concatenate S256x256 0 [⟨S16x256, a0⟩, ⟨S16x256, a1⟩, ⟨S16x256, a2⟩, ⟨S16x256, a3⟩, ⟨S16x256, a4⟩, ⟨S16x256, a5⟩, ⟨S16x256, a6⟩, ⟨S16x256, a7⟩,
    ⟨S16x256, a8⟩, ⟨S16x256, a9⟩, ⟨S16x256, a10⟩, ⟨S16x256, a11⟩, ⟨S16x256, a12⟩, ⟨S16x256, a13⟩, ⟨S16x256, a14⟩, ⟨S16x256, a15⟩]
    concatenates_S16x256_S16x256_S16x256_S16x256_S16x256_S16x256_S16x256_S16x256_S16x256_S16x256_S16x256_S16x256_S16x256_S16x256_S16x256_S16x256_S256x256_d0

theorem cat16_eq (a0 a1 a2 a3 a4 a5 a6 a7 a8 a9 a10 a11 a12 a13 a14 a15 : FVec Ideal S16x256 .bf16) (h) :
    concatenate S256x256 0 [⟨S16x256, a0⟩, ⟨S16x256, a1⟩, ⟨S16x256, a2⟩, ⟨S16x256, a3⟩, ⟨S16x256, a4⟩, ⟨S16x256, a5⟩, ⟨S16x256, a6⟩, ⟨S16x256, a7⟩,
      ⟨S16x256, a8⟩, ⟨S16x256, a9⟩, ⟨S16x256, a10⟩, ⟨S16x256, a11⟩, ⟨S16x256, a12⟩, ⟨S16x256, a13⟩, ⟨S16x256, a14⟩, ⟨S16x256, a15⟩] h
      = cat16 a0 a1 a2 a3 a4 a5 a6 a7 a8 a9 a10 a11 a12 a13 a14 a15 := rfl

/-- A step back by one row. -/
def rot1 (x : FVec Ideal S24x256 .f32) : FVec Ideal S24x256 .f32 := dynamicRotate 0 1#32 none x rotates_S24x256_d0

theorem rot1_eq (x : FVec Ideal S24x256 .f32) (h) : dynamicRotate 0 1#32 none x h = rot1 x := rfl

/-- A step back by two rows. -/
def rot2 (x : FVec Ideal S24x256 .f32) : FVec Ideal S24x256 .f32 := dynamicRotate 0 2#32 none x rotates_S24x256_d0

theorem rot2_eq (x : FVec Ideal S24x256 .f32) (h) : dynamicRotate 0 2#32 none x h = rot2 x := rfl

variable (P G Z A V H : ℕ → Fin 256 → ℝ) (U : ℕ → Fin 1024 → ℝ) (W : ℕ → ℕ → Fin 1024 → ℝ) (w : ℕ → ℕ → ℝ)

theorem slice16 (b o : ℕ) (h) : extractStridedSlice S16x256 ![o, 0] (rows G b : FVec Ideal S256x256 .f32) h = rows G (b + o) := by
  funext i; idx_vars i
  pointwise [rows, lift2]
  simp only [Nat.add_assoc]

/-- The rows of the window's last two thirds. -/
theorem slice24 (b : ℕ) (h) : extractStridedSlice S16x256 ![8, 0] (rows P b : FVec Ideal S24x256 .f32) h = rows P (b + 8) := by
  funext i; idx_vars i
  pointwise [rows, lift2]
  simp only [Nat.add_assoc]

theorem slice8 (b : ℕ) (h) : extractStridedSlice S8x256 ![8, 0] (rows P b : FVec Ideal S16x256 .f32) h = rows P (b + 8) := by
  funext i; idx_vars i
  pointwise [rows, lift2]
  simp only [Nat.add_assoc]

/-- … one and two rows earlier. -/
theorem roll1 (b : ℕ) (h') : extractStridedSlice S16x256 ![8, 0] (rot1 (rows P b)) h' = rows P (b + 7) := by
  funext i; idx_vars i
  pointwise [rot1, rows, lift2]
  rw [show b + (8 + i0.val + 24 - 1) % 24 = b + 7 + i0.val by omega]

theorem roll2 (b : ℕ) (h') : extractStridedSlice S16x256 ![8, 0] (rot2 (rows P b)) h' = rows P (b + 6) := by
  funext i; idx_vars i
  pointwise [rot2, rows, lift2]
  rw [show b + (8 + i0.val + 24 - 2) % 24 = b + 6 + i0.val by omega]

theorem cat_hist : cat2 (hist Z) (rows G 0) = rows (past Z G) 0 := by
  funext i; idx_vars i
  pointwise [cat2, rows, hist, past, lift2]
  split_ifs <;> rfl

theorem cat_rows (b b' : ℕ) (h : b = b') : cat2 (rows (past Z G) b) (rows G b') = rows (past Z G) b := by
  subst h
  funext i; idx_vars i
  pointwise [cat2, rows, past, lift2]
  split_ifs with h1 h2 h2
  · rfl
  · rfl
  · omega
  · rw [show b + i0.val - 8 = b + (i0.val - 8) by omega]

theorem dite_both {α : Sort*} {p : Prop} [Decidable p] {a : p → α} {b : ¬p → α} {c : α} (ha : ∀ h, a h = c) (hb : ∀ h, b h = c) : dite p a b = c := by
  by_cases h : p
  · rw [dif_pos h]; exact ha h
  · rw [dif_neg h]; exact hb h

theorem cat_all (b0 b1 b2 b3 b4 b5 b6 b7 b8 b9 b10 b11 b12 b13 b14 b15 : ℕ)
    (h : [b1, b2, b3, b4, b5, b6, b7, b8, b9, b10, b11, b12, b13, b14, b15] = [b0 + 16, b0 + 32, b0 + 48, b0 + 64, b0 + 80, b0 + 96, b0 + 112, b0 + 128, b0 + 144, b0 + 160, b0 + 176, b0 + 192, b0 + 208, b0 + 224, b0 + 240]) :
    cat16 (rows H b0 .bf16) (rows H b1 .bf16) (rows H b2 .bf16) (rows H b3 .bf16) (rows H b4 .bf16) (rows H b5 .bf16) (rows H b6 .bf16) (rows H b7 .bf16)
      (rows H b8 .bf16) (rows H b9 .bf16) (rows H b10 .bf16) (rows H b11 .bf16) (rows H b12 .bf16) (rows H b13 .bf16) (rows H b14 .bf16) (rows H b15 .bf16) = rows H b0 .bf16 := by
  simp only [List.cons.injEq, and_true] at h
  obtain ⟨rfl, rfl, rfl, rfl, rfl, rfl, rfl, rfl, rfl, rfl, rfl, rfl, rfl, rfl, rfl⟩ := h
  funext i; idx_vars i
  pointwise [cat16, rows, lift2]
  have key (x y : ℕ) (h : x = y) : ((H x i1 : ℝ) : EReal) = ((H y i1 : ℝ) : EReal) := by rw [h]
  repeat (refine dite_both (fun h => ?_) (fun h => ?_); · refine key _ _ ?_; omega)
  refine key _ _ ?_; omega

/-- A feature row of the convolution's weights, and of its offsets. -/
theorem weight_eq (k o : ℕ) (inb) : View.ld (Val := Elt Ideal) (S := S1x3x2816) (e' := .f32) (feats w) (Rect.unit ![0, k, o] ![1, 1, 256] inb)
    = (plane (fun _ c => w k (o + c.val)) 0 : FVec Ideal S1x1x256 .f32) := by
  funext i; idx_vars i
  pointwise [feats, plane, lift3]

theorem offset_eq (k o : ℕ) (inb) : View.ld (Val := Elt Ideal) (S := S1x1x2816) (e' := .f32) (feats w) (Rect.unit ![0, k, o] ![1, 1, 256] inb)
    = (plane (fun _ c => w k (o + c.val)) 0 : FVec Ideal S1x1x256 .f32) := by
  funext i; idx_vars i
  pointwise [feats, plane, lift3]

theorem crow_eq (h1 h2 h3) : broadcastTo S16x256 (shapeCast S1x256 (shapeCast S1x256 (plane P 0 : FVec Ideal S1x1x256 .f32) h1) h2) h3 = crow (P 0) := by
  funext i; idx_vars i
  pointwise [plane, crow, lift2, lift3]

theorem conv_eq (w0 w1 w2 b : Fin 256 → ℝ) (n n1 n2 : ℕ) (h1 : n1 = n + 1) (h2 : n2 = n + 2) :
    addf (addf (addf (crow b) (mulf (crow w0) (rows P n))) (mulf (crow w1) (rows P n1))) (mulf (crow w2) (rows P n2)) = rows (conv P w0 w1 w2 b) n := by
  subst h1; subst h2
  funext i; idx_vars i
  pointwise [rows, crow, conv, lift2]
  simp only [coe_mul, coe_add]
  rw [show n + 1 + i0.val = n + i0.val + 1 by omega, show n + 2 + i0.val = n + i0.val + 2 by omega]

theorem hid_eq (n n' : ℕ) (h : n = n' + 6) (h') :
    truncf .bf16 (mulf (addf (mulf (broadcast S16x256 (Scalar.ofBits .f32 0x3F000000#32)) (rows A n)) (mulf (mulf (broadcast S16x256 (Scalar.ofBits .f32 0x3F000000#32)) (rows A n))
      (tanh (mulf (rows A n) (addf (broadcast S16x256 (Scalar.ofBits .f32 0x3F4C422A#32)) (mulf (broadcast S16x256 (Named.named κ "gelu_ck" 0x3D122279#32)) (mulf (rows A n) (rows A n)))))))) (rows V n')) h'
    = (rows (hid A V) n' .bf16 : FVec Ideal S16x256 .bf16) := by
  subst h
  funext i; idx_vars i
  pointwise [rows, hid, lift2]
  simp only [named_ck, ofBits_C, ofBits_half, coe_mul, coe_add, Ideal.tanh_coe]
  rw [show n' + 6 + i0.val = n' + i0.val + 6 by omega]
  rfl

/-- A run of a matrix's rows. -/
theorem plane_eq (k o : ℕ) (inb) : View.ld (Val := Elt Ideal) (S := S3x2816x1024) (e' := .bf16) (planes W .bf16) (Rect.unit ![k, o, 0] ![1, 256, 1024] inb)
    = (plane (W k) o .bf16 : FVec Ideal S1x256x1024 .bf16) := by
  funext i
  refine congrArg Real.toEReal ?_
  have h0 : (i 0).val = 0 := by have h : (i 0).val < 1 := (i 0).isLt; omega
  have e0 : ((Rect.unit (s := S3x2816x1024) ![k, o, 0] ![1, 256, 1024] inb).emb i 0).val = k := by rw [ValueKit.rect_emb_unit_val (s := S3x2816x1024)]; simp [h0]
  have e1 : ((Rect.unit (s := S3x2816x1024) ![k, o, 0] ![1, 256, 1024] inb).emb i 1).val = o + (i 1).val := by rw [ValueKit.rect_emb_unit_val (s := S3x2816x1024)]; simp
  have e2 : (Rect.unit (s := S3x2816x1024) ![k, o, 0] ![1, 256, 1024] inb).emb i 2 = i 2 := Fin.ext (by rw [ValueKit.rect_emb_unit_val (s := S3x2816x1024)]; simp)
  exact congr (congrArg₂ W e0 e1) e2

theorem mat_eq (M : ℕ → Fin 1024 → ℝ) (o : ℕ) (h) : shapeCast S256x1024 (plane M o .bf16 : FVec Ideal S1x256x1024 .bf16) h = (rows M o .bf16 : FVec Ideal S256x1024 .bf16) := by
  funext i; idx_vars i
  pointwise [rows, plane, lift2, lift3]

theorem gate_eq (M : ℕ → Fin 1024 → ℝ) (b o : ℕ) : matmul dot_S256x1024_S256x1024_S256x256_1_1_0_0_n_n none (rows U b .bf16 : FVec Ideal S256x1024 .bf16) (rows M o .bf16 : FVec Ideal S256x1024 .bf16) (constant S256x256 .f32 0x00000000#32)
    = rows (proj U M o) b := by
  funext i; idx_vars i
  pointwise [rows, proj, lift2]
  simp only [coe_mul, coe_sum, coe_add, zero_add_coe]

theorem down_eq (M : ℕ → Fin 1024 → ℝ) (b o : ℕ) : matmul dot_S256x256_S256x1024_S256x1024_1_0_0_1_n_n none (rows H b .bf16 : FVec Ideal S256x256 .bf16) (rows M o .bf16 : FVec Ideal S256x1024 .bf16) (constant S256x1024 .f32 0x00000000#32)
    = rows (down H M o) b := by
  funext i; idx_vars i
  pointwise [rows, down, lift2]
  simp only [coe_mul, coe_sum, coe_add, zero_add_coe]

theorem plus_eq (X Y : ℕ → Fin 1024 → ℝ) (b : ℕ) : addf (rows X b : FVec Ideal S256x1024 .f32) (rows Y b) = rows (plus X Y) b := by
  funext i; idx_vars i
  pointwise [rows, plus, lift2]
  simp only [coe_add]

theorem cast_rows (X : ℕ → Fin 1024 → ℝ) (b : ℕ) (h) : shapeCast S256x1024 (rows X b : FVec Ideal S256x1024 .f32) h = rows X b := by
  funext i; idx_vars i
  pointwise [rows, lift2]

/-- Rows of features as the call stores them. -/
theorem store_eq (b : ℕ) (h h') : shapeCast S1x256x256 (truncf .bf16 (rows G b : FVec Ideal S256x256 .f32) h) h' = (plane G b .bf16 : FVec Ideal S1x256x256 .bf16) := by
  funext i; idx_vars i
  pointwise [rows, plane, lift2, lift3]

theorem keep_eq (b : ℕ) (h) : shapeCast S1x8x256 (rows P b : FVec Ideal S8x256 .f32) h = plane P b := by
  funext i; idx_vars i
  pointwise [rows, plane, lift2, lift3]

theorem half_eq (o : ℕ) (inb) : View.ld (Val := Elt Ideal) (e' := .bf16) (rows U 0 .bf16 : FVec Ideal S512x1024 .bf16) (Rect.unit ![o, 0] ![256, 1024] inb) = rows U o .bf16 := by
  funext i; idx_vars i
  pointwise [rows, lift2]

theorem sq_eq (X : ℕ → Fin 1024 → ℝ) : rsqrt (addf (divf (shapeCast S512x1 (multiReduction .add [1] S512 (mulf (lift2 X : FVec Ideal S512x1024 .f32) (lift2 X)) 0x00000000#32 reduces_S512x1024_S512 (.inl rfl) rfl) shapeCasts_S512_S512x1)
      (broadcast S512x1 (Scalar.ofBits .f32 0x44800000#32))) (broadcast S512x1 (Scalar.ofBits .f32 0x358637BD#32))) = (lift2 fun r _ => inv (X r) : FVec Ideal S512x1 .f32) := by
  funext i; idx_vars i
  pointwise [lift2]
  simp only [ofBits_1024, ofBits_eps, coe_mul, coe_sum, ofBits_0, zero_add, coe_inv, EReal.coe_zero]

theorem in_eq (X : ℕ → Fin 1024 → ℝ) (h) : shapeCast S512x1024 (lift3 X : FVec Ideal S1x512x1024 .f32) h = lift2 X := by
  funext i; idx_vars i
  pointwise [lift2, lift3]

theorem scale_eq (X : ℕ → Fin 1024 → ℝ) (v : ℕ → ℝ) (h) : mulf (lift2 X : FVec Ideal S512x1024 .f32) (broadcastTo S512x1024 (lift2 (fun r _ => v r) : FVec Ideal S512x1 .f32) h) = lift2 fun r d => X r d * v r := by
  funext i; idx_vars i
  pointwise [lift2]
  simp only [coe_mul]

/-- The call's first step: the block's rows, normed. -/
theorem pay2_eq (X : ℕ → Fin 1024 → ℝ) (g : Fin 1024 → ℝ) : k0_pay2 (lift3 X : FVec Ideal S1x512x1024 .f32) (lift2 fun _ => g) = rows (fun r => rms (X r) g) 0 .bf16 := by
  unfold k0_pay2
  dsimp only
  rw [in_eq, sq_eq, scale_eq]
  funext i; idx_vars i
  pointwise [rows, lift2]
  simp only [coe_mul, rms]

/-- The same, the steps written out. -/
theorem norm_eq (X : ℕ → Fin 1024 → ℝ) (g : Fin 1024 → ℝ) : shapeCast S512x1024 (truncf .bf16 (mulf (mulf (shapeCast S512x1024 (lift3 X : FVec Ideal S1x512x1024 .f32) shapeCasts_S1x512x1024_S512x1024)
      (broadcastTo S512x1024 (rsqrt (addf (divf (shapeCast S512x1 (multiReduction .add [1] S512 (mulf (shapeCast S512x1024 (lift3 X : FVec Ideal S1x512x1024 .f32) shapeCasts_S1x512x1024_S512x1024)
        (shapeCast S512x1024 (lift3 X : FVec Ideal S1x512x1024 .f32) shapeCasts_S1x512x1024_S512x1024)) 0x00000000#32 reduces_S512x1024_S512 (.inl rfl) rfl) shapeCasts_S512_S512x1)
        (broadcast S512x1 (Scalar.ofBits .f32 0x44800000#32))) (broadcast S512x1 (Scalar.ofBits .f32 0x358637BD#32)))) broadcasts_S512x1_S512x1024))
      (broadcastTo S512x1024 (lift2 (fun _ => g) : FVec Ideal S1x1024 .f32) broadcasts_S1x1024_S512x1024)) bitsLt_bf16_f32) shapeCasts_S512x1024_S512x1024 = rows (fun r => rms (X r) g) 0 .bf16 :=
  pay2_eq X g

/-- Its last: the input plus the normed output. -/
theorem out_eq (X Y : ℕ → Fin 1024 → ℝ) (g : Fin 1024 → ℝ) : k0_pay1 (k0_pay1729 (lift3 X : FVec Ideal S1x512x1024 .f32)) (lift2 fun _ => g) (k0_pay1730 (lift2 Y))
    = lift3 fun r d => X r d + rms (Y r) g d := by
  unfold k0_pay1 k0_pay1729 k0_pay1730
  dsimp only
  rw [in_eq, sq_eq, scale_eq]
  funext i; idx_vars i
  pointwise [lift2, lift3]
  simp only [coe_mul, coe_add, rms]

theorem pay1728_eq (Y : ℕ → Fin 1024 → ℝ) : k0_pay1728 (F := Ideal) (lift2 Y) = lift3 Y := by
  funext i; idx_vars i
  pointwise [k0_pay1728, lift2, lift3]

theorem pay3_eq : k0_pay3 (F := Ideal) = planes fun _ _ _ => 0 := by
  funext i; idx_vars i
  pointwise [k0_pay3, planes]
  exact EReal.coe_zero.symm

/-- The same, written out. -/
theorem zero_eq (h) : shapeCast S11x8x256 (broadcast S11x8x256 (FloatOps.ofBits (F := Ideal) .f32 0x00000000#32)) h = planes fun _ _ _ => 0 := pay3_eq

theorem kept_eq (Q : ℕ → ℕ → Fin 256 → ℝ) (j : ℕ) (inb) : View.ld (Val := Elt Ideal) (S := S11x8x256) (e' := .f32) (planes Q) (Rect.unit ![j, 0, 0] ![1, 8, 256] inb)
    = (plane (Q j) 0 : FVec Ideal S1x8x256 .f32) := by
  funext i
  refine congrArg Real.toEReal ?_
  have h0 : (i 0).val = 0 := by have h : (i 0).val < 1 := (i 0).isLt; omega
  have e0 : ((Rect.unit (s := S11x8x256) ![j, 0, 0] ![1, 8, 256] inb).emb i 0).val = j := by rw [ValueKit.rect_emb_unit_val (s := S11x8x256)]; simp [h0]
  have e1 : ((Rect.unit (s := S11x8x256) ![j, 0, 0] ![1, 8, 256] inb).emb i 1).val = 0 + (i 1).val := by rw [ValueKit.rect_emb_unit_val (s := S11x8x256)]; simp
  have e2 : (Rect.unit (s := S11x8x256) ![j, 0, 0] ![1, 8, 256] inb).emb i 2 = i 2 := Fin.ext (by rw [ValueKit.rect_emb_unit_val (s := S11x8x256)]; simp)
  exact congr (congrArg₂ Q e0 e1) e2

/-- The rows kept from the tile before. -/
theorem hist_eq (h) : shapeCast S8x256 (plane Z 0 : FVec Ideal S1x8x256 .f32) h = hist Z := by
  funext i; idx_vars i
  pointwise [plane, hist, lift2, lift3]

/-! ## Pieces put together -/

/-- A box of rows of one plane, read in the whole stack. -/
theorem piece_eq {a n k n' : ℕ} {φ : FTy} (Q : ℕ → ℕ → Fin k → ℝ) (P : ℕ → Fin k → ℝ) (j b o : ℕ) (inb) (h : ∀ i, P (b + i) = Q j (o + i))
    (x : (Rect.unit (s := ⟨3, ![a, n, k]⟩) ![j, o, 0] ![1, n', k] inb).shape.Idx) :
    (plane P b φ : FVec Ideal (⟨3, ![1, n', k]⟩ : Shape) φ) x = (planes Q φ : FVec Ideal (⟨3, ![a, n, k]⟩ : Shape) φ) ((Rect.unit (s := ⟨3, ![a, n, k]⟩) ![j, o, 0] ![1, n', k] inb).emb x) := by
  refine congrArg Real.toEReal ?_
  have h0 : (x 0).val = 0 := by have h : (x 0).val < 1 := (x 0).isLt; omega
  have e0 : ((Rect.unit (s := ⟨3, ![a, n, k]⟩) ![j, o, 0] ![1, n', k] inb).emb x 0).val = j := by rw [ValueKit.rect_emb_unit_val (s := ⟨3, ![a, n, k]⟩)]; simp [h0]
  have e1 : ((Rect.unit (s := ⟨3, ![a, n, k]⟩) ![j, o, 0] ![1, n', k] inb).emb x 1).val = o + (x 1).val := by rw [ValueKit.rect_emb_unit_val (s := ⟨3, ![a, n, k]⟩)]; simp
  have e2 : (Rect.unit (s := ⟨3, ![a, n, k]⟩) ![j, o, 0] ![1, n', k] inb).emb x 2 = x 2 := Fin.ext (by rw [ValueKit.rect_emb_unit_val (s := ⟨3, ![a, n, k]⟩)]; simp)
  exact (congrFun (h _) _).trans (congr (congrArg₂ Q e0 e1) e2).symm

/-- Pieces that cover an array and are boxes of one function are that function. -/
theorem canon_eq {s : Shape} {e : EltTy} (G : s.Idx → Elt Ideal e) (L : List (View.Piece (Elt Ideal) s e)) (h : View.PiecesOf G L) (hc : ∀ y, ∃ p ∈ L, y ∈ p.1.set) : View.canon L = G :=
  funext fun y => View.canon_apply_of_pieces G L h.mem y (hc y)

/-- A read of the whole accumulator after its two halves have been written. -/
theorem halves_eq (Y : ℕ → Fin 1024 → ℝ) (L) (i1 i2 i3) : (View.whole cc0_scratch1).readCov (Val := Elt Ideal) (⟨Rect.unit (s := S512x1024) ![256, 0] ![256, 1024] i1, (rows Y 256 : FVec Ideal S256x1024 .f32)⟩ ::
      ⟨Rect.unit (s := S512x1024) ![0, 0] ![256, 1024] i2, (rows Y 0 : FVec Ideal S256x1024 .f32)⟩ :: L) (Rect.unit (s := S512x1024) ![0, 0] ![512, 1024] i3).toLoadRect = (lift2 Y : FVec Ideal S512x1024 .f32) := by
  rw [View.readCov_eq_canon']
  funext y
  have hy : (Rect.unit (s := S512x1024) ![0, 0] ![512, 1024] i3).toLoadRect.idx y = y := by
    refine funext fun a => Fin.ext ?_
    refine (ValueKit.rect_emb_unit_val _ _ _ y a).trans ?_
    fin_cases a <;> simp
  rw [hy]
  refine View.canon_append_of_piecesOf (Val := Elt Ideal) (e := .f32) (lift2 Y : FVec Ideal S512x1024 .f32) L [_, _] ⟨?_, ?_, trivial⟩ y ?_
  · intro x
    refine congrArg Real.toEReal ?_
    refine congrArg₂ Y ?_ (Fin.ext ?_)
    · rw [ValueKit.rect_emb_unit_val (s := S512x1024)]; simp
    · rw [ValueKit.rect_emb_unit_val (s := S512x1024)]; simp
  · intro x
    refine congrArg Real.toEReal ?_
    refine congrArg₂ Y ?_ (Fin.ext ?_)
    · rw [ValueKit.rect_emb_unit_val (s := S512x1024)]; simp
    · rw [ValueKit.rect_emb_unit_val (s := S512x1024)]; simp
  · idx_vars y
    simp only [List.mem_cons, List.not_mem_nil, or_false, exists_eq_or_imp, exists_eq_left, Rect.mem_set_unit]
    have hi := y0.isLt
    by_cases hl : y0.val < 256
    · right; intro a; fin_cases a <;> simp [ix2] <;> omega
    · left; intro a; fin_cases a <;> simp [ix2] <;> omega

/-- The two halves of the eleven blocks cover an output of features. -/
theorem cover_tiles (y : S11x512x256.Idx) (w10_1 w10_0 w9_1 w9_0 w8_1 w8_0 w7_1 w7_0 w6_1 w6_0 w5_1 w5_0 w4_1 w4_0 w3_1 w3_0 w2_1 w2_0 w1_1 w1_0 w0_1 w0_0 : S1x256x256.Idx → Elt Ideal .bf16) :
    ∃ p ∈ ([⟨Rect.unit (s := S11x512x256) ![10, 256, 0] ![1, 256, 256] inb_S11x512x256_S1x256x256_10_256_0, w10_1⟩,
      ⟨Rect.unit (s := S11x512x256) ![10, 0, 0] ![1, 256, 256] inb_S11x512x256_S1x256x256_10_0_0, w10_0⟩,
      ⟨Rect.unit (s := S11x512x256) ![9, 256, 0] ![1, 256, 256] inb_S11x512x256_S1x256x256_9_256_0, w9_1⟩,
      ⟨Rect.unit (s := S11x512x256) ![9, 0, 0] ![1, 256, 256] inb_S11x512x256_S1x256x256_9_0_0, w9_0⟩,
      ⟨Rect.unit (s := S11x512x256) ![8, 256, 0] ![1, 256, 256] inb_S11x512x256_S1x256x256_8_256_0, w8_1⟩,
      ⟨Rect.unit (s := S11x512x256) ![8, 0, 0] ![1, 256, 256] inb_S11x512x256_S1x256x256_8_0_0, w8_0⟩,
      ⟨Rect.unit (s := S11x512x256) ![7, 256, 0] ![1, 256, 256] inb_S11x512x256_S1x256x256_7_256_0, w7_1⟩,
      ⟨Rect.unit (s := S11x512x256) ![7, 0, 0] ![1, 256, 256] inb_S11x512x256_S1x256x256_7_0_0, w7_0⟩,
      ⟨Rect.unit (s := S11x512x256) ![6, 256, 0] ![1, 256, 256] inb_S11x512x256_S1x256x256_6_256_0, w6_1⟩,
      ⟨Rect.unit (s := S11x512x256) ![6, 0, 0] ![1, 256, 256] inb_S11x512x256_S1x256x256_6_0_0, w6_0⟩,
      ⟨Rect.unit (s := S11x512x256) ![5, 256, 0] ![1, 256, 256] inb_S11x512x256_S1x256x256_5_256_0, w5_1⟩,
      ⟨Rect.unit (s := S11x512x256) ![5, 0, 0] ![1, 256, 256] inb_S11x512x256_S1x256x256_5_0_0, w5_0⟩,
      ⟨Rect.unit (s := S11x512x256) ![4, 256, 0] ![1, 256, 256] inb_S11x512x256_S1x256x256_4_256_0, w4_1⟩,
      ⟨Rect.unit (s := S11x512x256) ![4, 0, 0] ![1, 256, 256] inb_S11x512x256_S1x256x256_4_0_0, w4_0⟩,
      ⟨Rect.unit (s := S11x512x256) ![3, 256, 0] ![1, 256, 256] inb_S11x512x256_S1x256x256_3_256_0, w3_1⟩,
      ⟨Rect.unit (s := S11x512x256) ![3, 0, 0] ![1, 256, 256] inb_S11x512x256_S1x256x256_3_0_0, w3_0⟩,
      ⟨Rect.unit (s := S11x512x256) ![2, 256, 0] ![1, 256, 256] inb_S11x512x256_S1x256x256_2_256_0, w2_1⟩,
      ⟨Rect.unit (s := S11x512x256) ![2, 0, 0] ![1, 256, 256] inb_S11x512x256_S1x256x256_2_0_0, w2_0⟩,
      ⟨Rect.unit (s := S11x512x256) ![1, 256, 0] ![1, 256, 256] inb_S11x512x256_S1x256x256_1_256_0, w1_1⟩,
      ⟨Rect.unit (s := S11x512x256) ![1, 0, 0] ![1, 256, 256] inb_S11x512x256_S1x256x256_1_0_0, w1_0⟩,
      ⟨Rect.unit (s := S11x512x256) ![0, 256, 0] ![1, 256, 256] inb_S11x512x256_S1x256x256_0_256_0, w0_1⟩,
      ⟨Rect.unit (s := S11x512x256) ![0, 0, 0] ![1, 256, 256] inb_S11x512x256_S1x256x256_0_0_0, w0_0⟩] : List (View.Piece (Elt Ideal) S11x512x256 .bf16)), y ∈ p.1.set := by
  idx_vars y
  simp only [List.mem_cons, List.not_mem_nil, or_false, exists_eq_or_imp, exists_eq_left, Rect.mem_set_unit, Fin.forall_fin_succ]
  have h1 := y1.isLt
  have h2 := y2.isLt
  fin_cases y0 <;> simp [ix3] <;> omega

/-- The eleven blocks of eight rows cover the rows kept. -/
theorem cover_kept (y : S11x8x256.Idx) (w10 w9 w8 w7 w6 w5 w4 w3 w2 w1 w0 : S1x8x256.Idx → Elt Ideal .f32) :
    ∃ p ∈ ([⟨Rect.unit (s := S11x8x256) ![10, 0, 0] ![1, 8, 256] inb_S11x8x256_S1x8x256_10_0_0, w10⟩,
      ⟨Rect.unit (s := S11x8x256) ![9, 0, 0] ![1, 8, 256] inb_S11x8x256_S1x8x256_9_0_0, w9⟩,
      ⟨Rect.unit (s := S11x8x256) ![8, 0, 0] ![1, 8, 256] inb_S11x8x256_S1x8x256_8_0_0, w8⟩,
      ⟨Rect.unit (s := S11x8x256) ![7, 0, 0] ![1, 8, 256] inb_S11x8x256_S1x8x256_7_0_0, w7⟩,
      ⟨Rect.unit (s := S11x8x256) ![6, 0, 0] ![1, 8, 256] inb_S11x8x256_S1x8x256_6_0_0, w6⟩,
      ⟨Rect.unit (s := S11x8x256) ![5, 0, 0] ![1, 8, 256] inb_S11x8x256_S1x8x256_5_0_0, w5⟩,
      ⟨Rect.unit (s := S11x8x256) ![4, 0, 0] ![1, 8, 256] inb_S11x8x256_S1x8x256_4_0_0, w4⟩,
      ⟨Rect.unit (s := S11x8x256) ![3, 0, 0] ![1, 8, 256] inb_S11x8x256_S1x8x256_3_0_0, w3⟩,
      ⟨Rect.unit (s := S11x8x256) ![2, 0, 0] ![1, 8, 256] inb_S11x8x256_S1x8x256_2_0_0, w2⟩,
      ⟨Rect.unit (s := S11x8x256) ![1, 0, 0] ![1, 8, 256] inb_S11x8x256_S1x8x256_1_0_0, w1⟩,
      ⟨Rect.unit (s := S11x8x256) ![0, 0, 0] ![1, 8, 256] inb_S11x8x256_S1x8x256_0_0_0, w0⟩] : List (View.Piece (Elt Ideal) S11x8x256 .f32)), y ∈ p.1.set := by
  idx_vars y
  simp only [List.mem_cons, List.not_mem_nil, or_false, exists_eq_or_imp, exists_eq_left, Rect.mem_set_unit, Fin.forall_fin_succ]
  have h1 := y1.isLt
  have h2 := y2.isLt
  fin_cases y0 <;> simp [ix3]

end Cert.Kernel4Ideal.Ffn

end
-- ==== Proof.FfnPoint.lean ====
/- What one point of the feed-forward call leaves: the steps of its body put together, for a tile that starts a sequence and for one that follows another. -/
module

public import proofs.«01_k».proof.Proof.Gen.Kernel4Ideal.Value
public import proofs.«01_k».proof.Proof.FfnPay
public import Idealize.ShloMosaic.Lib.Pointwise
public import Idealize.ShloMosaic.Lib.Pipeline.ValueKit
public import Idealize.ShloMosaic.Lib.Pipeline.ReadBack

@[expose] public section

noncomputable section

open Idealize.ShloMosaic Idealize.ShloMosaic.TcCoe Idealize.SL.Sem
open Idealize.ShloMosaic.Pipeline (Dat)

namespace Cert.Kernel4Ideal.Ffn

open Cert.Kernel4Ideal Cert.Kernel4Ideal.Gen Cert.Kernel4Ideal.Value Cert.Pool Cert.Glu Cert.Ffn

variable (m : (ℓ : Loc nD τ sig) → Buf (Elt Ideal) ℓ) (c : Dev nD) (t : Fin cfg0.N)

set_option maxHeartbeats 40000000 in
/-- The four blocks a point writes, and the rows it keeps for the next one. -/
theorem point (X : ℕ → Fin 1024 → ℝ) (g g2 : Fin 1024 → ℝ) (W : ℕ → ℕ → Fin 1024 → ℝ) (w o : ℕ → ℕ → ℝ) (Q : ℕ → ℕ → Fin 256 → ℝ)
    (b0 : iblk m c 0 t = lift3 X) (b1 : iblk m c 1 t = lift2 fun _ => g) (b2 : iblk m c 2 t = lift2 fun _ => g2)
    (b3 : iblk m c 3 t = planes W .bf16) (b4 : iblk m c 4 t = feats w) (b5 : iblk m c 5 t = feats o)
    (hs : (t.val % 4 = 0 ∧ Q = fun _ _ _ => 0) ∨ (¬t.val % 4 = 0 ∧ ∃ hb, (outsAt0 m c (t.val - 1) hb).2.2.2.2 = planes Q)) :
    (outsAt0 m c t.val t.isLt).1 = lift3 (fun r d => X r d + rms (chain X g W w o Q 10 r) g2 d) ∧
      (outsAt0 m c t.val t.isLt).2.1 = planes (fun j => branchOf X g W 0 (256 * j)) .bf16 ∧
      (outsAt0 m c t.val t.isLt).2.2.1 = planes (fun j => branchOf X g W 1 (256 * j)) .bf16 ∧
      (outsAt0 m c t.val t.isLt).2.2.2.1 = lift3 (chain X g W w o Q 10) ∧
      (outsAt0 m c t.val t.isLt).2.2.2.2 = planes (fun j i => past (Q j) (branchOf X g W 0 (256 * j)) (512 + i)) := by
  rcases hs with ⟨h0, rfl⟩ | ⟨h0, hb, hp⟩
  on_goal 1 => have hp := b5
  on_goal 1 => rw [outsAt0_A m c t h0]
  on_goal 2 => rw [outsAt0_B m c t h0]
  all_goals refine ⟨?_, ?_, ?_, ?_, ?_⟩
  all_goals frame_open
  all_goals simp only [↓ cat2_eq, ↓ cat16_eq, ↓ rot1_eq, ↓ rot2_eq]
  all_goals simp (disch := decide) only [↓ View.readCov_skip, ↓ View.readCov_cons_toLoadRect, ↓ View.readCov_fill]
  all_goals frame_open
  all_goals simp (disch := decide) only [View.read_writes_junk_eq_canon, View.canon_cons_unit_lit', View.ld_unit_lit', View.readCov_unit_lit', View.readCov_cons_unit_lit', View.readAt_eq_ld,
    View.readCov_skip, View.readCov_cons_toLoadRect, View.readCov_fill, Memref.IsWhole.read_unread, read_unread_whole, b0, b1, b2, b3, b4, b5, hp]
  all_goals rw [norm_eq]
  all_goals simp (disch := decide) only [zero_eq,
k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117,
    k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138,
    k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201,
    k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222,
    k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264,
    k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285,
    k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306,
    k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327,
    k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348,
    k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369,
    k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390,
    k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411,
    k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432,
    k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453,
    k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474,
    k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495,
    k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516,
    k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537,
    k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558,
    k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579,
    k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600,
    k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621,
    k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642,
    k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663,
    k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684,
    k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705,
    k0_pay706, k0_pay707, k0_pay708, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726,
    k0_pay727, k0_pay728, k0_pay729, k0_pay730, k0_pay731, k0_pay732, k0_pay733, k0_pay734, k0_pay735, k0_pay736, k0_pay737, k0_pay738, k0_pay739, k0_pay740, k0_pay741, k0_pay742, k0_pay743, k0_pay744, k0_pay745, k0_pay746, k0_pay747,
    k0_pay748, k0_pay749, k0_pay750, k0_pay751, k0_pay752, k0_pay753, k0_pay754, k0_pay755, k0_pay756, k0_pay757, k0_pay758, k0_pay759, k0_pay760, k0_pay761, k0_pay762, k0_pay763, k0_pay764, k0_pay765, k0_pay766, k0_pay767, k0_pay768,
    k0_pay769, k0_pay770, k0_pay771, k0_pay772, k0_pay773, k0_pay774, k0_pay775, k0_pay776, k0_pay777, k0_pay778, k0_pay779, k0_pay780, k0_pay781, k0_pay782, k0_pay783, k0_pay784, k0_pay785, k0_pay786, k0_pay787, k0_pay788, k0_pay789,
    k0_pay790, k0_pay791, k0_pay792, k0_pay793, k0_pay794, k0_pay795, k0_pay796, k0_pay797, k0_pay798, k0_pay799, k0_pay800, k0_pay801, k0_pay802, k0_pay803, k0_pay804, k0_pay805, k0_pay806, k0_pay807, k0_pay808, k0_pay809, k0_pay810,
    k0_pay811, k0_pay812, k0_pay813, k0_pay814, k0_pay815, k0_pay816, k0_pay817, k0_pay818, k0_pay819, k0_pay820, k0_pay821, k0_pay822, k0_pay823, k0_pay824, k0_pay825, k0_pay826, k0_pay827, k0_pay828, k0_pay829, k0_pay830, k0_pay831,
    k0_pay832, k0_pay833, k0_pay834, k0_pay835, k0_pay836, k0_pay837, k0_pay838, k0_pay839, k0_pay840, k0_pay841, k0_pay842, k0_pay843, k0_pay844, k0_pay845, k0_pay846, k0_pay847, k0_pay848, k0_pay849, k0_pay850, k0_pay851, k0_pay852,
    k0_pay853, k0_pay854, k0_pay855, k0_pay856, k0_pay857, k0_pay858, k0_pay859, k0_pay860, k0_pay861, k0_pay862, k0_pay863, k0_pay864, k0_pay865, k0_pay866, k0_pay867, k0_pay868, k0_pay869, k0_pay870, k0_pay871, k0_pay872, k0_pay873,
    k0_pay874, k0_pay875, k0_pay876, k0_pay877, k0_pay878, k0_pay879, k0_pay880, k0_pay881, k0_pay882, k0_pay883, k0_pay884, k0_pay885, k0_pay886, k0_pay887, k0_pay888, k0_pay889, k0_pay890, k0_pay891, k0_pay892, k0_pay893, k0_pay894,
    k0_pay895, k0_pay896, k0_pay897, k0_pay898, k0_pay899, k0_pay900, k0_pay901, k0_pay902, k0_pay903, k0_pay904, k0_pay905, k0_pay906, k0_pay907, k0_pay908, k0_pay909, k0_pay910, k0_pay911, k0_pay912, k0_pay913, k0_pay914, k0_pay915,
    k0_pay916, k0_pay917, k0_pay918, k0_pay919, k0_pay920, k0_pay921, k0_pay922, k0_pay923, k0_pay924, k0_pay925, k0_pay926, k0_pay927, k0_pay928, k0_pay929, k0_pay930, k0_pay931, k0_pay932, k0_pay933, k0_pay934, k0_pay935, k0_pay936,
    k0_pay937, k0_pay938, k0_pay939, k0_pay940, k0_pay941, k0_pay942, k0_pay943, k0_pay944, k0_pay945, k0_pay946, k0_pay947, k0_pay948, k0_pay949, k0_pay950, k0_pay951, k0_pay952, k0_pay953, k0_pay954, k0_pay955, k0_pay956, k0_pay957,
    k0_pay958, k0_pay959, k0_pay960, k0_pay961, k0_pay962, k0_pay963, k0_pay964, k0_pay965, k0_pay966, k0_pay967, k0_pay968, k0_pay969, k0_pay970, k0_pay971, k0_pay972, k0_pay973, k0_pay974, k0_pay975, k0_pay976, k0_pay977, k0_pay978,
    k0_pay979, k0_pay980, k0_pay981, k0_pay982, k0_pay983, k0_pay984, k0_pay985, k0_pay986, k0_pay987, k0_pay988, k0_pay989, k0_pay990, k0_pay991, k0_pay992, k0_pay993, k0_pay994, k0_pay995, k0_pay996, k0_pay997, k0_pay998, k0_pay999,
    k0_pay1000, k0_pay1001, k0_pay1002, k0_pay1003, k0_pay1004, k0_pay1005, k0_pay1006, k0_pay1007, k0_pay1008, k0_pay1009, k0_pay1010, k0_pay1011, k0_pay1012, k0_pay1013, k0_pay1014, k0_pay1015, k0_pay1016, k0_pay1017, k0_pay1018,
    k0_pay1019, k0_pay1020, k0_pay1021, k0_pay1022, k0_pay1023, k0_pay1024, k0_pay1025, k0_pay1026, k0_pay1027, k0_pay1028, k0_pay1029, k0_pay1030, k0_pay1031, k0_pay1032, k0_pay1033, k0_pay1034, k0_pay1035, k0_pay1036, k0_pay1037,
    k0_pay1038, k0_pay1039, k0_pay1040, k0_pay1041, k0_pay1042, k0_pay1043, k0_pay1044, k0_pay1045, k0_pay1046, k0_pay1047, k0_pay1048, k0_pay1049, k0_pay1050, k0_pay1051, k0_pay1052, k0_pay1053, k0_pay1054, k0_pay1055, k0_pay1056,
    k0_pay1057, k0_pay1058, k0_pay1059, k0_pay1060, k0_pay1061, k0_pay1062, k0_pay1063, k0_pay1064, k0_pay1065, k0_pay1066, k0_pay1067, k0_pay1068, k0_pay1069, k0_pay1070, k0_pay1071, k0_pay1072, k0_pay1073, k0_pay1074, k0_pay1075,
    k0_pay1076, k0_pay1077, k0_pay1078, k0_pay1079, k0_pay1080, k0_pay1081, k0_pay1082, k0_pay1083, k0_pay1084, k0_pay1085, k0_pay1086, k0_pay1087, k0_pay1088, k0_pay1089, k0_pay1090, k0_pay1091, k0_pay1092, k0_pay1093, k0_pay1094,
    k0_pay1095, k0_pay1096, k0_pay1097, k0_pay1098, k0_pay1099, k0_pay1100, k0_pay1101, k0_pay1102, k0_pay1103, k0_pay1104, k0_pay1105, k0_pay1106, k0_pay1107, k0_pay1108, k0_pay1109, k0_pay1110, k0_pay1111, k0_pay1112, k0_pay1113,
    k0_pay1114, k0_pay1115, k0_pay1116, k0_pay1117, k0_pay1118, k0_pay1119, k0_pay1120, k0_pay1121, k0_pay1122, k0_pay1123, k0_pay1124, k0_pay1125, k0_pay1126, k0_pay1127, k0_pay1128, k0_pay1129, k0_pay1130, k0_pay1131, k0_pay1132,
    k0_pay1133, k0_pay1134, k0_pay1135, k0_pay1136, k0_pay1137, k0_pay1138, k0_pay1139, k0_pay1140, k0_pay1141, k0_pay1142, k0_pay1143, k0_pay1144, k0_pay1145, k0_pay1146, k0_pay1147, k0_pay1148, k0_pay1149, k0_pay1150, k0_pay1151,
    k0_pay1152, k0_pay1153, k0_pay1154, k0_pay1155, k0_pay1156, k0_pay1157, k0_pay1158, k0_pay1159, k0_pay1160, k0_pay1161, k0_pay1162, k0_pay1163, k0_pay1164, k0_pay1165, k0_pay1166, k0_pay1167, k0_pay1168, k0_pay1169, k0_pay1170,
    k0_pay1171, k0_pay1172, k0_pay1173, k0_pay1174, k0_pay1175, k0_pay1176, k0_pay1177, k0_pay1178, k0_pay1179, k0_pay1180, k0_pay1181, k0_pay1182, k0_pay1183, k0_pay1184, k0_pay1185, k0_pay1186, k0_pay1187, k0_pay1188, k0_pay1189,
    k0_pay1190, k0_pay1191, k0_pay1192, k0_pay1193, k0_pay1194, k0_pay1195, k0_pay1196, k0_pay1197, k0_pay1198, k0_pay1199, k0_pay1200, k0_pay1201, k0_pay1202, k0_pay1203, k0_pay1204, k0_pay1205, k0_pay1206, k0_pay1207, k0_pay1208,
    k0_pay1209, k0_pay1210, k0_pay1211, k0_pay1212, k0_pay1213, k0_pay1214, k0_pay1215, k0_pay1216, k0_pay1217, k0_pay1218, k0_pay1219, k0_pay1220, k0_pay1221, k0_pay1222, k0_pay1223, k0_pay1224, k0_pay1225, k0_pay1226, k0_pay1227,
    k0_pay1228, k0_pay1229, k0_pay1230, k0_pay1231, k0_pay1232, k0_pay1233, k0_pay1234, k0_pay1235, k0_pay1236, k0_pay1237, k0_pay1238, k0_pay1239, k0_pay1240, k0_pay1241, k0_pay1242, k0_pay1243, k0_pay1244, k0_pay1245, k0_pay1246,
    k0_pay1247, k0_pay1248, k0_pay1249, k0_pay1250, k0_pay1251, k0_pay1252, k0_pay1253, k0_pay1254, k0_pay1255, k0_pay1256, k0_pay1257, k0_pay1258, k0_pay1259, k0_pay1260, k0_pay1261, k0_pay1262, k0_pay1263, k0_pay1264, k0_pay1265,
    k0_pay1266, k0_pay1267, k0_pay1268, k0_pay1269, k0_pay1270, k0_pay1271, k0_pay1272, k0_pay1273, k0_pay1274, k0_pay1275, k0_pay1276, k0_pay1277, k0_pay1278, k0_pay1279, k0_pay1280, k0_pay1281, k0_pay1282, k0_pay1283, k0_pay1284,
    k0_pay1285, k0_pay1286, k0_pay1287, k0_pay1288, k0_pay1289, k0_pay1290, k0_pay1291, k0_pay1292, k0_pay1293, k0_pay1294, k0_pay1295, k0_pay1296, k0_pay1297, k0_pay1298, k0_pay1299, k0_pay1300, k0_pay1301, k0_pay1302, k0_pay1303,
    k0_pay1304, k0_pay1305, k0_pay1306, k0_pay1307, k0_pay1308, k0_pay1309, k0_pay1310, k0_pay1311, k0_pay1312, k0_pay1313, k0_pay1314, k0_pay1315, k0_pay1316, k0_pay1317, k0_pay1318, k0_pay1319, k0_pay1320, k0_pay1321, k0_pay1322,
    k0_pay1323, k0_pay1324, k0_pay1325, k0_pay1326, k0_pay1327, k0_pay1328, k0_pay1329, k0_pay1330, k0_pay1331, k0_pay1332, k0_pay1333, k0_pay1334, k0_pay1335, k0_pay1336, k0_pay1337, k0_pay1338, k0_pay1339, k0_pay1340, k0_pay1341,
    k0_pay1342, k0_pay1343, k0_pay1344, k0_pay1345, k0_pay1346, k0_pay1347, k0_pay1348, k0_pay1349, k0_pay1350, k0_pay1351, k0_pay1352, k0_pay1353, k0_pay1354, k0_pay1355, k0_pay1356, k0_pay1357, k0_pay1358, k0_pay1359, k0_pay1360,
    k0_pay1361, k0_pay1362, k0_pay1363, k0_pay1364, k0_pay1365, k0_pay1366, k0_pay1367, k0_pay1368, k0_pay1369, k0_pay1370, k0_pay1371, k0_pay1372, k0_pay1373, k0_pay1374, k0_pay1375, k0_pay1376, k0_pay1377, k0_pay1378, k0_pay1379,
    k0_pay1380, k0_pay1381, k0_pay1382, k0_pay1383, k0_pay1384, k0_pay1385, k0_pay1386, k0_pay1387, k0_pay1388, k0_pay1389, k0_pay1390, k0_pay1391, k0_pay1392, k0_pay1393, k0_pay1394, k0_pay1395, k0_pay1396, k0_pay1397, k0_pay1398,
    k0_pay1399, k0_pay1400, k0_pay1401, k0_pay1402, k0_pay1403, k0_pay1404, k0_pay1405, k0_pay1406, k0_pay1407, k0_pay1408, k0_pay1409, k0_pay1410, k0_pay1411, k0_pay1412, k0_pay1413, k0_pay1414, k0_pay1415, k0_pay1416, k0_pay1417,
    k0_pay1418, k0_pay1419, k0_pay1420, k0_pay1421, k0_pay1422, k0_pay1423, k0_pay1424, k0_pay1425, k0_pay1426, k0_pay1427, k0_pay1428, k0_pay1429, k0_pay1430, k0_pay1431, k0_pay1432, k0_pay1433, k0_pay1434, k0_pay1435, k0_pay1436,
    k0_pay1437, k0_pay1438, k0_pay1439, k0_pay1440, k0_pay1441, k0_pay1442, k0_pay1443, k0_pay1444, k0_pay1445, k0_pay1446, k0_pay1447, k0_pay1448, k0_pay1449, k0_pay1450, k0_pay1451, k0_pay1452, k0_pay1453, k0_pay1454, k0_pay1455,
    k0_pay1456, k0_pay1457, k0_pay1458, k0_pay1459, k0_pay1460, k0_pay1461, k0_pay1462, k0_pay1463, k0_pay1464, k0_pay1465, k0_pay1466, k0_pay1467, k0_pay1468, k0_pay1469, k0_pay1470, k0_pay1471, k0_pay1472, k0_pay1473, k0_pay1474,
    k0_pay1475, k0_pay1476, k0_pay1477, k0_pay1478, k0_pay1479, k0_pay1480, k0_pay1481, k0_pay1482, k0_pay1483, k0_pay1484, k0_pay1485, k0_pay1486, k0_pay1487, k0_pay1488, k0_pay1489, k0_pay1490, k0_pay1491, k0_pay1492, k0_pay1493,
    k0_pay1494, k0_pay1495, k0_pay1496, k0_pay1497, k0_pay1498, k0_pay1499, k0_pay1500, k0_pay1501, k0_pay1502, k0_pay1503, k0_pay1504, k0_pay1505, k0_pay1506, k0_pay1507, k0_pay1508, k0_pay1509, k0_pay1510, k0_pay1511, k0_pay1512,
    k0_pay1513, k0_pay1514, k0_pay1515, k0_pay1516, k0_pay1517, k0_pay1518, k0_pay1519, k0_pay1520, k0_pay1521, k0_pay1522, k0_pay1523, k0_pay1524, k0_pay1525, k0_pay1526, k0_pay1527, k0_pay1528, k0_pay1529, k0_pay1530, k0_pay1531,
    k0_pay1532, k0_pay1533, k0_pay1534, k0_pay1535, k0_pay1536, k0_pay1537, k0_pay1538, k0_pay1539, k0_pay1540, k0_pay1541, k0_pay1542, k0_pay1543, k0_pay1544, k0_pay1545, k0_pay1546, k0_pay1547, k0_pay1548, k0_pay1549, k0_pay1550,
    k0_pay1551, k0_pay1552, k0_pay1553, k0_pay1554, k0_pay1555, k0_pay1556, k0_pay1557, k0_pay1558, k0_pay1559, k0_pay1560, k0_pay1561, k0_pay1562, k0_pay1563, k0_pay1564, k0_pay1565, k0_pay1566, k0_pay1567, k0_pay1568, k0_pay1569,
    k0_pay1570, k0_pay1571, k0_pay1572, k0_pay1573, k0_pay1574, k0_pay1575, k0_pay1576, k0_pay1577, k0_pay1578, k0_pay1579, k0_pay1580, k0_pay1581, k0_pay1582, k0_pay1583, k0_pay1584, k0_pay1585, k0_pay1586, k0_pay1587, k0_pay1588,
    k0_pay1589, k0_pay1590, k0_pay1591, k0_pay1592, k0_pay1593, k0_pay1594, k0_pay1595, k0_pay1596, k0_pay1597, k0_pay1598, k0_pay1599, k0_pay1600, k0_pay1601, k0_pay1602, k0_pay1603, k0_pay1604, k0_pay1605, k0_pay1606, k0_pay1607,
    k0_pay1608, k0_pay1609, k0_pay1610, k0_pay1611, k0_pay1612, k0_pay1613, k0_pay1614, k0_pay1615, k0_pay1616, k0_pay1617, k0_pay1618, k0_pay1619, k0_pay1620, k0_pay1621, k0_pay1622, k0_pay1623, k0_pay1624, k0_pay1625, k0_pay1626,
    k0_pay1627, k0_pay1628, k0_pay1629, k0_pay1630, k0_pay1631, k0_pay1632, k0_pay1633, k0_pay1634, k0_pay1635, k0_pay1636, k0_pay1637, k0_pay1638, k0_pay1639, k0_pay1640, k0_pay1641, k0_pay1642, k0_pay1643, k0_pay1644, k0_pay1645,
    k0_pay1646, k0_pay1647, k0_pay1648, k0_pay1649, k0_pay1650, k0_pay1651, k0_pay1652, k0_pay1653, k0_pay1654, k0_pay1655, k0_pay1656, k0_pay1657, k0_pay1658, k0_pay1659, k0_pay1660, k0_pay1661, k0_pay1662, k0_pay1663, k0_pay1664,
    k0_pay1665, k0_pay1666, k0_pay1667, k0_pay1668, k0_pay1669, k0_pay1670, k0_pay1671, k0_pay1672, k0_pay1673, k0_pay1674, k0_pay1675, k0_pay1676, k0_pay1677, k0_pay1678, k0_pay1679, k0_pay1680, k0_pay1681, k0_pay1682, k0_pay1683,
    k0_pay1684, k0_pay1685, k0_pay1686, k0_pay1687, k0_pay1688, k0_pay1689, k0_pay1690, k0_pay1691, k0_pay1692, k0_pay1693, k0_pay1694, k0_pay1695, k0_pay1696, k0_pay1697, k0_pay1698, k0_pay1699, k0_pay1700, k0_pay1701, k0_pay1702,
    k0_pay1703, k0_pay1704, k0_pay1705, k0_pay1706, k0_pay1707, k0_pay1708, k0_pay1709, k0_pay1710, k0_pay1711, k0_pay1712, k0_pay1713, k0_pay1714, k0_pay1715, k0_pay1716, k0_pay1717, k0_pay1718, k0_pay1719, k0_pay1720, k0_pay1721,
    k0_pay1722, k0_pay1723, k0_pay1724, k0_pay1725, k0_pay1726, k0_pay1727,
    ↓ cat2_eq, ↓ cat16_eq, ↓ rot1_eq, ↓ rot2_eq, slice16, slice24, slice8, roll1, roll2, cat_hist, cat_rows, cat_all, weight_eq, offset_eq, crow_eq, conv_eq, hid_eq, plane_eq, mat_eq, gate_eq,
    down_eq, plus_eq, cast_rows, store_eq, keep_eq, half_eq, kept_eq, hist_eq, Nat.reduceAdd]
  all_goals first
    | rw [halves_eq, out_eq]; rfl
    | rw [halves_eq, pay1728_eq]; rfl
    | refine canon_eq _ _ ?_ (cover_tiles · _ _ _ _ _ _ _ _ _ _ _ _ _ _ _ _ _ _ _ _ _ _)
      repeat' first | exact trivial | refine ⟨piece_eq _ _ _ _ _ (by decide) fun i => rfl, ?_⟩
    | refine funext fun y => View.canon_append_of_piecesOf _ _ [_, _, _, _, _, _, _, _, _, _, _] ?_ y (cover_kept y _ _ _ _ _ _ _ _ _ _ _)
      repeat' first | exact trivial | refine ⟨piece_eq _ _ _ _ _ (by decide) fun i => (by rw [Nat.zero_add]; rfl), ?_⟩

end Cert.Kernel4Ideal.Ffn

end
-- ==== Proof.FfnTile.lean ====
/- A tile of the feed-forward layer as a piece of the layer over whole sequences. -/
module

public import proofs.«01_k».proof.Proof.FfnMath

@[expose] public section

noncomputable section

open Idealize.ShloMosaic

namespace Cert.Ffn

open Cert.Pool Cert.Glu

variable (X : ℕ → ℕ → Fin 1024 → ℝ) (g1 g2 : Fin 1024 → ℝ) (W : ℕ → ℕ → Fin 1024 → ℝ) (w : ℕ → ℕ → ℝ) (o : ℕ → ℝ)

/-- Tile `n` of the input: four tiles of 512 rows to a sequence. -/
def tile (n r : ℕ) : Fin 1024 → ℝ := X (n / 4) (512 * (n % 4) + r)

/-- The gate's eight rows before tile `n`: zeros where a sequence starts. -/
def before (n j i : ℕ) (c : Fin 256) : ℝ := if n % 4 = 0 then 0 else branch X g1 W 0 (n / 4) (512 * (n % 4) - 8 + i) (256 * j + c.val)

theorem branchOf_eq (p b n r : ℕ) (c : Fin 256) : branchOf (tile X n) g1 W p b r c = branch X g1 W p (n / 4) (512 * (n % 4) + r) (b + c.val) := rfl

theorem before_zero (n : ℕ) (h : n % 4 = 0) : before X g1 W n = fun _ _ _ => 0 := by
  funext j i c
  unfold before
  rw [if_pos h]

theorem past_eq (n j i : ℕ) (c : Fin 256) :
    past (before X g1 W n j) (branchOf (tile X n) g1 W 0 (256 * j)) (i + 6) c = pad (branch X g1 W 0) (n / 4) (512 * (n % 4) + i) (256 * j + c.val) := by
  unfold past before pad
  by_cases h : i + 6 < 8
  · rw [if_pos h]
    by_cases h4 : n % 4 = 0
    · rw [if_pos h4, if_pos (by omega)]
    · rw [if_neg h4, if_neg (by omega), show 512 * (n % 4) - 8 + (i + 6) = 512 * (n % 4) + i - 2 by omega]
  · rw [if_neg h, if_neg (by omega), branchOf_eq, show 512 * (n % 4) + (i + 6 - 8) = 512 * (n % 4) + i - 2 by omega]

theorem kept_next (n : ℕ) (h : ¬(n + 1) % 4 = 0) :
    (fun j i => past (before X g1 W n j) (branchOf (tile X n) g1 W 0 (256 * j)) (512 + i)) = before X g1 W (n + 1) := by
  funext j i c
  unfold past
  rw [if_neg (by omega), branchOf_eq]
  unfold before
  rw [if_neg h, show (n + 1) / 4 = n / 4 by omega, show 512 * (n % 4) + (512 + i - 8) = 512 * ((n + 1) % 4) - 8 + i by omega]

theorem hidOf_eq (n j r : ℕ) (c : Fin 256) : hidOf (tile X n) g1 W w (fun _ => o) (before X g1 W n) j r c
    = hidden X g1 W w o (n / 4) (512 * (n % 4) + r) (256 * j + c.val) := by
  unfold hidOf hid conv hidden gated
  rw [past_eq, show r + 6 + 1 = r + 1 + 6 by omega, past_eq, show r + 6 + 2 = r + 2 + 6 by omega, past_eq, branchOf_eq]
  rfl

theorem chain_sum (n r : ℕ) (d : Fin 1024) : ∀ j, chain (tile X n) g1 W w (fun _ => o) (before X g1 W n) j r d
    = ∑ k ∈ Finset.range (j + 1), ∑ c : Fin 256, hidden X g1 W w o (n / 4) (512 * (n % 4) + r) (256 * k + c.val) * W 2 (256 * k + c.val) d
  | 0 => by
    rw [Finset.sum_range_one]
    unfold chain down
    exact Finset.sum_congr rfl fun c _ => by rw [hidOf_eq]
  | j + 1 => by
    rw [Finset.sum_range_succ, ← chain_sum n r d j]
    exact congrArg (_ + ·) (Finset.sum_congr rfl fun c _ => congrArg (· * _) (hidOf_eq X g1 W w o n (j + 1) r c))

/-- Eleven blocks of features are all of them. -/
theorem chain_eq (n r : ℕ) : chain (tile X n) g1 W w (fun _ => o) (before X g1 W n) 10 r = ffn X g1 W w o (n / 4) (512 * (n % 4) + r) := by
  funext d
  rw [chain_sum]
  unfold ffn
  rw [Fin.sum_univ_eq_sum_range (fun c => hidden X g1 W w o (n / 4) (512 * (n % 4) + r) c * W 2 c d) 2816, show 2816 = 11 * 256 from rfl, Finset.sum_range_mul_split]
  refine Finset.sum_congr rfl fun k _ => ?_
  rw [Fin.sum_univ_eq_sum_range (fun c => hidden X g1 W w o (n / 4) (512 * (n % 4) + r) (256 * k + c) * W 2 (256 * k + c) d) 256, Nat.mul_comm 256]

end Cert.Ffn

end
-- ==== Proof.FfnOut.lean ====
/- The feed-forward call: what its sixteen tiles leave, and the four arrays at the end. -/
module

public import proofs.«01_k».proof.Proof.FfnPoint
public import proofs.«01_k».proof.Proof.FfnTile
public import proofs.«01_k».proof.Proof.GluOut

@[expose] public section

noncomputable section

open Idealize.ShloMosaic Idealize.ShloMosaic.TcCoe Idealize.SL.Sem
open Idealize.ShloMosaic.Pipeline (Dat)

namespace Cert.Ffn

open Cert.Pool Cert.Glu

/-- A stack of matrices of numbers by planes and rows, and zeros outside. -/
def stackOf {a n k : ℕ} (f : (⟨3, ![a, n, k]⟩ : Shape).Idx → EReal) (b r : ℕ) (d : Fin k) : ℝ := if h : b < a ∧ r < n then (f (ix3 ⟨b, h.1⟩ ⟨r, h.2⟩ d)).toReal else 0

theorem stackOf_eq {a n k : ℕ} (f : (⟨3, ![a, n, k]⟩ : Shape).Idx → EReal) (h : IsNum f) (i : (⟨3, ![a, n, k]⟩ : Shape).Idx) :
    f i = ((stackOf f (i 0).val (i 1).val (i 2) : ℝ) : EReal) := by
  refine (h i).trans (congrArg Real.toEReal ?_)
  unfold stackOf
  rw [dif_pos (show (i 0).val < a ∧ (i 1).val < n from ⟨(i 0).isLt, (i 1).isLt⟩)]
  exact congrArg (fun j => (f j).toReal) (funext fun x => match x with | ⟨0, _⟩ => rfl | ⟨1, _⟩ => rfl | ⟨2, _⟩ => rfl)

/-- A function of a feature, and zeros beyond the last one. -/
def ext {k : ℕ} (f : Fin k → ℝ) (c : ℕ) : ℝ := if h : c < k then f ⟨c, h⟩ else 0

theorem ext_eq {k : ℕ} (f : Fin k → ℝ) (c : Fin k) : ext f c.val = f c := dif_pos c.isLt

end Cert.Ffn

namespace Cert.Kernel4Ideal.Ffn

open Cert.Kernel4Ideal Cert.Kernel4Ideal.Gen Cert.Kernel4Ideal.Value Cert.Pool Cert.Glu Cert.Ffn

variable (m : (ℓ : Loc nD τ sig) → Buf (Elt Ideal) ℓ) (c : Dev nD)

/-- The arguments as arrays of extended reals. -/
abbrev aX : S4x2048x1024.Idx → EReal := m ((c : Thread nD τ).loc main_arg0)
abbrev aG1 : S1x1024.Idx → EReal := m ((c : Thread nD τ).loc main_arg1)
abbrev aG2 : S1x1024.Idx → EReal := m ((c : Thread nD τ).loc main_arg2)
abbrev aW : S3x2816x1024.Idx → EReal := m ((c : Thread nD τ).loc main_arg3)
abbrev aC : S4x3x2816.Idx → EReal := m ((c : Thread nD τ).loc main_arg4)
abbrev aB : S4x2816.Idx → EReal := m ((c : Thread nD τ).loc main_arg5)

/-- Every argument is a number. -/
structure Nums : Prop where
  x : IsNum (aX m c)
  g1 : IsNum (aG1 m c)
  g2 : IsNum (aG2 m c)
  mats : IsNum (aW m c)
  cw : IsNum (aC m c)
  cb : IsNum (aB m c)

/-- The arguments' entries. -/
abbrev X : ℕ → ℕ → Fin 1024 → ℝ := stackOf (aX m c)
abbrev g1 : Fin 1024 → ℝ := rowsOf (aG1 m c) 0
abbrev g2 : Fin 1024 → ℝ := rowsOf (aG2 m c) 0
abbrev W : ℕ → ℕ → Fin 1024 → ℝ := stackOf (aW m c)
abbrev w4 (l k : ℕ) : ℕ → ℝ := ext (stackOf (aC m c) l k)
abbrev o4 (l : ℕ) : ℕ → ℝ := ext (rowsOf (aB m c) l)

theorem idx0 (t : Fin cfg0.N) : win0_0.index t = ![t.val / 4, t.val % 4, 0] :=
  (by decide +kernel : ∀ t : Fin grid0.N, win0_0.index t = ![t.val / 4, t.val % 4, 0]) t
theorem idx1 (t : Fin cfg0.N) : win0_1.index t = ![0, 0] :=
  (by decide +kernel : ∀ t : Fin grid0.N, win0_1.index t = ![0, 0]) t
theorem idx2 (t : Fin cfg0.N) : win0_2.index t = ![0, 0] :=
  (by decide +kernel : ∀ t : Fin grid0.N, win0_2.index t = ![0, 0]) t
theorem idx3 (t : Fin cfg0.N) : win0_3.index t = ![0, 0, 0] :=
  (by decide +kernel : ∀ t : Fin grid0.N, win0_3.index t = ![0, 0, 0]) t
theorem idx4 (t : Fin cfg0.N) : win0_4.index t = ![3, 0, 0] :=
  (by decide +kernel : ∀ t : Fin grid0.N, win0_4.index t = ![3, 0, 0]) t
theorem idx5 (t : Fin cfg0.N) : win0_5.index t = ![3, 0, 0] :=
  (by decide +kernel : ∀ t : Fin grid0.N, win0_5.index t = ![3, 0, 0]) t
theorem idx6 (t : Fin cfg0.N) : win0_6.index t = ![t.val / 4, t.val % 4, 0] :=
  (by decide +kernel : ∀ t : Fin grid0.N, win0_6.index t = ![t.val / 4, t.val % 4, 0]) t
theorem idx7 (t : Fin cfg0.N) : win0_7.index t = ![0, t.val, 0] :=
  (by decide +kernel : ∀ t : Fin grid0.N, win0_7.index t = ![0, t.val, 0]) t
theorem idx8 (t : Fin cfg0.N) : win0_8.index t = ![0, t.val, 0] :=
  (by decide +kernel : ∀ t : Fin grid0.N, win0_8.index t = ![0, t.val, 0]) t
theorem idx9 (t : Fin cfg0.N) : win0_9.index t = ![t.val / 4, t.val % 4, 0] :=
  (by decide +kernel : ∀ t : Fin grid0.N, win0_9.index t = ![t.val / 4, t.val % 4, 0]) t

/-- What the one step before the call leaves: the offsets with an axis put in, the other arguments as they were. -/
theorem V0 : V m c main_arg0 = m ((c : Thread nD τ).loc main_arg0) := by unfold_abbrev_sides; after_results
theorem V1 : V m c main_arg1 = m ((c : Thread nD τ).loc main_arg1) := by unfold_abbrev_sides; after_results
theorem V2 : V m c main_arg2 = m ((c : Thread nD τ).loc main_arg2) := by unfold_abbrev_sides; after_results
theorem V3 : V m c main_arg3 = m ((c : Thread nD τ).loc main_arg3) := by unfold_abbrev_sides; after_results
theorem V4 : V m c main_arg4 = m ((c : Thread nD τ).loc main_arg4) := by unfold_abbrev_sides; after_results
theorem V5 : V m c main_v0 = shapeCast S4x1x2816 (aB m c) shapeCasts_S4x2816_S4x1x2816 := by unfold_abbrev_sides; after_results; rfl

variable {m c} (h : Nums m c) (t : Fin cfg0.N)

include h

theorem blk0 : iblk m c 0 t = lift3 (tile (X m c) t.val) := by
  have hN : t.val < 16 := lt_of_lt_of_eq t.isLt N_0
  funext i; idx_vars i
  refine Eq.trans ?_ (stackOf_eq (aX m c) h.x (ix3 ⟨t.val / 4, by omega⟩ ⟨512 * (t.val % 4) + i1.val, by omega⟩ i2))
  show V m c main_arg0 ((win0_0.blk t).view.emb (ix3 i0 i1 i2)) = _
  rw [V0]
  refine congrArg _ (funext fun a => Fin.ext ?_)
  blk_simp [idx0]
  fin_cases a <;> simp <;> omega

theorem blk1 : iblk m c 1 t = lift2 fun _ => g1 m c := by
  funext i; idx_vars i
  obtain rfl : i0 = 0 := Subsingleton.elim _ _
  refine Eq.trans ?_ (rowsOf_eq (aG1 m c) h.g1 (ix2 0 i1))
  show V m c main_arg1 ((win0_1.blk t).view.emb (ix2 0 i1)) = _
  rw [V1]
  refine congrArg _ (funext fun a => Fin.ext ?_)
  blk_simp [idx1]
  fin_cases a <;> simp

theorem blk2 : iblk m c 2 t = lift2 fun _ => g2 m c := by
  funext i; idx_vars i
  obtain rfl : i0 = 0 := Subsingleton.elim _ _
  refine Eq.trans ?_ (rowsOf_eq (aG2 m c) h.g2 (ix2 0 i1))
  show V m c main_arg2 ((win0_2.blk t).view.emb (ix2 0 i1)) = _
  rw [V2]
  refine congrArg _ (funext fun a => Fin.ext ?_)
  blk_simp [idx2]
  fin_cases a <;> simp

theorem blk3 : iblk m c 3 t = planes (W m c) .bf16 := by
  funext i; idx_vars i
  refine Eq.trans ?_ (stackOf_eq (aW m c) h.mats (ix3 i0 i1 i2))
  show V m c main_arg3 ((win0_3.blk t).view.emb (ix3 i0 i1 i2)) = _
  rw [V3]
  refine congrArg _ (funext fun a => Fin.ext ?_)
  blk_simp [idx3]
  fin_cases a <;> simp

theorem blk4 : iblk m c 4 t = feats (w4 m c 3) := by
  funext i; idx_vars i
  refine Eq.trans ?_ ((stackOf_eq (aC m c) h.cw (ix3 3 i1 i2)).trans (congrArg Real.toEReal (ext_eq (stackOf (aC m c) 3 i1.val) i2).symm))
  show V m c main_arg4 ((win0_4.blk t).view.emb (ix3 i0 i1 i2)) = _
  rw [V4]
  refine congrArg _ (funext fun a => Fin.ext ?_)
  blk_simp [idx4]
  fin_cases a <;> simp

theorem cast_at (f : S4x2816.Idx → EReal) (i2 : Fin 2816) : shapeCast S4x1x2816 f shapeCasts_S4x2816_S4x1x2816 (ix3 3 0 i2) = f (ix2 3 i2) := by
  pointwise

theorem blk5 : iblk m c 5 t = feats (fun _ => o4 m c 3) := by
  funext i; idx_vars i
  refine Eq.trans ?_ ((rowsOf_eq (aB m c) h.cb (ix2 3 i2)).trans (congrArg Real.toEReal (ext_eq (rowsOf (aB m c) 3) i2).symm))
  show V m c main_v0 ((win0_5.blk t).view.emb (ix3 i0 i1 i2)) = _
  rw [V5]
  refine Eq.trans (congrArg _ (funext fun a => Fin.ext ?_)) (cast_at h _ i2)
  blk_simp [idx5]
  fin_cases a <;> simp

/-- What every point leaves. -/
theorem five : ∀ (n : ℕ) (hn : n < cfg0.N),
    (outsAt0 m c n hn).1 = lift3 (fun r d => tile (X m c) n r d + rms (chain (tile (X m c) n) (g1 m c) (W m c) (w4 m c 3) (fun _ => o4 m c 3) (before (X m c) (g1 m c) (W m c) n) 10 r) (g2 m c) d) ∧
      (outsAt0 m c n hn).2.1 = planes (fun j => branchOf (tile (X m c) n) (g1 m c) (W m c) 0 (256 * j)) .bf16 ∧
      (outsAt0 m c n hn).2.2.1 = planes (fun j => branchOf (tile (X m c) n) (g1 m c) (W m c) 1 (256 * j)) .bf16 ∧
      (outsAt0 m c n hn).2.2.2.1 = lift3 (chain (tile (X m c) n) (g1 m c) (W m c) (w4 m c 3) (fun _ => o4 m c 3) (before (X m c) (g1 m c) (W m c) n) 10) ∧
      (outsAt0 m c n hn).2.2.2.2 = planes (fun j i => past (before (X m c) (g1 m c) (W m c) n j) (branchOf (tile (X m c) n) (g1 m c) (W m c) 0 (256 * j)) (512 + i))
  | 0, hn => point m c ⟨0, hn⟩ _ _ _ _ _ _ _ (blk0 h ⟨0, hn⟩) (blk1 h ⟨0, hn⟩) (blk2 h ⟨0, hn⟩) (blk3 h ⟨0, hn⟩) (blk4 h ⟨0, hn⟩) (blk5 h ⟨0, hn⟩) (.inl ⟨rfl, before_zero _ _ _ 0 rfl⟩)
  | n + 1, hn => by
    refine point m c ⟨n + 1, hn⟩ _ _ _ _ _ _ _ (blk0 h ⟨n + 1, hn⟩) (blk1 h ⟨n + 1, hn⟩) (blk2 h ⟨n + 1, hn⟩) (blk3 h ⟨n + 1, hn⟩) (blk4 h ⟨n + 1, hn⟩) (blk5 h ⟨n + 1, hn⟩) ?_
    by_cases h4 : (n + 1) % 4 = 0
    · exact .inl ⟨h4, before_zero _ _ _ (n + 1) h4⟩
    · exact .inr ⟨h4, by dsimp only; omega, (five n (by omega)).2.2.2.2.trans (congrArg planes (kept_next (X m c) (g1 m c) (W m c) n h4))⟩

omit h

variable (m c)

/-- The block's output. -/
def G6 : S4x2048x1024.Idx → EReal := planes (block (X m c) (g1 m c) (g2 m c) (W m c) (w4 m c 3) (o4 m c 3))

/-- A branch's features, in blocks of 256. -/
def G7 (p : ℕ) : S11x8192x256.Idx → EReal :=
  fun i => ((branch (X m c) (g1 m c) (W m c) p ((i 1).val / 2048) ((i 1).val % 2048) (256 * (i 0).val + (i 2).val) : ℝ) : EReal)

/-- The layer's output before its norm. -/
def G9 : S4x2048x1024.Idx → EReal := planes (ffn (X m c) (g1 m c) (W m c) (w4 m c 3) (o4 m c 3))

variable {m c}

include h

theorem arr6 : (dats m 0 c).arrAt 6 cfg0.N = G6 m c := by
  refine (dats m 0 c).arrAt_eq_of_covers 6 _ (by decide +kernel) fun t hf y => ?_
  have hN : t.val < 16 := lt_of_lt_of_eq t.isLt N_0
  blk_simp
  rw [after0_6, (five h t.val t.isLt).1]
  idx_vars y
  refine Eq.trans ?_ (congrArg (G6 m c) (show ix3 ⟨t.val / 4, by omega⟩ ⟨512 * (t.val % 4) + y1.val, by omega⟩ y2
    = (win0_6.blk t).view.emb (ix3 y0 y1 y2) from funext fun a => Fin.ext (by blk_simp [idx6]; fin_cases a <;> simp <;> omega)))
  refine congrArg Real.toEReal ?_
  dsimp only
  rw [show (ix3 y0 y1 y2 1).val = y1.val from rfl, chain_eq]
  rfl

theorem arr9 : (dats m 0 c).arrAt 9 cfg0.N = G9 m c := by
  refine (dats m 0 c).arrAt_eq_of_covers 9 _ (by decide +kernel) fun t hf y => ?_
  have hN : t.val < 16 := lt_of_lt_of_eq t.isLt N_0
  blk_simp
  rw [after0_9, (five h t.val t.isLt).2.2.2.1]
  idx_vars y
  refine Eq.trans ?_ (congrArg (G9 m c) (show ix3 ⟨t.val / 4, by omega⟩ ⟨512 * (t.val % 4) + y1.val, by omega⟩ y2
    = (win0_9.blk t).view.emb (ix3 y0 y1 y2) from funext fun a => Fin.ext (by blk_simp [idx9]; fin_cases a <;> simp <;> omega)))
  exact congrArg Real.toEReal (congrFun (chain_eq (X m c) (g1 m c) (W m c) (w4 m c 3) (o4 m c 3) t.val y1.val) y2)

theorem branch_at (p n r k : ℕ) (hr : r < 512) : branch (X m c) (g1 m c) (W m c) p (n / 4) (512 * (n % 4) + r) k
    = branch (X m c) (g1 m c) (W m c) p ((512 * n + r) / 2048) ((512 * n + r) % 2048) k := by
  rw [show (512 * n + r) / 2048 = n / 4 by omega, show (512 * n + r) % 2048 = 512 * (n % 4) + r by omega]

theorem arr7 : (dats m 0 c).arrAt 7 cfg0.N = G7 m c 0 := by
  refine (dats m 0 c).arrAt_eq_of_covers 7 _ (by decide +kernel) fun t hf y => ?_
  have hN : t.val < 16 := lt_of_lt_of_eq t.isLt N_0
  blk_simp
  rw [after0_7, (five h t.val t.isLt).2.1]
  idx_vars y
  refine Eq.trans ?_ (congrArg (G7 m c 0) (show ix3 y0 ⟨512 * t.val + y1.val, by omega⟩ y2
    = (win0_7.blk t).view.emb (ix3 y0 y1 y2) from funext fun a => Fin.ext (by blk_simp [idx7]; fin_cases a <;> simp <;> omega)))
  exact congrArg Real.toEReal (branch_at h 0 t.val y1.val (256 * y0.val + y2.val) y1.isLt)

theorem arr8 : (dats m 0 c).arrAt 8 cfg0.N = G7 m c 1 := by
  refine (dats m 0 c).arrAt_eq_of_covers 8 _ (by decide +kernel) fun t hf y => ?_
  have hN : t.val < 16 := lt_of_lt_of_eq t.isLt N_0
  blk_simp
  rw [after0_8, (five h t.val t.isLt).2.2.1]
  idx_vars y
  refine Eq.trans ?_ (congrArg (G7 m c 1) (show ix3 y0 ⟨512 * t.val + y1.val, by omega⟩ y2
    = (win0_8.blk t).view.emb (ix3 y0 y1 y2) from funext fun a => Fin.ext (by blk_simp [idx8]; fin_cases a <;> simp <;> omega)))
  exact congrArg Real.toEReal (branch_at h 1 t.val y1.val (256 * y0.val + y2.val) y1.isLt)

end Cert.Kernel4Ideal.Ffn

end
-- ==== Proof.FfnRef.lean ====
/- The feed-forward layer in the reference: each of its arrays, entry by entry, in real numbers. -/
module

public import proofs.«01_k».proof.Proof.FfnMath
public import proofs.«01_k».proof.Proof.Gen.Reference4Ideal.Run

@[expose] public section

noncomputable section

open Idealize.ShloMosaic Idealize.ShloMosaic.TcCoe Idealize.SL.Sem
open scoped BigOperators

namespace Cert.Reference4Ideal.Ffn

open Cert.Reference4Ideal Cert.Reference4Ideal.Gen Cert.Reference4Ideal.Value Cert.Pool Cert.Glu Cert.Ffn

/-- The launch contents are numbers: the input, the two norms' gains, the three matrices, the convolution's weights and offsets. -/
structure Args (m : (ℓ : Loc nD τ sig) → Buf (Elt Ideal) ℓ) (c : Dev nD) (X : ℕ → ℕ → Fin 1024 → ℝ) (g1 g2 : Fin 1024 → ℝ) (W : ℕ → ℕ → Fin 1024 → ℝ)
    (w : ℕ → ℕ → ℝ) (o : ℕ → ℝ) : Prop where
  x : m ((c.tc : Thread nD τ).loc main_arg0) = (planes X : FVec Ideal S4x2048x1024 .f32)
  g1 : m ((c.tc : Thread nD τ).loc main_arg1) = (lift2 (fun _ => g1) : FVec Ideal S1x1024 .f32)
  g2 : m ((c.tc : Thread nD τ).loc main_arg2) = (lift2 (fun _ => g2) : FVec Ideal S1x1024 .f32)
  mats : m ((c.tc : Thread nD τ).loc main_arg3) = (planes W .bf16 : FVec Ideal S3x2816x1024 .bf16)
  cw : ∃ w4 : ℕ → ℕ → ℕ → ℝ, w4 3 = w ∧ m ((c.tc : Thread nD τ).loc main_arg4) = (planes (fun l k c => w4 l k c.val) : FVec Ideal S4x3x2816 .f32)
  cb : ∃ o4 : ℕ → ℕ → ℝ, o4 3 = o ∧ m ((c.tc : Thread nD τ).loc main_arg5) = (lift2 (fun l c => o4 l c.val) : FVec Ideal S4x2816 .f32)

variable (X U : ℕ → ℕ → Fin 1024 → ℝ) (g : Fin 1024 → ℝ) (W : ℕ → ℕ → Fin 1024 → ℝ) (w4 : ℕ → ℕ → ℕ → ℝ) (o4 : ℕ → ℕ → ℝ) (G A V H : ℕ → ℕ → ℕ → ℝ)

/-- One feature to every lane. -/
def feat (G : ℕ → ℕ → ℕ → ℝ) : FVec Ideal S4x2048x2816 .f32 := planes fun b t c => G b t c.val

/-- The gate with two rows of zeros in front, as one step. -/
def padded (z : FVec Ideal S4x2x2816 .f32) (a : FVec Ideal S4x2048x2816 .f32) : FVec Ideal S4x2050x2816 .f32 :=
  concatenate S4x2050x2816 1 [⟨S4x2x2816, z⟩, ⟨S4x2048x2816, a⟩] concatenates_S4x2x2816_S4x2048x2816_S4x2050x2816_d1

theorem padded_eq (z : FVec Ideal S4x2x2816 .f32) (a : FVec Ideal S4x2048x2816 .f32) (h) :
    concatenate S4x2050x2816 1 [⟨S4x2x2816, z⟩, ⟨S4x2048x2816, a⟩] h = padded z a := rfl

theorem norm_eq (h1) (h2 : S4x2048.BroadcastsInDim S4x2048x1 ![0, 1]) (h3 : S4x2048x1024.ReducesTo [2] S4x2048) (h4) (h5 h6 : S_.BroadcastsInDim S4x2048x1 ![]) (h7 h8 h9) : mulf (mulf (planes X : FVec Ideal S4x2048x1024 .f32) (broadcastInDim S4x2048x1024 ![0, 1, 2] h1 (Host.rsqrt (addf (Host.divf (broadcastInDim S4x2048x1 ![0, 1] h2
      (Host.reduceAdd (mulf (planes X : FVec Ideal S4x2048x1024 .f32) (planes X)) (constant S_ .f32 0x00000000#32) h3 h4 : FVec Ideal S4x2048 .f32)) (broadcastInDim S4x2048x1 ![] h5 (constant S_ .f32 0x44800000#32)))
      (broadcastInDim S4x2048x1 ![] h6 (constant S_ .f32 0x358637BD#32)))))) (broadcastInDim S4x2048x1024 ![0, 1, 2] h7 (broadcastInDim S1x1x1024 ![2] h8 (shapeCast S1024 (lift2 (fun _ => g) : FVec Ideal S1x1024 .f32) h9)))
    = (planes (fun b t => rms (X b t) g) : FVec Ideal S4x2048x1024 .f32) := by
  funext i; idx_vars i
  pointwise [planes, lift2]
  simp only [ofBits_1024, ofBits_eps, coe_mul, coe_sum, ofBits_0, zero_add, coe_inv, rms]

theorem proj_eq (p : ℕ) (hp : p < 3) (h1 h2 h3 h4) : Host.dotGeneral (φ₁ := .f32) (φ₂ := .f32) dot_S4x2048x1024_S1024x2816_S4x2048x2816_2_0_01_1_n_n none (planes U : FVec Ideal S4x2048x1024 .f32)
      (transpose S1024x2816 [1, 0] (extf .f32 (shapeCast S2816x1024 (extractStridedSlice S1x2816x1024 ![p, 0, 0] (planes W .bf16 : FVec Ideal S3x2816x1024 .bf16) h1) h2) h3) h4)
    = feat fun b t c => ∑ d, U b t d * W p c d := by
  funext i; idx_vars i
  pointwise [planes, feat]
  simp only [coe_mul, coe_sum]

theorem pad_eq (o : ℕ) (h h') : extractStridedSlice S4x2048x2816 ![0, o, 0] (padded (broadcastInDim S4x2x2816 ![] h (constant S_ .f32 0x00000000#32)) (feat G)) h'
    = feat fun b t => pad G b (t + o) := by
  funext i; idx_vars i
  pointwise [planes, feat, padded]
  simp only [Ffn.pad, Nat.add_comm i1.val]
  split_ifs
  · exact EReal.coe_zero.symm
  · rfl

theorem weight_eq (k : ℕ) (h1 h2 h3 h4 h5 h6) : broadcastInDim S4x2048x2816 ![0, 1, 2] h1 (broadcastInDim S1x1x2816 ![2] h2 (shapeCast S2816 (extractStridedSlice S1x2816 ![k, 0]
      (shapeCast S3x2816 (extractStridedSlice S1x3x2816 ![3, 0, 0] (planes (fun l k c => w4 l k c.val) : FVec Ideal S4x3x2816 .f32) h3) h4) h5) h6))
    = feat fun _ _ => w4 3 k := by
  funext i; idx_vars i
  pointwise [planes, feat]

theorem offset_eq (h1 h2 h3 h4) : broadcastInDim S4x2048x2816 ![0, 1, 2] h1 (broadcastInDim S1x1x2816 ![2] h2 (shapeCast S2816 (extractStridedSlice S1x2816 ![3, 0]
      (lift2 (fun l c => o4 l c.val) : FVec Ideal S4x2816 .f32) h3) h4))
    = feat fun _ _ => o4 3 := by
  funext i; idx_vars i
  pointwise [planes, feat, lift2]

theorem mul_eq : mulf (feat G) (feat A) = feat fun b t c => G b t c * A b t c := by
  funext i; idx_vars i
  pointwise [planes, feat]
  simp only [coe_mul]

theorem add_eq : addf (feat G) (feat A) = feat fun b t c => G b t c + A b t c := by
  funext i; idx_vars i
  pointwise [planes, feat]
  simp only [coe_add]

theorem half_eq (h) : (broadcastInDim S4x2048x2816 ![] h (constant S_ .f32 0x3F000000#32) : FVec Ideal S4x2048x2816 .f32) = feat fun _ _ _ => 1 / 2 := by
  funext i; idx_vars i
  pointwise [planes, feat]
  simp only [ofBits_half]
theorem one_eq (h) : (broadcastInDim S4x2048x2816 ![] h (constant S_ .f32 0x3F800000#32) : FVec Ideal S4x2048x2816 .f32) = feat fun _ _ _ => 1 := by
  funext i; idx_vars i
  pointwise [planes, feat]
  exact EReal.coe_one.symm
theorem c_eq (h) : (broadcastInDim S4x2048x2816 ![] h (constant S_ .f32 0x3F4C422A#32) : FVec Ideal S4x2048x2816 .f32) = feat fun _ _ _ => C := by
  funext i; idx_vars i
  pointwise [planes, feat]
  simp only [ofBits_C]
theorem k_eq (h) : (broadcastInDim S4x2048x2816 ![] h (constant S_ .f32 0x3D372713#32) : FVec Ideal S4x2048x2816 .f32) = feat fun _ _ _ => K := by
  funext i; idx_vars i
  pointwise [planes, feat]
  simp only [ofBits_K]
theorem tanh_eq : Host.tanh (feat A) = feat fun b t c => Real.tanh (A b t c) := by
  funext i; idx_vars i
  pointwise [planes, feat]
  simp only [Ideal.tanh_coe]

theorem down_eq (h1 h2 h3) : Host.dotGeneral (φ₁ := .f32) (φ₂ := .f32) dot_S4x2048x2816_S2816x1024_S4x2048x1024_2_0_01_1_n_n none (feat H)
      (extf .f32 (shapeCast S2816x1024 (extractStridedSlice S1x2816x1024 ![2, 0, 0] (planes W .bf16 : FVec Ideal S3x2816x1024 .bf16) h1) h2) h3)
    = (planes (fun b t d => ∑ c : Fin 2816, H b t c.val * W 2 c.val d) : FVec Ideal S4x2048x1024 .f32) := by
  funext i; idx_vars i
  pointwise [planes, feat]
  simp only [coe_mul, coe_sum]

theorem sum_eq : addf (planes X : FVec Ideal S4x2048x1024 .f32) (planes U) = planes fun b t d => X b t d + U b t d := by
  funext i; idx_vars i
  pointwise [planes]
  simp only [coe_add]

/-- A branch as the kernel lays it out: in feature blocks. -/
theorem blocks_eq (h1 h2 h3) : transpose S11x8192x256 [1, 0, 2] (shapeCast S8192x11x256 (truncf .bf16 (feat G) h1) h2) h3
    = (fun i => ((G ((i 1).val / 2048) ((i 1).val % 2048) ((i 0).val * 256 + (i 2).val) : ℝ) : EReal) : FVec Ideal S11x8192x256 .bf16) := by
  funext i; idx_vars i
  pointwise [planes, feat]

/-- A branch's features as the reference returns them. -/
theorem branch_eq {X W : ℕ → ℕ → Fin 1024 → ℝ} {g1 : Fin 1024 → ℝ} {x : FVec Ideal S4x2048x1024 .f32} {a : FVec Ideal S1x1024 .f32} {b : FVec Ideal S3x2816x1024 .bf16}
    (hx : x = planes X) (ha : a = lift2 fun _ d => g1 d) (hb : b = planes W .bf16) (p : ℕ) (hp : p < 3) (h1) (h2 : S4x2048.BroadcastsInDim S4x2048x1 ![0, 1]) (h3 : S4x2048x1024.ReducesTo [2] S4x2048) (h4) (h5 h6 : S_.BroadcastsInDim S4x2048x1 ![]) (h7 h8 h9 h10 h11 h12 h13 h14 h15 h16) :
    transpose S11x8192x256 [1, 0, 2] (shapeCast S8192x11x256 (truncf .bf16 (Host.dotGeneral (φ₁ := .f32) (φ₂ := .f32) dot_S4x2048x1024_S1024x2816_S4x2048x2816_2_0_01_1_n_n none
      (mulf (mulf x (broadcastInDim S4x2048x1024 ![0, 1, 2] h1 (Host.rsqrt (addf (Host.divf (broadcastInDim S4x2048x1 ![0, 1] h2
        (Host.reduceAdd (mulf x x) (constant S_ .f32 0x00000000#32) h3 h4 : FVec Ideal S4x2048 .f32)) (broadcastInDim S4x2048x1 ![] h5 (constant S_ .f32 0x44800000#32)))
        (broadcastInDim S4x2048x1 ![] h6 (constant S_ .f32 0x358637BD#32)))))) (broadcastInDim S4x2048x1024 ![0, 1, 2] h7 (broadcastInDim S1x1x1024 ![2] h8 (shapeCast S1024 a h9))))
      (transpose S1024x2816 [1, 0] (extf .f32 (shapeCast S2816x1024 (extractStridedSlice S1x2816x1024 ![p, 0, 0] b h10) h11) h12) h13)) h14) h15) h16
    = (fun i => ((branch X g1 W p ((i 1).val / 2048) ((i 1).val % 2048) (256 * (i 0).val + (i 2).val) : ℝ) : EReal) : FVec Ideal S11x8192x256 .bf16) := by
  rw [hx, ha, hb, norm_eq, proj_eq _ _ p hp, blocks_eq]
  funext i
  rw [Nat.mul_comm 256]
  rfl

/-- Gelu as the reference writes it. -/
theorem ge_as_written (x : ℝ) : x * (1 / 2 * (1 + Real.tanh (C * (x + K * (x * x * x))))) = ge x := by
  unfold ge th
  rw [show C * (x + K * (x * x * x)) = x * (C + C * K * (x * x)) from by ring]
  ring

section

variable {m : (ℓ : Loc nD τ sig) → Buf (Elt Ideal) ℓ} {c : Dev nD} {X : ℕ → ℕ → Fin 1024 → ℝ} {g1 g2 : Fin 1024 → ℝ} {W : ℕ → ℕ → Fin 1024 → ℝ} {w : ℕ → ℕ → ℝ} {o : ℕ → ℝ}
  (ha : Args m c X g1 g2 W w o)

include ha

/-- The layer's output before its norm. -/
theorem ffn_eq : res_main_v70 m c = (planes (ffn X g1 W w o) : FVec Ideal S4x2048x1024 .f32) := by
  obtain ⟨w4, rfl, hw⟩ := ha.cw
  obtain ⟨o4, rfl, ho⟩ := ha.cb
  unfold res_main_v70
  rw [ha.x, ha.g1, ha.mats, hw, ho, norm_eq, proj_eq _ _ 0 (by decide), proj_eq _ _ 1 (by decide), padded_eq, pad_eq _ 0, pad_eq _ 1, pad_eq _ 2, weight_eq _ 0, weight_eq _ 1, weight_eq _ 2, offset_eq,
    half_eq, one_eq, c_eq, k_eq]
  simp only [mul_eq, add_eq, tanh_eq]
  rw [down_eq]
  refine congrArg (fun f => (planes f : FVec Ideal S4x2048x1024 .f32)) ?_
  funext b t d
  refine Finset.sum_congr rfl fun c _ => congrArg (· * W 2 c.val d) (congrArg (· * _) (ge_as_written (gated X g1 W (w4 3) (o4 3) b t c.val)))

/-- The block's output. -/
theorem block_eq : res_main_v85 m c = (planes (block X g1 g2 W w o) : FVec Ideal S4x2048x1024 .f32) := by
  have e := ffn_eq ha
  unfold res_main_v70 at e
  unfold res_main_v85
  rw [e, ha.x, ha.g2, norm_eq, sum_eq]
  rfl

end

end Cert.Reference4Ideal.Ffn

end
-- ==== Proof.FfnTie.lean ====
/- The feed-forward call: finite arguments, and the reference's arguments where they are the kernel's. -/
module

public import proofs.«01_k».proof.Proof.GluTie
public import proofs.«01_k».proof.Proof.FfnOut
public import proofs.«01_k».proof.Proof.FfnRef

@[expose] public section

noncomputable section

open Idealize.ShloMosaic Idealize.ShloMosaic.TcCoe Idealize.SL.Sem

namespace Cert.Ffn

open Cert.Glu (IsNum)

theorem facts_finite_ffn : Cert.Pre_finite_ffn.Facts := ⟨by decide, by decide, by decide, by decide, by decide, by decide⟩

/-- Arguments satisfying the precondition are numbers. -/
theorem nums_of_finite [hf : Cert.Pre_finite_ffn.Facts] (m : (ℓ : Loc Cert.Kernel4Ideal.nD Cert.Kernel4Ideal.τ Cert.Kernel4Ideal.sig) → Buf (Elt Ideal) ℓ)
    (h : Pre_Kernel4Ideal_finite_ffn m) (c : Dev Cert.Kernel4Ideal.nD) : Cert.Kernel4Ideal.Ffn.Nums m c := by
  obtain ⟨h0, h1, h2, h3, h4, h5⟩ := h c
  have num {S : Shape} {φ : FTy} (a b : FVec Ideal S φ) (hb : ∀ i, b i = (⊤ : EReal)) (h : cmpf .olt (Host.absf a) b = fun _ => 1#1) : IsNum a :=
    fun i => Cert.Pool.num_of_abs_lt a b hb h i
  exact ⟨num _ _ (fun _ => Cert.Pool.infinity) h0, num _ _ (fun _ => Cert.Pool.infinity) h1, num _ _ (fun _ => Cert.Pool.infinity) h2,
    num (φ := .f32) _ _ (fun _ => Cert.Pool.infinity) h3, num _ _ (fun _ => Cert.Pool.infinity) h4, num _ _ (fun _ => Cert.Pool.infinity) h5⟩

end Cert.Ffn

namespace Cert.Reference4Ideal.Ffn

open Cert.Reference4Ideal Cert.Reference4Ideal.Gen Cert.Reference4Ideal.Value
open Cert.Pool Cert.Glu Cert.Ffn Cert.Kernel4Ideal.Ffn

variable {m : (ℓ : Loc Cert.Kernel4Ideal.nD Cert.Kernel4Ideal.τ Cert.Kernel4Ideal.sig) → Buf (Elt Ideal) ℓ} {m' : (ℓ : Loc nD τ sig) → Buf (Elt Ideal) ℓ} {c : Dev nD}

/-- The reference's arguments, where they are the kernel's. -/
theorem args (h : Nums m c) (e0 : m' ((c.tc : Thread nD τ).loc main_arg0) = aX m c) (e1 : m' ((c.tc : Thread nD τ).loc main_arg1) = aG1 m c)
    (e2 : m' ((c.tc : Thread nD τ).loc main_arg2) = aG2 m c) (e3 : m' ((c.tc : Thread nD τ).loc main_arg3) = aW m c)
    (e4 : m' ((c.tc : Thread nD τ).loc main_arg4) = aC m c) (e5 : m' ((c.tc : Thread nD τ).loc main_arg5) = aB m c) :
    Args m' c (X m c) (g1 m c) (g2 m c) (W m c) (w4 m c 3) (o4 m c 3) :=
  ⟨e0.trans (funext (stackOf_eq _ h.x)), e1.trans (lift2_row _ h.g1), e2.trans (lift2_row _ h.g2), e3.trans (funext (stackOf_eq _ h.mats)),
    ⟨w4 m c, rfl, e4.trans (funext fun i => (stackOf_eq _ h.cw i).trans (congrArg Real.toEReal (ext_eq (stackOf (aC m c) (i 0).val (i 1).val) (i 2)).symm))⟩,
    ⟨o4 m c, rfl, e5.trans (funext fun i => (rowsOf_eq _ h.cb i).trans (congrArg Real.toEReal (ext_eq (rowsOf (aB m c) (i 0).val) (i 1)).symm))⟩⟩

end Cert.Reference4Ideal.Ffn

end
-- ==== Proof.ActsCaseA.lean ====
/- The call of the feed-forward layer's activation gradients, over any values: what a grid point of case A leaves in each
   output, from the case's run. -/
module

public import proofs.«01_k».proof.Proof.Gen.Kernel5Ideal.Frame.RunA
public import Idealize.ShloMosaic.Lib.Claim

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S11x256x256 .bf16) (harg5 : arg5.IsWhole) (arg6 : Memref sig .tc .vmem S11x256x256 .bf16) (harg6 : arg6.IsWhole) (arg7 : Memref sig .tc .vmem S11x16x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x2816x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg14 : Memref sig .tc .vmem S11x256x256 .bf16) (harg14 : arg14.IsWhole) (arg15 : Memref sig .tc .vmem S11x256x256 .bf16) (harg15 : arg15.IsWhole) (arg16 : Memref sig .tc .vmem S11x256x256 .bf16) (harg16 : arg16.IsWhole) (arg17 : Memref sig .tc .vmem S1x256x1024 .bf16) (harg17 : arg17.IsWhole) (arg18 : Memref sig .tc .vmem S1x256x1024 .bf16) (harg18 : arg18.IsWhole) (arg19 : Memref sig .tc .vmem S8x1024 .f32) (harg19 : arg19.IsWhole) (arg20 : Memref sig .tc .vmem S11x8x256 .f32) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x1024 .f32) (harg23 : arg23.IsWhole) (arg24 : Memref sig .tc .vmem S11x8x256 .f32) (harg24 : arg24.IsWhole) (hc0 : cond0_0 i) (hc1 : cond0_1 i)
    (x0 : Vec F S1x256x1024 .f32) (x1 : Vec F S1x256x1024 .f32) (x2 : Vec F S1x256x1024 .f32) (x3 : Vec F S11x256x256 .bf16) (x4 : Vec F S11x256x256 .bf16) (x5 : Vec F S11x16x256 .bf16) (x6 : Vec F S1x1024 .f32) (x7 : Vec F S1x1024 .f32) (x8 : Vec F S3x2816x1024 .bf16) (x9 : Vec F S1x3x2816 .f32) (x10 : Vec F S1x1x2816 .f32)

/-- The pieces case A stores cover output 11. -/
theorem cover0_A_11 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).1 S1x256x1024.size (by sl_kernel_rfl) y

/-- What case A leaves in output 11. -/
def out0_A_11 : Vec F S1x256x1024 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).1)

/-- The pieces case A stores cover output 12. -/
theorem cover0_A_12 (y : S11x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.1 S1x256x256.size (by sl_kernel_rfl) y

/-- What case A leaves in output 12. -/
def out0_A_12 : Vec F S11x256x256 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.1)

/-- The pieces case A stores cover output 13. -/
theorem cover0_A_13 (y : S11x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.1 S1x256x256.size (by sl_kernel_rfl) y

/-- What case A leaves in output 13. -/
def out0_A_13 : Vec F S11x256x256 .bf16 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.1)

/-- The pieces case A stores cover output 14. -/
theorem cover0_A_14 (y : S11x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.1 S1x256x256.size (by sl_kernel_rfl) y

/-- What case A leaves in output 14. -/
def out0_A_14 : Vec F S11x256x256 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.1)

/-- The pieces case A stores cover output 15. -/
theorem cover0_A_15 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.1 S1x256x1024.size (by sl_kernel_rfl) y

/-- What case A leaves in output 15. -/
def out0_A_15 : Vec F S1x256x1024 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.1)

/-- The pieces case A stores cover output 16. -/
theorem cover0_A_16 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.2.1 S1x256x1024.size (by sl_kernel_rfl) y

/-- What case A leaves in output 16. -/
def out0_A_16 : Vec F S1x256x1024 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.2.1)

/-- The pieces case A stores cover output 17. -/
theorem cover0_A_17 (y : S8x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.2.2.1 ![1, 1024] (by sl_kernel_rfl) y

/-- What case A leaves in output 17. -/
def out0_A_17 : Vec F S8x1024 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.2.2.1)

/-- The pieces case A stores cover output 18. -/
theorem cover0_A_18 (y : S11x8x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.2.2.2.1 ![1, 1, 256] (by sl_kernel_rfl) y

/-- What case A leaves in output 18. -/
def out0_A_18 : Vec F S11x8x256 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.2.2.2.1)

/-- The pieces case A stores cover the carried scratch. -/
theorem scover0_A_3 (y : S11x8x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.2.2.2.2.1 (by sl_whole_mem) y

/-- What case A leaves in the carried scratch. -/
def sout0_A_3 : Vec F S11x8x256 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10).2.2.2.2.2.2.2.2.1)

end Cert.Kernel5Ideal.Gen

end
-- ==== Proof.ActsCaseB.lean ====
/- The call of the feed-forward layer's activation gradients, over any values: what a grid point of case B leaves in each
   output, from the case's run. -/
module

public import proofs.«01_k».proof.Proof.Gen.Kernel5Ideal.Frame.RunB
public import Idealize.ShloMosaic.Lib.Claim

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S11x256x256 .bf16) (harg5 : arg5.IsWhole) (arg6 : Memref sig .tc .vmem S11x256x256 .bf16) (harg6 : arg6.IsWhole) (arg7 : Memref sig .tc .vmem S11x16x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x2816x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg14 : Memref sig .tc .vmem S11x256x256 .bf16) (harg14 : arg14.IsWhole) (arg15 : Memref sig .tc .vmem S11x256x256 .bf16) (harg15 : arg15.IsWhole) (arg16 : Memref sig .tc .vmem S11x256x256 .bf16) (harg16 : arg16.IsWhole) (arg17 : Memref sig .tc .vmem S1x256x1024 .bf16) (harg17 : arg17.IsWhole) (arg18 : Memref sig .tc .vmem S1x256x1024 .bf16) (harg18 : arg18.IsWhole) (arg19 : Memref sig .tc .vmem S8x1024 .f32) (harg19 : arg19.IsWhole) (arg20 : Memref sig .tc .vmem S11x8x256 .f32) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x1024 .f32) (harg23 : arg23.IsWhole) (arg24 : Memref sig .tc .vmem S11x8x256 .f32) (harg24 : arg24.IsWhole) (hc0 : ¬cond0_0 i) (hc1 : ¬cond0_1 i)
    (x0 : Vec F S1x256x1024 .f32) (x1 : Vec F S1x256x1024 .f32) (x2 : Vec F S1x256x1024 .f32) (x3 : Vec F S11x256x256 .bf16) (x4 : Vec F S11x256x256 .bf16) (x5 : Vec F S11x16x256 .bf16) (x6 : Vec F S1x1024 .f32) (x7 : Vec F S1x1024 .f32) (x8 : Vec F S3x2816x1024 .bf16) (x9 : Vec F S1x3x2816 .f32) (x10 : Vec F S1x1x2816 .f32) (xo17 : Vec F S8x1024 .f32) (xo18 : Vec F S11x8x256 .f32) (xs3 : Vec F S11x8x256 .f32)

/-- The pieces case B stores cover output 11. -/
theorem cover0_B_11 (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).1 S1x256x1024.size (by sl_kernel_rfl) y

/-- What case B leaves in output 11. -/
def out0_B_11 : Vec F S1x256x1024 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).1)

/-- The pieces case B stores cover output 12. -/
theorem cover0_B_12 (y : S11x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.1 S1x256x256.size (by sl_kernel_rfl) y

/-- What case B leaves in output 12. -/
def out0_B_12 : Vec F S11x256x256 .bf16 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.1)

/-- The pieces case B stores cover output 13. -/
theorem cover0_B_13 (y : S11x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.1 S1x256x256.size (by sl_kernel_rfl) y

/-- What case B leaves in output 13. -/
def out0_B_13 : Vec F S11x256x256 .bf16 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.1)

/-- The pieces case B stores cover output 14. -/
theorem cover0_B_14 (y : S11x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.2.1 S1x256x256.size (by sl_kernel_rfl) y

/-- What case B leaves in output 14. -/
def out0_B_14 : Vec F S11x256x256 .bf16 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.2.1)

/-- The pieces case B stores cover output 15. -/
theorem cover0_B_15 (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.2.2.1 S1x256x1024.size (by sl_kernel_rfl) y

/-- What case B leaves in output 15. -/
def out0_B_15 : Vec F S1x256x1024 .bf16 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.2.2.1)

/-- The pieces case B stores cover output 16. -/
theorem cover0_B_16 (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.2.2.2.1 S1x256x1024.size (by sl_kernel_rfl) y

/-- What case B leaves in output 16. -/
def out0_B_16 : Vec F S1x256x1024 .bf16 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.2.2.2.1)

/-- What case B leaves in output 17. -/
def out0_B_17 : Vec F S8x1024 .f32 :=
  arg19.view.read (Elt F) (arg19.view.writes (Elt F) (harg19.unread xo17) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.2.2.2.2.1)

/-- What case B leaves in output 18. -/
def out0_B_18 : Vec F S11x8x256 .f32 :=
  arg20.view.read (Elt F) (arg20.view.writes (Elt F) (harg20.unread xo18) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.2.2.2.2.2.1)

/-- The pieces case B stores cover the carried scratch. -/
theorem scover0_B_3 (y : S11x8x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.2.2.2.2.2.2.1 S1x8x256.size (by sl_kernel_rfl) y

/-- What case B leaves in the carried scratch. -/
def sout0_B_3 : Vec F S11x8x256 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18 xs3).2.2.2.2.2.2.2.2.1)

end Cert.Kernel5Ideal.Gen

end
-- ==== Proof.ActsCaseC.lean ====
/- The call of the feed-forward layer's activation gradients, over any values: what a grid point of case C leaves in each
   output, from the case's run. -/
module

public import proofs.«01_k».proof.Proof.Gen.Kernel5Ideal.Frame.RunC
public import Idealize.ShloMosaic.Lib.Claim

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S11x256x256 .bf16) (harg5 : arg5.IsWhole) (arg6 : Memref sig .tc .vmem S11x256x256 .bf16) (harg6 : arg6.IsWhole) (arg7 : Memref sig .tc .vmem S11x16x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x2816x1024 .bf16) (harg10 : arg10.IsWhole) (arg11 : Memref sig .tc .vmem S1x3x2816 .f32) (harg11 : arg11.IsWhole) (arg12 : Memref sig .tc .vmem S1x1x2816 .f32) (harg12 : arg12.IsWhole) (arg13 : Memref sig .tc .vmem S1x256x1024 .f32) (harg13 : arg13.IsWhole) (arg14 : Memref sig .tc .vmem S11x256x256 .bf16) (harg14 : arg14.IsWhole) (arg15 : Memref sig .tc .vmem S11x256x256 .bf16) (harg15 : arg15.IsWhole) (arg16 : Memref sig .tc .vmem S11x256x256 .bf16) (harg16 : arg16.IsWhole) (arg17 : Memref sig .tc .vmem S1x256x1024 .bf16) (harg17 : arg17.IsWhole) (arg18 : Memref sig .tc .vmem S1x256x1024 .bf16) (harg18 : arg18.IsWhole) (arg19 : Memref sig .tc .vmem S8x1024 .f32) (harg19 : arg19.IsWhole) (arg20 : Memref sig .tc .vmem S11x8x256 .f32) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x1024 .f32) (harg23 : arg23.IsWhole) (arg24 : Memref sig .tc .vmem S11x8x256 .f32) (harg24 : arg24.IsWhole) (hc0 : ¬cond0_0 i) (hc1 : cond0_1 i)
    (x0 : Vec F S1x256x1024 .f32) (x1 : Vec F S1x256x1024 .f32) (x2 : Vec F S1x256x1024 .f32) (x3 : Vec F S11x256x256 .bf16) (x4 : Vec F S11x256x256 .bf16) (x5 : Vec F S11x16x256 .bf16) (x6 : Vec F S1x1024 .f32) (x7 : Vec F S1x1024 .f32) (x8 : Vec F S3x2816x1024 .bf16) (x9 : Vec F S1x3x2816 .f32) (x10 : Vec F S1x1x2816 .f32) (xo17 : Vec F S8x1024 .f32) (xo18 : Vec F S11x8x256 .f32)

/-- The pieces case C stores cover output 11. -/
theorem cover0_C_11 (y : S1x256x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).1 S1x256x1024.size (by sl_kernel_rfl) y

/-- What case C leaves in output 11. -/
def out0_C_11 : Vec F S1x256x1024 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).1)

/-- The pieces case C stores cover output 12. -/
theorem cover0_C_12 (y : S11x256x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.1 S1x256x256.size (by sl_kernel_rfl) y

/-- What case C leaves in output 12. -/
def out0_C_12 : Vec F S11x256x256 .bf16 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.1)

/-- The pieces case C stores cover output 13. -/
theorem cover0_C_13 (y : S11x256x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.1 S1x256x256.size (by sl_kernel_rfl) y

/-- What case C leaves in output 13. -/
def out0_C_13 : Vec F S11x256x256 .bf16 :=
  VO0_13.read (Elt F) (VO0_13.writes (Elt F) VO0_13.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.1)

/-- The pieces case C stores cover output 14. -/
theorem cover0_C_14 (y : S11x256x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.2.1 S1x256x256.size (by sl_kernel_rfl) y

/-- What case C leaves in output 14. -/
def out0_C_14 : Vec F S11x256x256 .bf16 :=
  VO0_14.read (Elt F) (VO0_14.writes (Elt F) VO0_14.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.2.1)

/-- The pieces case C stores cover output 15. -/
theorem cover0_C_15 (y : S1x256x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.2.2.1 S1x256x1024.size (by sl_kernel_rfl) y

/-- What case C leaves in output 15. -/
def out0_C_15 : Vec F S1x256x1024 .bf16 :=
  VO0_15.read (Elt F) (VO0_15.writes (Elt F) VO0_15.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.2.2.1)

/-- The pieces case C stores cover output 16. -/
theorem cover0_C_16 (y : S1x256x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.2.2.2.1 S1x256x1024.size (by sl_kernel_rfl) y

/-- What case C leaves in output 16. -/
def out0_C_16 : Vec F S1x256x1024 .bf16 :=
  VO0_16.read (Elt F) (VO0_16.writes (Elt F) VO0_16.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.2.2.2.1)

/-- What case C leaves in output 17. -/
def out0_C_17 : Vec F S8x1024 .f32 :=
  arg19.view.read (Elt F) (arg19.view.writes (Elt F) (harg19.unread xo17) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.2.2.2.2.1)

/-- What case C leaves in output 18. -/
def out0_C_18 : Vec F S11x8x256 .f32 :=
  arg20.view.read (Elt F) (arg20.view.writes (Elt F) (harg20.unread xo18) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.2.2.2.2.2.1)

/-- The pieces case C stores cover the carried scratch. -/
theorem scover0_C_3 (y : S11x8x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.2.2.2.2.2.2.1, y ∈ pc.1.set :=
  View.cover_of_wholeMem (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.2.2.2.2.2.2.1 (by sl_whole_mem) y

/-- What case C leaves in the carried scratch. -/
def sout0_C_3 : Vec F S11x8x256 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 xo17 xo18).2.2.2.2.2.2.2.2.1)

end Cert.Kernel5Ideal.Gen

end
-- ==== Proof.ActsFrame.lean ====
/- The call of the feed-forward layer's activation gradients, over any values: what each grid point leaves, the body's
   obligation at every point, the run, and the frame. It follows the generated frame module, with what a case leaves
   named once (`leftA`, `leftB`, `leftC`). -/
module

public import proofs.«01_k».proof.Proof.ActsCaseA
public import proofs.«01_k».proof.Proof.ActsCaseB
public import proofs.«01_k».proof.Proof.ActsCaseC

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- What a point leaves: the outputs in order, then the carried scratch. -/
abbrev Left (F : FTy → Type) [FloatOps F] := Vec F S1x256x1024 .f32 × Vec F S11x256x256 .bf16 × Vec F S11x256x256 .bf16 × Vec F S11x256x256 .bf16 × Vec F S1x256x1024 .bf16 × Vec F S1x256x1024 .bf16 × Vec F S8x1024 .f32 × Vec F S11x8x256 .f32 × Vec F S11x8x256 .f32

/-- What a point of case A leaves: the outputs in order, then the carried scratch. -/
def leftA (c : Dev nD) (t : Fin cfg0.N) (h0 : t.val % 32 = 0) (h1 : t.val % 8 = 0) : Left F :=
  (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t))

/-- What a point of case B leaves, over what the point before left (`p`): the outputs in order, then the carried scratch. -/
def leftB (c : Dev nD) (t : Fin cfg0.N) (h0 : ¬t.val % 32 = 0) (h1 : ¬t.val % 8 = 0) (p : Left F) : Left F :=
  (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1 p.2.2.2.2.2.2.2.2)

/-- What a point of case C leaves, over what the point before left (`p`): the outputs in order, then the carried scratch. -/
def leftC (c : Dev nD) (t : Fin cfg0.N) (h0 : ¬t.val % 32 = 0) (h1 : t.val % 8 = 0) (p : Left F) : Left F :=
  (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1, out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1, out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1, out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.2.2.2.1 p.2.2.2.2.2.2.2.1)

/-- What the outputs and the carried scratch hold after each point. -/
def outsAt0 (c : Dev nD) : (n : ℕ) → n < cfg0.N → Left F
  | 0, hn => leftA m c ⟨0, hn⟩ (Nat.zero_mod _) (Nat.zero_mod _)
  | n + 1, hn =>
    if h0 : (n + 1) % 32 = 0 then
      if h1 : (n + 1) % 8 = 0 then leftA m c ⟨n + 1, hn⟩ h0 h1 else False.elim (by omega)
    else
      if h1 : (n + 1) % 8 = 0 then leftC m c ⟨n + 1, hn⟩ h0 h1 (outsAt0 c n (Nat.lt_of_succ_lt hn))
      else leftB m c ⟨n + 1, hn⟩ h0 h1 (outsAt0 c n (Nat.lt_of_succ_lt hn))

/-- A point of case A: that case's contents. -/
theorem outsAt0_A (c : Dev nD) (t : Fin cfg0.N) (h0 : t.val % 32 = 0) (h1 : t.val % 8 = 0) :
    outsAt0 m c t.val t.isLt = leftA m c t h0 h1 := by
  obtain ⟨n, hn⟩ := t
  cases n with
  | zero => rfl
  | succ n => exact (dif_pos h0).trans (dif_pos h1)

/-- A point of case B: that case's contents, over what the point before left. -/
theorem outsAt0_B (c : Dev nD) (t : Fin cfg0.N) (h0 : ¬t.val % 32 = 0) (h1 : ¬t.val % 8 = 0) :
    outsAt0 m c t.val t.isLt = leftB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

/-- A point of case C: that case's contents, over what the point before left. -/
theorem outsAt0_C (c : Dev nD) (t : Fin cfg0.N) (h0 : ¬t.val % 32 = 0) (h1 : t.val % 8 = 0) :
    outsAt0 m c t.val t.isLt = leftC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)).2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨16, _⟩ => (outsAt0 m c t.val t.isLt).2.2.2.2.2.1
    | ⟨17, _⟩ => (outsAt0 m c t.val t.isLt).2.2.2.2.2.2.1
    | ⟨18, _⟩ => (outsAt0 m c t.val t.isLt).2.2.2.2.2.2.2.1
    | ⟨_ + 19, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]
theorem after0_16 (c : Dev nD) (t : Fin cfg0.N) : (dats m 0 c).after 16 t = (outsAt0 m c t.val t.isLt).2.2.2.2.2.1 := by dsimp only [dats]
theorem after0_17 (c : Dev nD) (t : Fin cfg0.N) : (dats m 0 c).after 17 t = (outsAt0 m c t.val t.isLt).2.2.2.2.2.2.1 := by dsimp only [dats]
theorem after0_18 (c : Dev nD) (t : Fin cfg0.N) : (dats m 0 c).after 18 t = (outsAt0 m c t.val t.isLt).2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 32 = 0) (h1 : ¬t.val % 8 = 0) (d) :
    (dats m 0 c).before 17 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 18's current staging buffer holds what the body left at the point before: the point is
    not the first, the buffer was not written back between (`flush0_18`), the window is live and uncut (Lib/Pipeline/Frame.lean
    `Dat.before_out_kept`). -/
theorem before0_18_B (c : Dev nD) (t : Fin cfg0.N) (h0 : ¬t.val % 32 = 0) (h1 : ¬t.val % 8 = 0) (d) :
    (dats m 0 c).before 18 t d = (outsAt0 m c (t.val - 1) (Nat.lt_of_le_of_lt (Nat.sub_le _ _) t.isLt)).2.2.2.2.2.2.2.1 := by
  have hN : t.val < 32 := lt_of_lt_of_eq t.isLt (show cfg0.N = 32 from N_0)
  rw [Dat.before_out_kept _ 18 rfl t (by omega) (Bool.eq_false_iff.mpr fun h => by have := (flush0_18 _).mp h; dsimp only at this; omega)
    (fun _ => rfl) (fun _ _ => rfl)]
  dsimp only [dats]
/-- At a point of case C output 17's current staging buffer holds what the body left at the point before: the point is
    not the first, the buffer was not written back between (`flush0_17`), the window is live and uncut (Lib/Pipeline/Frame.lean
    `Dat.before_out_kept`). -/
theorem before0_17_C (c : Dev nD) (t : Fin cfg0.N) (h0 : ¬t.val % 32 = 0) (h1 : t.val % 8 = 0) (d) :
    (dats m 0 c).before 17 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case C output 18's current staging buffer holds what the body left at the point before: the point is
    not the first, the buffer was not written back between (`flush0_18`), the window is live and uncut (Lib/Pipeline/Frame.lean
    `Dat.before_out_kept`). -/
theorem before0_18_C (c : Dev nD) (t : Fin cfg0.N) (h0 : ¬t.val % 32 = 0) (h1 : t.val % 8 = 0) (d) :
    (dats m 0 c).before 18 t d = (outsAt0 m c (t.val - 1) (Nat.lt_of_le_of_lt (Nat.sub_le _ _) t.isLt)).2.2.2.2.2.2.2.1 := by
  have hN : t.val < 32 := lt_of_lt_of_eq t.isLt (show cfg0.N = 32 from N_0)
  rw [Dat.before_out_kept _ 18 rfl t (by omega) (Bool.eq_false_iff.mpr fun h => by have := (flush0_18 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 8 = 0
    · by_cases hz : t.val = 0
      · rw [PhiS_castSucc m c t, PhiS_zero m c _ _ hz, PhiA0_eq]
        rw [outsAt0_A m c t h0 h1, leftA]
        unfold out0_A_11 out0_A_12 out0_A_13 out0_A_14 out0_A_15 out0_A_16 out0_A_17 out0_A_18 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexists _; iexact H18
        isplitl [HS0]; · iexact HS0
        isplitl [HS1]; · iexact HS1
        isplitl [HS2]; · iexact HS2
        isplitl [HS3]; · iexact HS3
        iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, HS0, ⟨%fT1, HS1⟩, ⟨%fT2, HS2⟩, ⟨%es3, HS3⟩⟩
        isplitl [HS0 HS1 HS2 HS3 Hg]
        · isplitl [HS0 HS1 HS2 HS3]
          · isplitl [HS0]
            · iexact HS0
            isplitl [HS1]
            · iexists _; unfold owns; iexists _; isplitr
              swap; · iexact HS1
              ipureintro; rfl
            isplitl [HS2]
            · iexists _; unfold owns; iexists _; isplitr
              swap; · iexact HS2
              ipureintro; rfl
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; have hN : t.val < 32 := lt_of_lt_of_eq t.isLt (show cfg0.N = 32 from N_0); omega
    · exfalso; omega
  · by_cases h1 : t.val % 8 = 0
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1, leftC]
        simp only [before0_17_C m c t h0 h1, before0_18_C m c t h0 h1]
        unfold out0_C_11 out0_C_12 out0_C_13 out0_C_14 out0_C_15 out0_C_16 out0_C_17 out0_C_18 sout0_C_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_C c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _).2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexact H17
        isplitl [H18]; · iexact H18
        isplitl [HS0]; · iexact HS0
        isplitl [HS1]; · iexact HS1
        isplitl [HS2]; · iexact HS2
        isplitl [HS3]; · iexists _; iexact HS3
        iintro ⟨H0, H1, H2, H3, H4, H5, H6, H7, H8, H9, H10, ⟨%e11, H11⟩, ⟨%e12, H12⟩, ⟨%e13, H13⟩, ⟨%e14, H14⟩, ⟨%e15, H15⟩, ⟨%e16, H16⟩, H17, H18, HS0, ⟨%fT1, HS1⟩, ⟨%fT2, HS2⟩, ⟨%es3, HS3⟩⟩
        isplitl [HS0 HS1 HS2 HS3 Hg]
        · isplitl [HS0 HS1 HS2 HS3]
          · isplitl [HS0]
            · iexact HS0
            isplitl [HS1]
            · iexists _; unfold owns; iexists _; isplitr
              swap; · iexact HS1
              ipureintro; rfl
            isplitl [HS2]
            · iexists _; unfold owns; iexists _; isplitr
              swap; · iexact HS2
              ipureintro; rfl
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; rfl
        unfold owns; iexists _; isplitr
        swap; · iexact H18
        ipureintro; rfl
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1, leftB]
        simp only [before0_17_B m c t h0 h1, before0_18_B m c t h0 h1]
        unfold out0_B_11 out0_B_12 out0_B_13 out0_B_14 out0_B_15 out0_B_16 out0_B_17 out0_B_18 sout0_B_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _).2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexact H17
        isplitl [H18]; · iexact H18
        isplitl [HS0]; · iexact HS0
        isplitl [HS1]; · iexact HS1
        isplitl [HS2]; · iexact HS2
        isplitl [HS3]; · iexact HS3
        iintro ⟨H0, H1, H2, H3, H4, H5, H6, H7, H8, H9, H10, ⟨%e11, H11⟩, ⟨%e12, H12⟩, ⟨%e13, H13⟩, ⟨%e14, H14⟩, ⟨%e15, H15⟩, ⟨%e16, H16⟩, H17, H18, HS0, ⟨%fT1, HS1⟩, ⟨%fT2, HS2⟩, ⟨%es3, HS3⟩⟩
        isplitl [HS0 HS1 HS2 HS3 Hg]
        · isplitl [HS0 HS1 HS2 HS3]
          · isplitl [HS0]
            · iexact HS0
            isplitl [HS1]
            · iexists _; unfold owns; iexists _; isplitr
              swap; · iexact HS1
              ipureintro; rfl
            isplitl [HS2]
            · iexists _; unfold owns; iexists _; isplitr
              swap; · iexact HS2
              ipureintro; rfl
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; rfl
        unfold owns; iexists _; isplitr
        swap; · iexact H18
        ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: every execution ends, with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel5Ideal.Gen

end
-- ==== Proof.ActsFinal.lean ====
/- The call of the feed-forward layer's activation gradients: each of the four result arrays after the run, block by block. It
   follows the generated value module. -/
module

public import proofs.«01_k».proof.Proof.ActsFrame
public import Idealize.ShloMosaic.Lib.Pipeline.Value

@[expose] public section

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- WHAT POINT `t` WRITES BACK to output window 13's array: the run's contents for that window after the body (`Gen.outsAt0`: its component 2), read through the window's block. -/
theorem flushed13 (c : Dev nD) (t : Fin cfg0.N) :
    (dats m 0 c).flushed 13 t = (cfg0.win 13).cut (grid0.coords t) ((outsAt0 m c t.val t.isLt).2.2.1) := by
  show (cfg0.win 13).cut (grid0.coords t) ((dats m 0 c).after 13 t) = _
  rw [after0_13]

/-- The index map sends distinct grid points to distinct block indices (decided over the 32 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- WHAT POINT `t` WRITES BACK to output window 14's array: the run's contents for that window after the body (`Gen.outsAt0`: its component 3), read through the window's block. -/
theorem flushed14 (c : Dev nD) (t : Fin cfg0.N) :
    (dats m 0 c).flushed 14 t = (cfg0.win 14).cut (grid0.coords t) ((outsAt0 m c t.val t.isLt).2.2.2.1) := by
  show (cfg0.win 14).cut (grid0.coords t) ((dats m 0 c).after 14 t) = _
  rw [after0_14]

/-- The index map sends distinct grid points to distinct block indices (decided over the 32 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- WHAT POINT `t` WRITES BACK to output window 15's array: the run's contents for that window after the body (`Gen.outsAt0`: its component 4), read through the window's block. -/
theorem flushed15 (c : Dev nD) (t : Fin cfg0.N) :
    (dats m 0 c).flushed 15 t = (cfg0.win 15).cut (grid0.coords t) ((outsAt0 m c t.val t.isLt).2.2.2.2.1) := by
  show (cfg0.win 15).cut (grid0.coords t) ((dats m 0 c).after 15 t) = _
  rw [after0_15]

/-- The index map sends distinct grid points to distinct block indices (decided over the 32 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- WHAT POINT `t` WRITES BACK to output window 16's array: the run's contents for that window after the body (`Gen.outsAt0`: its component 5), read through the window's block. -/
theorem flushed16 (c : Dev nD) (t : Fin cfg0.N) :
    (dats m 0 c).flushed 16 t = (cfg0.win 16).cut (grid0.coords t) ((outsAt0 m c t.val t.isLt).2.2.2.2.2.1) := by
  show (cfg0.win 16).cut (grid0.coords t) ((dats m 0 c).after 16 t) = _
  rw [after0_16]

/-- The index map sends distinct grid points to distinct block indices (decided over the 32 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v1_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v1_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v1_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v1_3) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v1_4) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v1_5) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v1_6) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v1_7) = (dats m 0 c).arrAt 18 cfg0.N :=
  (h c).1 18

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 5 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 5).trans (((dats m 0 c).arrAt_in 5 rfl _).trans ((A_eq m c 5).trans (V_main_arg2 m c)))

/-- After the frame run, argument `main_arg3` is as launched: input window 4 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- After the frame run, argument `main_arg4` is as launched: input window 2 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 2).trans (((dats m 0 c).arrAt_in 2 rfl _).trans ((A_eq m c 2).trans (V_main_arg4 m c)))

/-- After the frame run, argument `main_arg5` is as launched: input window 6 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 6).trans (((dats m 0 c).arrAt_in 6 rfl _).trans ((A_eq m c 6).trans (V_main_arg5 m c)))

/-- After the frame run, argument `main_arg6` is as launched: input window 7 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 7).trans (((dats m 0 c).arrAt_in 7 rfl _).trans ((A_eq m c 7).trans (V_main_arg6 m c)))

/-- After the frame run, argument `main_arg7` is as launched: input window 8 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 8).trans (((dats m 0 c).arrAt_in 8 rfl _).trans ((A_eq m c 8).trans (V_main_arg7 m c)))

/-- After the frame run, argument `main_arg8` is as launched: input window 9 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 9).trans (((dats m 0 c).arrAt_in 9 rfl _).trans ((A_eq m c 9).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 11 cfg0.N
      ∧ r.2.mem ((c : Thread nD τ).loc main_v1_1) = (dats m 0 c).arrAt 12 cfg0.N
      ∧ r.2.mem ((c : Thread nD τ).loc main_v1_2) = (dats m 0 c).arrAt 13 cfg0.N
      ∧ r.2.mem ((c : Thread nD τ).loc main_v1_3) = (dats m 0 c).arrAt 14 cfg0.N
      ∧ r.2.mem ((c : Thread nD τ).loc main_v1_4) = (dats m 0 c).arrAt 15 cfg0.N
      ∧ r.2.mem ((c : Thread nD τ).loc main_v1_5) = (dats m 0 c).arrAt 16 cfg0.N
      ∧ r.2.mem ((c : Thread nD τ).loc main_v1_6) = (dats m 0 c).arrAt 17 cfg0.N
      ∧ r.2.mem ((c : Thread nD τ).loc main_v1_7) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post11 m r h c,
      post12 m r h c,
      post13 m r h c,
      post14 m r h c,
      post15 m r h c,
      post16 m r h c,
      post17 m r h c,
      post18 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.Kernel5Ideal.Value

end
-- ==== Proof.ActsMath.lean ====
/- The gradients of the feed-forward activations over the real numbers: a tile of rows, and the whole sequences it is a piece of. -/
module

public import proofs.«01_k».proof.Proof.FfnMath

@[expose] public section

noncomputable section

open Idealize.ShloMosaic

namespace Cert.Acts

open Cert.Pool Cert.Glu Cert.Ffn

/-- The value's gradient: the hidden features' gradient times gelu of the gate. -/
def gradV (D A : ℕ → Fin 256 → ℝ) (r : ℕ) (c : Fin 256) : ℝ := D r c * ge (A (r + 6) c)

/-- The eight rows before a tile, from the sixteen read: zeros where a sequence starts. -/
def prior (b : BitVec 1) (P : ℕ → Fin 256 → ℝ) (n i : ℕ) (c : Fin 256) : ℝ := if b = 1 then P (n + i) c else 0

variable (X F D : ℕ → ℕ → Fin 1024 → ℝ) (g1 g2 : Fin 1024 → ℝ) (G V : ℕ → ℕ → Fin 256 → ℝ) (W : ℕ → ℕ → Fin 1024 → ℝ) (w : ℕ → ℕ → ℝ) (o : ℕ → ℝ)

/-! ## Whole sequences -/

/-- Feature `c` at time `t` of sequence `b`, from an array in blocks of 256 features. -/
def feature (b t c : ℕ) : ℝ := G (c / 256) (b * 2048 + t) ⟨c % 256, Nat.mod_lt _ (by decide)⟩

/-- The gate after its convolution. -/
def gated (b t c : ℕ) : ℝ := o c + w 0 c * pad (feature G) b t c + w 1 c * pad (feature G) b (t + 1) c + w 2 c * pad (feature G) b (t + 2) c

/-- The gradient of the layer's output before its norm. -/
def dF (b t : ℕ) : Fin 1024 → ℝ := rmsb (F b t) g2 (D b t)

/-- The gradient of the value. -/
def dV (b t c : ℕ) : ℝ := (∑ d, dF F D g2 b t d * W 2 c d) * ge (gated G w o b t c)

/-- The hidden feature. -/
def hidden (b t c : ℕ) : ℝ := ge (gated G w o b t c) * feature V b t c

/-! ## A tile: eight of 256 rows to a sequence, the last one first -/

/-- Tile `n` of an array of rows. -/
def tile (n r : ℕ) : Fin 1024 → ℝ := X (n / 8) (256 * (7 - n % 8) + r)

/-- Tile `n` of an array in blocks of features. -/
def tileG (n j r : ℕ) : Fin 256 → ℝ := G j (256 * (8 * (n / 8) + (7 - n % 8)) + r)

/-- The sixteen rows read before tile `n`. -/
def halo (n j i : ℕ) : Fin 256 → ℝ := G j (16 * (16 * (8 * (n / 8) + (7 - n % 8)) - 1) + i)

/-- Whether tile `n` has rows of its sequence before it. -/
def later (n : ℕ) : BitVec 1 := if n % 8 = 7 then 0 else 1

/-- The tile's gate after its convolution, in block `j`. -/
def tileA (b : BitVec 1) (Q : ℕ → ℕ → Fin 256 → ℝ) (G : ℕ → ℕ → Fin 256 → ℝ) (w : ℕ → ℕ → ℝ) (o : ℕ → ℕ → ℝ) (j : ℕ) : ℕ → Fin 256 → ℝ :=
  conv (past (prior b (Q j) 8) (G j)) (fun c => w 0 (256 * j + c.val)) (fun c => w 1 (256 * j + c.val)) (fun c => w 2 (256 * j + c.val)) fun c => o 0 (256 * j + c.val)

theorem feature_block (b t j : ℕ) (c : Fin 256) : feature G b t (256 * j + c.val) = G j (b * 2048 + t) c := by
  unfold feature
  have hc := c.isLt
  have e1 : (256 * j + c.val) / 256 = j := by omega
  have e2 : (⟨(256 * j + c.val) % 256, Nat.mod_lt _ (by decide)⟩ : Fin 256) = c := Fin.ext (by show (256 * j + c.val) % 256 = c.val; omega)
  rw [e1, e2]

theorem past_eq (n j i : ℕ) (c : Fin 256) :
    past (prior (later n) (halo G n j) 8) (tileG G n j) (i + 6) c = pad (feature G) (n / 8) (256 * (7 - n % 8) + i) (256 * j + c.val) := by
  unfold past prior later halo tileG Ffn.pad
  by_cases h : i + 6 < 8
  · rw [if_pos h]
    by_cases h7 : n % 8 = 7
    · rw [if_pos h7, if_neg (by decide), if_pos (by omega)]
    · rw [if_neg h7, if_pos rfl, if_neg (by omega), feature_block]
      congr 1; omega
  · rw [if_neg h, if_neg (by omega), feature_block]
    congr 1; omega

theorem tileA_eq (n j i : ℕ) (c : Fin 256) : tileA (later n) (halo G n) (tileG G n) w (fun _ => o) j (i + 6) c
    = gated G w o (n / 8) (256 * (7 - n % 8) + i) (256 * j + c.val) := by
  unfold tileA conv gated
  rw [past_eq, show i + 6 + 1 = i + 1 + 6 by omega, past_eq, show i + 6 + 2 = i + 2 + 6 by omega, past_eq]
  rfl

theorem hid_tile (n j r : ℕ) (c : Fin 256) : hid (tileA (later n) (halo G n) (tileG G n) w (fun _ => o) j) (tileG V n j) r c
    = hidden G V w o (n / 8) (256 * (7 - n % 8) + r) (256 * j + c.val) := by
  unfold hid hidden
  rw [tileA_eq, feature_block]
  unfold tileG
  congr 2; omega

theorem gradV_tile (n j r : ℕ) (c : Fin 256) : gradV (proj (fun r => rmsb (tile F n r) g2 (tile D n r)) (W 2) (256 * j)) (tileA (later n) (halo G n) (tileG G n) w (fun _ => o) j) r c
    = dV F D g2 G W w o (n / 8) (256 * (7 - n % 8) + r) (256 * j + c.val) := by
  unfold gradV dV
  rw [tileA_eq]
  rfl

end Cert.Acts

end
-- ==== Proof.ActsPay.lean ====
/- The gradients of the feed-forward activations: what each kind of vector step computes of runs of rows of numbers. -/
module

public import proofs.«01_k».proof.Proof.Gen.Kernel5Ideal.Skeleton
public import proofs.«01_k».proof.Proof.FfnPay
public import proofs.«01_k».proof.Proof.ActsMath
public import Idealize.ShloMosaic.Lib.Pipeline.ValueKit
public import Idealize.ShloMosaic.Lib.Pipeline.ReadBack

@[expose] public section

noncomputable section

open Idealize.ShloMosaic Idealize.ShloMosaic.TcCoe Idealize.SL.Sem

namespace Cert.Kernel5Ideal.Acts

open Cert.Kernel5Ideal Cert.Kernel5Ideal.Gen Cert.Pool Cert.Glu Cert.Ffn Cert.Acts

theorem named_ck : Named.named (F := Ideal) κ "gelu_ck" (φ := .f32) 0x3D122279#32 = ((C * K : ℝ) : EReal) :=
  (IdealRules.named_const.ideal_named_scalar _ _ _ _ rfl).trans (congrArg Real.toEReal CK_eq)

variable (P A V D H : ℕ → Fin 256 → ℝ) (U X F : ℕ → Fin 1024 → ℝ) (g : Fin 1024 → ℝ)

/-- Rows of features as the steps read them. -/
theorem wide_eq (h h') : extf .f32 (shapeCast S256x256 (plane P 0 .bf16 : FVec Ideal S1x256x256 .bf16) h) h' = rows P 0 := by
  funext i; idx_vars i
  pointwise [rows, plane, lift2, lift3]

theorem wide16_eq (h h') : extf .f32 (shapeCast S16x256 (plane P 0 .bf16 : FVec Ideal S1x16x256 .bf16) h) h' = rows P 0 := by
  funext i; idx_vars i
  pointwise [rows, plane, lift2, lift3]

theorem load_eq (Q : ℕ → ℕ → Fin 256 → ℝ) (j : ℕ) (inb) : View.ld (Val := Elt Ideal) (S := S11x256x256) (e' := .bf16) (planes Q .bf16) (Rect.unit ![j, 0, 0] ![1, 256, 256] inb)
    = (plane (Q j) 0 .bf16 : FVec Ideal S1x256x256 .bf16) :=
  funext fun x => (Cert.Kernel4Ideal.Ffn.piece_eq Q (Q j) j 0 0 inb (fun _ => rfl) x).symm

theorem load16_eq (Q : ℕ → ℕ → Fin 256 → ℝ) (j : ℕ) (inb) : View.ld (Val := Elt Ideal) (S := S11x16x256) (e' := .bf16) (planes Q .bf16) (Rect.unit ![j, 0, 0] ![1, 16, 256] inb)
    = (plane (Q j) 0 .bf16 : FVec Ideal S1x16x256 .bf16) :=
  funext fun x => (Cert.Kernel4Ideal.Ffn.piece_eq Q (Q j) j 0 0 inb (fun _ => rfl) x).symm

theorem prior_eq (b : BitVec 1) (n : ℕ) : Scalar.select b (rows P n : FVec Ideal S8x256 .f32) (broadcast S8x256 (Scalar.ofBits .f32 0x00000000#32)) = hist (prior b P n) := by
  funext i; idx_vars i
  unfold Scalar.select
  by_cases h : b = 1
  · rw [if_pos h]
    pointwise [rows, hist, prior, lift2]
    rw [if_pos h]
  · rw [if_neg h]
    pointwise [rows, hist, prior, lift2]
    rw [if_neg h]
    exact EReal.coe_zero.symm

theorem gate_eq (M : ℕ → Fin 1024 → ℝ) (b o : ℕ) : matmul dot_S256x1024_S256x1024_S256x256_1_1_0_0_n_n none (rows U b .bf16 : FVec Ideal S256x1024 .bf16) (rows M o .bf16 : FVec Ideal S256x1024 .bf16) (constant S256x256 .f32 0x00000000#32)
    = rows (proj U M o) b := by
  funext i; idx_vars i
  pointwise [rows, proj, lift2]
  simp only [coe_mul, coe_sum, coe_add, zero_add_coe]

theorem hid_eq (n n' : ℕ) (h : n = n' + 6) (h') :
    truncf .bf16 (mulf (addf (mulf (broadcast S16x256 (Scalar.ofBits .f32 0x3F000000#32)) (rows A n)) (mulf (mulf (broadcast S16x256 (Scalar.ofBits .f32 0x3F000000#32)) (rows A n))
      (tanh (mulf (rows A n) (addf (broadcast S16x256 (Scalar.ofBits .f32 0x3F4C422A#32)) (mulf (broadcast S16x256 (Named.named κ "gelu_ck" 0x3D122279#32)) (mulf (rows A n) (rows A n)))))))) (rows V n')) h'
    = (rows (hid A V) n' .bf16 : FVec Ideal S16x256 .bf16) := by
  subst h
  funext i; idx_vars i
  pointwise [rows, hid, lift2]
  simp only [named_ck, ofBits_C, ofBits_half, coe_mul, coe_add, Ideal.tanh_coe]
  rw [show n' + 6 + i0.val = n' + i0.val + 6 by omega]
  rfl

theorem back_eq (n n' : ℕ) (h : n = n' + 6) (h') :
    truncf .bf16 (mulf (rows D n') (addf (mulf (broadcast S16x256 (Scalar.ofBits .f32 0x3F000000#32)) (rows A n)) (mulf (mulf (broadcast S16x256 (Scalar.ofBits .f32 0x3F000000#32)) (rows A n))
      (tanh (mulf (rows A n) (addf (broadcast S16x256 (Scalar.ofBits .f32 0x3F4C422A#32)) (mulf (broadcast S16x256 (Named.named κ "gelu_ck" 0x3D122279#32)) (mulf (rows A n) (rows A n))))))))) h'
    = (rows (gradV D A) n' .bf16 : FVec Ideal S16x256 .bf16) := by
  subst h
  funext i; idx_vars i
  pointwise [rows, gradV, lift2]
  simp only [named_ck, ofBits_C, ofBits_half, coe_mul, coe_add, Ideal.tanh_coe]
  rw [show n' + 6 + i0.val = n' + i0.val + 6 by omega]
  rfl

/-- Rows of features as the call stores them. -/
theorem store_eq (b : ℕ) (h) : shapeCast S1x256x256 (rows H b .bf16 : FVec Ideal S256x256 .bf16) h = (plane H b .bf16 : FVec Ideal S1x256x256 .bf16) := by
  funext i; idx_vars i
  pointwise [rows, plane, lift2, lift3]

/-! ## The norm and its gradient -/

theorem p6 : k0_pay6 (F := Ideal) (lift3 X) (lift2 fun _ => g) = lift2 (fun r => rms (X r) g) .bf16 := by
  funext i; idx_vars i
  pointwise [k0_pay6, lift2, lift3]
  simp only [ofBits_1024, ofBits_eps, coe_mul, coe_sum, coe_inv, rms]

theorem p8 : k0_pay8 (F := Ideal) (lift3 X) (lift2 fun _ => g) = lift3 (fun r => rms (X r) g) .bf16 := by
  funext i; idx_vars i
  pointwise [k0_pay8, p6, lift2, lift3]

theorem p11 : k0_pay11 (F := Ideal) (lift3 X) = (lift2 fun r (_ : Fin 1) => inv (X r)) := by
  funext i; idx_vars i
  pointwise [k0_pay11, k0_pay9, lift2, lift3]
  simp only [ofBits_1024, ofBits_eps, coe_mul, coe_sum, coe_inv]

theorem p12 : k0_pay12 (F := Ideal) (lift3 X) = lift2 fun r d => X r d * inv (X r) := by
  funext i; idx_vars i
  pointwise [k0_pay12, k0_pay9, p11, lift2, lift3]
  simp only [coe_mul]

theorem p13 : k0_pay13 (F := Ideal) (lift3 X) (lift2 fun _ => g) (lift3 F) = lift2 (fun r => rmsb (X r) g (F r)) .bf16 := by
  funext i; idx_vars i
  pointwise [k0_pay13, k0_pay10, p11, p12, lift2, lift3]
  simp only [ofBits_1024, coe_mul, coe_sum, coe_sub, coe_div_1024, rmsb]

theorem p14 : k0_pay14 (F := Ideal) (lift3 X) (lift2 fun _ => g) (lift3 F) = rows (fun r => rmsb (X r) g (F r)) 0 .bf16 := by
  funext i; idx_vars i
  pointwise [k0_pay14, p13, rows, lift2, lift3]

theorem p15 : k0_pay15 (F := Ideal) (lift3 X) (lift2 fun _ => g) (lift3 F) = lift3 (fun r => rmsb (X r) g (F r)) .bf16 := by
  funext i; idx_vars i
  pointwise [k0_pay15, p13, lift2, lift3]

/-- Eleven blocks cover an output of features. -/
theorem cover_blocks (y : S11x256x256.Idx) (w10 w9 w8 w7 w6 w5 w4 w3 w2 w1 w0 : S1x256x256.Idx → Elt Ideal .bf16) :
    ∃ p ∈ ([⟨Rect.unit (s := S11x256x256) ![10, 0, 0] ![1, 256, 256] inb_S11x256x256_S1x256x256_10_0_0, w10⟩,
      ⟨Rect.unit (s := S11x256x256) ![9, 0, 0] ![1, 256, 256] inb_S11x256x256_S1x256x256_9_0_0, w9⟩,
      ⟨Rect.unit (s := S11x256x256) ![8, 0, 0] ![1, 256, 256] inb_S11x256x256_S1x256x256_8_0_0, w8⟩,
      ⟨Rect.unit (s := S11x256x256) ![7, 0, 0] ![1, 256, 256] inb_S11x256x256_S1x256x256_7_0_0, w7⟩,
      ⟨Rect.unit (s := S11x256x256) ![6, 0, 0] ![1, 256, 256] inb_S11x256x256_S1x256x256_6_0_0, w6⟩,
      ⟨Rect.unit (s := S11x256x256) ![5, 0, 0] ![1, 256, 256] inb_S11x256x256_S1x256x256_5_0_0, w5⟩,
      ⟨Rect.unit (s := S11x256x256) ![4, 0, 0] ![1, 256, 256] inb_S11x256x256_S1x256x256_4_0_0, w4⟩,
      ⟨Rect.unit (s := S11x256x256) ![3, 0, 0] ![1, 256, 256] inb_S11x256x256_S1x256x256_3_0_0, w3⟩,
      ⟨Rect.unit (s := S11x256x256) ![2, 0, 0] ![1, 256, 256] inb_S11x256x256_S1x256x256_2_0_0, w2⟩,
      ⟨Rect.unit (s := S11x256x256) ![1, 0, 0] ![1, 256, 256] inb_S11x256x256_S1x256x256_1_0_0, w1⟩,
      ⟨Rect.unit (s := S11x256x256) ![0, 0, 0] ![1, 256, 256] inb_S11x256x256_S1x256x256_0_0_0, w0⟩] : List (View.Piece (Elt Ideal) S11x256x256 .bf16)), y ∈ p.1.set := by
  idx_vars y
  simp only [List.mem_cons, List.not_mem_nil, or_false, exists_eq_or_imp, exists_eq_left, Rect.mem_set_unit, Fin.forall_fin_succ]
  have h1 := y1.isLt
  have h2 := y2.isLt
  fin_cases y0 <;> simp [ix3]

end Cert.Kernel5Ideal.Acts

end
-- ==== Proof.ActsPoint.lean ====
/- What one point of the call for the gradients of the feed-forward activations leaves: the steps of its body put together. -/
module

public import proofs.«01_k».proof.Proof.ActsFinal
public import proofs.«01_k».proof.Proof.ActsPay
public import Idealize.ShloMosaic.Lib.Pointwise
public import Idealize.ShloMosaic.Lib.Pipeline.ValueKit
public import Idealize.ShloMosaic.Lib.Pipeline.ReadBack

@[expose] public section

noncomputable section

open Idealize.ShloMosaic Idealize.ShloMosaic.TcCoe Idealize.SL.Sem
open Idealize.ShloMosaic.Pipeline (Dat)

namespace Cert.Kernel5Ideal.Acts

open Cert.Kernel5Ideal Cert.Kernel5Ideal.Gen Cert.Kernel5Ideal.Value Cert.Pool Cert.Glu Cert.Ffn Cert.Acts
open Cert.Kernel4Ideal.Ffn (cat2_eq cat16_eq rot1_eq rot2_eq slice16 slice24 slice8 roll1 roll2 cat_hist cat_rows cat_all weight_eq offset_eq crow_eq conv_eq plane_eq mat_eq piece_eq canon_eq)

variable (m : (ℓ : Loc nD τ sig) → Buf (Elt Ideal) ℓ) (c : Dev nD) (t : Fin cfg0.N)

/-- Whether a tile follows another one of its sequence, as the body works it out of the tile's place. -/
theorem later_eq (t : Fin cfg0.N) : Scalar.cmpi .sgt (Scalar.subi 7#32 (BitVec.ofNat 32 (grid0.coords t 1).val)) 0#32 = later t.val :=
  (by decide +kernel : ∀ t : Fin grid0.N, Scalar.cmpi .sgt (Scalar.subi 7#32 (BitVec.ofNat 32 (grid0.coords t 1).val)) 0#32 = later t.val) t

/-- The norm's gradient as the body works it out, the steps written out. -/
theorem written_eq (F D : ℕ → Fin 1024 → ℝ) (g : Fin 1024 → ℝ) :
    shapeCast S256x1024 (truncf .bf16 (mulf (broadcastTo S256x1024 (rsqrt (addf (divf (shapeCast S256x1 (multiReduction .add [1] S256 (mulf (shapeCast S256x1024 (lift3 F : FVec Ideal S1x256x1024 .f32)
      shapeCasts_S1x256x1024_S256x1024) (shapeCast S256x1024 (lift3 F : FVec Ideal S1x256x1024 .f32) shapeCasts_S1x256x1024_S256x1024)) 0x00000000#32 reduces_S256x1024_S256 (.inl rfl) rfl)
      shapeCasts_S256_S256x1) (broadcast S256x1 (Scalar.ofBits .f32 0x44800000#32))) (broadcast S256x1 (Scalar.ofBits .f32 0x358637BD#32)))) broadcasts_S256x1_S256x1024) (subf (mulf (shapeCast S256x1024 (lift3
      D : FVec Ideal S1x256x1024 .f32) shapeCasts_S1x256x1024_S256x1024) (broadcastTo S256x1024 (lift2 (fun _ => g) : FVec Ideal S1x1024 .f32) broadcasts_S1x1024_S256x1024)) (mulf (mulf (shapeCast S256x1024
      (lift3 F : FVec Ideal S1x256x1024 .f32) shapeCasts_S1x256x1024_S256x1024) (broadcastTo S256x1024 (rsqrt (addf (divf (shapeCast S256x1 (multiReduction .add [1] S256 (mulf (shapeCast S256x1024 (lift3 F :
      FVec Ideal S1x256x1024 .f32) shapeCasts_S1x256x1024_S256x1024) (shapeCast S256x1024 (lift3 F : FVec Ideal S1x256x1024 .f32) shapeCasts_S1x256x1024_S256x1024)) 0x00000000#32 reduces_S256x1024_S256 (.inl
      rfl) rfl) shapeCasts_S256_S256x1) (broadcast S256x1 (Scalar.ofBits .f32 0x44800000#32))) (broadcast S256x1 (Scalar.ofBits .f32 0x358637BD#32)))) broadcasts_S256x1_S256x1024)) (broadcastTo S256x1024 (divf
      (shapeCast S256x1 (multiReduction .add [1] S256 (mulf (mulf (shapeCast S256x1024 (lift3 D : FVec Ideal S1x256x1024 .f32) shapeCasts_S1x256x1024_S256x1024) (broadcastTo S256x1024 (lift2 (fun _ => g) : FVec
      Ideal S1x1024 .f32) broadcasts_S1x1024_S256x1024)) (mulf (shapeCast S256x1024 (lift3 F : FVec Ideal S1x256x1024 .f32) shapeCasts_S1x256x1024_S256x1024) (broadcastTo S256x1024 (rsqrt (addf (divf (shapeCast
      S256x1 (multiReduction .add [1] S256 (mulf (shapeCast S256x1024 (lift3 F : FVec Ideal S1x256x1024 .f32) shapeCasts_S1x256x1024_S256x1024) (shapeCast S256x1024 (lift3 F : FVec Ideal S1x256x1024 .f32)
      shapeCasts_S1x256x1024_S256x1024)) 0x00000000#32 reduces_S256x1024_S256 (.inl rfl) rfl) shapeCasts_S256_S256x1) (broadcast S256x1 (Scalar.ofBits .f32 0x44800000#32))) (broadcast S256x1 (Scalar.ofBits .f32
      0x358637BD#32)))) broadcasts_S256x1_S256x1024))) 0x00000000#32 reduces_S256x1024_S256 (.inl rfl) rfl) shapeCasts_S256_S256x1) (broadcast S256x1 (Scalar.ofBits .f32 0x44800000#32)))
      broadcasts_S256x1_S256x1024)))) bitsLt_bf16_f32) shapeCasts_S256x1024_S256x1024
    = rows (fun r => rmsb (F r) g (D r)) 0 .bf16 := p14 _ _ _

set_option maxHeartbeats 40000000 in
/-- The four blocks a point writes that are kept. -/
theorem point (X F D : ℕ → Fin 1024 → ℝ) (g1 g2 : Fin 1024 → ℝ) (W : ℕ → ℕ → Fin 1024 → ℝ) (w o : ℕ → ℕ → ℝ) (G V Q : ℕ → ℕ → Fin 256 → ℝ)
    (b0 : iblk m c 0 t = lift3 X) (b1 : iblk m c 1 t = lift3 F) (b2 : iblk m c 2 t = lift3 D) (b3 : iblk m c 3 t = planes G .bf16) (b4 : iblk m c 4 t = planes V .bf16)
    (b5 : iblk m c 5 t = planes Q .bf16) (b6 : iblk m c 6 t = lift2 fun _ => g1) (b7 : iblk m c 7 t = lift2 fun _ => g2) (b8 : iblk m c 8 t = planes W .bf16)
    (b9 : iblk m c 9 t = feats w) (b10 : iblk m c 10 t = feats o) :
    (outsAt0 m c t.val t.isLt).2.2.1 = planes (fun j => gradV (proj (fun r => rmsb (F r) g2 (D r)) (W 2) (256 * j)) (tileA (later t.val) Q G w o j)) .bf16 ∧
      (outsAt0 m c t.val t.isLt).2.2.2.1 = planes (fun j => hid (tileA (later t.val) Q G w o j) (V j)) .bf16 ∧
      (outsAt0 m c t.val t.isLt).2.2.2.2.1 = lift3 (fun r => rms (X r) g1) .bf16 ∧
      (outsAt0 m c t.val t.isLt).2.2.2.2.2.1 = lift3 (fun r => rmsb (F r) g2 (D r)) .bf16 := by
  by_cases h0 : t.val % 32 = 0
  on_goal 2 => by_cases h1 : t.val % 8 = 0
  on_goal 1 => rw [outsAt0_A m c t h0 (by omega), leftA]
  on_goal 2 => rw [outsAt0_C m c t h0 h1, leftC]
  on_goal 3 => rw [outsAt0_B m c t h0 h1, leftB]
  all_goals refine ⟨?_, ?_, ?_, ?_⟩
  all_goals frame_open
  all_goals try simp only [↓ cat2_eq, ↓ cat16_eq, ↓ rot1_eq, ↓ rot2_eq]
  all_goals try simp (disch := decide) only [↓ View.readCov_skip, ↓ View.readCov_cons_toLoadRect, ↓ View.readCov_fill]
  all_goals try frame_open
  all_goals simp (disch := decide) only [View.read_writes_junk_eq_canon, View.canon_cons_unit_lit', View.ld_unit_lit', View.readCov_unit_lit', View.readCov_cons_unit_lit', View.readAt_eq_ld,
    View.readCov_skip, View.readCov_cons_toLoadRect, View.readCov_fill, Memref.IsWhole.read_unread, read_unread_whole, b0, b1, b2, b3, b4, b5, b6, b7, b8, b9, b10]
  all_goals try first | exact p8 _ _ | exact p15 _ _ _
  all_goals try rw [written_eq]
  all_goals simp (disch := decide) only [later_eq,
    k0_pay17, k0_pay18, k0_pay19, k0_pay20, k0_pay21, k0_pay22, k0_pay23, k0_pay24, k0_pay26, k0_pay27, k0_pay28, k0_pay29, k0_pay30, k0_pay31, k0_pay32, k0_pay33, k0_pay34, k0_pay35, k0_pay36, k0_pay37, k0_pay40, k0_pay41,
    k0_pay48, k0_pay49, k0_pay50, k0_pay51, k0_pay52, k0_pay53, k0_pay54, k0_pay55, k0_pay56, k0_pay57, k0_pay58, k0_pay59, k0_pay60, k0_pay61, k0_pay62, k0_pay73, k0_pay74, k0_pay75, k0_pay76, k0_pay77, k0_pay78, k0_pay79,
    k0_pay80, k0_pay81, k0_pay82, k0_pay83, k0_pay84, k0_pay86, k0_pay87, k0_pay95, k0_pay96, k0_pay97, k0_pay98, k0_pay99, k0_pay100, k0_pay101, k0_pay102, k0_pay103, k0_pay104, k0_pay105, k0_pay106, k0_pay107, k0_pay108,
    k0_pay109, k0_pay120, k0_pay121, k0_pay122, k0_pay123, k0_pay124, k0_pay125, k0_pay126, k0_pay127, k0_pay128, k0_pay129, k0_pay130, k0_pay131, k0_pay133, k0_pay134, k0_pay142, k0_pay143, k0_pay144, k0_pay145, k0_pay146,
    k0_pay147, k0_pay148, k0_pay149, k0_pay150, k0_pay151, k0_pay152, k0_pay153, k0_pay154, k0_pay155, k0_pay156, k0_pay167, k0_pay168, k0_pay169, k0_pay170, k0_pay171, k0_pay172, k0_pay173, k0_pay174, k0_pay175, k0_pay176,
    k0_pay177, k0_pay178, k0_pay180, k0_pay181, k0_pay189, k0_pay190, k0_pay191, k0_pay192, k0_pay193, k0_pay194, k0_pay195, k0_pay196, k0_pay197, k0_pay198, k0_pay199, k0_pay200, k0_pay201, k0_pay202, k0_pay203, k0_pay214,
    k0_pay215, k0_pay216, k0_pay217, k0_pay218, k0_pay219, k0_pay220, k0_pay221, k0_pay222, k0_pay223, k0_pay224, k0_pay225, k0_pay227, k0_pay228, k0_pay236, k0_pay237, k0_pay238, k0_pay239, k0_pay240, k0_pay241, k0_pay242,
    k0_pay243, k0_pay244, k0_pay245, k0_pay246, k0_pay247, k0_pay248, k0_pay249, k0_pay250, k0_pay261, k0_pay262, k0_pay263, k0_pay264, k0_pay265, k0_pay266, k0_pay267, k0_pay268, k0_pay269, k0_pay270, k0_pay271, k0_pay272,
    k0_pay274, k0_pay275, k0_pay283, k0_pay284, k0_pay285, k0_pay286, k0_pay287, k0_pay288, k0_pay289, k0_pay290, k0_pay291, k0_pay292, k0_pay293, k0_pay294, k0_pay295, k0_pay296, k0_pay297, k0_pay308, k0_pay309, k0_pay310,
    k0_pay311, k0_pay312, k0_pay313, k0_pay314, k0_pay315, k0_pay316, k0_pay317, k0_pay318, k0_pay319, k0_pay321, k0_pay322, k0_pay330, k0_pay331, k0_pay332, k0_pay333, k0_pay334, k0_pay335, k0_pay336, k0_pay337, k0_pay338,
    k0_pay339, k0_pay340, k0_pay341, k0_pay342, k0_pay343, k0_pay344, k0_pay355, k0_pay356, k0_pay357, k0_pay358, k0_pay359, k0_pay360, k0_pay361, k0_pay362, k0_pay363, k0_pay364, k0_pay365, k0_pay366, k0_pay368, k0_pay369,
    k0_pay377, k0_pay378, k0_pay379, k0_pay380, k0_pay381, k0_pay382, k0_pay383, k0_pay384, k0_pay385, k0_pay386, k0_pay387, k0_pay388, k0_pay389, k0_pay400, k0_pay401, k0_pay403, k0_pay410, k0_pay411, k0_pay412, k0_pay413,
    k0_pay414, k0_pay415, k0_pay416, k0_pay417, k0_pay419, k0_pay420, k0_pay421, k0_pay422, k0_pay423, k0_pay424, k0_pay425, k0_pay426, k0_pay427, k0_pay428, k0_pay429, k0_pay430, k0_pay433, k0_pay434, k0_pay441, k0_pay442,
    k0_pay443, k0_pay444, k0_pay445, k0_pay446, k0_pay447, k0_pay448, k0_pay449, k0_pay450, k0_pay451, k0_pay452, k0_pay453, k0_pay454, k0_pay455, k0_pay464, k0_pay465, k0_pay466, k0_pay467, k0_pay468, k0_pay469, k0_pay470,
    k0_pay471, k0_pay472, k0_pay473, k0_pay474, k0_pay475, k0_pay477, k0_pay478, k0_pay479, k0_pay486, k0_pay487, k0_pay488, k0_pay489, k0_pay490, k0_pay491, k0_pay492, k0_pay493, k0_pay494, k0_pay495, k0_pay496, k0_pay497,
    k0_pay498, k0_pay499, k0_pay500, k0_pay509, k0_pay510, k0_pay511, k0_pay512, k0_pay513, k0_pay514, k0_pay515, k0_pay516, k0_pay517, k0_pay518, k0_pay519, k0_pay520, k0_pay522, k0_pay523, k0_pay524, k0_pay531, k0_pay532,
    k0_pay533, k0_pay534, k0_pay535, k0_pay536, k0_pay537, k0_pay538, k0_pay539, k0_pay540, k0_pay541, k0_pay542, k0_pay543, k0_pay544, k0_pay545, k0_pay554, k0_pay555, k0_pay556, k0_pay557, k0_pay558, k0_pay559, k0_pay560,
    k0_pay561, k0_pay562, k0_pay563, k0_pay564, k0_pay565, k0_pay567, k0_pay568, k0_pay569, k0_pay576, k0_pay577, k0_pay578, k0_pay579, k0_pay580, k0_pay581, k0_pay582, k0_pay583, k0_pay584, k0_pay585, k0_pay586, k0_pay587,
    k0_pay588, k0_pay589, k0_pay590, k0_pay599, k0_pay600, k0_pay601, k0_pay602, k0_pay603, k0_pay604, k0_pay605, k0_pay606, k0_pay607, k0_pay608, k0_pay609, k0_pay610, k0_pay612, k0_pay613, k0_pay614, k0_pay621, k0_pay622,
    k0_pay623, k0_pay624, k0_pay625, k0_pay626, k0_pay627, k0_pay628, k0_pay629, k0_pay630, k0_pay631, k0_pay632, k0_pay633, k0_pay634, k0_pay635, k0_pay644, k0_pay645, k0_pay646, k0_pay647, k0_pay648, k0_pay649, k0_pay650,
    k0_pay651, k0_pay652, k0_pay653, k0_pay654, k0_pay655, k0_pay657, k0_pay658, k0_pay659, k0_pay666, k0_pay667, k0_pay668, k0_pay669, k0_pay670, k0_pay671, k0_pay672, k0_pay673, k0_pay674, k0_pay675, k0_pay676, k0_pay677,
    k0_pay678, k0_pay679, k0_pay680, k0_pay689, k0_pay690, k0_pay691, k0_pay692, k0_pay693, k0_pay694, k0_pay695, k0_pay696, k0_pay697, k0_pay698, k0_pay699, k0_pay700, k0_pay702, k0_pay703, k0_pay704, k0_pay711, k0_pay712,
    k0_pay713, k0_pay714, k0_pay715, k0_pay716, k0_pay717, k0_pay718, k0_pay719, k0_pay720, k0_pay721, k0_pay722, k0_pay723, k0_pay724, k0_pay725, k0_pay734, k0_pay735, k0_pay736, k0_pay737, k0_pay738, k0_pay739, k0_pay740,
    k0_pay741, k0_pay742, k0_pay743, k0_pay744, k0_pay745, k0_pay747, k0_pay748, k0_pay749, k0_pay756, k0_pay757, k0_pay758, k0_pay759, k0_pay760, k0_pay761, k0_pay762, k0_pay763, k0_pay764, k0_pay765, k0_pay766, k0_pay767,
    k0_pay768, k0_pay769, k0_pay780, k0_pay781, k0_pay783, k0_pay791, k0_pay792, k0_pay793, k0_pay794, k0_pay795, k0_pay796, k0_pay797, k0_pay798, k0_pay799, k0_pay801, k0_pay802, k0_pay803, k0_pay804, k0_pay805, k0_pay806,
    k0_pay807, k0_pay808, k0_pay809, k0_pay810, k0_pay811, k0_pay812, k0_pay813, k0_pay814, k0_pay815, k0_pay822, k0_pay823, k0_pay824, k0_pay825, k0_pay826, k0_pay827, k0_pay828, k0_pay829, k0_pay830, k0_pay831, k0_pay832,
    k0_pay833, k0_pay834, k0_pay835, k0_pay836, k0_pay844, k0_pay845, k0_pay846, k0_pay847, k0_pay848, k0_pay849, k0_pay850, k0_pay851, k0_pay852, k0_pay853, k0_pay854, k0_pay855, k0_pay858, k0_pay859, k0_pay866, k0_pay867,
    k0_pay868, k0_pay869, k0_pay870, k0_pay871, k0_pay872, k0_pay873, k0_pay874, k0_pay875, k0_pay876, k0_pay877, k0_pay878, k0_pay879, k0_pay880, k0_pay888, k0_pay889, k0_pay890, k0_pay891, k0_pay892, k0_pay893, k0_pay894,
    k0_pay895, k0_pay896, k0_pay897, k0_pay898, k0_pay899, k0_pay902, k0_pay903, k0_pay910, k0_pay911, k0_pay912, k0_pay913, k0_pay914, k0_pay915, k0_pay916, k0_pay917, k0_pay918, k0_pay919, k0_pay920, k0_pay921, k0_pay922,
    k0_pay923, k0_pay924, k0_pay932, k0_pay933, k0_pay934, k0_pay935, k0_pay936, k0_pay937, k0_pay938, k0_pay939, k0_pay940, k0_pay941, k0_pay942, k0_pay943, k0_pay946, k0_pay947, k0_pay954, k0_pay955, k0_pay956, k0_pay957,
    k0_pay958, k0_pay959, k0_pay960, k0_pay961, k0_pay962, k0_pay963, k0_pay964, k0_pay965, k0_pay966, k0_pay967, k0_pay968, k0_pay976, k0_pay977, k0_pay978, k0_pay979, k0_pay980, k0_pay981, k0_pay982, k0_pay983, k0_pay984,
    k0_pay985, k0_pay986, k0_pay987, k0_pay990, k0_pay991, k0_pay998, k0_pay999, k0_pay1000, k0_pay1001, k0_pay1002, k0_pay1003, k0_pay1004, k0_pay1005, k0_pay1006, k0_pay1007, k0_pay1008, k0_pay1009, k0_pay1010, k0_pay1011,
    k0_pay1012, k0_pay1020, k0_pay1021, k0_pay1022, k0_pay1023, k0_pay1024, k0_pay1025, k0_pay1026, k0_pay1027, k0_pay1028, k0_pay1029, k0_pay1030, k0_pay1031, k0_pay1034, k0_pay1035, k0_pay1042, k0_pay1043, k0_pay1044,
    k0_pay1045, k0_pay1046, k0_pay1047, k0_pay1048, k0_pay1049, k0_pay1050, k0_pay1051, k0_pay1052, k0_pay1053, k0_pay1054, k0_pay1055, k0_pay1056, k0_pay1064, k0_pay1065, k0_pay1066, k0_pay1067, k0_pay1068, k0_pay1069,
    k0_pay1070, k0_pay1071, k0_pay1072, k0_pay1073, k0_pay1074, k0_pay1075, k0_pay1078, k0_pay1079, k0_pay1086, k0_pay1087, k0_pay1088, k0_pay1089, k0_pay1090, k0_pay1091, k0_pay1092, k0_pay1093, k0_pay1094, k0_pay1095,
    k0_pay1096, k0_pay1097, k0_pay1098, k0_pay1099, k0_pay1100, k0_pay1108, k0_pay1109, k0_pay1110, k0_pay1111, k0_pay1112, k0_pay1113, k0_pay1114, k0_pay1115, k0_pay1116, k0_pay1117, k0_pay1118, k0_pay1119, k0_pay1122,
    k0_pay1123, k0_pay1130, k0_pay1131, k0_pay1132, k0_pay1133, k0_pay1134, k0_pay1135, k0_pay1136, k0_pay1137, k0_pay1138, k0_pay1139, k0_pay1140, k0_pay1141, k0_pay1142, k0_pay1143, k0_pay1144, k0_pay1153, k0_pay1154,
    k0_pay1156, k0_pay1162, k0_pay1163, k0_pay1164, k0_pay1165, k0_pay1166, k0_pay1167, k0_pay1168, k0_pay1169, k0_pay1170, k0_pay1171, k0_pay1173, k0_pay1174, k0_pay1175, k0_pay1176, k0_pay1177, k0_pay1178, k0_pay1179,
    k0_pay1180, k0_pay1181, k0_pay1182, k0_pay1183, k0_pay1184, k0_pay1185, k0_pay1186, k0_pay1187, k0_pay1194, k0_pay1195, k0_pay1196, k0_pay1197, k0_pay1198, k0_pay1199, k0_pay1200, k0_pay1201, k0_pay1202, k0_pay1203,
    k0_pay1204, k0_pay1205, k0_pay1206, k0_pay1207, k0_pay1215, k0_pay1216, k0_pay1217, k0_pay1218, k0_pay1219, k0_pay1220, k0_pay1221, k0_pay1222, k0_pay1223, k0_pay1224, k0_pay1225, k0_pay1226, k0_pay1228, k0_pay1229,
    k0_pay1236, k0_pay1237, k0_pay1238, k0_pay1239, k0_pay1240, k0_pay1241, k0_pay1242, k0_pay1243, k0_pay1244, k0_pay1245, k0_pay1246, k0_pay1247, k0_pay1248, k0_pay1249, k0_pay1257, k0_pay1258, k0_pay1259, k0_pay1260,
    k0_pay1261, k0_pay1262, k0_pay1263, k0_pay1264, k0_pay1265, k0_pay1266, k0_pay1267, k0_pay1268, k0_pay1270, k0_pay1271, k0_pay1278, k0_pay1279, k0_pay1280, k0_pay1281, k0_pay1282, k0_pay1283, k0_pay1284, k0_pay1285,
    k0_pay1286, k0_pay1287, k0_pay1288, k0_pay1289, k0_pay1290, k0_pay1291, k0_pay1299, k0_pay1300, k0_pay1301, k0_pay1302, k0_pay1303, k0_pay1304, k0_pay1305, k0_pay1306, k0_pay1307, k0_pay1308, k0_pay1309, k0_pay1310,
    k0_pay1312, k0_pay1313, k0_pay1320, k0_pay1321, k0_pay1322, k0_pay1323, k0_pay1324, k0_pay1325, k0_pay1326, k0_pay1327, k0_pay1328, k0_pay1329, k0_pay1330, k0_pay1331, k0_pay1332, k0_pay1333, k0_pay1341, k0_pay1342,
    k0_pay1343, k0_pay1344, k0_pay1345, k0_pay1346, k0_pay1347, k0_pay1348, k0_pay1349, k0_pay1350, k0_pay1351, k0_pay1352, k0_pay1354, k0_pay1355, k0_pay1362, k0_pay1363, k0_pay1364, k0_pay1365, k0_pay1366, k0_pay1367,
    k0_pay1368, k0_pay1369, k0_pay1370, k0_pay1371, k0_pay1372, k0_pay1373, k0_pay1374, k0_pay1375, k0_pay1383, k0_pay1384, k0_pay1385, k0_pay1386, k0_pay1387, k0_pay1388, k0_pay1389, k0_pay1390, k0_pay1391, k0_pay1392,
    k0_pay1393, k0_pay1394, k0_pay1396, k0_pay1397, k0_pay1404, k0_pay1405, k0_pay1406, k0_pay1407, k0_pay1408, k0_pay1409, k0_pay1410, k0_pay1411, k0_pay1412, k0_pay1413, k0_pay1414, k0_pay1415, k0_pay1416, k0_pay1417,
    k0_pay1425, k0_pay1426, k0_pay1427, k0_pay1428, k0_pay1429, k0_pay1430, k0_pay1431, k0_pay1432, k0_pay1433, k0_pay1434, k0_pay1435, k0_pay1436, k0_pay1438, k0_pay1439, k0_pay1446, k0_pay1447, k0_pay1448, k0_pay1449,
    k0_pay1450, k0_pay1451, k0_pay1452, k0_pay1453, k0_pay1454, k0_pay1455, k0_pay1456, k0_pay1457, k0_pay1458, k0_pay1459, k0_pay1467, k0_pay1468, k0_pay1469, k0_pay1470, k0_pay1471, k0_pay1472, k0_pay1473, k0_pay1474,
    k0_pay1475, k0_pay1476, k0_pay1477, k0_pay1478, k0_pay1480, k0_pay1481, k0_pay1488, k0_pay1489, k0_pay1490, k0_pay1491, k0_pay1492, k0_pay1493, k0_pay1494, k0_pay1495, k0_pay1496, k0_pay1497, k0_pay1498, k0_pay1499,
    k0_pay1500, k0_pay1508, k0_pay1509, k0_pay1511, k0_pay1519, k0_pay1520, k0_pay1521, k0_pay1522, k0_pay1523, k0_pay1524, k0_pay1525, k0_pay1526, k0_pay1528, k0_pay1529, k0_pay1530, k0_pay1531, k0_pay1532, k0_pay1533,
    k0_pay1534, k0_pay1535, k0_pay1536, k0_pay1537, k0_pay1538, k0_pay1539, k0_pay1540, k0_pay1541, k0_pay1542, k0_pay1543, k0_pay1551, k0_pay1552, k0_pay1553, k0_pay1554, k0_pay1555, k0_pay1556, k0_pay1557, k0_pay1558,
    k0_pay1559, k0_pay1560, k0_pay1561, k0_pay1562, k0_pay1563, k0_pay1564, k0_pay1572, k0_pay1573, k0_pay1574, k0_pay1575, k0_pay1576, k0_pay1577, k0_pay1578, k0_pay1579, k0_pay1580, k0_pay1581, k0_pay1582, k0_pay1583,
    k0_pay1584, k0_pay1585, k0_pay1595, k0_pay1596, k0_pay1597, k0_pay1598, k0_pay1599, k0_pay1600, k0_pay1601, k0_pay1602, k0_pay1603, k0_pay1604, k0_pay1605, k0_pay1606, k0_pay1607, k0_pay1608, k0_pay1616, k0_pay1617,
    k0_pay1618, k0_pay1619, k0_pay1620, k0_pay1621, k0_pay1622, k0_pay1623, k0_pay1624, k0_pay1625, k0_pay1626, k0_pay1627, k0_pay1628, k0_pay1629, k0_pay1639, k0_pay1640, k0_pay1641, k0_pay1642, k0_pay1643, k0_pay1644,
    k0_pay1645, k0_pay1646, k0_pay1647, k0_pay1648, k0_pay1649, k0_pay1650, k0_pay1651, k0_pay1652, k0_pay1660, k0_pay1661, k0_pay1662, k0_pay1663, k0_pay1664, k0_pay1665, k0_pay1666, k0_pay1667, k0_pay1668, k0_pay1669,
    k0_pay1670, k0_pay1671, k0_pay1672, k0_pay1673, k0_pay1683, k0_pay1684, k0_pay1685, k0_pay1686, k0_pay1687, k0_pay1688, k0_pay1689, k0_pay1690, k0_pay1691, k0_pay1692, k0_pay1693, k0_pay1694, k0_pay1695, k0_pay1696,
    k0_pay1704, k0_pay1705, k0_pay1706, k0_pay1707, k0_pay1708, k0_pay1709, k0_pay1710, k0_pay1711, k0_pay1712, k0_pay1713, k0_pay1714, k0_pay1715, k0_pay1716, k0_pay1717, k0_pay1727, k0_pay1728, k0_pay1729, k0_pay1730,
    k0_pay1731, k0_pay1732, k0_pay1733, k0_pay1734, k0_pay1735, k0_pay1736, k0_pay1737, k0_pay1738, k0_pay1739, k0_pay1740, k0_pay1748, k0_pay1749, k0_pay1750, k0_pay1751, k0_pay1752, k0_pay1753, k0_pay1754, k0_pay1755,
    k0_pay1756, k0_pay1757, k0_pay1758, k0_pay1759, k0_pay1760, k0_pay1761, k0_pay1771, k0_pay1772, k0_pay1773, k0_pay1774, k0_pay1775, k0_pay1776, k0_pay1777, k0_pay1778, k0_pay1779, k0_pay1780, k0_pay1781, k0_pay1782,
    k0_pay1783, k0_pay1784, k0_pay1792, k0_pay1793, k0_pay1794, k0_pay1795, k0_pay1796, k0_pay1797, k0_pay1798, k0_pay1799, k0_pay1800, k0_pay1801, k0_pay1802, k0_pay1803, k0_pay1804, k0_pay1805, k0_pay1815, k0_pay1816,
    k0_pay1817, k0_pay1818, k0_pay1819, k0_pay1820, k0_pay1821, k0_pay1822, k0_pay1823, k0_pay1824, k0_pay1825, k0_pay1826, k0_pay1827, k0_pay1828, k0_pay1836, k0_pay1837, k0_pay1838, k0_pay1839, k0_pay1840, k0_pay1841,
    k0_pay1842, k0_pay1843, k0_pay1844, k0_pay1845, k0_pay1846, k0_pay1847, k0_pay1848, k0_pay1849, k0_pay1859, k0_pay1860, k0_pay1861, k0_pay1862, k0_pay1863, k0_pay1864, k0_pay1865, k0_pay1866, k0_pay1867, k0_pay1868,
    k0_pay1869, k0_pay1870, k0_pay1871, k0_pay1880, k0_pay1881, k0_pay1882, k0_pay1884, k0_pay1890, k0_pay1891, k0_pay1892, k0_pay1893, k0_pay1894, k0_pay1895, k0_pay1896, k0_pay1898, k0_pay1899, k0_pay1900, k0_pay1901,
    k0_pay1902, k0_pay1903, k0_pay1904, k0_pay1905, k0_pay1906, k0_pay1907, k0_pay1908, k0_pay1909, k0_pay1910, k0_pay1911, k0_pay1918, k0_pay1919, k0_pay1920, k0_pay1921, k0_pay1922, k0_pay1923, k0_pay1924, k0_pay1925,
    k0_pay1926, k0_pay1927, k0_pay1928, k0_pay1929, k0_pay1932, k0_pay1933, k0_pay1940, k0_pay1941, k0_pay1942, k0_pay1943, k0_pay1944, k0_pay1945, k0_pay1946, k0_pay1947, k0_pay1948, k0_pay1949, k0_pay1950, k0_pay1951,
    k0_pay1952, k0_pay1953, k0_pay1962, k0_pay1963, k0_pay1964, k0_pay1965, k0_pay1966, k0_pay1967, k0_pay1968, k0_pay1969, k0_pay1970, k0_pay1971, k0_pay1972, k0_pay1973, k0_pay1976, k0_pay1977, k0_pay1984, k0_pay1985,
    k0_pay1986, k0_pay1987, k0_pay1988, k0_pay1989, k0_pay1990, k0_pay1991, k0_pay1992, k0_pay1993, k0_pay1994, k0_pay1995, k0_pay1996, k0_pay1997, k0_pay2006, k0_pay2007, k0_pay2008, k0_pay2009, k0_pay2010, k0_pay2011,
    k0_pay2012, k0_pay2013, k0_pay2014, k0_pay2015, k0_pay2016, k0_pay2017, k0_pay2020, k0_pay2021, k0_pay2028, k0_pay2029, k0_pay2030, k0_pay2031, k0_pay2032, k0_pay2033, k0_pay2034, k0_pay2035, k0_pay2036, k0_pay2037,
    k0_pay2038, k0_pay2039, k0_pay2040, k0_pay2041, k0_pay2050, k0_pay2051, k0_pay2052, k0_pay2053, k0_pay2054, k0_pay2055, k0_pay2056, k0_pay2057, k0_pay2058, k0_pay2059, k0_pay2060, k0_pay2061, k0_pay2064, k0_pay2065,
    k0_pay2072, k0_pay2073, k0_pay2074, k0_pay2075, k0_pay2076, k0_pay2077, k0_pay2078, k0_pay2079, k0_pay2080, k0_pay2081, k0_pay2082, k0_pay2083, k0_pay2084, k0_pay2085, k0_pay2094, k0_pay2095, k0_pay2096, k0_pay2097,
    k0_pay2098, k0_pay2099, k0_pay2100, k0_pay2101, k0_pay2102, k0_pay2103, k0_pay2104, k0_pay2105, k0_pay2108, k0_pay2109, k0_pay2116, k0_pay2117, k0_pay2118, k0_pay2119, k0_pay2120, k0_pay2121, k0_pay2122, k0_pay2123,
    k0_pay2124, k0_pay2125, k0_pay2126, k0_pay2127, k0_pay2128, k0_pay2129, k0_pay2138, k0_pay2139, k0_pay2140, k0_pay2141, k0_pay2142, k0_pay2143, k0_pay2144, k0_pay2145, k0_pay2146, k0_pay2147, k0_pay2148, k0_pay2149,
    k0_pay2152, k0_pay2153, k0_pay2160, k0_pay2161, k0_pay2162, k0_pay2163, k0_pay2164, k0_pay2165, k0_pay2166, k0_pay2167, k0_pay2168, k0_pay2169, k0_pay2170, k0_pay2171, k0_pay2172, k0_pay2173, k0_pay2182, k0_pay2183,
    k0_pay2184, k0_pay2185, k0_pay2186, k0_pay2187, k0_pay2188, k0_pay2189, k0_pay2190, k0_pay2191, k0_pay2192, k0_pay2193, k0_pay2196, k0_pay2197, k0_pay2204, k0_pay2205, k0_pay2206, k0_pay2207, k0_pay2208, k0_pay2209,
    k0_pay2210, k0_pay2211, k0_pay2212, k0_pay2213, k0_pay2214, k0_pay2215, k0_pay2216, k0_pay2217, k0_pay2226, k0_pay2227, k0_pay2228, k0_pay2229, k0_pay2230, k0_pay2231, k0_pay2232, k0_pay2233, k0_pay2234, k0_pay2235,
    k0_pay2236, k0_pay2238, k0_pay2239, k0_pay2249, k0_pay2250, k0_pay2252, k0_pay2260, k0_pay2261, k0_pay2262, k0_pay2263, k0_pay2264, k0_pay2265, k0_pay2266, k0_pay2267, k0_pay2269, k0_pay2270, k0_pay2271, k0_pay2272,
    k0_pay2273, k0_pay2274, k0_pay2275, k0_pay2276, k0_pay2277, k0_pay2278, k0_pay2279, k0_pay2280, k0_pay2281, k0_pay2282, k0_pay2290, k0_pay2291, k0_pay2292, k0_pay2293, k0_pay2294, k0_pay2295, k0_pay2296, k0_pay2297,
    k0_pay2298, k0_pay2299, k0_pay2300, k0_pay2301, k0_pay2304, k0_pay2305, k0_pay2312, k0_pay2313, k0_pay2314, k0_pay2315, k0_pay2316, k0_pay2317, k0_pay2318, k0_pay2319, k0_pay2320, k0_pay2321, k0_pay2322, k0_pay2323,
    k0_pay2324, k0_pay2325, k0_pay2332, k0_pay2333, k0_pay2334, k0_pay2335, k0_pay2336, k0_pay2337, k0_pay2338, k0_pay2339, k0_pay2340, k0_pay2341, k0_pay2342, k0_pay2343, k0_pay2346, k0_pay2347, k0_pay2354, k0_pay2355,
    k0_pay2356, k0_pay2357, k0_pay2358, k0_pay2359, k0_pay2360, k0_pay2361, k0_pay2362, k0_pay2363, k0_pay2364, k0_pay2365, k0_pay2366, k0_pay2367, k0_pay2374, k0_pay2375, k0_pay2376, k0_pay2377, k0_pay2378, k0_pay2379,
    k0_pay2380, k0_pay2381, k0_pay2382, k0_pay2383, k0_pay2384, k0_pay2385, k0_pay2388, k0_pay2389, k0_pay2396, k0_pay2397, k0_pay2398, k0_pay2399, k0_pay2400, k0_pay2401, k0_pay2402, k0_pay2403, k0_pay2404, k0_pay2405,
    k0_pay2406, k0_pay2407, k0_pay2408, k0_pay2409, k0_pay2416, k0_pay2417, k0_pay2418, k0_pay2419, k0_pay2420, k0_pay2421, k0_pay2422, k0_pay2423, k0_pay2424, k0_pay2425, k0_pay2426, k0_pay2427, k0_pay2430, k0_pay2431,
    k0_pay2438, k0_pay2439, k0_pay2440, k0_pay2441, k0_pay2442, k0_pay2443, k0_pay2444, k0_pay2445, k0_pay2446, k0_pay2447, k0_pay2448, k0_pay2449, k0_pay2450, k0_pay2451, k0_pay2458, k0_pay2459, k0_pay2460, k0_pay2461,
    k0_pay2462, k0_pay2463, k0_pay2464, k0_pay2465, k0_pay2466, k0_pay2467, k0_pay2468, k0_pay2469, k0_pay2472, k0_pay2473, k0_pay2480, k0_pay2481, k0_pay2482, k0_pay2483, k0_pay2484, k0_pay2485, k0_pay2486, k0_pay2487,
    k0_pay2488, k0_pay2489, k0_pay2490, k0_pay2491, k0_pay2492, k0_pay2493, k0_pay2500, k0_pay2501, k0_pay2502, k0_pay2503, k0_pay2504, k0_pay2505, k0_pay2506, k0_pay2507, k0_pay2508, k0_pay2509, k0_pay2510, k0_pay2511,
    k0_pay2514, k0_pay2515, k0_pay2522, k0_pay2523, k0_pay2524, k0_pay2525, k0_pay2526, k0_pay2527, k0_pay2528, k0_pay2529, k0_pay2530, k0_pay2531, k0_pay2532, k0_pay2533, k0_pay2534, k0_pay2535, k0_pay2542, k0_pay2543,
    k0_pay2544, k0_pay2545, k0_pay2546, k0_pay2547, k0_pay2548, k0_pay2549, k0_pay2550, k0_pay2551, k0_pay2552, k0_pay2553, k0_pay2556, k0_pay2557, k0_pay2564, k0_pay2565, k0_pay2566, k0_pay2567, k0_pay2568, k0_pay2569,
    k0_pay2570, k0_pay2571, k0_pay2572, k0_pay2573, k0_pay2574, k0_pay2575, k0_pay2576, k0_pay2577, k0_pay2584, k0_pay2585, k0_pay2586, k0_pay2587, k0_pay2588, k0_pay2589, k0_pay2590, k0_pay2591, k0_pay2592, k0_pay2593,
    k0_pay2594, k0_pay2597, k0_pay2598, k0_pay2611, k0_pay2612, k0_pay2614, k0_pay2621, k0_pay2622, k0_pay2623, k0_pay2624, k0_pay2625, k0_pay2626, k0_pay2627, k0_pay2629, k0_pay2630, k0_pay2631, k0_pay2632, k0_pay2633,
    k0_pay2634, k0_pay2635, k0_pay2636, k0_pay2637, k0_pay2638, k0_pay2639, k0_pay2640, k0_pay2642, k0_pay2643, k0_pay2650, k0_pay2651, k0_pay2652, k0_pay2653, k0_pay2654, k0_pay2655, k0_pay2656, k0_pay2657, k0_pay2658,
    k0_pay2659, k0_pay2660, k0_pay2661, k0_pay2663, k0_pay2664, k0_pay2671, k0_pay2672, k0_pay2673, k0_pay2674, k0_pay2675, k0_pay2676, k0_pay2677, k0_pay2678, k0_pay2679, k0_pay2680, k0_pay2681, k0_pay2682, k0_pay2683,
    k0_pay2684, k0_pay2692, k0_pay2693, k0_pay2694, k0_pay2695, k0_pay2696, k0_pay2697, k0_pay2698, k0_pay2699, k0_pay2700, k0_pay2701, k0_pay2702, k0_pay2703, k0_pay2705, k0_pay2706, k0_pay2713, k0_pay2714, k0_pay2715,
    k0_pay2716, k0_pay2717, k0_pay2718, k0_pay2719, k0_pay2720, k0_pay2721, k0_pay2722, k0_pay2723, k0_pay2724, k0_pay2725, k0_pay2726, k0_pay2734, k0_pay2735, k0_pay2736, k0_pay2737, k0_pay2738, k0_pay2739, k0_pay2740,
    k0_pay2741, k0_pay2742, k0_pay2743, k0_pay2744, k0_pay2745, k0_pay2747, k0_pay2748, k0_pay2755, k0_pay2756, k0_pay2757, k0_pay2758, k0_pay2759, k0_pay2760, k0_pay2761, k0_pay2762, k0_pay2763, k0_pay2764, k0_pay2765,
    k0_pay2766, k0_pay2767, k0_pay2768, k0_pay2776, k0_pay2777, k0_pay2778, k0_pay2779, k0_pay2780, k0_pay2781, k0_pay2782, k0_pay2783, k0_pay2784, k0_pay2785, k0_pay2786, k0_pay2787, k0_pay2789, k0_pay2790, k0_pay2797,
    k0_pay2798, k0_pay2799, k0_pay2800, k0_pay2801, k0_pay2802, k0_pay2803, k0_pay2804, k0_pay2805, k0_pay2806, k0_pay2807, k0_pay2808, k0_pay2809, k0_pay2810, k0_pay2818, k0_pay2819, k0_pay2820, k0_pay2821, k0_pay2822,
    k0_pay2823, k0_pay2824, k0_pay2825, k0_pay2826, k0_pay2827, k0_pay2828, k0_pay2829, k0_pay2831, k0_pay2832, k0_pay2839, k0_pay2840, k0_pay2841, k0_pay2842, k0_pay2843, k0_pay2844, k0_pay2845, k0_pay2846, k0_pay2847,
    k0_pay2848, k0_pay2849, k0_pay2850, k0_pay2851, k0_pay2852, k0_pay2860, k0_pay2861, k0_pay2862, k0_pay2863, k0_pay2864, k0_pay2865, k0_pay2866, k0_pay2867, k0_pay2868, k0_pay2869, k0_pay2870, k0_pay2871, k0_pay2873,
    k0_pay2874, k0_pay2881, k0_pay2882, k0_pay2883, k0_pay2884, k0_pay2885, k0_pay2886, k0_pay2887, k0_pay2888, k0_pay2889, k0_pay2890, k0_pay2891, k0_pay2892, k0_pay2893, k0_pay2894, k0_pay2902, k0_pay2903, k0_pay2904,
    k0_pay2905, k0_pay2906, k0_pay2907, k0_pay2908, k0_pay2909, k0_pay2910, k0_pay2911, k0_pay2912, k0_pay2913, k0_pay2915, k0_pay2916, k0_pay2923, k0_pay2924, k0_pay2925, k0_pay2926, k0_pay2927, k0_pay2928, k0_pay2929,
    k0_pay2930, k0_pay2931, k0_pay2932, k0_pay2933, k0_pay2934, k0_pay2935, k0_pay2936, k0_pay2944, k0_pay2945, k0_pay2946, k0_pay2947, k0_pay2948, k0_pay2949, k0_pay2950, k0_pay2951, k0_pay2952, k0_pay2953, k0_pay2954,
    k0_pay2956, k0_pay2957, k0_pay2967, k0_pay2968, k0_pay2970, k0_pay2977, k0_pay2978, k0_pay2979, k0_pay2980, k0_pay2981, k0_pay2982, k0_pay2983, k0_pay2985, k0_pay2986, k0_pay2987, k0_pay2988, k0_pay2989, k0_pay2990,
    k0_pay2991, k0_pay2992, k0_pay2993, k0_pay2994, k0_pay2995, k0_pay2996, k0_pay2999, k0_pay3000, k0_pay3007, k0_pay3008, k0_pay3009, k0_pay3010, k0_pay3011, k0_pay3012, k0_pay3013, k0_pay3014, k0_pay3015, k0_pay3016,
    k0_pay3017, k0_pay3018, k0_pay3019, k0_pay3020, k0_pay3021, k0_pay3032, k0_pay3033, k0_pay3034, k0_pay3035, k0_pay3036, k0_pay3037, k0_pay3038, k0_pay3039, k0_pay3040, k0_pay3041, k0_pay3042, k0_pay3043, k0_pay3045,
    k0_pay3046, k0_pay3054, k0_pay3055, k0_pay3056, k0_pay3057, k0_pay3058, k0_pay3059, k0_pay3060, k0_pay3061, k0_pay3062, k0_pay3063, k0_pay3064, k0_pay3065, k0_pay3066, k0_pay3067, k0_pay3068, k0_pay3079, k0_pay3080,
    k0_pay3081, k0_pay3082, k0_pay3083, k0_pay3084, k0_pay3085, k0_pay3086, k0_pay3087, k0_pay3088, k0_pay3089, k0_pay3090, k0_pay3092, k0_pay3093, k0_pay3101, k0_pay3102, k0_pay3103, k0_pay3104, k0_pay3105, k0_pay3106,
    k0_pay3107, k0_pay3108, k0_pay3109, k0_pay3110, k0_pay3111, k0_pay3112, k0_pay3113, k0_pay3114, k0_pay3115, k0_pay3126, k0_pay3127, k0_pay3128, k0_pay3129, k0_pay3130, k0_pay3131, k0_pay3132, k0_pay3133, k0_pay3134,
    k0_pay3135, k0_pay3136, k0_pay3137, k0_pay3139, k0_pay3140, k0_pay3148, k0_pay3149, k0_pay3150, k0_pay3151, k0_pay3152, k0_pay3153, k0_pay3154, k0_pay3155, k0_pay3156, k0_pay3157, k0_pay3158, k0_pay3159, k0_pay3160,
    k0_pay3161, k0_pay3162, k0_pay3173, k0_pay3174, k0_pay3175, k0_pay3176, k0_pay3177, k0_pay3178, k0_pay3179, k0_pay3180, k0_pay3181, k0_pay3182, k0_pay3183, k0_pay3184, k0_pay3186, k0_pay3187, k0_pay3195, k0_pay3196,
    k0_pay3197, k0_pay3198, k0_pay3199, k0_pay3200, k0_pay3201, k0_pay3202, k0_pay3203, k0_pay3204, k0_pay3205, k0_pay3206, k0_pay3207, k0_pay3208, k0_pay3209, k0_pay3220, k0_pay3221, k0_pay3222, k0_pay3223, k0_pay3224,
    k0_pay3225, k0_pay3226, k0_pay3227, k0_pay3228, k0_pay3229, k0_pay3230, k0_pay3231, k0_pay3233, k0_pay3234, k0_pay3242, k0_pay3243, k0_pay3244, k0_pay3245, k0_pay3246, k0_pay3247, k0_pay3248, k0_pay3249, k0_pay3250,
    k0_pay3251, k0_pay3252, k0_pay3253, k0_pay3254, k0_pay3255, k0_pay3256, k0_pay3267, k0_pay3268, k0_pay3269, k0_pay3270, k0_pay3271, k0_pay3272, k0_pay3273, k0_pay3274, k0_pay3275, k0_pay3276, k0_pay3277, k0_pay3278,
    k0_pay3280, k0_pay3281, k0_pay3289, k0_pay3290, k0_pay3291, k0_pay3292, k0_pay3293, k0_pay3294, k0_pay3295, k0_pay3296, k0_pay3297, k0_pay3298, k0_pay3299, k0_pay3300, k0_pay3301, k0_pay3302, k0_pay3303, k0_pay3314,
    k0_pay3315, k0_pay3316, k0_pay3317, k0_pay3318, k0_pay3319, k0_pay3320, k0_pay3321, k0_pay3322, k0_pay3323, k0_pay3324, k0_pay3325, k0_pay3327, k0_pay3328, k0_pay3336, k0_pay3337, k0_pay3338, k0_pay3339, k0_pay3340,
    k0_pay3341, k0_pay3342, k0_pay3343, k0_pay3344, k0_pay3345, k0_pay3346, k0_pay3347, k0_pay3348, k0_pay3359, k0_pay3360, k0_pay3362, k0_pay3370, k0_pay3371, k0_pay3372, k0_pay3373, k0_pay3374, k0_pay3375, k0_pay3376,
    k0_pay3378, k0_pay3379, k0_pay3380, k0_pay3381, k0_pay3382, k0_pay3383, k0_pay3384, k0_pay3385, k0_pay3386, k0_pay3387, k0_pay3388, k0_pay3389, k0_pay3391, k0_pay3392, k0_pay3399, k0_pay3400, k0_pay3401, k0_pay3402,
    k0_pay3403, k0_pay3404, k0_pay3405, k0_pay3406, k0_pay3407, k0_pay3408, k0_pay3409, k0_pay3410, k0_pay3411, k0_pay3412, k0_pay3420, k0_pay3421, k0_pay3422, k0_pay3423, k0_pay3424, k0_pay3425, k0_pay3426, k0_pay3427,
    k0_pay3428, k0_pay3429, k0_pay3430, k0_pay3431, k0_pay3436, k0_pay3437, k0_pay3444, k0_pay3445, k0_pay3446, k0_pay3447, k0_pay3448, k0_pay3449, k0_pay3450, k0_pay3451, k0_pay3452, k0_pay3453, k0_pay3454, k0_pay3455,
    k0_pay3456, k0_pay3457, k0_pay3465, k0_pay3466, k0_pay3467, k0_pay3468, k0_pay3469, k0_pay3470, k0_pay3471, k0_pay3472, k0_pay3473, k0_pay3474, k0_pay3475, k0_pay3476, k0_pay3481, k0_pay3482, k0_pay3489, k0_pay3490,
    k0_pay3491, k0_pay3492, k0_pay3493, k0_pay3494, k0_pay3495, k0_pay3496, k0_pay3497, k0_pay3498, k0_pay3499, k0_pay3500, k0_pay3501, k0_pay3502, k0_pay3510, k0_pay3511, k0_pay3512, k0_pay3513, k0_pay3514, k0_pay3515,
    k0_pay3516, k0_pay3517, k0_pay3518, k0_pay3519, k0_pay3520, k0_pay3521, k0_pay3526, k0_pay3527, k0_pay3534, k0_pay3535, k0_pay3536, k0_pay3537, k0_pay3538, k0_pay3539, k0_pay3540, k0_pay3541, k0_pay3542, k0_pay3543,
    k0_pay3544, k0_pay3545, k0_pay3546, k0_pay3547, k0_pay3555, k0_pay3556, k0_pay3557, k0_pay3558, k0_pay3559, k0_pay3560, k0_pay3561, k0_pay3562, k0_pay3563, k0_pay3564, k0_pay3565, k0_pay3566, k0_pay3571, k0_pay3572,
    k0_pay3579, k0_pay3580, k0_pay3581, k0_pay3582, k0_pay3583, k0_pay3584, k0_pay3585, k0_pay3586, k0_pay3587, k0_pay3588, k0_pay3589, k0_pay3590, k0_pay3591, k0_pay3592, k0_pay3600, k0_pay3601, k0_pay3602, k0_pay3603,
    k0_pay3604, k0_pay3605, k0_pay3606, k0_pay3607, k0_pay3608, k0_pay3609, k0_pay3610, k0_pay3611, k0_pay3616, k0_pay3617, k0_pay3624, k0_pay3625, k0_pay3626, k0_pay3627, k0_pay3628, k0_pay3629, k0_pay3630, k0_pay3631,
    k0_pay3632, k0_pay3633, k0_pay3634, k0_pay3635, k0_pay3636, k0_pay3637, k0_pay3645, k0_pay3646, k0_pay3647, k0_pay3648, k0_pay3649, k0_pay3650, k0_pay3651, k0_pay3652, k0_pay3653, k0_pay3654, k0_pay3655, k0_pay3656,
    k0_pay3661, k0_pay3662, k0_pay3669, k0_pay3670, k0_pay3671, k0_pay3672, k0_pay3673, k0_pay3674, k0_pay3675, k0_pay3676, k0_pay3677, k0_pay3678, k0_pay3679, k0_pay3680, k0_pay3681, k0_pay3682, k0_pay3690, k0_pay3691,
    k0_pay3692, k0_pay3693, k0_pay3694, k0_pay3695, k0_pay3696, k0_pay3697, k0_pay3698, k0_pay3699, k0_pay3700, k0_pay3701, k0_pay3706, k0_pay3707, k0_pay3714, k0_pay3715, k0_pay3716, k0_pay3717, k0_pay3718, k0_pay3719,
    k0_pay3720, k0_pay3721, k0_pay3722, k0_pay3723, k0_pay3724, k0_pay3725, k0_pay3726, k0_pay3735, k0_pay3736, k0_pay3738, k0_pay3744, k0_pay3745, k0_pay3746, k0_pay3747, k0_pay3748, k0_pay3749, k0_pay3751, k0_pay3752,
    k0_pay3753, k0_pay3754, k0_pay3755, k0_pay3756, k0_pay3757, k0_pay3758, k0_pay3759, k0_pay3760, k0_pay3761, k0_pay3762, k0_pay3765, k0_pay3766, k0_pay3773, k0_pay3774, k0_pay3775, k0_pay3776, k0_pay3777, k0_pay3778,
    k0_pay3779, k0_pay3780, k0_pay3781, k0_pay3782, k0_pay3783, k0_pay3784, k0_pay3785, k0_pay3786, k0_pay3795, k0_pay3796, k0_pay3797, k0_pay3798, k0_pay3799, k0_pay3800, k0_pay3801, k0_pay3802, k0_pay3803, k0_pay3804,
    k0_pay3805, k0_pay3806, k0_pay3809, k0_pay3810, k0_pay3817, k0_pay3818, k0_pay3819, k0_pay3820, k0_pay3821, k0_pay3822, k0_pay3823, k0_pay3824, k0_pay3825, k0_pay3826, k0_pay3827, k0_pay3828, k0_pay3829, k0_pay3830,
    k0_pay3839, k0_pay3840, k0_pay3841, k0_pay3842, k0_pay3843, k0_pay3844, k0_pay3845, k0_pay3846, k0_pay3847, k0_pay3848, k0_pay3849, k0_pay3850, k0_pay3853, k0_pay3854, k0_pay3861, k0_pay3862, k0_pay3863, k0_pay3864,
    k0_pay3865, k0_pay3866, k0_pay3867, k0_pay3868, k0_pay3869, k0_pay3870, k0_pay3871, k0_pay3872, k0_pay3873, k0_pay3874, k0_pay3883, k0_pay3884, k0_pay3885, k0_pay3886, k0_pay3887, k0_pay3888, k0_pay3889, k0_pay3890,
    k0_pay3891, k0_pay3892, k0_pay3893, k0_pay3894, k0_pay3897, k0_pay3898, k0_pay3905, k0_pay3906, k0_pay3907, k0_pay3908, k0_pay3909, k0_pay3910, k0_pay3911, k0_pay3912, k0_pay3913, k0_pay3914, k0_pay3915, k0_pay3916,
    k0_pay3917, k0_pay3918, k0_pay3927, k0_pay3928, k0_pay3929, k0_pay3930, k0_pay3931, k0_pay3932, k0_pay3933, k0_pay3934, k0_pay3935, k0_pay3936, k0_pay3937, k0_pay3938, k0_pay3941, k0_pay3942, k0_pay3949, k0_pay3950,
    k0_pay3951, k0_pay3952, k0_pay3953, k0_pay3954, k0_pay3955, k0_pay3956, k0_pay3957, k0_pay3958, k0_pay3959, k0_pay3960, k0_pay3961, k0_pay3962, k0_pay3971, k0_pay3972, k0_pay3973, k0_pay3974, k0_pay3975, k0_pay3976,
    k0_pay3977, k0_pay3978, k0_pay3979, k0_pay3980, k0_pay3981, k0_pay3982, k0_pay3985, k0_pay3986, k0_pay3993, k0_pay3994, k0_pay3995, k0_pay3996, k0_pay3997, k0_pay3998, k0_pay3999, k0_pay4000, k0_pay4001, k0_pay4002,
    k0_pay4003, k0_pay4004, k0_pay4005, k0_pay4006, k0_pay4015, k0_pay4016, k0_pay4017, k0_pay4018, k0_pay4019, k0_pay4020, k0_pay4021, k0_pay4022, k0_pay4023, k0_pay4024, k0_pay4025, k0_pay4026, k0_pay4029, k0_pay4030,
    k0_pay4037, k0_pay4038, k0_pay4039, k0_pay4040, k0_pay4041, k0_pay4042, k0_pay4043, k0_pay4044, k0_pay4045, k0_pay4046, k0_pay4047, k0_pay4048, k0_pay4049, k0_pay4050, k0_pay4059, k0_pay4060, k0_pay4061, k0_pay4062,
    k0_pay4063, k0_pay4064, k0_pay4065, k0_pay4066, k0_pay4067, k0_pay4068, k0_pay4069, k0_pay4070, k0_pay4073, k0_pay4074, k0_pay4081, k0_pay4082, k0_pay4083, k0_pay4084, k0_pay4085, k0_pay4086, k0_pay4087, k0_pay4088,
    k0_pay4089, k0_pay4090, k0_pay4091, k0_pay4092, k0_pay4093, k0_pay4094, k0_pay4104, k0_pay4105, k0_pay4107,
    ↓ cat2_eq, ↓ cat16_eq, ↓ rot1_eq, ↓ rot2_eq, slice16, slice24, slice8, roll1, roll2, cat_hist, cat_rows, cat_all, weight_eq, offset_eq, crow_eq, conv_eq, hid_eq, back_eq, plane_eq, mat_eq, gate_eq,
    wide_eq, wide16_eq, load_eq, load16_eq, prior_eq, store_eq, Nat.reduceAdd]
  all_goals refine canon_eq _ _ ?_ (cover_blocks · _ _ _ _ _ _ _ _ _ _ _)
  all_goals repeat' first | exact trivial | refine ⟨piece_eq _ _ _ _ _ (by decide) fun i => rfl, ?_⟩

end Cert.Kernel5Ideal.Acts

end
-- ==== Proof.ActsBlocks.lean ====
/- The call for the gradients of the feed-forward activations: its arguments, and the blocks of them a tile reads. -/
module

public import proofs.«01_k».proof.Proof.Gen.Kernel5Ideal.Frame.Runs
public import proofs.«01_k».proof.Proof.ActsMath
public import proofs.«01_k».proof.Proof.FfnOut
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.Kernel5Ideal.Acts

open Cert.Kernel5Ideal Cert.Kernel5Ideal.Gen Cert.Pool Cert.Glu Cert.Ffn Cert.Acts

variable (m : (ℓ : Loc nD τ sig) → Buf (Elt Ideal) ℓ) (c : Dev nD)

/-- The arguments as arrays of extended reals. -/
abbrev aX : S4x2048x1024.Idx → EReal := m ((c : Thread nD τ).loc main_arg0)
abbrev aF : S4x2048x1024.Idx → EReal := m ((c : Thread nD τ).loc main_arg1)
abbrev aG : S11x8192x256.Idx → EReal := m ((c : Thread nD τ).loc main_arg2)
abbrev aV : S11x8192x256.Idx → EReal := m ((c : Thread nD τ).loc main_arg3)
abbrev aD : S4x2048x1024.Idx → EReal := m ((c : Thread nD τ).loc main_arg4)
abbrev aG1 : S1x1024.Idx → EReal := m ((c : Thread nD τ).loc main_arg5)
abbrev aG2 : S1x1024.Idx → EReal := m ((c : Thread nD τ).loc main_arg6)
abbrev aW : S3x2816x1024.Idx → EReal := m ((c : Thread nD τ).loc main_arg7)
abbrev aC : S4x3x2816.Idx → EReal := m ((c : Thread nD τ).loc main_arg8)
abbrev aB : S4x2816.Idx → EReal := m ((c : Thread nD τ).loc main_arg9)

/-- Every argument is a number. -/
structure Nums : Prop where
  x : IsNum (aX m c)
  f : IsNum (aF m c)
  g : IsNum (aG m c)
  v : IsNum (aV m c)
  d : IsNum (aD m c)
  g1 : IsNum (aG1 m c)
  g2 : IsNum (aG2 m c)
  mats : IsNum (aW m c)
  cw : IsNum (aC m c)
  cb : IsNum (aB m c)

/-- The arguments' entries. -/
abbrev X : ℕ → ℕ → Fin 1024 → ℝ := stackOf (aX m c)
abbrev F : ℕ → ℕ → Fin 1024 → ℝ := stackOf (aF m c)
abbrev G : ℕ → ℕ → Fin 256 → ℝ := stackOf (aG m c)
abbrev Vs : ℕ → ℕ → Fin 256 → ℝ := stackOf (aV m c)
abbrev D : ℕ → ℕ → Fin 1024 → ℝ := stackOf (aD m c)
abbrev g1 : Fin 1024 → ℝ := rowsOf (aG1 m c) 0
abbrev g2 : Fin 1024 → ℝ := rowsOf (aG2 m c) 0
abbrev W : ℕ → ℕ → Fin 1024 → ℝ := stackOf (aW m c)
abbrev w4 (l k : ℕ) : ℕ → ℝ := ext (stackOf (aC m c) l k)
abbrev o4 (l : ℕ) : ℕ → ℝ := ext (rowsOf (aB m c) l)

theorem idx0 (t : Fin cfg0.N) : win0_0.index t = ![t.val / 8, 7 - t.val % 8, 0] :=
  (by decide +kernel : ∀ t : Fin grid0.N, win0_0.index t = ![t.val / 8, 7 - t.val % 8, 0]) t
theorem idx1 (t : Fin cfg0.N) : win0_1.index t = ![t.val / 8, 7 - t.val % 8, 0] :=
  (by decide +kernel : ∀ t : Fin grid0.N, win0_1.index t = ![t.val / 8, 7 - t.val % 8, 0]) t
theorem idx2 (t : Fin cfg0.N) : win0_2.index t = ![t.val / 8, 7 - t.val % 8, 0] :=
  (by decide +kernel : ∀ t : Fin grid0.N, win0_2.index t = ![t.val / 8, 7 - t.val % 8, 0]) t
theorem idx3 (t : Fin cfg0.N) : win0_3.index t = ![0, 8 * (t.val / 8) + (7 - t.val % 8), 0] :=
  (by decide +kernel : ∀ t : Fin grid0.N, win0_3.index t = ![0, 8 * (t.val / 8) + (7 - t.val % 8), 0]) t
theorem idx4 (t : Fin cfg0.N) : win0_4.index t = ![0, 8 * (t.val / 8) + (7 - t.val % 8), 0] :=
  (by decide +kernel : ∀ t : Fin grid0.N, win0_4.index t = ![0, 8 * (t.val / 8) + (7 - t.val % 8), 0]) t
theorem idx5 (t : Fin cfg0.N) : win0_5.index t = ![0, 16 * (8 * (t.val / 8) + (7 - t.val % 8)) - 1, 0] :=
  (by decide +kernel : ∀ t : Fin grid0.N, win0_5.index t = ![0, 16 * (8 * (t.val / 8) + (7 - t.val % 8)) - 1, 0]) t
theorem idx6 (t : Fin cfg0.N) : win0_6.index t = ![0, 0] :=
  (by decide +kernel : ∀ t : Fin grid0.N, win0_6.index t = ![0, 0]) t
theorem idx7 (t : Fin cfg0.N) : win0_7.index t = ![0, 0] :=
  (by decide +kernel : ∀ t : Fin grid0.N, win0_7.index t = ![0, 0]) t
theorem idx8 (t : Fin cfg0.N) : win0_8.index t = ![0, 0, 0] :=
  (by decide +kernel : ∀ t : Fin grid0.N, win0_8.index t = ![0, 0, 0]) t
theorem idx9 (t : Fin cfg0.N) : win0_9.index t = ![3, 0, 0] :=
  (by decide +kernel : ∀ t : Fin grid0.N, win0_9.index t = ![3, 0, 0]) t
theorem idx10 (t : Fin cfg0.N) : win0_10.index t = ![3, 0, 0] :=
  (by decide +kernel : ∀ t : Fin grid0.N, win0_10.index t = ![3, 0, 0]) t
theorem idx13 (t : Fin cfg0.N) : win0_13.index t = ![0, 8 * (t.val / 8) + (7 - t.val % 8), 0] :=
  (by decide +kernel : ∀ t : Fin grid0.N, win0_13.index t = ![0, 8 * (t.val / 8) + (7 - t.val % 8), 0]) t
theorem idx14 (t : Fin cfg0.N) : win0_14.index t = ![0, 8 * (t.val / 8) + (7 - t.val % 8), 0] :=
  (by decide +kernel : ∀ t : Fin grid0.N, win0_14.index t = ![0, 8 * (t.val / 8) + (7 - t.val % 8), 0]) t
theorem idx15 (t : Fin cfg0.N) : win0_15.index t = ![t.val / 8, 7 - t.val % 8, 0] :=
  (by decide +kernel : ∀ t : Fin grid0.N, win0_15.index t = ![t.val / 8, 7 - t.val % 8, 0]) t
theorem idx16 (t : Fin cfg0.N) : win0_16.index t = ![t.val / 8, 7 - t.val % 8, 0] :=
  (by decide +kernel : ∀ t : Fin grid0.N, win0_16.index t = ![t.val / 8, 7 - t.val % 8, 0]) t

/-- What the one step before the call leaves: the offsets with an axis put in, the other arguments as they were. -/
theorem V0 : V m c main_arg0 = m ((c : Thread nD τ).loc main_arg0) := by unfold_abbrev_sides; after_results
theorem V1 : V m c main_arg1 = m ((c : Thread nD τ).loc main_arg1) := by unfold_abbrev_sides; after_results
theorem V2 : V m c main_arg2 = m ((c : Thread nD τ).loc main_arg2) := by unfold_abbrev_sides; after_results
theorem V3 : V m c main_arg3 = m ((c : Thread nD τ).loc main_arg3) := by unfold_abbrev_sides; after_results
theorem V4 : V m c main_arg4 = m ((c : Thread nD τ).loc main_arg4) := by unfold_abbrev_sides; after_results
theorem V5 : V m c main_arg5 = m ((c : Thread nD τ).loc main_arg5) := by unfold_abbrev_sides; after_results
theorem V6 : V m c main_arg6 = m ((c : Thread nD τ).loc main_arg6) := by unfold_abbrev_sides; after_results
theorem V7 : V m c main_arg7 = m ((c : Thread nD τ).loc main_arg7) := by unfold_abbrev_sides; after_results
theorem V8 : V m c main_arg8 = m ((c : Thread nD τ).loc main_arg8) := by unfold_abbrev_sides; after_results
theorem V9 : V m c main_v0 = shapeCast S4x1x2816 (aB m c) shapeCasts_S4x2816_S4x1x2816 := by unfold_abbrev_sides; after_results; rfl

theorem cast_at (f : S4x2816.Idx → EReal) (i2 : Fin 2816) : shapeCast S4x1x2816 f shapeCasts_S4x2816_S4x1x2816 (ix3 3 0 i2) = f (ix2 3 i2) := by
  pointwise

variable {m c} (h : Nums m c) (t : Fin cfg0.N)

include h

theorem blk0 : iblk m c 0 t = lift3 (Acts.tile (X m c) t.val) := by
  have hN : t.val < 32 := lt_of_lt_of_eq t.isLt N_0
  funext i; idx_vars i
  refine Eq.trans ?_ (stackOf_eq (aX m c) h.x (ix3 ⟨t.val / 8, by omega⟩ ⟨256 * (7 - t.val % 8) + i1.val, by omega⟩ i2))
  show V m c main_arg0 ((win0_0.blk t).view.emb (ix3 i0 i1 i2)) = _
  rw [V0]
  refine congrArg _ (funext fun a => Fin.ext ?_)
  blk_simp [idx0]
  fin_cases a <;> simp <;> omega

theorem blk1 : iblk m c 1 t = lift3 (Acts.tile (F m c) t.val) := by
  have hN : t.val < 32 := lt_of_lt_of_eq t.isLt N_0
  funext i; idx_vars i
  refine Eq.trans ?_ (stackOf_eq (aF m c) h.f (ix3 ⟨t.val / 8, by omega⟩ ⟨256 * (7 - t.val % 8) + i1.val, by omega⟩ i2))
  show V m c main_arg1 ((win0_1.blk t).view.emb (ix3 i0 i1 i2)) = _
  rw [V1]
  refine congrArg _ (funext fun a => Fin.ext ?_)
  blk_simp [idx1]
  fin_cases a <;> simp <;> omega

theorem blk2 : iblk m c 2 t = lift3 (Acts.tile (D m c) t.val) := by
  have hN : t.val < 32 := lt_of_lt_of_eq t.isLt N_0
  funext i; idx_vars i
  refine Eq.trans ?_ (stackOf_eq (aD m c) h.d (ix3 ⟨t.val / 8, by omega⟩ ⟨256 * (7 - t.val % 8) + i1.val, by omega⟩ i2))
  show V m c main_arg4 ((win0_2.blk t).view.emb (ix3 i0 i1 i2)) = _
  rw [V4]
  refine congrArg _ (funext fun a => Fin.ext ?_)
  blk_simp [idx2]
  fin_cases a <;> simp <;> omega

theorem blk3 : iblk m c 3 t = planes (tileG (G m c) t.val) .bf16 := by
  have hN : t.val < 32 := lt_of_lt_of_eq t.isLt N_0
  funext i; idx_vars i
  refine Eq.trans ?_ (stackOf_eq (aG m c) h.g (ix3 i0 ⟨256 * (8 * (t.val / 8) + (7 - t.val % 8)) + i1.val, by omega⟩ i2))
  show V m c main_arg2 ((win0_3.blk t).view.emb (ix3 i0 i1 i2)) = _
  rw [V2]
  refine congrArg _ (funext fun a => Fin.ext ?_)
  blk_simp [idx3]
  fin_cases a <;> simp <;> omega

theorem blk4 : iblk m c 4 t = planes (tileG (Vs m c) t.val) .bf16 := by
  have hN : t.val < 32 := lt_of_lt_of_eq t.isLt N_0
  funext i; idx_vars i
  refine Eq.trans ?_ (stackOf_eq (aV m c) h.v (ix3 i0 ⟨256 * (8 * (t.val / 8) + (7 - t.val % 8)) + i1.val, by omega⟩ i2))
  show V m c main_arg3 ((win0_4.blk t).view.emb (ix3 i0 i1 i2)) = _
  rw [V3]
  refine congrArg _ (funext fun a => Fin.ext ?_)
  blk_simp [idx4]
  fin_cases a <;> simp <;> omega

theorem blk5 : iblk m c 5 t = planes (halo (G m c) t.val) .bf16 := by
  have hN : t.val < 32 := lt_of_lt_of_eq t.isLt N_0
  funext i; idx_vars i
  refine Eq.trans ?_ (stackOf_eq (aG m c) h.g (ix3 i0 ⟨16 * (16 * (8 * (t.val / 8) + (7 - t.val % 8)) - 1) + i1.val, by omega⟩ i2))
  show V m c main_arg2 ((win0_5.blk t).view.emb (ix3 i0 i1 i2)) = _
  rw [V2]
  refine congrArg _ (funext fun a => Fin.ext ?_)
  blk_simp [idx5]
  fin_cases a <;> simp <;> omega

theorem blk6 : iblk m c 6 t = lift2 fun _ => g1 m c := by
  funext i; idx_vars i
  obtain rfl : i0 = 0 := Subsingleton.elim _ _
  refine Eq.trans ?_ (rowsOf_eq (aG1 m c) h.g1 (ix2 0 i1))
  show V m c main_arg5 ((win0_6.blk t).view.emb (ix2 0 i1)) = _
  rw [V5]
  refine congrArg _ (funext fun a => Fin.ext ?_)
  blk_simp [idx6]
  fin_cases a <;> simp

theorem blk7 : iblk m c 7 t = lift2 fun _ => g2 m c := by
  funext i; idx_vars i
  obtain rfl : i0 = 0 := Subsingleton.elim _ _
  refine Eq.trans ?_ (rowsOf_eq (aG2 m c) h.g2 (ix2 0 i1))
  show V m c main_arg6 ((win0_7.blk t).view.emb (ix2 0 i1)) = _
  rw [V6]
  refine congrArg _ (funext fun a => Fin.ext ?_)
  blk_simp [idx7]
  fin_cases a <;> simp

theorem blk8 : iblk m c 8 t = planes (W m c) .bf16 := by
  funext i; idx_vars i
  refine Eq.trans ?_ (stackOf_eq (aW m c) h.mats (ix3 i0 i1 i2))
  show V m c main_arg7 ((win0_8.blk t).view.emb (ix3 i0 i1 i2)) = _
  rw [V7]
  refine congrArg _ (funext fun a => Fin.ext ?_)
  blk_simp [idx8]
  fin_cases a <;> simp

theorem blk9 : iblk m c 9 t = feats (w4 m c 3) := by
  funext i; idx_vars i
  refine Eq.trans ?_ ((stackOf_eq (aC m c) h.cw (ix3 3 i1 i2)).trans (congrArg Real.toEReal (ext_eq (stackOf (aC m c) 3 i1.val) i2).symm))
  show V m c main_arg8 ((win0_9.blk t).view.emb (ix3 i0 i1 i2)) = _
  rw [V8]
  refine congrArg _ (funext fun a => Fin.ext ?_)
  blk_simp [idx9]
  fin_cases a <;> simp

theorem blk10 : iblk m c 10 t = feats (fun _ => o4 m c 3) := by
  funext i; idx_vars i
  refine Eq.trans ?_ ((rowsOf_eq (aB m c) h.cb (ix2 3 i2)).trans (congrArg Real.toEReal (ext_eq (rowsOf (aB m c) 3) i2).symm))
  show V m c main_v0 ((win0_10.blk t).view.emb (ix3 i0 i1 i2)) = _
  rw [V9]
  refine Eq.trans (congrArg _ (funext fun a => Fin.ext ?_)) (cast_at _ i2)
  blk_simp [idx10]
  fin_cases a <;> simp

end Cert.Kernel5Ideal.Acts

end
-- ==== Proof.ActsOut.lean ====
/- The call for the gradients of the feed-forward activations: what its thirty-two tiles leave, and the four arrays at the end. -/
module

public import proofs.«01_k».proof.Proof.ActsPoint
public import proofs.«01_k».proof.Proof.ActsBlocks

@[expose] public section

noncomputable section

open Idealize.ShloMosaic Idealize.ShloMosaic.TcCoe Idealize.SL.Sem
open Idealize.ShloMosaic.Pipeline (Dat)

namespace Cert.Kernel5Ideal.Acts

open Cert.Kernel5Ideal Cert.Kernel5Ideal.Gen Cert.Kernel5Ideal.Value Cert.Pool Cert.Glu Cert.Ffn Cert.Acts

variable (m : (ℓ : Loc nD τ sig) → Buf (Elt Ideal) ℓ) (c : Dev nD)

/-- Features of sequences, in blocks of 256. -/
def laid (A : ℕ → ℕ → ℕ → ℝ) : S11x8192x256.Idx → EReal := fun i => ((A ((i 1).val / 2048) ((i 1).val % 2048) (256 * (i 0).val + (i 2).val) : ℝ) : EReal)

/-- The value's gradient, and the hidden features. -/
def G13 : S11x8192x256.Idx → EReal := laid (dV (F m c) (D m c) (g2 m c) (G m c) (W m c) (w4 m c 3) (o4 m c 3))
def G14 : S11x8192x256.Idx → EReal := laid (hidden (G m c) (Vs m c) (w4 m c 3) (o4 m c 3))

/-- The layer's input after its norm, and the gradient of its output before the norm. -/
def G15 : S4x2048x1024.Idx → EReal := planes fun b t => rms (X m c b t) (g1 m c)
def G16 : S4x2048x1024.Idx → EReal := planes (dF (F m c) (D m c) (g2 m c))

variable {m c} (h : Nums m c) (t : Fin cfg0.N)

theorem laid_at (A : ℕ → ℕ → ℕ → ℝ) (n r j : ℕ) (hr : r < 256) (k : Fin 256) : A (n / 8) (256 * (7 - n % 8) + r) (256 * j + k.val)
    = A ((256 * (8 * (n / 8) + (7 - n % 8)) + r) / 2048) ((256 * (8 * (n / 8) + (7 - n % 8)) + r) % 2048) (256 * j + k.val) := by
  rw [show (256 * (8 * (n / 8) + (7 - n % 8)) + r) / 2048 = n / 8 by omega, show (256 * (8 * (n / 8) + (7 - n % 8)) + r) % 2048 = 256 * (7 - n % 8) + r by omega]

include h

/-- What a tile writes to the four arrays. -/
theorem four : (outsAt0 m c t.val t.isLt).2.2.1 = planes (fun j => gradV (proj (fun r => rmsb (Acts.tile (F m c) t.val r) (g2 m c) (Acts.tile (D m c) t.val r)) (W m c 2) (256 * j))
        (tileA (later t.val) (halo (G m c) t.val) (tileG (G m c) t.val) (w4 m c 3) (fun _ => o4 m c 3) j)) .bf16 ∧
      (outsAt0 m c t.val t.isLt).2.2.2.1 = planes (fun j => hid (tileA (later t.val) (halo (G m c) t.val) (tileG (G m c) t.val) (w4 m c 3) (fun _ => o4 m c 3) j) (tileG (Vs m c) t.val j)) .bf16 ∧
      (outsAt0 m c t.val t.isLt).2.2.2.2.1 = lift3 (fun r => rms (Acts.tile (X m c) t.val r) (g1 m c)) .bf16 ∧
      (outsAt0 m c t.val t.isLt).2.2.2.2.2.1 = lift3 (fun r => rmsb (Acts.tile (F m c) t.val r) (g2 m c) (Acts.tile (D m c) t.val r)) .bf16 :=
  point m c t _ _ _ _ _ _ _ _ _ _ _ (blk0 h t) (blk1 h t) (blk2 h t) (blk3 h t) (blk4 h t) (blk5 h t) (blk6 h t) (blk7 h t) (blk8 h t) (blk9 h t) (blk10 h t)

theorem arr13 : (dats m 0 c).arrAt 13 cfg0.N = G13 m c := by
  refine (dats m 0 c).arrAt_eq_of_covers 13 _ (by decide +kernel) fun t hf y => ?_
  have hN : t.val < 32 := lt_of_lt_of_eq t.isLt N_0
  blk_simp
  rw [after0_13, (four h t).1]
  idx_vars y
  refine Eq.trans ?_ (congrArg (G13 m c) (show ix3 y0 ⟨256 * (8 * (t.val / 8) + (7 - t.val % 8)) + y1.val, by omega⟩ y2
    = (win0_13.blk t).view.emb (ix3 y0 y1 y2) from funext fun a => Fin.ext (by blk_simp [idx13]; fin_cases a <;> simp <;> omega)))
  exact congrArg Real.toEReal ((gradV_tile (F m c) (D m c) (g2 m c) (G m c) (W m c) (w4 m c 3) (o4 m c 3) t.val y0.val y1.val y2).trans (laid_at _ t.val y1.val y0.val y1.isLt y2))

theorem arr14 : (dats m 0 c).arrAt 14 cfg0.N = G14 m c := by
  refine (dats m 0 c).arrAt_eq_of_covers 14 _ (by decide +kernel) fun t hf y => ?_
  have hN : t.val < 32 := lt_of_lt_of_eq t.isLt N_0
  blk_simp
  rw [after0_14, (four h t).2.1]
  idx_vars y
  refine Eq.trans ?_ (congrArg (G14 m c) (show ix3 y0 ⟨256 * (8 * (t.val / 8) + (7 - t.val % 8)) + y1.val, by omega⟩ y2
    = (win0_14.blk t).view.emb (ix3 y0 y1 y2) from funext fun a => Fin.ext (by blk_simp [idx14]; fin_cases a <;> simp <;> omega)))
  exact congrArg Real.toEReal ((hid_tile (G m c) (Vs m c) (w4 m c 3) (o4 m c 3) t.val y0.val y1.val y2).trans (laid_at _ t.val y1.val y0.val y1.isLt y2))

theorem arr15 : (dats m 0 c).arrAt 15 cfg0.N = G15 m c := by
  refine (dats m 0 c).arrAt_eq_of_covers 15 _ (by decide +kernel) fun t hf y => ?_
  have hN : t.val < 32 := lt_of_lt_of_eq t.isLt N_0
  blk_simp
  rw [after0_15, (four h t).2.2.1]
  idx_vars y
  refine Eq.trans ?_ (congrArg (G15 m c) (show ix3 ⟨t.val / 8, by omega⟩ ⟨256 * (7 - t.val % 8) + y1.val, by omega⟩ y2
    = (win0_15.blk t).view.emb (ix3 y0 y1 y2) from funext fun a => Fin.ext (by blk_simp [idx15]; fin_cases a <;> simp <;> omega)))
  unfold G15 planes lift3 Acts.tile
  rfl

theorem arr16 : (dats m 0 c).arrAt 16 cfg0.N = G16 m c := by
  refine (dats m 0 c).arrAt_eq_of_covers 16 _ (by decide +kernel) fun t hf y => ?_
  have hN : t.val < 32 := lt_of_lt_of_eq t.isLt N_0
  blk_simp
  rw [after0_16, (four h t).2.2.2]
  idx_vars y
  refine Eq.trans ?_ (congrArg (G16 m c) (show ix3 ⟨t.val / 8, by omega⟩ ⟨256 * (7 - t.val % 8) + y1.val, by omega⟩ y2
    = (win0_16.blk t).view.emb (ix3 y0 y1 y2) from funext fun a => Fin.ext (by blk_simp [idx16]; fin_cases a <;> simp <;> omega)))
  unfold G16 planes lift3 dF Acts.tile
  rfl

end Cert.Kernel5Ideal.Acts

end
-- ==== Proof.ActsRef.lean ====
/- The gradients of the feed-forward activations in the reference: each of its arrays, entry by entry, in real numbers. -/
module

public import proofs.«01_k».proof.Proof.ActsMath
public import proofs.«01_k».proof.Proof.FfnRef
public import proofs.«01_k».proof.Proof.Gen.Reference5Ideal.Run

@[expose] public section

noncomputable section

open Idealize.ShloMosaic Idealize.ShloMosaic.TcCoe Idealize.SL.Sem
open scoped BigOperators

namespace Cert.Reference5Ideal.Acts

open Cert.Reference5Ideal Cert.Reference5Ideal.Gen Cert.Reference5Ideal.Value Cert.Pool Cert.Glu Cert.Ffn Cert.Acts
open Cert.Reference4Ideal.Ffn (feat padded padded_eq norm_eq pad_eq weight_eq offset_eq mul_eq add_eq half_eq one_eq c_eq k_eq tanh_eq blocks_eq ge_as_written)

/-- The launch contents are numbers. -/
structure Args (m : (ℓ : Loc nD τ sig) → Buf (Elt Ideal) ℓ) (c : Dev nD) (X F : ℕ → ℕ → Fin 1024 → ℝ) (G V : ℕ → ℕ → Fin 256 → ℝ) (D : ℕ → ℕ → Fin 1024 → ℝ) (g1 g2 : Fin 1024 → ℝ)
    (W : ℕ → ℕ → Fin 1024 → ℝ) (w : ℕ → ℕ → ℝ) (o : ℕ → ℝ) : Prop where
  x : m ((c.tc : Thread nD τ).loc main_arg0) = (planes X : FVec Ideal S4x2048x1024 .f32)
  f : m ((c.tc : Thread nD τ).loc main_arg1) = (planes F : FVec Ideal S4x2048x1024 .f32)
  g : m ((c.tc : Thread nD τ).loc main_arg2) = (planes G .bf16 : FVec Ideal S11x8192x256 .bf16)
  v : m ((c.tc : Thread nD τ).loc main_arg3) = (planes V .bf16 : FVec Ideal S11x8192x256 .bf16)
  d : m ((c.tc : Thread nD τ).loc main_arg4) = (planes D : FVec Ideal S4x2048x1024 .f32)
  g1 : m ((c.tc : Thread nD τ).loc main_arg5) = (lift2 (fun _ => g1) : FVec Ideal S1x1024 .f32)
  g2 : m ((c.tc : Thread nD τ).loc main_arg6) = (lift2 (fun _ => g2) : FVec Ideal S1x1024 .f32)
  mats : m ((c.tc : Thread nD τ).loc main_arg7) = (planes W .bf16 : FVec Ideal S3x2816x1024 .bf16)
  cw : ∃ w4 : ℕ → ℕ → ℕ → ℝ, w4 3 = w ∧ m ((c.tc : Thread nD τ).loc main_arg8) = (planes (fun l k c => w4 l k c.val) : FVec Ideal S4x3x2816 .f32)
  cb : ∃ o4 : ℕ → ℕ → ℝ, o4 3 = o ∧ m ((c.tc : Thread nD τ).loc main_arg9) = (lift2 (fun l c => o4 l c.val) : FVec Ideal S4x2816 .f32)

variable (X F D U : ℕ → ℕ → Fin 1024 → ℝ) (g : Fin 1024 → ℝ) (G : ℕ → ℕ → Fin 256 → ℝ) (W : ℕ → ℕ → Fin 1024 → ℝ)

/-- An array in blocks of features, read by sequences. -/
theorem rows_eq (h1 h2 h3) : extf .f32 (shapeCast S4x2048x2816 (transpose S8192x11x256 [1, 0, 2] (planes G .bf16 : FVec Ideal S11x8192x256 .bf16) h1) h2) h3 = feat (feature G) := by
  funext i; idx_vars i
  pointwise [planes, feat, feature]

/-- One number to every row. -/
def col (f : ℕ → ℕ → ℝ) : FVec Ideal S4x2048x1 .f32 := planes fun b t _ => f b t

theorem ms_eq (h2 : S4x2048.BroadcastsInDim S4x2048x1 ![0, 1]) (h3 : S4x2048x1024.ReducesTo [2] S4x2048) (h4) (h5 h6 : S_.BroadcastsInDim S4x2048x1 ![]) : addf (Host.divf (broadcastInDim S4x2048x1 ![0, 1] h2
      (Host.reduceAdd (mulf (planes X : FVec Ideal S4x2048x1024 .f32) (planes X)) (constant S_ .f32 0x00000000#32) h3 h4 : FVec Ideal S4x2048 .f32)) (broadcastInDim S4x2048x1 ![] h5 (constant S_ .f32 0x44800000#32)))
      (broadcastInDim S4x2048x1 ![] h6 (constant S_ .f32 0x358637BD#32)) = col fun b t => ms (X b t) := by
  funext i; idx_vars i
  pointwise [planes, col]
  simp only [ofBits_1024, ofBits_eps, coe_mul, coe_sum, ofBits_0, zero_add, coe_add, coe_div_1024, ms]

theorem inv_eq : Host.rsqrt (col fun b t => ms (X b t)) = col fun b t => Pool.inv (X b t) := by
  funext i; idx_vars i
  pointwise [planes, col]
  exact coe_rsqrt _ (ms_pos _)

theorem gain_eq (h7 h8 h9) : broadcastInDim S4x2048x1024 ![0, 1, 2] h7 (broadcastInDim S1x1x1024 ![2] h8 (shapeCast S1024 (lift2 (fun _ => g) : FVec Ideal S1x1024 .f32) h9)) = (planes fun _ _ => g : FVec Ideal S4x2048x1024 .f32) := by
  funext i; idx_vars i
  pointwise [planes, lift2]

/-- A row's factor in the norm's gradient. -/
theorem fac_eq (h1) (h3 : S4x2048x1024.ReducesTo [2] S4x2048) (h4) (h5 h6 : S_.BroadcastsInDim S4x2048x1 ![]) (h7 : S4x2048x1.ReducesTo [2] S4x2048) : (Host.reduceAdd (Host.divf (mulf (shapeCast S4x2048x1 (Host.reduceAdd (mulf (planes F : FVec Ideal S4x2048x1024 .f32) (mulf (planes D) (planes fun _ _ => g)))
        (constant S_ .f32 0x00000000#32) h3 h4 : FVec Ideal S4x2048 .f32) h1)
      (mulf (broadcastInDim S4x2048x1 ![] h5 (constant S_ .f32 0xBF000000#32)) (Host.divf (col fun b t => Pool.inv (F b t)) (col fun b t => ms (F b t)))))
      (broadcastInDim S4x2048x1 ![] h6 (constant S_ .f32 0x44800000#32))) (constant S_ .f32 0x00000000#32) h7 h4 : FVec Ideal S4x2048 .f32)
    = lift2 fun b t => (∑ e, F b t.val e * (D b t.val e * g e)) * (-(1 / 2) * (Pool.inv (F b t.val) / ms (F b t.val))) / 1024 := by
  funext i; idx_vars i
  pointwise [planes, col, lift2]
  simp only [ofBits_neg_half, ofBits_1024, ofBits_0, zero_add, coe_div _ _ (ms_pos _).ne', coe_mul, coe_sum, coe_div_1024]
  try simp

/-- The gradient of the layer's output before its norm. -/
theorem dF_eq (h1 h2 h3) : addf (addf (mulf (mulf (planes D : FVec Ideal S4x2048x1024 .f32) (planes fun _ _ => g)) (broadcastInDim S4x2048x1024 ![0, 1, 2] h1 (col fun b t => Pool.inv (F b t))))
      (mulf (planes F) (broadcastInDim S4x2048x1024 ![0, 1] h2 (lift2 (fun b t => (∑ e, F b t.val e * (D b t.val e * g e)) * (-(1 / 2) * (Pool.inv (F b t.val) / ms (F b t.val))) / 1024) : FVec Ideal S4x2048 .f32))))
      (mulf (broadcastInDim S4x2048x1024 ![0, 1] h3 (lift2 (fun b t => (∑ e, F b t.val e * (D b t.val e * g e)) * (-(1 / 2) * (Pool.inv (F b t.val) / ms (F b t.val))) / 1024) : FVec Ideal S4x2048 .f32)) (planes F))
    = planes (dF F D g) := by
  funext i; idx_vars i
  pointwise [planes, col, lift2]
  simp only [coe_mul, coe_add]
  exact congrArg Real.toEReal (rmsb_chain _ _ _ _)

/-- The gradient of the hidden features. -/
theorem dot_eq (h1 h2 h3) : Host.dotGeneral (φ₁ := .f32) (φ₂ := .f32) dot_S4x2048x1024_S2816x1024_S4x2048x2816_2_1_01_0_n_n none (planes U : FVec Ideal S4x2048x1024 .f32)
      (extf .f32 (shapeCast S2816x1024 (extractStridedSlice S1x2816x1024 ![2, 0, 0] (planes W .bf16 : FVec Ideal S3x2816x1024 .bf16) h1) h2) h3)
    = feat fun b t c => ∑ d, U b t d * W 2 c d := by
  funext i; idx_vars i
  pointwise [planes, feat]
  simp only [coe_mul, coe_sum]

/-- Features as the call lays them out. -/
def laid (G : ℕ → ℕ → ℕ → ℝ) : S11x8192x256.Idx → EReal := fun i => ((G ((i 1).val / 2048) ((i 1).val % 2048) (256 * (i 0).val + (i 2).val) : ℝ) : EReal)

theorem laid_eq (G : ℕ → ℕ → ℕ → ℝ) : (fun i => ((G ((i 1).val / 2048) ((i 1).val % 2048) ((i 0).val * 256 + (i 2).val) : ℝ) : EReal) : S11x8192x256.Idx → EReal) = laid G := by
  funext i
  rw [Nat.mul_comm]
  rfl

section

variable {m : (ℓ : Loc nD τ sig) → Buf (Elt Ideal) ℓ} {c : Dev nD} {X F : ℕ → ℕ → Fin 1024 → ℝ} {G V : ℕ → ℕ → Fin 256 → ℝ} {D : ℕ → ℕ → Fin 1024 → ℝ} {g1 g2 : Fin 1024 → ℝ}
  {W : ℕ → ℕ → Fin 1024 → ℝ} {w : ℕ → ℕ → ℝ} {o : ℕ → ℝ} (ha : Args m c X F G V D g1 g2 W w o)

include ha

theorem result3 : res_main_v110 m c = (planes (dF F D g2) .bf16 : FVec Ideal S4x2048x1024 .bf16) := by
  unfold res_main_v110
  rw [ha.f, ha.d, ha.g2, ms_eq, inv_eq, gain_eq, fac_eq, dF_eq]
  rfl

theorem result1 : res_main_v94 m c = laid (hidden G V w o) := by
  obtain ⟨w4, rfl, hw⟩ := ha.cw
  obtain ⟨o4, rfl, ho⟩ := ha.cb
  unfold res_main_v94
  rw [ha.g, ha.v, hw, ho, rows_eq, rows_eq, padded_eq, pad_eq _ 0, pad_eq _ 1, pad_eq _ 2, weight_eq _ 0, weight_eq _ 1, weight_eq _ 2, offset_eq, half_eq, one_eq, c_eq, k_eq]
  simp only [mul_eq, add_eq, tanh_eq]
  rw [blocks_eq]
  refine Eq.trans ?_ (laid_eq _)
  funext i
  exact congrArg Real.toEReal (congrArg (· * _) (ge_as_written (gated G (w4 3) (o4 3) _ _ _)))

theorem result0 : res_main_v90 m c = laid (dV F D g2 G W w o) := by
  obtain ⟨w4, rfl, hw⟩ := ha.cw
  obtain ⟨o4, rfl, ho⟩ := ha.cb
  unfold res_main_v90
  rw [ha.g, ha.f, ha.d, ha.g2, ha.mats, hw, ho, ms_eq, inv_eq, gain_eq, fac_eq, dF_eq, dot_eq, rows_eq, padded_eq, pad_eq _ 0, pad_eq _ 1, pad_eq _ 2, weight_eq _ 0, weight_eq _ 1, weight_eq _ 2, offset_eq,
    half_eq, one_eq, c_eq, k_eq]
  simp only [mul_eq, add_eq, tanh_eq]
  rw [blocks_eq]
  refine Eq.trans ?_ (laid_eq _)
  funext i
  exact congrArg Real.toEReal ((congrArg (· * _) (ge_as_written (gated G (w4 3) (o4 3) _ _ _))).trans (mul_comm _ _))

end

/-- The normed input. -/
theorem result2 {x : FVec Ideal S4x2048x1024 .f32} {a : FVec Ideal S1x1024 .f32} {X : ℕ → ℕ → Fin 1024 → ℝ} {g1 : Fin 1024 → ℝ} (hx : x = planes X) (ha : a = lift2 fun _ d => g1 d)
    (h1) (h2 : S4x2048.BroadcastsInDim S4x2048x1 ![0, 1]) (h3 : S4x2048x1024.ReducesTo [2] S4x2048) (h4) (h5 h6 : S_.BroadcastsInDim S4x2048x1 ![]) (h7 h8 h9 h10) :
    truncf .bf16 (mulf (mulf x (broadcastInDim S4x2048x1024 ![0, 1, 2] h1 (Host.rsqrt (addf (Host.divf (broadcastInDim S4x2048x1 ![0, 1] h2
        (Host.reduceAdd (mulf x x) (constant S_ .f32 0x00000000#32) h3 h4 : FVec Ideal S4x2048 .f32)) (broadcastInDim S4x2048x1 ![] h5 (constant S_ .f32 0x44800000#32)))
        (broadcastInDim S4x2048x1 ![] h6 (constant S_ .f32 0x358637BD#32)))))) (broadcastInDim S4x2048x1024 ![0, 1, 2] h7 (broadcastInDim S1x1x1024 ![2] h8 (shapeCast S1024 a h9)))) h10
    = (planes (fun b t => rms (X b t) g1) .bf16 : FVec Ideal S4x2048x1024 .bf16) := by
  rw [hx, ha, norm_eq]
  rfl

end Cert.Reference5Ideal.Acts

end
-- ==== Proof.ActsTie.lean ====
/- The call for the gradients of the feed-forward activations: finite arguments, and the reference's arguments where they are the kernel's. -/
module

public import proofs.«01_k».proof.Defs
public import proofs.«01_k».proof.Proof.GluTie
public import proofs.«01_k».proof.Proof.ActsBlocks
public import proofs.«01_k».proof.Proof.ActsRef

@[expose] public section

noncomputable section

open Idealize.ShloMosaic Idealize.ShloMosaic.TcCoe Idealize.SL.Sem

namespace Cert.Acts

open Cert.Glu (IsNum)

theorem facts_finite_acts : Cert.Pre_finite_acts.Facts := ⟨by decide, by decide, by decide, by decide, by decide, by decide, by decide⟩

/-- Arguments satisfying the precondition are numbers. -/
theorem nums_of_finite [hf : Cert.Pre_finite_acts.Facts] (m : (ℓ : Loc Cert.Kernel5Ideal.nD Cert.Kernel5Ideal.τ Cert.Kernel5Ideal.sig) → Buf (Elt Ideal) ℓ)
    (h : Pre_Kernel5Ideal_finite_acts m) (c : Dev Cert.Kernel5Ideal.nD) : Cert.Kernel5Ideal.Acts.Nums m c := by
  obtain ⟨h0, h1, h2, h3, h4, h5, h6, h7, h8, h9⟩ := h c
  have num {S : Shape} {φ : FTy} (a b : FVec Ideal S φ) (hb : ∀ i, b i = (⊤ : EReal)) (h : cmpf .olt (Host.absf a) b = fun _ => 1#1) : IsNum a :=
    fun i => Cert.Pool.num_of_abs_lt a b hb h i
  exact ⟨num _ _ (fun _ => Cert.Pool.infinity) h0, num _ _ (fun _ => Cert.Pool.infinity) h1, num (φ := .f32) _ _ (fun _ => Cert.Pool.infinity) h2,
    num (φ := .f32) _ _ (fun _ => Cert.Pool.infinity) h3, num _ _ (fun _ => Cert.Pool.infinity) h4, num _ _ (fun _ => Cert.Pool.infinity) h5,
    num _ _ (fun _ => Cert.Pool.infinity) h6, num (φ := .f32) _ _ (fun _ => Cert.Pool.infinity) h7, num _ _ (fun _ => Cert.Pool.infinity) h8, num _ _ (fun _ => Cert.Pool.infinity) h9⟩

end Cert.Acts

namespace Cert.Reference5Ideal.Acts

open Cert.Reference5Ideal Cert.Reference5Ideal.Gen Cert.Reference5Ideal.Value
open Cert.Pool Cert.Glu Cert.Ffn Cert.Kernel5Ideal.Acts

variable {m : (ℓ : Loc Cert.Kernel5Ideal.nD Cert.Kernel5Ideal.τ Cert.Kernel5Ideal.sig) → Buf (Elt Ideal) ℓ} {m' : (ℓ : Loc nD τ sig) → Buf (Elt Ideal) ℓ} {c : Dev nD}

/-- The reference's arguments, where they are the kernel's. -/
theorem args (h : Nums m c) (e0 : m' ((c.tc : Thread nD τ).loc main_arg0) = aX m c) (e1 : m' ((c.tc : Thread nD τ).loc main_arg1) = aF m c)
    (e2 : m' ((c.tc : Thread nD τ).loc main_arg2) = aG m c) (e3 : m' ((c.tc : Thread nD τ).loc main_arg3) = aV m c) (e4 : m' ((c.tc : Thread nD τ).loc main_arg4) = aD m c)
    (e5 : m' ((c.tc : Thread nD τ).loc main_arg5) = aG1 m c) (e6 : m' ((c.tc : Thread nD τ).loc main_arg6) = aG2 m c) (e7 : m' ((c.tc : Thread nD τ).loc main_arg7) = aW m c)
    (e8 : m' ((c.tc : Thread nD τ).loc main_arg8) = aC m c) (e9 : m' ((c.tc : Thread nD τ).loc main_arg9) = aB m c) :
    Args m' c (X m c) (F m c) (G m c) (Vs m c) (D m c) (g1 m c) (g2 m c) (W m c) (w4 m c 3) (o4 m c 3) :=
  ⟨e0.trans (funext (stackOf_eq _ h.x)), e1.trans (funext (stackOf_eq _ h.f)), e2.trans (funext (stackOf_eq _ h.g)), e3.trans (funext (stackOf_eq _ h.v)), e4.trans (funext (stackOf_eq _ h.d)),
    e5.trans (lift2_row _ h.g1), e6.trans (lift2_row _ h.g2), e7.trans (funext (stackOf_eq _ h.mats)),
    ⟨w4 m c, rfl, e8.trans (funext fun i => (stackOf_eq _ h.cw i).trans (congrArg Real.toEReal (ext_eq (stackOf (aC m c) (i 0).val (i 1).val) (i 2)).symm))⟩,
    ⟨o4 m c, rfl, e9.trans (funext fun i => (rowsOf_eq _ h.cb i).trans (congrArg Real.toEReal (ext_eq (rowsOf (aB m c) (i 0).val) (i 1)).symm))⟩⟩

end Cert.Reference5Ideal.Acts

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.ActsBitsFrame
public import proofs.«01_k».proof.Proof.Gen.Reference5Ideal.Run
public import proofs.«01_k».proof.Proof.WeightsTie
public import proofs.«01_k».proof.Proof.PoolTie
public import proofs.«01_k».proof.Proof.GluTie
public import proofs.«01_k».proof.Proof.FfnTie
public import proofs.«01_k».proof.Proof.ActsOut
public import proofs.«01_k».proof.Proof.ActsTie
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem algebraic_KernelIdeal_ReferenceIdeal [Cert.Pre_finite.Facts] : algebraic_KernelIdeal_ReferenceIdeal_pre_finite := by
  intro m ρ m' ρ' hpre hagree
  refine ⟨fun c => Cert.KernelIdeal.Pool.G7 m c, fun c => Cert.KernelIdeal.Pool.G8 m c, fun c => Cert.KernelIdeal.Pool.G9 m c, ?_, ?_⟩
  · refine (θ_run Cert.KernelIdeal.defs _ _).mono (fun _ h c => ?_) (Cert.KernelIdeal.Value.run_blocks (F := Ideal) m ρ)
    obtain ⟨a0, a1, a2, a3⟩ := h c
    have hn := Cert.Pool.nums_of_finite m hpre c
    exact ⟨a0.trans (Cert.KernelIdeal.Pool.arr7 hn), a1.trans (Cert.KernelIdeal.Pool.arr8 hn), a2.trans (Cert.KernelIdeal.Pool.arr9 hn), a3⟩
  · refine (θ_run Cert.ReferenceIdeal.defs _ _).mono (fun _ h c => ?_) (Cert.ReferenceIdeal.Value.run (F := Ideal) m' ρ')
    obtain ⟨a0, a1, a2, a3⟩ := h c
    obtain ⟨e0, e1, e2, e3, e4, e5⟩ := hagree c
    have ha := Cert.ReferenceIdeal.Pool.args (StableHlo.launchContents m' c) (Cert.Pool.nums_of_finite m hpre c) e0 e1 e2 e3 e4 e5
    have hz := Cert.Pool.arr_zero (Cert.KernelIdeal.Pool.aC m c)
    exact ⟨a0.trans ((Cert.ReferenceIdeal.Pool.result0 ha hz).trans Cert.ReferenceIdeal.Pool.input_eq),
      a1.trans ((Cert.ReferenceIdeal.Pool.result1 ha hz).trans Cert.ReferenceIdeal.Pool.mats_eq),
      a2.trans ((Cert.ReferenceIdeal.Pool.result2 ha hz).trans Cert.ReferenceIdeal.Pool.sums_eq), a3⟩

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  obtain ⟨e0, e1, e2, e3, e4⟩ := hagree c
  refine funext fun i => (Cert.Reference2Ideal.Weights.stacked_apply _ _ _ _ _ i).trans ?_
  rw [Cert.Kernel2Ideal.Weights.G5_apply]
  simp only [Cert.Kernel2Ideal.Weights.lhs, Cert.Kernel2Ideal.Weights.rhs]
  rw [e0, e1, e2, e3, e4]

theorem quiescent_Reference3Ideal : quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem preserves_Kernel3_Kernel3Ideal : preserves_Kernel3_Kernel3Ideal :=
  ⟨IdealRules.named_const.statement Cert.Kernel3Ideal.κ "gelu_ck" .f32 0x3D122279#32 ((80338380498831 / 2251799813685248 : ℝ) : EReal) rfl,
    IdealRules.named_const.statement Cert.Kernel3Ideal.κ "gelu_3ck" .f32 0x3DDB33B6#32 ((241015141496493 / 2251799813685248 : ℝ) : EReal) rfl⟩

theorem algebraic_Kernel3Ideal_Reference3Ideal [Cert.Pre_finite_gate.Facts] : algebraic_Kernel3Ideal_Reference3Ideal_pre_finite_gate := by
  intro m ρ m' ρ' hpre hagree
  refine ⟨fun c => Cert.Kernel3Ideal.Glu.G5 m c, fun c => Cert.Kernel3Ideal.Glu.G6 m c, fun c => Cert.Kernel3Ideal.Glu.G7 m c, ?_, ?_⟩
  · refine (θ_run Cert.Kernel3Ideal.defs _ _).mono (fun _ h c => ?_) (Cert.Kernel3Ideal.Value.run_blocks (F := Ideal) m ρ)
    obtain ⟨a0, a1, a2, a3⟩ := h c
    have hn := Cert.Glu.nums_of_finite m hpre c
    exact ⟨a0.trans (Cert.Kernel3Ideal.Glu.arr5 hn), a1.trans (Cert.Kernel3Ideal.Glu.arr6 hn), a2.trans (Cert.Kernel3Ideal.Glu.arr7 hn), a3⟩
  · refine (θ_run Cert.Reference3Ideal.defs _ _).mono (fun _ h c => ?_) (Cert.Reference3Ideal.Value.run (F := Ideal) m' ρ')
    obtain ⟨a0, a1, a2, a3⟩ := h c
    obtain ⟨e0, e1, e2, e3, e4⟩ := hagree c
    have ha := Cert.Reference3Ideal.Glu.args (StableHlo.launchContents m' c) (Cert.Glu.nums_of_finite m hpre c) e0 e1 e2 e3 e4
    exact ⟨a0.trans (Cert.Reference3Ideal.Glu.result0 ha),
      a1.trans ((Cert.Reference3Ideal.Glu.result1 ha).trans Cert.Reference3Ideal.Glu.mat_eq),
      a2.trans ((Cert.Reference3Ideal.Glu.result2 ha).trans Cert.Reference3Ideal.Glu.sums_eq), a3⟩

theorem quiescent_Reference4Ideal : quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

theorem preserves_Kernel4_Kernel4Ideal : preserves_Kernel4_Kernel4Ideal :=
  IdealRules.named_const.statement Cert.Kernel4Ideal.κ "gelu_ck" .f32 0x3D122279#32 ((80338380498831 / 2251799813685248 : ℝ) : EReal) rfl

theorem algebraic_Kernel4Ideal_Reference4Ideal [Cert.Pre_finite_ffn.Facts] : algebraic_Kernel4Ideal_Reference4Ideal_pre_finite_ffn := by
  intro m ρ m' ρ' hpre hagree
  refine ⟨fun c => Cert.Kernel4Ideal.Ffn.G6 m c, fun c => Cert.Kernel4Ideal.Ffn.G7 m c 0, fun c => Cert.Kernel4Ideal.Ffn.G7 m c 1, fun c => Cert.Kernel4Ideal.Ffn.G9 m c, ?_, ?_⟩
  · refine (θ_run Cert.Kernel4Ideal.defs _ _).mono (fun _ h c => ?_) (Cert.Kernel4Ideal.Value.run_blocks (F := Ideal) m ρ)
    obtain ⟨a0, a1, a2, a3, a4⟩ := h c
    have hn := Cert.Ffn.nums_of_finite m hpre c
    exact ⟨a0.trans (Cert.Kernel4Ideal.Ffn.arr6 hn), a1.trans (Cert.Kernel4Ideal.Ffn.arr7 hn), a2.trans (Cert.Kernel4Ideal.Ffn.arr8 hn), a3.trans (Cert.Kernel4Ideal.Ffn.arr9 hn), a4⟩
  · refine (θ_run Cert.Reference4Ideal.defs _ _).mono (fun _ h c => ?_) (Cert.Reference4Ideal.Value.run (F := Ideal) m' ρ')
    obtain ⟨a0, a1, a2, a3, a4⟩ := h c
    obtain ⟨e0, e1, e2, e3, e4, e5⟩ := hagree c
    have ha := Cert.Reference4Ideal.Ffn.args (Cert.Ffn.nums_of_finite m hpre c) e0 e1 e2 e3 e4 e5
    exact ⟨a0.trans (Cert.Reference4Ideal.Ffn.block_eq ha),
      a1.trans (Cert.Reference4Ideal.Ffn.branch_eq ha.x ha.g1 ha.mats 0 (by decide) _ _ _ _ _ _ _ _ _ _ _ _ _ _ _ _),
      a2.trans (Cert.Reference4Ideal.Ffn.branch_eq ha.x ha.g1 ha.mats 1 (by decide) _ _ _ _ _ _ _ _ _ _ _ _ _ _ _ _),
      a3.trans (Cert.Reference4Ideal.Ffn.ffn_eq ha), a4⟩

theorem quiescent_Reference5Ideal : quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

theorem preserves_Kernel5_Kernel5Ideal : preserves_Kernel5_Kernel5Ideal :=
  ⟨IdealRules.named_const.statement Cert.Kernel5Ideal.κ "gelu_ck" .f32 0x3D122279#32 ((80338380498831 / 2251799813685248 : ℝ) : EReal) rfl,
    IdealRules.named_const.statement Cert.Kernel5Ideal.κ "gelu_3ck" .f32 0x3DDB33B6#32 ((241015141496493 / 2251799813685248 : ℝ) : EReal) rfl⟩

theorem algebraic_Kernel5Ideal_Reference5Ideal [Cert.Pre_finite_acts.Facts] : algebraic_Kernel5Ideal_Reference5Ideal_pre_finite_acts := by
  intro m ρ m' ρ' hpre hagree
  refine ⟨fun c => Cert.Kernel5Ideal.Acts.G13 m c, fun c => Cert.Kernel5Ideal.Acts.G14 m c, fun c => Cert.Kernel5Ideal.Acts.G15 m c, fun c => Cert.Kernel5Ideal.Acts.G16 m c, ?_, ?_⟩
  · refine (θ_run Cert.Kernel5Ideal.defs _ _).mono (fun _ h c => ?_) (Cert.Kernel5Ideal.Value.run_blocks (F := Ideal) m ρ)
    obtain ⟨_, _, a0, a1, a2, a3, _, _, a4⟩ := h c
    have hn := Cert.Acts.nums_of_finite m hpre c
    exact ⟨a0.trans (Cert.Kernel5Ideal.Acts.arr13 hn), a1.trans (Cert.Kernel5Ideal.Acts.arr14 hn), a2.trans (Cert.Kernel5Ideal.Acts.arr15 hn), a3.trans (Cert.Kernel5Ideal.Acts.arr16 hn), a4⟩
  · refine (θ_run Cert.Reference5Ideal.defs _ _).mono (fun _ h c => ?_) (Cert.Reference5Ideal.Value.run (F := Ideal) m' ρ')
    obtain ⟨a0, a1, a2, a3, a4⟩ := h c
    obtain ⟨e0, e1, e2, e3, e4, e5, e6, e7, e8, e9⟩ := hagree c
    have ha := Cert.Reference5Ideal.Acts.args (Cert.Acts.nums_of_finite m hpre c) e0 e1 e2 e3 e4 e5 e6 e7 e8 e9
    exact ⟨a0.trans (Cert.Reference5Ideal.Acts.result0 ha), a1.trans (Cert.Reference5Ideal.Acts.result1 ha),
      a2.trans (Cert.Reference5Ideal.Acts.result2 ha.x ha.g1 _ _ _ _ _ _ _ _ _ _), a3.trans (Cert.Reference5Ideal.Acts.result3 ha), a4⟩

theorem claim : Cert.Claim :=
  letI : Cert.Pre_finite.Facts := Cert.Pool.facts_finite
  letI : Cert.Pre_finite_gate.Facts := Cert.Glu.facts_finite_gate
  letI : Cert.Pre_finite_ffn.Facts := Cert.Ffn.facts_finite_ffn
  letI : Cert.Pre_finite_acts.Facts := Cert.Acts.facts_finite_acts
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pool.facts_finite, Cert.Glu.facts_finite_gate, Cert.Ffn.facts_finite_ffn, Cert.Acts.facts_finite_acts,
    fun m ρ _ => Cert.Kernel.Gen.frame m ρ, fun m ρ _ => Cert.KernelIdeal.Gen.frame m ρ, fun m ρ _ => Cert.KernelIdeal.Gen.frame m ρ,
    quiescent_ReferenceIdeal, fun m ρ _ => quiescent_ReferenceIdeal m ρ trivial,
    fun m ρ _ => Cert.Kernel2.Gen.frame m ρ, fun m ρ _ => Cert.Kernel2Ideal.Gen.frame m ρ, quiescent_Reference2Ideal,
    fun m ρ _ => Cert.Kernel3.Gen.frame m ρ, fun m ρ _ => Cert.Kernel3Ideal.Gen.frame m ρ, fun m ρ _ => Cert.Kernel3Ideal.Gen.frame m ρ,
    quiescent_Reference3Ideal, fun m ρ _ => quiescent_Reference3Ideal m ρ trivial,
    fun m ρ _ => Cert.Kernel4.Gen.frame m ρ, fun m ρ _ => Cert.Kernel4Ideal.Gen.frame m ρ, fun m ρ _ => Cert.Kernel4Ideal.Gen.frame m ρ,
    quiescent_Reference4Ideal, fun m ρ _ => quiescent_Reference4Ideal m ρ trivial,
    fun m ρ _ => Cert.Kernel5.Gen.frame m ρ, fun m ρ _ => Cert.Kernel5Ideal.Gen.frame m ρ, fun m ρ _ => Cert.Kernel5Ideal.Gen.frame m ρ,
    quiescent_Reference5Ideal, fun m ρ _ => quiescent_Reference5Ideal m ρ trivial,
    (trivial : preserves_Kernel_KernelIdeal), algebraic_KernelIdeal_ReferenceIdeal,
    (trivial : preserves_Kernel2_Kernel2Ideal), algebraic_Kernel2Ideal_Reference2Ideal,
    preserves_Kernel3_Kernel3Ideal, algebraic_Kernel3Ideal_Reference3Ideal,
    preserves_Kernel4_Kernel4Ideal, algebraic_Kernel4Ideal_Reference4Ideal,
    preserves_Kernel5_Kernel5Ideal, algebraic_Kernel5Ideal_Reference5Ideal⟩

end Cert.Proof

end
